-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16x1024 : Shape := ⟨2, ![16, 1024]⟩
abbrev S16x16384 : Shape := ⟨2, ![16, 16384]⟩
abbrev S16384x6144 : Shape := ⟨2, ![16384, 6144]⟩
abbrev S1024x2048 : Shape := ⟨2, ![1024, 2048]⟩
abbrev S1x1024 : Shape := ⟨2, ![1, 1024]⟩
abbrev S4x4x4x2x128 : Shape := ⟨5, ![4, 4, 4, 2, 128]⟩
abbrev S4x4x4x32x128 : Shape := ⟨5, ![4, 4, 4, 32, 128]⟩
abbrev S_ : Shape := ⟨0, ![]⟩
abbrev S4x4x4x6x128 : Shape := ⟨5, ![4, 4, 4, 6, 128]⟩
abbrev S4x4x4x40x128 : Shape := ⟨5, ![4, 4, 4, 40, 128]⟩
abbrev S4x4096x6144 : Shape := ⟨3, ![4, 4096, 6144]⟩
abbrev S4x256x2048 : Shape := ⟨3, ![4, 256, 2048]⟩
abbrev S1024 : Shape := ⟨1, ![1024]⟩
abbrev S4x4096x1024 : Shape := ⟨3, ![4, 4096, 1024]⟩
abbrev S1x4x1x40x128 : Shape := ⟨5, ![1, 4, 1, 40, 128]⟩
abbrev S1x4096x256 : Shape := ⟨3, ![1, 4096, 256]⟩
abbrev S1x256x256 : Shape := ⟨3, ![1, 256, 256]⟩
abbrev S1x256 : Shape := ⟨2, ![1, 256]⟩
abbrev S2x40x1x128 : Shape := ⟨4, ![2, 40, 1, 128]⟩
abbrev S256x384 : Shape := ⟨2, ![256, 384]⟩
abbrev S4096x256 : Shape := ⟨2, ![4096, 256]⟩
abbrev S128x128 : Shape := ⟨2, ![128, 128]⟩
abbrev S4x40x128 : Shape := ⟨3, ![4, 40, 128]⟩
abbrev S1x40x128 : Shape := ⟨3, ![1, 40, 128]⟩
abbrev S40x128 : Shape := ⟨2, ![40, 128]⟩
abbrev S1x128 : Shape := ⟨2, ![1, 128]⟩
abbrev S1x1x1x128 : Shape := ⟨4, ![1, 1, 1, 128]⟩
abbrev S1x1x128 : Shape := ⟨3, ![1, 1, 128]⟩
abbrev S1x1 : Shape := ⟨2, ![1, 1]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S128x384 : Shape := ⟨2, ![128, 384]⟩
abbrev S1 : Shape := ⟨1, ![1]⟩

abbrev nBuf : Space → Nat
  | .hbm => 15
  | .vmem => 24
  | .smem => 0
  | _ => 0

abbrev bufTy : (tb : Table) → Fin (tcTables nBuf tb) → BufTy
  | .hbm, ⟨0, _⟩ => ⟨S16x1024, .f32⟩
  | .hbm, ⟨1, _⟩ => ⟨S16x16384, .f32⟩
  | .hbm, ⟨2, _⟩ => ⟨S16384x6144, .bf16⟩
  | .hbm, ⟨3, _⟩ => ⟨S1024x2048, .bf16⟩
  | .hbm, ⟨4, _⟩ => ⟨S1x1024, .f32⟩
  | .hbm, ⟨5, _⟩ => ⟨S4x4x4x2x128, .f32⟩
  | .hbm, ⟨6, _⟩ => ⟨S4x4x4x32x128, .f32⟩
  | .hbm, ⟨7, _⟩ => ⟨S_, .f32⟩
  | .hbm, ⟨8, _⟩ => ⟨S4x4x4x6x128, .f32⟩
  | .hbm, ⟨9, _⟩ => ⟨S4x4x4x40x128, .f32⟩
  | .hbm, ⟨10, _⟩ => ⟨S4x4096x6144, .bf16⟩
  | .hbm, ⟨11, _⟩ => ⟨S4x256x2048, .bf16⟩
  | .hbm, ⟨12, _⟩ => ⟨S1024, .f32⟩
  | .hbm, ⟨13, _⟩ => ⟨S1x1024, .f32⟩
  | .hbm, ⟨14, _⟩ => ⟨S4x4096x1024, .bf16⟩
  | .local _ .vmem, ⟨0, _⟩ => ⟨S1x4x1x40x128, .f32⟩
  | .local _ .vmem, ⟨1, _⟩ => ⟨S1x4x1x40x128, .f32⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256, .f32⟩
  | .local _ .vmem, ⟨15, _⟩ => ⟨S1x256, .f32⟩
  | .local _ .vmem, ⟨16, _⟩ => ⟨S1x4096x256, .bf16⟩
  | .local _ .vmem, ⟨17, _⟩ => ⟨S1x4096x256, .bf16⟩
  | .local _ .vmem, ⟨18, _⟩ => ⟨S2x40x1x128, .f32⟩
  | .local _ .vmem, ⟨19, _⟩ => ⟨S2x40x1x128, .f32⟩
  | .local _ .vmem, ⟨20, _⟩ => ⟨S256x384, .f32⟩
  | .local _ .vmem, ⟨21, _⟩ => ⟨S256x384, .f32⟩
  | .local _ .vmem, ⟨22, _⟩ => ⟨S4096x256, .f32⟩
  | .local _ .vmem, ⟨23, _⟩ => ⟨S4096x256, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c32_i32 : BitVec 32 := 32#32
  let v986 : BitVec 32 := Scalar.addi c0_i32 c32_i32
  let c1_i32 : BitVec 32 := 1#32
  ⟨c0_i32, v986, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32 : BitVec 32 := 128#32
  let v989 : BitVec 32 := Scalar.muli arg17 c128_i32
  v989
def k0_mult2 (k0_t1 : Fin k0_t1_loop.trips) : BitVec 32 :=
  let c31_i32 : BitVec 32 := 31#32
  let c0_i32 : BitVec 32 := 0#32
  let c1_i32 : BitVec 32 := 1#32
  let arg17 : BitVec 32 := Scf.iv c0_i32 c1_i32 k0_t1
  let v991 : BitVec 32 := Scalar.subi c31_i32 arg17
  let c128_i32_731 : BitVec 32 := 128#32
  let v992 : BitVec 32 := Scalar.muli v991 c128_i32_731
  v992
def k0_off1 (k0_t1 : Fin k0_t1_loop.trips) : Fin 3 → Nat :=
  let c0_732 : Index := 0#32
  let c0_i32 : BitVec 32 := 0#32
  let c1_i32 : BitVec 32 := 1#32
  let arg17 : BitVec 32 := Scf.iv c0_i32 c1_i32 k0_t1
  let c128_i32 : BitVec 32 := 128#32
  let v989 : BitVec 32 := Scalar.muli arg17 c128_i32
  let v990 : BitVec 32 := v989
  let v995 : Index := Scalar.indexCast v990
  let c0_733 : Index := 0#32
  ![0, v995.toNat, 0]
def k0_off2 (k0_t1 : Fin k0_t1_loop.trips) : Fin 4 → Nat :=
  let c0_738 : Index := 0#32
  let c2_i32 : BitVec 32 := 2#32
  let c0_i32 : BitVec 32 := 0#32
  let c1_i32 : BitVec 32 := 1#32
  let arg17 : BitVec 32 := Scf.iv c0_i32 c1_i32 k0_t1
  let v994 : BitVec 32 := Scalar.addi c2_i32 arg17
  let v1004 : Index := Scalar.indexCast v994
  let c0_739 : Index := 0#32
  let c0_740 : Index := 0#32
  ![0, v1004.toNat, 0, 0]
def k0_off3 (k0_t1 : Fin k0_t1_loop.trips) : Fin 2 → Nat :=
  let c0_i32 : BitVec 32 := 0#32
  let c1_i32 : BitVec 32 := 1#32
  let arg17 : BitVec 32 := Scf.iv c0_i32 c1_i32 k0_t1
  let c128_i32 : BitVec 32 := 128#32
  let v989 : BitVec 32 := Scalar.muli arg17 c128_i32
  let v990 : BitVec 32 := v989
  let v1063 : Index := Scalar.indexCast v990
  let c0_757 : Index := 0#32
  ![v1063.toNat, 0]
def k0_off4 (k0_t1 : Fin k0_t1_loop.trips) : Fin 3 → Nat :=
  let c0_762 : Index := 0#32
  let c31_i32 : BitVec 32 := 31#32
  let c0_i32 : BitVec 32 := 0#32
  let c1_i32 : BitVec 32 := 1#32
  let arg17 : BitVec 32 := Scf.iv c0_i32 c1_i32 k0_t1
  let v991 : BitVec 32 := Scalar.subi c31_i32 arg17
  let c128_i32_731 : BitVec 32 := 128#32
  let v992 : BitVec 32 := Scalar.muli v991 c128_i32_731
  let v993 : BitVec 32 := v992
  let v1092 : Index := Scalar.indexCast v993
  let c0_763 : Index := 0#32
  ![0, v1092.toNat, 0]
def k0_off5 (k0_t1 : Fin k0_t1_loop.trips) : Fin 4 → Nat :=
  let c1_768 : Index := 1#32
  let c33_i32 : BitVec 32 := 33#32
  let c0_i32 : BitVec 32 := 0#32
  let c1_i32 : BitVec 32 := 1#32
  let arg17 : BitVec 32 := Scf.iv c0_i32 c1_i32 k0_t1
  let v1091 : BitVec 32 := Scalar.subi c33_i32 arg17
  let v1101 : Index := Scalar.indexCast v1091
  let c0_769 : Index := 0#32
  let c0_770 : Index := 0#32
  ![1, v1101.toNat, 0, 0]
def k0_off6 (k0_t1 : Fin k0_t1_loop.trips) : Fin 2 → Nat :=
  let c31_i32 : BitVec 32 := 31#32
  let c0_i32 : BitVec 32 := 0#32
  let c1_i32 : BitVec 32 := 1#32
  let arg17 : BitVec 32 := Scf.iv c0_i32 c1_i32 k0_t1
  let v991 : BitVec 32 := Scalar.subi c31_i32 arg17
  let c128_i32_731 : BitVec 32 := 128#32
  let v992 : BitVec 32 := Scalar.muli v991 c128_i32_731
  let v993 : BitVec 32 := v992
  let v1160 : Index := Scalar.indexCast v993
  let c0_787 : Index := 0#32
  ![v1160.toNat, 0]
@[reducible] def k0_t2_loop : Scf.Loop 32 :=
  let c0_i32_727 : BitVec 32 := 0#32
  let c32_i32_728 : BitVec 32 := 32#32
  let v988 : BitVec 32 := Scalar.addi c0_i32_727 c32_i32_728
  let c1_i32_729 : BitVec 32 := 1#32
  ⟨c0_i32_727, v988, c1_i32_729⟩
def k0_mult3 (k0_t2 : Fin k0_t2_loop.trips) : BitVec 32 :=
  let c0_i32_727 : BitVec 32 := 0#32
  let c1_i32_729 : BitVec 32 := 1#32
  let arg17 : BitVec 32 := Scf.iv c0_i32_727 c1_i32_729 k0_t2
  let c128_i32 : BitVec 32 := 128#32
  let v989 : BitVec 32 := Scalar.muli arg17 c128_i32
  v989
def k0_off7 (k0_t2 : Fin k0_t2_loop.trips) : Fin 2 → Nat :=
  let c0_i32_727 : BitVec 32 := 0#32
  let c1_i32_729 : BitVec 32 := 1#32
  let arg17 : BitVec 32 := Scf.iv c0_i32_727 c1_i32_729 k0_t2
  let c128_i32 : BitVec 32 := 128#32
  let v989 : BitVec 32 := Scalar.muli arg17 c128_i32
  let v990 : BitVec 32 := v989
  let v991 : Index := Scalar.indexCast v990
  let c0_731 : Index := 0#32
  ![v991.toNat, 0]
def k0_off8 (k0_t2 : Fin k0_t2_loop.trips) : Fin 3 → Nat :=
  let c0_738 : Index := 0#32
  let c0_i32_727 : BitVec 32 := 0#32
  let c1_i32_729 : BitVec 32 := 1#32
  let arg17 : BitVec 32 := Scf.iv c0_i32_727 c1_i32_729 k0_t2
  let c128_i32 : BitVec 32 := 128#32
  let v989 : BitVec 32 := Scalar.muli arg17 c128_i32
  let v990 : BitVec 32 := v989
  let v1012 : Index := Scalar.indexCast v990
  let c0_739 : Index := 0#32
  ![0, v1012.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x1x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x1024 : Shape := ⟨2, ![16, 1024]⟩
abbrev S16x16384 : Shape := ⟨2, ![16, 16384]⟩
abbrev S16384x6144 : Shape := ⟨2, ![16384, 6144]⟩
abbrev S1024x2048 : Shape := ⟨2, ![1024, 2048]⟩
abbrev S1x1024 : Shape := ⟨2, ![1, 1024]⟩
abbrev S4x4096x6144 : Shape := ⟨3, ![4, 4096, 6144]⟩
abbrev S4x4096x1024 : Shape := ⟨3, ![4, 4096, 1024]⟩
abbrev S4x256x2048 : Shape := ⟨3, ![4, 256, 2048]⟩
abbrev S4x256x1024 : Shape := ⟨3, ![4, 256, 1024]⟩
abbrev S_ : Shape := ⟨0, ![]⟩
abbrev S4x2x2x4x256 : Shape := ⟨5, ![4, 2, 2, 4, 256]⟩
abbrev S2x2x4x4x256 : Shape := ⟨5, ![2, 2, 4, 4, 256]⟩
abbrev S2x1x4x4x256 : Shape := ⟨5, ![2, 1, 4, 4, 256]⟩
abbrev S2x4x4x256 : Shape := ⟨4, ![2, 4, 4, 256]⟩
abbrev S4x256x4x256 : Shape := ⟨4, ![4, 256, 4, 256]⟩
abbrev S4x4x256x256 : Shape := ⟨4, ![4, 4, 256, 256]⟩
abbrev S4x2x2x4x4096 : Shape := ⟨5, ![4, 2, 2, 4, 4096]⟩
abbrev S2x2x4x4x4096 : Shape := ⟨5, ![2, 2, 4, 4, 4096]⟩
abbrev S2x1x4x4x4096 : Shape := ⟨5, ![2, 1, 4, 4, 4096]⟩
abbrev S2x4x4x4096 : Shape := ⟨4, ![2, 4, 4, 4096]⟩
abbrev S4x4096x4x256 : Shape := ⟨4, ![4, 4096, 4, 256]⟩
abbrev S4x4x4096x256 : Shape := ⟨4, ![4, 4, 4096, 256]⟩
abbrev S4x4x4352x256 : Shape := ⟨4, ![4, 4, 4352, 256]⟩
abbrev S8x4x4352x256 : Shape := ⟨4, ![8, 4, 4352, 256]⟩
abbrev S1x4x4x256 : Shape := ⟨4, ![1, 4, 4, 256]⟩
abbrev S4x4x256 : Shape := ⟨3, ![4, 4, 256]⟩
abbrev S1x4x4x4096 : Shape := ⟨4, ![1, 4, 4, 4096]⟩
abbrev S4x4x4096 : Shape := ⟨3, ![4, 4, 4096]⟩
abbrev S4x4x4352 : Shape := ⟨3, ![4, 4, 4352]⟩
abbrev S8x4x4352 : Shape := ⟨3, ![8, 4, 4352]⟩
abbrev S8x4x256x256 : Shape := ⟨4, ![8, 4, 256, 256]⟩
abbrev S8x4x256 : Shape := ⟨3, ![8, 4, 256]⟩
abbrev S8x4 : Shape := ⟨2, ![8, 4]⟩
abbrev S8x4x34x128x256 : Shape := ⟨5, ![8, 4, 34, 128, 256]⟩
abbrev S34x8x4x128x256 : Shape := ⟨5, ![34, 8, 4, 128, 256]⟩
abbrev S8x4x34x128 : Shape := ⟨4, ![8, 4, 34, 128]⟩
abbrev S34x8x4x128 : Shape := ⟨4, ![34, 8, 4, 128]⟩
abbrev S1x8x4x128x256 : Shape := ⟨5, ![1, 8, 4, 128, 256]⟩
abbrev S8x4x128x256 : Shape := ⟨4, ![8, 4, 128, 256]⟩
abbrev S1x8x4x128 : Shape := ⟨4, ![1, 8, 4, 128]⟩
abbrev S8x4x128 : Shape := ⟨3, ![8, 4, 128]⟩
abbrev S128x128 : Shape := ⟨2, ![128, 128]⟩
abbrev S8x4x128x1 : Shape := ⟨4, ![8, 4, 128, 1]⟩
abbrev S8x4x1x128 : Shape := ⟨4, ![8, 4, 1, 128]⟩
abbrev S8x4x128x128 : Shape := ⟨4, ![8, 4, 128, 128]⟩
abbrev S8x4x1 : Shape := ⟨3, ![8, 4, 1]⟩
abbrev S8x4x1x1 : Shape := ⟨4, ![8, 4, 1, 1]⟩
abbrev S1024 : Shape := ⟨1, ![1024]⟩
abbrev S4x4x4096x1 : Shape := ⟨4, ![4, 4, 4096, 1]⟩
abbrev S1x1x1024 : Shape := ⟨3, ![1, 1, 1024]⟩

abbrev nBuf : Space → Nat
  | .hbm => 329
  | .vmem => 0
  | .smem => 0
  | _ => 0

abbrev hbmTy0_0 (i : Nat) : BufTy := match i % 128 with
  | 0 => ⟨S16x1024, .f32⟩
  | 1 => ⟨S16x16384, .f32⟩
  | 2 => ⟨S16384x6144, .bf16⟩
  | 3 => ⟨S1024x2048, .bf16⟩
  | 4 => ⟨S1x1024, .f32⟩
  | 5 => ⟨S4x4096x6144, .bf16⟩
  | 6 => ⟨S4x4096x1024, .bf16⟩
  | 7 => ⟨S4x4096x1024, .f32⟩
  | 8 => ⟨S4x4096x6144, .bf16⟩
  | 9 => ⟨S4x4096x1024, .bf16⟩
  | 10 => ⟨S4x4096x1024, .f32⟩
  | 11 => ⟨S4x4096x6144, .bf16⟩
  | 12 => ⟨S4x4096x1024, .bf16⟩
  | 13 => ⟨S4x4096x1024, .f32⟩
  | 14 => ⟨S4x256x2048, .bf16⟩
  | 15 => ⟨S4x256x1024, .bf16⟩
  | 16 => ⟨S4x256x1024, .f32⟩
  | 17 => ⟨S4x256x2048, .bf16⟩
  | 18 => ⟨S4x256x1024, .bf16⟩
  | 19 => ⟨S4x256x1024, .f32⟩
  | 20 => ⟨S_, .f32⟩
  | 21 => ⟨S4x256x1024, .f32⟩
  | 22 => ⟨S4x2x2x4x256, .f32⟩
  | 23 => ⟨S2x2x4x4x256, .f32⟩
  | 24 => ⟨S2x1x4x4x256, .f32⟩
  | 25 => ⟨S2x4x4x256, .f32⟩
  | 26 => ⟨S2x1x4x4x256, .f32⟩
  | 27 => ⟨S2x4x4x256, .f32⟩
  | 28 => ⟨S2x4x4x256, .f32⟩
  | 29 => ⟨S_, .f32⟩
  | 30 => ⟨S2x4x4x256, .f32⟩
  | 31 => ⟨S2x4x4x256, .f32⟩
  | 32 => ⟨S2x4x4x256, .f32⟩
  | 33 => ⟨S2x4x4x256, .f32⟩
  | 34 => ⟨S2x4x4x256, .i1⟩
  | 35 => ⟨S2x4x4x256, .f32⟩
  | 36 => ⟨S2x4x4x256, .f32⟩
  | 37 => ⟨S2x4x4x256, .f32⟩
  | 38 => ⟨S2x4x4x256, .f32⟩
  | 39 => ⟨S2x4x4x256, .f32⟩
  | 40 => ⟨S2x4x4x256, .f32⟩
  | 41 => ⟨S2x4x4x256, .f32⟩
  | 42 => ⟨S2x4x4x256, .f32⟩
  | 43 => ⟨S2x4x4x256, .f32⟩
  | 44 => ⟨S4x256x4x256, .f32⟩
  | 45 => ⟨S4x4x256x256, .f32⟩
  | 46 => ⟨S4x256x4x256, .f32⟩
  | 47 => ⟨S4x4x256x256, .f32⟩
  | 48 => ⟨S_, .f32⟩
  | 49 => ⟨S4x4x256x256, .f32⟩
  | 50 => ⟨S4x4x256x256, .f32⟩
  | 51 => ⟨S4x256x4x256, .f32⟩
  | 52 => ⟨S4x4x256x256, .f32⟩
  | 53 => ⟨S4x2x2x4x4096, .f32⟩
  | 54 => ⟨S2x2x4x4x4096, .f32⟩
  | 55 => ⟨S2x1x4x4x4096, .f32⟩
  | 56 => ⟨S2x4x4x4096, .f32⟩
  | 57 => ⟨S2x1x4x4x4096, .f32⟩
  | 58 => ⟨S2x4x4x4096, .f32⟩
  | 59 => ⟨S2x4x4x4096, .f32⟩
  | 60 => ⟨S_, .f32⟩
  | 61 => ⟨S2x4x4x4096, .f32⟩
  | 62 => ⟨S2x4x4x4096, .f32⟩
  | 63 => ⟨S2x4x4x4096, .f32⟩
  | 64 => ⟨S2x4x4x4096, .f32⟩
  | 65 => ⟨S2x4x4x4096, .i1⟩
  | 66 => ⟨S2x4x4x4096, .f32⟩
  | 67 => ⟨S2x4x4x4096, .f32⟩
  | 68 => ⟨S2x4x4x4096, .f32⟩
  | 69 => ⟨S2x4x4x4096, .f32⟩
  | 70 => ⟨S2x4x4x4096, .f32⟩
  | 71 => ⟨S2x4x4x4096, .f32⟩
  | 72 => ⟨S2x4x4x4096, .f32⟩
  | 73 => ⟨S2x4x4x4096, .f32⟩
  | 74 => ⟨S2x4x4x4096, .f32⟩
  | 75 => ⟨S4x4096x4x256, .f32⟩
  | 76 => ⟨S4x4x4096x256, .f32⟩
  | 77 => ⟨S4x4096x4x256, .f32⟩
  | 78 => ⟨S4x4x4096x256, .f32⟩
  | 79 => ⟨S_, .f32⟩
  | 80 => ⟨S4x4x4096x256, .f32⟩
  | 81 => ⟨S4x4x4096x256, .f32⟩
  | 82 => ⟨S4x4096x4x256, .f32⟩
  | 83 => ⟨S4x4x4096x256, .f32⟩
  | 84 => ⟨S4x4x4352x256, .f32⟩
  | 85 => ⟨S4x4x256x256, .f32⟩
  | 86 => ⟨S4x4x4096x256, .f32⟩
  | 87 => ⟨S4x4x4352x256, .f32⟩
  | 88 => ⟨S8x4x4352x256, .f32⟩
  | 89 => ⟨S4x4x4352x256, .f32⟩
  | 90 => ⟨S4x4x256x256, .f32⟩
  | 91 => ⟨S4x4x4096x256, .f32⟩
  | 92 => ⟨S4x4x4352x256, .f32⟩
  | 93 => ⟨S8x4x4352x256, .f32⟩
  | 94 => ⟨S4x4x4352x256, .f32⟩
  | 95 => ⟨S4x4x256x256, .f32⟩
  | 96 => ⟨S4x4x4096x256, .f32⟩
  | 97 => ⟨S4x4x4352x256, .f32⟩
  | 98 => ⟨S8x4x4352x256, .f32⟩
  | 99 => ⟨S1x4x4x256, .f32⟩
  | 100 => ⟨S4x4x256, .f32⟩
  | 101 => ⟨S1x4x4x4096, .f32⟩
  | 102 => ⟨S4x4x4096, .f32⟩
  | 103 => ⟨S1x4x4x256, .f32⟩
  | 104 => ⟨S4x4x256, .f32⟩
  | 105 => ⟨S1x4x4x4096, .f32⟩
  | 106 => ⟨S4x4x4096, .f32⟩
  | 107 => ⟨S4x4x4352, .f32⟩
  | 108 => ⟨S4x4x256, .f32⟩
  | 109 => ⟨S4x4x4096, .f32⟩
  | 110 => ⟨S4x4x4352, .f32⟩
  | 111 => ⟨S8x4x4352, .f32⟩
  | 112 => ⟨S1x4x4x256, .f32⟩
  | 113 => ⟨S4x4x256, .f32⟩
  | 114 => ⟨S1x4x4x4096, .f32⟩
  | 115 => ⟨S4x4x4096, .f32⟩
  | 116 => ⟨S1x4x4x256, .f32⟩
  | 117 => ⟨S4x4x256, .f32⟩
  | 118 => ⟨S1x4x4x4096, .f32⟩
  | 119 => ⟨S4x4x4096, .f32⟩
  | 120 => ⟨S4x4x4352, .f32⟩
  | 121 => ⟨S4x4x256, .f32⟩
  | 122 => ⟨S4x4x4096, .f32⟩
  | 123 => ⟨S4x4x4352, .f32⟩
  | 124 => ⟨S8x4x4352, .f32⟩
  | 125 => ⟨S_, .f32⟩
  | 126 => ⟨S8x4x256x256, .f32⟩
  | 127 => ⟨S_, .f32⟩
  | _ => ⟨S16x1024, .f32⟩

abbrev hbmTy0_1 (i : Nat) : BufTy := match i % 128 with
  | 0 => ⟨S8x4x256, .f32⟩
  | 1 => ⟨S_, .f32⟩
  | 2 => ⟨S8x4, .f32⟩
  | 3 => ⟨S8x4x34x128x256, .f32⟩
  | 4 => ⟨S34x8x4x128x256, .f32⟩
  | 5 => ⟨S8x4x34x128x256, .f32⟩
  | 6 => ⟨S34x8x4x128x256, .f32⟩
  | 7 => ⟨S8x4x34x128x256, .f32⟩
  | 8 => ⟨S34x8x4x128x256, .f32⟩
  | 9 => ⟨S8x4x34x128, .f32⟩
  | 10 => ⟨S34x8x4x128, .f32⟩
  | 11 => ⟨S8x4x34x128, .f32⟩
  | 12 => ⟨S34x8x4x128, .f32⟩
  | 13 => ⟨S_, .f32⟩
  | 14 => ⟨S34x8x4x128x256, .f32⟩
  | 15 => ⟨S_, .i32⟩
  | 16 => ⟨S34x8x4x128x256, .f32⟩
  | 17 => ⟨S34x8x4x128x256, .f32⟩
  | 18 => ⟨S34x8x4x128x256, .f32⟩
  | 19 => ⟨S34x8x4x128, .f32⟩
  | 20 => ⟨S34x8x4x128, .f32⟩
  | 21 => ⟨S_, .i32⟩
  | 22 => ⟨S8x4x256x256, .f32⟩
  | 23 => ⟨S8x4x256, .f32⟩
  | 24 => ⟨S8x4, .f32⟩
  | 25 => ⟨S34x8x4x128x256, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S1x8x4x128x256, .f32⟩
  | 33 => ⟨S8x4x128x256, .f32⟩
  | 34 => ⟨S_, .i32⟩
  | 35 => ⟨S_, .i32⟩
  | 36 => ⟨S_, .i32⟩
  | 37 => ⟨S_, .i32⟩
  | 38 => ⟨S1x8x4x128x256, .f32⟩
  | 39 => ⟨S8x4x128x256, .f32⟩
  | 40 => ⟨S_, .i32⟩
  | 41 => ⟨S_, .i32⟩
  | 42 => ⟨S_, .i32⟩
  | 43 => ⟨S_, .i32⟩
  | 44 => ⟨S1x8x4x128x256, .f32⟩
  | 45 => ⟨S8x4x128x256, .f32⟩
  | 46 => ⟨S_, .i32⟩
  | 47 => ⟨S_, .i32⟩
  | 48 => ⟨S_, .i32⟩
  | 49 => ⟨S1x8x4x128, .f32⟩
  | 50 => ⟨S8x4x128, .f32⟩
  | 51 => ⟨S_, .i32⟩
  | 52 => ⟨S_, .i32⟩
  | 53 => ⟨S_, .i32⟩
  | 54 => ⟨S1x8x4x128, .f32⟩
  | 55 => ⟨S8x4x128, .f32⟩
  | 56 => ⟨S_, .i1⟩
  | 57 => ⟨S128x128, .i1⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S_, .i1⟩
  | 65 => ⟨S128x128, .i1⟩
  | 66 => ⟨S128x128, .i1⟩
  | 67 => ⟨S_, .f32⟩
  | 68 => ⟨S_, .f32⟩
  | 69 => ⟨S8x4x128, .f32⟩
  | 70 => ⟨S8x4x128x1, .f32⟩
  | 71 => ⟨S8x4x1x128, .f32⟩
  | 72 => ⟨S8x4x128x128, .f32⟩
  | 73 => ⟨S8x4x128x128, .f32⟩
  | 74 => ⟨S8x4x128x128, .f32⟩
  | 75 => ⟨S8x4x1x128, .f32⟩
  | 76 => ⟨S8x4x128x128, .f32⟩
  | 77 => ⟨S8x4x128x128, .f32⟩
  | 78 => ⟨S_, .f32⟩
  | 79 => ⟨S_, .f32⟩
  | 80 => ⟨S8x4x128x128, .i1⟩
  | 81 => ⟨S8x4x128x128, .f32⟩
  | 82 => ⟨S8x4x128x128, .f32⟩
  | 83 => ⟨S8x4x1, .f32⟩
  | 84 => ⟨S8x4x128, .f32⟩
  | 85 => ⟨S8x4x128, .f32⟩
  | 86 => ⟨S_, .f32⟩
  | 87 => ⟨S8x4x128, .f32⟩
  | 88 => ⟨S8x4x128, .f32⟩
  | 89 => ⟨S8x4x128x1, .f32⟩
  | 90 => ⟨S8x4x128x128, .f32⟩
  | 91 => ⟨S8x4x128x128, .f32⟩
  | 92 => ⟨S8x4x128x128, .f32⟩
  | 93 => ⟨S8x4x128, .f32⟩
  | 94 => ⟨S8x4x128, .f32⟩
  | 95 => ⟨S8x4x128x128, .f32⟩
  | 96 => ⟨S8x4x128x128, .f32⟩
  | 97 => ⟨S8x4x128x256, .f32⟩
  | 98 => ⟨S8x4x128x1, .f32⟩
  | 99 => ⟨S8x4x128x256, .f32⟩
  | 100 => ⟨S8x4x128x256, .f32⟩
  | 101 => ⟨S8x4x128x256, .f32⟩
  | 102 => ⟨S8x4x128x256, .f32⟩
  | 103 => ⟨S_, .f32⟩
  | 104 => ⟨S8x4x128, .f32⟩
  | 105 => ⟨S8x4x128, .f32⟩
  | 106 => ⟨S8x4x128, .f32⟩
  | 107 => ⟨S8x4x128, .f32⟩
  | 108 => ⟨S8x4x128, .f32⟩
  | 109 => ⟨S8x4x128, .f32⟩
  | 110 => ⟨S8x4x128, .f32⟩
  | 111 => ⟨S8x4x128, .f32⟩
  | 112 => ⟨S8x4x128x1, .f32⟩
  | 113 => ⟨S8x4x128x256, .f32⟩
  | 114 => ⟨S8x4x128x256, .f32⟩
  | 115 => ⟨S8x4x1, .f32⟩
  | 116 => ⟨S8x4, .f32⟩
  | 117 => ⟨S8x4x1, .f32⟩
  | 118 => ⟨S8x4x128, .f32⟩
  | 119 => ⟨S8x4x128, .f32⟩
  | 120 => ⟨S8x4x128, .f32⟩
  | 121 => ⟨S8x4, .f32⟩
  | 122 => ⟨S_, .f32⟩
  | 123 => ⟨S8x4, .f32⟩
  | 124 => ⟨S8x4, .f32⟩
  | 125 => ⟨S8x4x1, .f32⟩
  | 126 => ⟨S8x4x128, .f32⟩
  | 127 => ⟨S8x4x128, .f32⟩
  | _ => ⟨S16x1024, .f32⟩

abbrev hbmTy0_2 (i : Nat) : BufTy := match i % 128 with
  | 0 => ⟨S8x4x128, .f32⟩
  | 1 => ⟨S8x4, .f32⟩
  | 2 => ⟨S8x4, .f32⟩
  | 3 => ⟨S8x4, .f32⟩
  | 4 => ⟨S8x4x1x1, .f32⟩
  | 5 => ⟨S8x4x256x256, .f32⟩
  | 6 => ⟨S8x4x256x256, .f32⟩
  | 7 => ⟨S8x4x128x1, .f32⟩
  | 8 => ⟨S8x4x128x256, .f32⟩
  | 9 => ⟨S8x4x128x256, .f32⟩
  | 10 => ⟨S8x4x256x256, .f32⟩
  | 11 => ⟨S8x4x256x256, .f32⟩
  | 12 => ⟨S8x4x1, .f32⟩
  | 13 => ⟨S8x4x256, .f32⟩
  | 14 => ⟨S8x4x256, .f32⟩
  | 15 => ⟨S8x4x256, .f32⟩
  | 16 => ⟨S8x4x256, .f32⟩
  | 17 => ⟨S1x8x4x128x256, .f32⟩
  | 18 => ⟨S_, .i32⟩
  | 19 => ⟨S_, .i32⟩
  | 20 => ⟨S_, .i32⟩
  | 21 => ⟨S_, .i32⟩
  | 22 => ⟨S34x8x4x128x256, .f32⟩
  | 23 => ⟨S_, .i32⟩
  | 24 => ⟨S_, .i32⟩
  | 25 => ⟨S8x4x34x128x256, .f32⟩
  | 26 => ⟨S8x4x4352x256, .f32⟩
  | 27 => ⟨S4x4x4096x256, .f32⟩
  | 28 => ⟨S4x4x4096x256, .f32⟩
  | 29 => ⟨S4x4x4096x256, .f32⟩
  | 30 => ⟨S4x4x4096x256, .f32⟩
  | 31 => ⟨S4x4096x6144, .bf16⟩
  | 32 => ⟨S4x4096x1024, .bf16⟩
  | 33 => ⟨S4x4096x1024, .f32⟩
  | 34 => ⟨S1024, .f32⟩
  | 35 => ⟨S_, .f32⟩
  | 36 => ⟨S4x4x4096, .f32⟩
  | 37 => ⟨S4x4x4096x1, .f32⟩
  | 38 => ⟨S_, .f32⟩
  | 39 => ⟨S4x4x4096x1, .f32⟩
  | 40 => ⟨S4x4x4096x1, .f32⟩
  | 41 => ⟨S4x4x4096x256, .f32⟩
  | 42 => ⟨S4x4x4096x256, .f32⟩
  | 43 => ⟨S4x4x4096x256, .f32⟩
  | 44 => ⟨S_, .f32⟩
  | 45 => ⟨S4x4x4096, .f32⟩
  | 46 => ⟨S4x4x4096x1, .f32⟩
  | 47 => ⟨S_, .f32⟩
  | 48 => ⟨S4x4x4096x1, .f32⟩
  | 49 => ⟨S4x4x4096x1, .f32⟩
  | 50 => ⟨S4x4x4096x256, .f32⟩
  | 51 => ⟨S4x4x4096x256, .f32⟩
  | 52 => ⟨S_, .f32⟩
  | 53 => ⟨S4x4x4096x1, .f32⟩
  | 54 => ⟨S4x4x4096x1, .f32⟩
  | 55 => ⟨S4x4x4096x1, .f32⟩
  | 56 => ⟨S4x4x4096x256, .f32⟩
  | 57 => ⟨S4x4x4096x256, .f32⟩
  | 58 => ⟨S4x4096x4x256, .f32⟩
  | 59 => ⟨S4x4096x1024, .f32⟩
  | 60 => ⟨S4x4096x1024, .f32⟩
  | 61 => ⟨S4x4096x1024, .f32⟩
  | 62 => ⟨S_, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S4x4096x1024, .f32⟩
  | 69 => ⟨S1x1x1024, .f32⟩
  | 70 => ⟨S4x4096x1024, .f32⟩
  | 71 => ⟨S4x4096x1024, .f32⟩
  | 72 => ⟨S4x4096x1024, .bf16⟩
  | _ => ⟨S16x1024, .f32⟩

abbrev hbmTy (i : Nat) : BufTy := match i / 128 with
  | 0 => hbmTy0_0 i
  | 1 => hbmTy0_1 i
  | 2 => hbmTy0_2 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_1 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_2 : Ref sig .tc := ⟨.hbm, 125, rfl⟩
abbrev main_v91 : Ref sig .tc := ⟨.hbm, 126, rfl⟩
abbrev main_cst_3 : Ref sig .tc := ⟨.hbm, 127, rfl⟩
abbrev main_v92 : Ref sig .tc := ⟨.hbm, 128, rfl⟩
abbrev main_cst_4 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_5 : Ref sig .tc := ⟨.hbm, 141, rfl⟩
abbrev main_v104 : Ref sig .tc := ⟨.hbm, 142, rfl⟩
abbrev main_c : Ref sig .tc := ⟨.hbm, 143, rfl⟩
abbrev main_v105_0 : Ref sig .tc := ⟨.hbm, 144, rfl⟩
abbrev main_v105_1 : Ref sig .tc := ⟨.hbm, 145, rfl⟩
abbrev main_v105_2 : Ref sig .tc := ⟨.hbm, 146, rfl⟩
abbrev main_v105_3 : Ref sig .tc := ⟨.hbm, 147, rfl⟩
abbrev main_v105_4 : Ref sig .tc := ⟨.hbm, 148, rfl⟩
abbrev main_v105_5 : Ref sig .tc := ⟨.hbm, 149, rfl⟩
abbrev main_v105_6 : Ref sig .tc := ⟨.hbm, 150, rfl⟩
abbrev main_v105_7 : Ref sig .tc := ⟨.hbm, 151, rfl⟩
abbrev main_v105_8 : Ref sig .tc := ⟨.hbm, 152, rfl⟩
abbrev main_v105_9 : Ref sig .tc := ⟨.hbm, 153, rfl⟩
abbrev main_while0c_c_22 : Ref sig .tc := ⟨.hbm, 154, rfl⟩
abbrev main_while0c_v147 : Ref sig .tc := ⟨.hbm, 155, rfl⟩
abbrev main_while0b_call12_c : Ref sig .tc := ⟨.hbm, 156, rfl⟩
abbrev main_while0b_call12_c_0 : Ref sig .tc := ⟨.hbm, 157, rfl⟩
abbrev main_while0b_call12_c_1 : Ref sig .tc := ⟨.hbm, 158, rfl⟩
abbrev main_while0b_call12_c_2 : Ref sig .tc := ⟨.hbm, 159, rfl⟩
abbrev main_while0b_call12_v0 : Ref sig .tc := ⟨.hbm, 160, rfl⟩
abbrev main_while0b_v147 : Ref sig .tc := ⟨.hbm, 161, rfl⟩
abbrev main_while0b_call13_c : Ref sig .tc := ⟨.hbm, 162, rfl⟩
abbrev main_while0b_call13_c_0 : Ref sig .tc := ⟨.hbm, 163, rfl⟩
abbrev main_while0b_call13_c_1 : Ref sig .tc := ⟨.hbm, 164, rfl⟩
abbrev main_while0b_call13_c_2 : Ref sig .tc := ⟨.hbm, 165, rfl⟩
abbrev main_while0b_call13_v0 : Ref sig .tc := ⟨.hbm, 166, rfl⟩
abbrev main_while0b_v148 : Ref sig .tc := ⟨.hbm, 167, rfl⟩
abbrev main_while0b_call14_c : Ref sig .tc := ⟨.hbm, 168, rfl⟩
abbrev main_while0b_call14_c_0 : Ref sig .tc := ⟨.hbm, 169, rfl⟩
abbrev main_while0b_call14_c_1 : Ref sig .tc := ⟨.hbm, 170, rfl⟩
abbrev main_while0b_call14_c_2 : Ref sig .tc := ⟨.hbm, 171, rfl⟩
abbrev main_while0b_call14_v0 : Ref sig .tc := ⟨.hbm, 172, rfl⟩
abbrev main_while0b_v149 : Ref sig .tc := ⟨.hbm, 173, rfl⟩
abbrev main_while0b_call15_c : Ref sig .tc := ⟨.hbm, 174, rfl⟩
abbrev main_while0b_call15_c_0 : Ref sig .tc := ⟨.hbm, 175, rfl⟩
abbrev main_while0b_call15_c_1 : Ref sig .tc := ⟨.hbm, 176, rfl⟩
abbrev main_while0b_call15_v0 : Ref sig .tc := ⟨.hbm, 177, rfl⟩
abbrev main_while0b_v150 : Ref sig .tc := ⟨.hbm, 178, rfl⟩
abbrev main_while0b_call16_c : Ref sig .tc := ⟨.hbm, 179, rfl⟩
abbrev main_while0b_call16_c_0 : Ref sig .tc := ⟨.hbm, 180, rfl⟩
abbrev main_while0b_call16_c_1 : Ref sig .tc := ⟨.hbm, 181, rfl⟩
abbrev main_while0b_call16_v0 : Ref sig .tc := ⟨.hbm, 182, rfl⟩
abbrev main_while0b_v151 : Ref sig .tc := ⟨.hbm, 183, rfl⟩
abbrev main_while0b_c_22 : Ref sig .tc := ⟨.hbm, 184, rfl⟩
abbrev main_while0b_v152 : Ref sig .tc := ⟨.hbm, 185, rfl⟩
abbrev main_while0b_call17_v0 : Ref sig .tc := ⟨.hbm, 186, rfl⟩
abbrev main_while0b_call17_c : Ref sig .tc := ⟨.hbm, 187, rfl⟩
abbrev main_while0b_call17_v1 : Ref sig .tc := ⟨.hbm, 188, rfl⟩
abbrev main_while0b_call17_v2 : Ref sig .tc := ⟨.hbm, 189, rfl⟩
abbrev main_while0b_call17_v3 : Ref sig .tc := ⟨.hbm, 190, rfl⟩
abbrev main_while0b_call17_v4 : Ref sig .tc := ⟨.hbm, 191, rfl⟩
abbrev main_while0b_call17_c_0 : Ref sig .tc := ⟨.hbm, 192, rfl⟩
abbrev main_while0b_call17_v5 : Ref sig .tc := ⟨.hbm, 193, rfl⟩
abbrev main_while0b_v153 : Ref sig .tc := ⟨.hbm, 194, rfl⟩
abbrev main_while0b_call18_call0_cst : Ref sig .tc := ⟨.hbm, 195, rfl⟩
abbrev main_while0b_call18_call0_v0 : Ref sig .tc := ⟨.hbm, 196, rfl⟩
abbrev main_while0b_v154 : Ref sig .tc := ⟨.hbm, 197, rfl⟩
abbrev main_while0b_v155 : Ref sig .tc := ⟨.hbm, 198, rfl⟩
abbrev main_while0b_v156 : Ref sig .tc := ⟨.hbm, 199, rfl⟩
abbrev main_while0b_v157 : Ref sig .tc := ⟨.hbm, 200, rfl⟩
abbrev main_while0b_v158 : Ref sig .tc := ⟨.hbm, 201, rfl⟩
abbrev main_while0b_v159 : Ref sig .tc := ⟨.hbm, 202, rfl⟩
abbrev main_while0b_v160 : Ref sig .tc := ⟨.hbm, 203, rfl⟩
abbrev main_while0b_v161 : Ref sig .tc := ⟨.hbm, 204, rfl⟩
abbrev main_while0b_v162 : Ref sig .tc := ⟨.hbm, 205, rfl⟩
abbrev main_while0b_cst_23 : Ref sig .tc := ⟨.hbm, 206, rfl⟩
abbrev main_while0b_call19_v0 : Ref sig .tc := ⟨.hbm, 207, rfl⟩
abbrev main_while0b_call19_v1 : Ref sig .tc := ⟨.hbm, 208, rfl⟩
abbrev main_while0b_call19_v2 : Ref sig .tc := ⟨.hbm, 209, rfl⟩
abbrev main_while0b_v163 : Ref sig .tc := ⟨.hbm, 210, rfl⟩
abbrev main_while0b_v164 : Ref sig .tc := ⟨.hbm, 211, rfl⟩
abbrev main_while0b_v165 : Ref sig .tc := ⟨.hbm, 212, rfl⟩
abbrev main_while0b_v166 : Ref sig .tc := ⟨.hbm, 213, rfl⟩
abbrev main_while0b_cst_24 : Ref sig .tc := ⟨.hbm, 214, rfl⟩
abbrev main_while0b_v167 : Ref sig .tc := ⟨.hbm, 215, rfl⟩
abbrev main_while0b_v168 : Ref sig .tc := ⟨.hbm, 216, rfl⟩
abbrev main_while0b_v169 : Ref sig .tc := ⟨.hbm, 217, rfl⟩
abbrev main_while0b_v170 : Ref sig .tc := ⟨.hbm, 218, rfl⟩
abbrev main_while0b_v171 : Ref sig .tc := ⟨.hbm, 219, rfl⟩
abbrev main_while0b_v172 : Ref sig .tc := ⟨.hbm, 220, rfl⟩
abbrev main_while0b_v173 : Ref sig .tc := ⟨.hbm, 221, rfl⟩
abbrev main_while0b_v174 : Ref sig .tc := ⟨.hbm, 222, rfl⟩
abbrev main_while0b_v175 : Ref sig .tc := ⟨.hbm, 223, rfl⟩
abbrev main_while0b_v176 : Ref sig .tc := ⟨.hbm, 224, rfl⟩
abbrev main_while0b_v177 : Ref sig .tc := ⟨.hbm, 225, rfl⟩
abbrev main_while0b_v178 : Ref sig .tc := ⟨.hbm, 226, rfl⟩
abbrev main_while0b_v179 : Ref sig .tc := ⟨.hbm, 227, rfl⟩
abbrev main_while0b_v180 : Ref sig .tc := ⟨.hbm, 228, rfl⟩
abbrev main_while0b_v181 : Ref sig .tc := ⟨.hbm, 229, rfl⟩
abbrev main_while0b_v182 : Ref sig .tc := ⟨.hbm, 230, rfl⟩
abbrev main_while0b_cst_25 : Ref sig .tc := ⟨.hbm, 231, rfl⟩
abbrev main_while0b_v183 : Ref sig .tc := ⟨.hbm, 232, rfl⟩
abbrev main_while0b_v184 : Ref sig .tc := ⟨.hbm, 233, rfl⟩
abbrev main_while0b_v185 : Ref sig .tc := ⟨.hbm, 234, rfl⟩
abbrev main_while0b_v186 : Ref sig .tc := ⟨.hbm, 235, rfl⟩
abbrev main_while0b_v187 : Ref sig .tc := ⟨.hbm, 236, rfl⟩
abbrev main_while0b_v188 : Ref sig .tc := ⟨.hbm, 237, rfl⟩
abbrev main_while0b_v189 : Ref sig .tc := ⟨.hbm, 238, rfl⟩
abbrev main_while0b_v190 : Ref sig .tc := ⟨.hbm, 239, rfl⟩
abbrev main_while0b_v191 : Ref sig .tc := ⟨.hbm, 240, rfl⟩
abbrev main_while0b_v192 : Ref sig .tc := ⟨.hbm, 241, rfl⟩
abbrev main_while0b_v193 : Ref sig .tc := ⟨.hbm, 242, rfl⟩
abbrev main_while0b_v194 : Ref sig .tc := ⟨.hbm, 243, rfl⟩
abbrev main_while0b_v195 : Ref sig .tc := ⟨.hbm, 244, rfl⟩
abbrev main_while0b_v196 : Ref sig .tc := ⟨.hbm, 245, rfl⟩
abbrev main_while0b_v197 : Ref sig .tc := ⟨.hbm, 246, rfl⟩
abbrev main_while0b_v198 : Ref sig .tc := ⟨.hbm, 247, rfl⟩
abbrev main_while0b_v199 : Ref sig .tc := ⟨.hbm, 248, rfl⟩
abbrev main_while0b_v200 : Ref sig .tc := ⟨.hbm, 249, rfl⟩
abbrev main_while0b_cst_26 : Ref sig .tc := ⟨.hbm, 250, rfl⟩
abbrev main_while0b_v201 : Ref sig .tc := ⟨.hbm, 251, rfl⟩
abbrev main_while0b_v202 : Ref sig .tc := ⟨.hbm, 252, rfl⟩
abbrev main_while0b_v203 : Ref sig .tc := ⟨.hbm, 253, rfl⟩
abbrev main_while0b_v204 : Ref sig .tc := ⟨.hbm, 254, rfl⟩
abbrev main_while0b_v205 : Ref sig .tc := ⟨.hbm, 255, rfl⟩
abbrev main_while0b_v206 : Ref sig .tc := ⟨.hbm, 256, rfl⟩
abbrev main_while0b_v207 : Ref sig .tc := ⟨.hbm, 257, rfl⟩
abbrev main_while0b_v208 : Ref sig .tc := ⟨.hbm, 258, rfl⟩
abbrev main_while0b_v209 : Ref sig .tc := ⟨.hbm, 259, rfl⟩
abbrev main_while0b_v210 : Ref sig .tc := ⟨.hbm, 260, rfl⟩
abbrev main_while0b_v211 : Ref sig .tc := ⟨.hbm, 261, rfl⟩
abbrev main_while0b_v212 : Ref sig .tc := ⟨.hbm, 262, rfl⟩
abbrev main_while0b_v213 : Ref sig .tc := ⟨.hbm, 263, rfl⟩
abbrev main_while0b_v214 : Ref sig .tc := ⟨.hbm, 264, rfl⟩
abbrev main_while0b_v215 : Ref sig .tc := ⟨.hbm, 265, rfl⟩
abbrev main_while0b_v216 : Ref sig .tc := ⟨.hbm, 266, rfl⟩
abbrev main_while0b_v217 : Ref sig .tc := ⟨.hbm, 267, rfl⟩
abbrev main_while0b_v218 : Ref sig .tc := ⟨.hbm, 268, rfl⟩
abbrev main_while0b_v219 : Ref sig .tc := ⟨.hbm, 269, rfl⟩
abbrev main_while0b_v220 : Ref sig .tc := ⟨.hbm, 270, rfl⟩
abbrev main_while0b_v221 : Ref sig .tc := ⟨.hbm, 271, rfl⟩
abbrev main_while0b_v222 : Ref sig .tc := ⟨.hbm, 272, rfl⟩
abbrev main_while0b_call20_v0 : Ref sig .tc := ⟨.hbm, 273, rfl⟩
abbrev main_while0b_call20_c : Ref sig .tc := ⟨.hbm, 274, rfl⟩
abbrev main_while0b_call20_c_0 : Ref sig .tc := ⟨.hbm, 275, rfl⟩
abbrev main_while0b_call20_c_1 : Ref sig .tc := ⟨.hbm, 276, rfl⟩
abbrev main_while0b_call20_c_2 : Ref sig .tc := ⟨.hbm, 277, rfl⟩
abbrev main_while0b_v223 : Ref sig .tc := ⟨.hbm, 278, rfl⟩
abbrev main_while0b_c_27 : Ref sig .tc := ⟨.hbm, 279, rfl⟩
abbrev main_while0b_v224 : Ref sig .tc := ⟨.hbm, 280, rfl⟩
abbrev main_v106 : Ref sig .tc := ⟨.hbm, 281, rfl⟩
abbrev main_v107 : Ref sig .tc := ⟨.hbm, 282, rfl⟩
abbrev main_v108 : Ref sig .tc := ⟨.hbm, 283, rfl⟩
abbrev main_v109 : Ref sig .tc := ⟨.hbm, 284, rfl⟩
abbrev main_v110 : Ref sig .tc := ⟨.hbm, 285, rfl⟩
abbrev main_v111 : Ref sig .tc := ⟨.hbm, 286, rfl⟩
abbrev main_v112 : Ref sig .tc := ⟨.hbm, 287, rfl⟩
abbrev main_v113 : Ref sig .tc := ⟨.hbm, 288, rfl⟩
abbrev main_v114 : Ref sig .tc := ⟨.hbm, 289, rfl⟩
abbrev main_v115 : Ref sig .tc := ⟨.hbm, 290, rfl⟩
abbrev main_cst_6 : Ref sig .tc := ⟨.hbm, 291, rfl⟩
abbrev main_v116 : Ref sig .tc := ⟨.hbm, 292, rfl⟩
abbrev main_v117 : Ref sig .tc := ⟨.hbm, 293, rfl⟩
abbrev main_cst_7 : Ref sig .tc := ⟨.hbm, 294, rfl⟩
abbrev main_v118 : Ref sig .tc := ⟨.hbm, 295, rfl⟩
abbrev main_v119 : Ref sig .tc := ⟨.hbm, 296, rfl⟩
abbrev main_v120 : Ref sig .tc := ⟨.hbm, 297, rfl⟩
abbrev main_v121 : Ref sig .tc := ⟨.hbm, 298, rfl⟩
abbrev main_v122 : Ref sig .tc := ⟨.hbm, 299, rfl⟩
abbrev main_cst_8 : Ref sig .tc := ⟨.hbm, 300, rfl⟩
abbrev main_v123 : Ref sig .tc := ⟨.hbm, 301, rfl⟩
abbrev main_v124 : Ref sig .tc := ⟨.hbm, 302, rfl⟩
abbrev main_cst_9 : Ref sig .tc := ⟨.hbm, 303, rfl⟩
abbrev main_v125 : Ref sig .tc := ⟨.hbm, 304, rfl⟩
abbrev main_v126 : Ref sig .tc := ⟨.hbm, 305, rfl⟩
abbrev main_v127 : Ref sig .tc := ⟨.hbm, 306, rfl⟩
abbrev main_v128 : Ref sig .tc := ⟨.hbm, 307, rfl⟩
abbrev main_cst_10 : Ref sig .tc := ⟨.hbm, 308, rfl⟩
abbrev main_v129 : Ref sig .tc := ⟨.hbm, 309, rfl⟩
abbrev main_v130 : Ref sig .tc := ⟨.hbm, 310, rfl⟩
abbrev main_v131 : Ref sig .tc := ⟨.hbm, 311, rfl⟩
abbrev main_v132 : Ref sig .tc := ⟨.hbm, 312, rfl⟩
abbrev main_v133 : Ref sig .tc := ⟨.hbm, 313, rfl⟩
abbrev main_v134 : Ref sig .tc := ⟨.hbm, 314, rfl⟩
abbrev main_v135 : Ref sig .tc := ⟨.hbm, 315, rfl⟩
abbrev main_v136 : Ref sig .tc := ⟨.hbm, 316, rfl⟩
abbrev main_v137 : Ref sig .tc := ⟨.hbm, 317, rfl⟩
abbrev main_cst_11 : Ref sig .tc := ⟨.hbm, 318, rfl⟩
abbrev main_v138 : Ref sig .tc := ⟨.hbm, 319, rfl⟩
abbrev main_v139 : Ref sig .tc := ⟨.hbm, 320, rfl⟩
abbrev main_cst_12 : Ref sig .tc := ⟨.hbm, 321, rfl⟩
abbrev main_v140 : Ref sig .tc := ⟨.hbm, 322, rfl⟩
abbrev main_v141 : Ref sig .tc := ⟨.hbm, 323, rfl⟩
abbrev main_v142 : Ref sig .tc := ⟨.hbm, 324, rfl⟩
abbrev main_v143 : Ref sig .tc := ⟨.hbm, 325, rfl⟩
abbrev main_v144 : Ref sig .tc := ⟨.hbm, 326, rfl⟩
abbrev main_v145 : Ref sig .tc := ⟨.hbm, 327, rfl⟩
abbrev main_v146 : Ref sig .tc := ⟨.hbm, 328, rfl⟩

abbrev nD : Nat := 1
abbrev τ : Topo := Topo.v7x

variable {F : FTy → Type} [FloatOps F]

abbrev main_while0_count : Scf.Loop 32 := ⟨0#32, 34#32, 1#32⟩
-- ==== Kernel2.lean ====
abbrev S32768x2048 : Shape := ⟨2, ![32768, 2048]⟩
abbrev S1x16x2048x5504 : Shape := ⟨4, ![1, 16, 2048, 5504]⟩
abbrev S1x16x5504x2048 : Shape := ⟨4, ![1, 16, 5504, 2048]⟩
abbrev S16x2048x5504 : Shape := ⟨3, ![16, 2048, 5504]⟩
abbrev S16x5504x2048 : Shape := ⟨3, ![16, 5504, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1x2048x128 : Shape := ⟨3, ![1, 2048, 128]⟩
abbrev S1x128x2048 : Shape := ⟨3, ![1, 128, 2048]⟩
abbrev S2048x256 : Shape := ⟨2, ![2048, 256]⟩
abbrev S1024x256 : Shape := ⟨2, ![1024, 256]⟩
abbrev S256x2048 : Shape := ⟨2, ![256, 2048]⟩
abbrev S2048x128 : Shape := ⟨2, ![2048, 128]⟩
abbrev S1024x128 : Shape := ⟨2, ![1024, 128]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S1x16x2048x5504, .f32⟩
  | .hbm, ⟨2, _⟩ => ⟨S1x16x2048x5504, .f32⟩
  | .hbm, ⟨3, _⟩ => ⟨S1x16x5504x2048, .f32⟩
  | .hbm, ⟨4, _⟩ => ⟨S16x2048x5504, .f32⟩
  | .hbm, ⟨5, _⟩ => ⟨S16x2048x5504, .f32⟩
  | .hbm, ⟨6, _⟩ => ⟨S16x5504x2048, .f32⟩
  | .hbm, ⟨7, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x128x2048, .f32⟩
  | .local _ .vmem, ⟨13, _⟩ => ⟨S1x128x2048, .f32⟩
  | .local _ .vmem, ⟨14, _⟩ => ⟨S1024x2048, .f32⟩
  | .local _ .vmem, ⟨15, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 2, 22], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c21_i32 : BitVec 32 := 21#32
  let v4 : BitVec 1 := Scalar.cmpi .slt arg2 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c21_i32_3 : BitVec 32 := 21#32
  let v8 : BitVec 1 := Scalar.cmpi .eq arg2 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.minsi arg2 c20_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.minsi arg2 c20_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.minsi arg2 c20_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c42_i32 : BitVec 32 := 42#32
  let c0_i32_0 : BitVec 32 := 0#32
  ![arg0.toNat, c0_i32.toNat, c42_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c42_i32 : BitVec 32 := 42#32
  let c0_i32_0 : BitVec 32 := 0#32
  ![arg0.toNat, c0_i32.toNat, c42_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let c0_i32 : BitVec 32 := 0#32
  let c0_i32_0 : BitVec 32 := 0#32
  ![arg0.toNat, c42_i32.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S32768x2048 : Shape := ⟨2, ![32768, 2048]⟩
abbrev S1x16x2048x5504 : Shape := ⟨4, ![1, 16, 2048, 5504]⟩
abbrev S1x16x5504x2048 : Shape := ⟨4, ![1, 16, 5504, 2048]⟩
abbrev S16x2048x2048 : Shape := ⟨3, ![16, 2048, 2048]⟩
abbrev S16x2048x5504 : Shape := ⟨3, ![16, 2048, 5504]⟩
abbrev S16x5504x2048 : Shape := ⟨3, ![16, 5504, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x16x2048x5504, .f32⟩
  | .hbm, ⟨2, _⟩ => ⟨S1x16x2048x5504, .f32⟩
  | .hbm, ⟨3, _⟩ => ⟨S1x16x5504x2048, .f32⟩
  | .hbm, ⟨4, _⟩ => ⟨S32768x2048, .f32⟩
  | .hbm, ⟨5, _⟩ => ⟨S16x2048x2048, .f32⟩
  | .hbm, ⟨6, _⟩ => ⟨S16x2048x5504, .f32⟩
  | .hbm, ⟨7, _⟩ => ⟨S16x2048x5504, .f32⟩
  | .hbm, ⟨8, _⟩ => ⟨S16x5504x2048, .f32⟩
  | .hbm, ⟨9, _⟩ => ⟨S16x2048x5504, .f32⟩
  | .hbm, ⟨10, _⟩ => ⟨S16x2048x5504, .f32⟩
  | .hbm, ⟨11, _⟩ => ⟨S16x2048x5504, .f32⟩
  | .hbm, ⟨12, _⟩ => ⟨S_, .f32⟩
  | .hbm, ⟨13, _⟩ => ⟨S16x2048x5504, .f32⟩
  | .hbm, ⟨14, _⟩ => ⟨S16x2048x5504, .f32⟩
  | .hbm, ⟨15, _⟩ => ⟨S_, .f32⟩
  | .hbm, ⟨16, _⟩ => ⟨S16x2048x5504, .f32⟩
  | .hbm, ⟨17, _⟩ => ⟨S16x2048x5504, .f32⟩
  | .hbm, ⟨18, _⟩ => ⟨S16x2048x5504, .f32⟩
  | .hbm, ⟨19, _⟩ => ⟨S16x2048x5504, .f32⟩
  | .hbm, ⟨20, _⟩ => ⟨S16x2048x5504, .f32⟩
  | .hbm, ⟨21, _⟩ => ⟨S16x2048x2048, .f32⟩
  | .hbm, ⟨22, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel3.lean ====
abbrev S16384x2048 : Shape := ⟨2, ![16384, 2048]⟩
abbrev S4x1x2048 : Shape := ⟨3, ![4, 1, 2048]⟩
abbrev S1x2048 : Shape := ⟨2, ![1, 2048]⟩
abbrev S2048x6144 : Shape := ⟨2, ![2048, 6144]⟩
abbrev S16x2048 : Shape := ⟨2, ![16, 2048]⟩
abbrev S16x1 : Shape := ⟨2, ![16, 1]⟩
abbrev S16384x6144 : Shape := ⟨2, ![16384, 6144]⟩
abbrev S16x16384 : Shape := ⟨2, ![16, 16384]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S16x1024 : Shape := ⟨2, ![16, 1024]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S2048x6144, .bf16⟩
  | .hbm, ⟨5, _⟩ => ⟨S16x2048, .bf16⟩
  | .hbm, ⟨6, _⟩ => ⟨S16x1, .f32⟩
  | .hbm, ⟨7, _⟩ => ⟨S16384x6144, .bf16⟩
  | .hbm, ⟨8, _⟩ => ⟨S16x16384, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S16x2048, .bf16⟩
  | .local _ .vmem, ⟨10, _⟩ => ⟨S16x1, .f32⟩
  | .local _ .vmem, ⟨11, _⟩ => ⟨S1024x1024, .bf16⟩
  | .local _ .vmem, ⟨12, _⟩ => ⟨S1024x1024, .bf16⟩
  | .local _ .vmem, ⟨13, _⟩ => ⟨S16x1024, .f32⟩
  | .local _ .vmem, ⟨14, _⟩ => ⟨S16x1024, .f32⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16384x2048 : Shape := ⟨2, ![16384, 2048]⟩
abbrev S4x1x2048 : Shape := ⟨3, ![4, 1, 2048]⟩
abbrev S1x2048 : Shape := ⟨2, ![1, 2048]⟩
abbrev S2048x6144 : Shape := ⟨2, ![2048, 6144]⟩
abbrev S16x2048 : Shape := ⟨2, ![16, 2048]⟩
abbrev S16x1 : Shape := ⟨2, ![16, 1]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6144 : Shape := ⟨3, ![4, 4096, 6144]⟩
abbrev S2048x16 : Shape := ⟨2, ![2048, 16]⟩
abbrev S4x4096x16 : Shape := ⟨3, ![4, 4096, 16]⟩
abbrev S16 : Shape := ⟨1, ![16]⟩
abbrev S1x1x16 : Shape := ⟨3, ![1, 1, 16]⟩
abbrev S16384x6144 : Shape := ⟨2, ![16384, 6144]⟩
abbrev S16384x16 : Shape := ⟨2, ![16384, 16]⟩
abbrev S16x16384 : Shape := ⟨2, ![16, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S2048x6144, .bf16⟩
  | .hbm, ⟨5, _⟩ => ⟨S16x2048, .bf16⟩
  | .hbm, ⟨6, _⟩ => ⟨S16x1, .f32⟩
  | .hbm, ⟨7, _⟩ => ⟨S4x4096x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S2048x6144, .f32⟩
  | .hbm, ⟨33, _⟩ => ⟨S4x4096x6144, .f32⟩
  | .hbm, ⟨34, _⟩ => ⟨S16x2048, .f32⟩
  | .hbm, ⟨35, _⟩ => ⟨S2048x16, .f32⟩
  | .hbm, ⟨36, _⟩ => ⟨S4x4096x16, .f32⟩
  | .hbm, ⟨37, _⟩ => ⟨S16, .f32⟩
  | .hbm, ⟨38, _⟩ => ⟨S1x1x16, .f32⟩
  | .hbm, ⟨39, _⟩ => ⟨S4x4096x16, .f32⟩
  | .hbm, ⟨40, _⟩ => ⟨S4x4096x16, .f32⟩
  | .hbm, ⟨41, _⟩ => ⟨S16384x6144, .f32⟩
  | .hbm, ⟨42, _⟩ => ⟨S16384x6144, .bf16⟩
  | .hbm, ⟨43, _⟩ => ⟨S16384x16, .f32⟩
  | .hbm, ⟨44, _⟩ => ⟨S16x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S1024x2048 : Shape := ⟨2, ![1024, 2048]⟩
abbrev S1x1x2048 : Shape := ⟨3, ![1, 1, 2048]⟩
abbrev S1x2048 : Shape := ⟨2, ![1, 2048]⟩
abbrev S2048x2048 : Shape := ⟨2, ![2048, 2048]⟩
abbrev S16x2048 : Shape := ⟨2, ![16, 2048]⟩
abbrev S16x1 : Shape := ⟨2, ![16, 1]⟩
abbrev S16x1024 : Shape := ⟨2, ![16, 1024]⟩
abbrev S256x2048 : Shape := ⟨2, ![256, 2048]⟩
abbrev S2048x1024 : Shape := ⟨2, ![2048, 1024]⟩
abbrev S256x1024 : Shape := ⟨2, ![256, 1024]⟩
abbrev S16x256 : Shape := ⟨2, ![16, 256]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1x1x2048, .f32⟩
  | .hbm, ⟨2, _⟩ => ⟨S1x1x2048, .f32⟩
  | .hbm, ⟨3, _⟩ => ⟨S1x2048, .f32⟩
  | .hbm, ⟨4, _⟩ => ⟨S2048x2048, .bf16⟩
  | .hbm, ⟨5, _⟩ => ⟨S16x2048, .bf16⟩
  | .hbm, ⟨6, _⟩ => ⟨S16x1, .f32⟩
  | .hbm, ⟨7, _⟩ => ⟨S1024x2048, .bf16⟩
  | .hbm, ⟨8, _⟩ => ⟨S16x1024, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S16x2048, .bf16⟩
  | .local _ .vmem, ⟨10, _⟩ => ⟨S16x1, .f32⟩
  | .local _ .vmem, ⟨11, _⟩ => ⟨S256x1024, .bf16⟩
  | .local _ .vmem, ⟨12, _⟩ => ⟨S256x1024, .bf16⟩
  | .local _ .vmem, ⟨13, _⟩ => ⟨S16x256, .f32⟩
  | .local _ .vmem, ⟨14, _⟩ => ⟨S16x256, .f32⟩
  | .local _ .vmem, ⟨15, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S1024x2048 : Shape := ⟨2, ![1024, 2048]⟩
abbrev S1x1x2048 : Shape := ⟨3, ![1, 1, 2048]⟩
abbrev S1x2048 : Shape := ⟨2, ![1, 2048]⟩
abbrev S2048x2048 : Shape := ⟨2, ![2048, 2048]⟩
abbrev S16x2048 : Shape := ⟨2, ![16, 2048]⟩
abbrev S16x1 : Shape := ⟨2, ![16, 1]⟩
abbrev S4x256x2048 : Shape := ⟨3, ![4, 256, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S2048x16 : Shape := ⟨2, ![2048, 16]⟩
abbrev S4x256x16 : Shape := ⟨3, ![4, 256, 16]⟩
abbrev S16 : Shape := ⟨1, ![16]⟩
abbrev S1x1x16 : Shape := ⟨3, ![1, 1, 16]⟩
abbrev S1024x16 : Shape := ⟨2, ![1024, 16]⟩
abbrev S16x1024 : Shape := ⟨2, ![16, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x1x2048, .f32⟩
  | .hbm, ⟨2, _⟩ => ⟨S1x1x2048, .f32⟩
  | .hbm, ⟨3, _⟩ => ⟨S1x2048, .f32⟩
  | .hbm, ⟨4, _⟩ => ⟨S2048x2048, .bf16⟩
  | .hbm, ⟨5, _⟩ => ⟨S16x2048, .bf16⟩
  | .hbm, ⟨6, _⟩ => ⟨S16x1, .f32⟩
  | .hbm, ⟨7, _⟩ => ⟨S4x256x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S4x256x2048, .f32⟩
  | .hbm, ⟨12, _⟩ => ⟨S_, .f32⟩
  | .hbm, ⟨13, _⟩ => ⟨S4x256, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S4x256x1, .f32⟩
  | .hbm, ⟨22, _⟩ => ⟨S4x256x2048, .f32⟩
  | .hbm, ⟨23, _⟩ => ⟨S4x256x2048, .f32⟩
  | .hbm, ⟨24, _⟩ => ⟨S1x1x2048, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S1x1x2048, .f32⟩
  | .hbm, ⟨31, _⟩ => ⟨S4x256x2048, .f32⟩
  | .hbm, ⟨32, _⟩ => ⟨S4x256x2048, .f32⟩
  | .hbm, ⟨33, _⟩ => ⟨S1x1x2048, .f32⟩
  | .hbm, ⟨34, _⟩ => ⟨S4x256x2048, .f32⟩
  | .hbm, ⟨35, _⟩ => ⟨S4x256x2048, .f32⟩
  | .hbm, ⟨36, _⟩ => ⟨S2048x2048, .f32⟩
  | .hbm, ⟨37, _⟩ => ⟨S4x256x2048, .f32⟩
  | .hbm, ⟨38, _⟩ => ⟨S16x2048, .f32⟩
  | .hbm, ⟨39, _⟩ => ⟨S2048x16, .f32⟩
  | .hbm, ⟨40, _⟩ => ⟨S4x256x16, .f32⟩
  | .hbm, ⟨41, _⟩ => ⟨S16, .f32⟩
  | .hbm, ⟨42, _⟩ => ⟨S1x1x16, .f32⟩
  | .hbm, ⟨43, _⟩ => ⟨S4x256x16, .f32⟩
  | .hbm, ⟨44, _⟩ => ⟨S4x256x16, .f32⟩
  | .hbm, ⟨45, _⟩ => ⟨S1024x2048, .f32⟩
  | .hbm, ⟨46, _⟩ => ⟨S1024x2048, .bf16⟩
  | .hbm, ⟨47, _⟩ => ⟨S1024x16, .f32⟩
  | .hbm, ⟨48, _⟩ => ⟨S16x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S2048x2048 : Shape := ⟨2, ![2048, 2048]⟩
abbrev S4x1x2048 : Shape := ⟨3, ![4, 1, 2048]⟩
abbrev S1x2048 : Shape := ⟨2, ![1, 2048]⟩
abbrev S2048x128 : Shape := ⟨2, ![2048, 128]⟩
abbrev S1024x2048 : Shape := ⟨2, ![1024, 2048]⟩
abbrev S16384x128 : Shape := ⟨2, ![16384, 128]⟩
abbrev S512x1024 : Shape := ⟨2, ![512, 1024]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .bf16⟩
  | .hbm, ⟨4, _⟩ => ⟨S4x1x2048, .f32⟩
  | .hbm, ⟨5, _⟩ => ⟨S1x2048, .f32⟩
  | .hbm, ⟨6, _⟩ => ⟨S4x1x2048, .f32⟩
  | .hbm, ⟨7, _⟩ => ⟨S4x1x2048, .f32⟩
  | .hbm, ⟨8, _⟩ => ⟨S2048x128, .bf16⟩
  | .hbm, ⟨9, _⟩ => ⟨S1024x2048, .bf16⟩
  | .hbm, ⟨10, _⟩ => ⟨S1024x2048, .bf16⟩
  | .hbm, ⟨11, _⟩ => ⟨S16384x2048, .f32⟩
  | .hbm, ⟨12, _⟩ => ⟨S16384x2048, .f32⟩
  | .hbm, ⟨13, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S2048x128, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x128, .f32⟩
  | .local _ .vmem, ⟨21, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S16384x1024 : Shape := ⟨2, ![16384, 1024]⟩
abbrev S16384x2048 : Shape := ⟨2, ![16384, 2048]⟩
abbrev S2048x2048 : Shape := ⟨2, ![2048, 2048]⟩
abbrev S4x1x2048 : Shape := ⟨3, ![4, 1, 2048]⟩
abbrev S1x2048 : Shape := ⟨2, ![1, 2048]⟩
abbrev S2048x128 : Shape := ⟨2, ![2048, 128]⟩
abbrev S4x4096x1024 : Shape := ⟨3, ![4, 4096, 1024]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x128 : Shape := ⟨3, ![4, 4096, 128]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .bf16⟩
  | .hbm, ⟨4, _⟩ => ⟨S4x1x2048, .f32⟩
  | .hbm, ⟨5, _⟩ => ⟨S1x2048, .f32⟩
  | .hbm, ⟨6, _⟩ => ⟨S4x1x2048, .f32⟩
  | .hbm, ⟨7, _⟩ => ⟨S4x1x2048, .f32⟩
  | .hbm, ⟨8, _⟩ => ⟨S2048x128, .bf16⟩
  | .hbm, ⟨9, _⟩ => ⟨S4x4096x1024, .bf16⟩
  | .hbm, ⟨10, _⟩ => ⟨S4x4096x1024, .bf16⟩
  | .hbm, ⟨11, _⟩ => ⟨S4x4096x2048, .f32⟩
  | .hbm, ⟨12, _⟩ => ⟨S4x4096x2048, .bf16⟩
  | .hbm, ⟨13, _⟩ => ⟨S4x4096x2048, .f32⟩
  | .hbm, ⟨14, _⟩ => ⟨S2048x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S2048, .f32⟩
  | .hbm, ⟨20, _⟩ => ⟨S4x4096x2048, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x1x2048, .f32⟩
  | .hbm, ⟨38, _⟩ => ⟨S4x1x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S2048x128, .f32⟩
  | .hbm, ⟨44, _⟩ => ⟨S4x4096x128, .f32⟩
  | .hbm, ⟨45, _⟩ => ⟨S16384x2048, .f32⟩
  | .hbm, ⟨46, _⟩ => ⟨S16384x2048, .f32⟩
  | .hbm, ⟨47, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel6.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.MPh1.lean ====
/-
  The first phase of the body: the gates' running sums and input gates stored row by row.
-/
module

public import proofs.«01_k».proof.Proof.Gen.KernelIdeal.Frame.Runs
public import Idealize.ShloMosaic.Lib.WholeRead
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The cumulative log-forget-gates the kernel keeps per direction and chunk: the forward sums in layer 0, the backward in layer 1. -/
def gateB (x0 : Vec F S1x4x1x40x128 .f32) : Vec F S2x40x1x128 .f32 := fun y =>
  if (y 0).val = 0 then k0_pay35 x0 (ix2 (y 1) (y 3)) else k0_pay38 (k0_pay36 x0) k0_pay37 (Scalar.ofBits .f32 0x3F800000#32) (ix2 (y 1) (y 3))

/-- The input gates per direction and chunk. -/
def gateI (x0 : Vec F S1x4x1x40x128 .f32) : Vec F S2x40x1x128 .f32 := fun y =>
  if (y 0).val = 0 then k0_pay34 x0 (ix3 0 (y 1) (y 3)) else k0_pay34 x0 (ix3 2 (y 1) (y 3))

/-- The forward row `r` of the running sums. -/
theorem gateB_0 (x0 : Vec F S1x4x1x40x128 .f32) (y : S2x40x1x128.Idx) (r : ℕ) (hr : r < 40) (l : Fin 128) (h0 : (y 0).val = 0) (h1 : (y 1).val = r) (h3 : (y 3).val = l.val) :
    gateB x0 y = k0_pay35 x0 (ix2 ⟨r, hr⟩ l) := by
  have e1 : y 1 = (⟨r, hr⟩ : Fin 40) := Fin.ext h1
  have e3 : y 3 = l := Fin.ext h3
  rw [← e1, ← e3]
  exact if_pos h0

/-- The backward row `r` of the running sums. -/
theorem gateB_1 (x0 : Vec F S1x4x1x40x128 .f32) (y : S2x40x1x128.Idx) (r : ℕ) (hr : r < 40) (l : Fin 128) (h0 : (y 0).val = 1) (h1 : (y 1).val = r) (h3 : (y 3).val = l.val) :
    gateB x0 y = k0_pay38 (k0_pay36 x0) k0_pay37 (Scalar.ofBits .f32 0x3F800000#32) (ix2 ⟨r, hr⟩ l) := by
  have e1 : y 1 = (⟨r, hr⟩ : Fin 40) := Fin.ext h1
  have e3 : y 3 = l := Fin.ext h3
  rw [← e1, ← e3]
  exact if_neg (by omega)

/-- The forward row `r` of the input gates. -/
theorem gateI_0 (x0 : Vec F S1x4x1x40x128 .f32) (y : S2x40x1x128.Idx) (r : ℕ) (hr : r < 40) (l : Fin 128) (h0 : (y 0).val = 0) (h1 : (y 1).val = r) (h3 : (y 3).val = l.val) :
    gateI x0 y = k0_pay34 x0 (ix3 0 ⟨r, hr⟩ l) := by
  have e1 : y 1 = (⟨r, hr⟩ : Fin 40) := Fin.ext h1
  have e3 : y 3 = l := Fin.ext h3
  rw [← e1, ← e3]
  exact if_pos h0

/-- The backward row `r` of the input gates. -/
theorem gateI_1 (x0 : Vec F S1x4x1x40x128 .f32) (y : S2x40x1x128.Idx) (r : ℕ) (hr : r < 40) (l : Fin 128) (h0 : (y 0).val = 1) (h1 : (y 1).val = r) (h3 : (y 3).val = l.val) :
    gateI x0 y = k0_pay34 x0 (ix3 2 ⟨r, hr⟩ l) := by
  have e1 : y 1 = (⟨r, hr⟩ : Fin 40) := Fin.ext h1
  have e3 : y 3 = l := Fin.ext h3
  rw [← e1, ← e3]
  exact if_neg (by omega)

/-- An index of a one-row block is its lane. -/
theorem row_eta (x : S1x1x1x128.Idx) : x = ix4 0 0 0 (x 3) := by
  funext a
  refine Fin.cases ?_ (fun a => Fin.cases ?_ (fun a => Fin.cases ?_ (fun a => Fin.cases ?_ (fun a => a.elim0) a) a) a) a
  · exact Fin.ext (by have := (x 0).isLt; change (x 0).val < 1 at this; change (x 0).val = 0; omega)
  · exact Fin.ext (by have := (x 1).isLt; change (x 1).val < 1 at this; change (x 1).val = 0; omega)
  · exact Fin.ext (by have := (x 2).isLt; change (x 2).val < 1 at this; change (x 2).val = 0; omega)
  · rfl

/-- A piece of the log-gate scratch holds what `gateB` says. -/
def okB (x0 : Vec F S1x4x1x40x128 .f32) (p : View.Piece (Elt F) S2x40x1x128 .f32) : Prop := ∀ x : p.1.shape.Idx, p.2 x = gateB x0 (p.1.emb x)

/-- A piece of the input-gate scratch holds what `gateI` says. -/
def okI (x0 : Vec F S1x4x1x40x128 .f32) (p : View.Piece (Elt F) S2x40x1x128 .f32) : Prop := ∀ x : p.1.shape.Idx, p.2 x = gateI x0 (p.1.emb x)

/-- One row of a matrix laid out as a one-row block. -/
theorem row2 (A : FVec F S40x128 .f32) (r : ℕ) (hr : r < 40) (h1 : S40x128.Slices ![r, 0] S1x128) (h2 : S1x128.ShapeCasts S1x1x1x128) (x : S1x1x1x128.Idx) :
    shapeCast S1x1x1x128 (extractStridedSlice S1x128 ![r, 0] A h1) h2 x = A (ix2 ⟨r, hr⟩ (x 3)) := by
  rw [row_eta x]; generalize x 3 = l
  pointwise

/-- One row of a layer laid out as a one-row block. -/
theorem row3 (A : FVec F S4x40x128 .f32) (d r : ℕ) (hd : d < 4) (hr : r < 40) (h1 : S4x40x128.Slices ![d, r, 0] S1x1x128) (h3 : S1x1x128.ShapeCasts S1x128) (h2 : S1x128.ShapeCasts S1x1x1x128) (x : S1x1x1x128.Idx) :
    shapeCast S1x1x1x128 (shapeCast S1x128 (extractStridedSlice S1x1x128 ![d, r, 0] A h1) h3) h2 x = A (ix3 ⟨d, hd⟩ ⟨r, hr⟩ (x 3)) := by
  rw [row_eta x]; generalize x 3 = l
  pointwise

/-- A store of a forward row of running sums stores what `gateB` has there. -/
theorem okB_fwd (x0 : Vec F S1x4x1x40x128 .f32) (r : ℕ) (hr : r < 40) (inb) (h1) (h2) (A : FVec F S40x128 .f32) (hA : A = k0_pay35 x0) :
    okB x0 ⟨Rect.unit (s := S2x40x1x128) ![0, r, 0, 0] S1x1x1x128.size inb, shapeCast S1x1x1x128 (extractStridedSlice S1x128 ![r, 0] A h1) h2⟩ := by
  subst hA; intro x
  have key : ∀ z : S1x1x1x128.Idx, _ = _ := fun z => row2 (k0_pay35 x0) r hr h1 h2 z
  refine (key x).trans (gateB_0 x0 _ r hr (x 3) ?_ ?_ ?_).symm
  · change 0 + 1 * (x 0).val = 0
    have := (x 0).isLt; change (x 0).val < 1 at this; omega
  · change r + 1 * (x 1).val = r
    have := (x 1).isLt; change (x 1).val < 1 at this; omega
  · change 0 + 1 * (x 3).val = (x 3).val
    omega

/-- A store of a backward row of running sums stores what `gateB` has there. -/
theorem okB_bwd (x0 : Vec F S1x4x1x40x128 .f32) (r : ℕ) (hr : r < 40) (inb) (h1) (h2) (A : FVec F S40x128 .f32) (hA : A = k0_pay38 (k0_pay36 x0) k0_pay37 (Scalar.ofBits .f32 0x3F800000#32)) :
    okB x0 ⟨Rect.unit (s := S2x40x1x128) ![1, r, 0, 0] S1x1x1x128.size inb, shapeCast S1x1x1x128 (extractStridedSlice S1x128 ![r, 0] A h1) h2⟩ := by
  subst hA; intro x
  have key : ∀ z : S1x1x1x128.Idx, _ = _ := fun z => row2 (k0_pay38 (k0_pay36 x0) k0_pay37 (Scalar.ofBits .f32 0x3F800000#32)) r hr h1 h2 z
  refine (key x).trans (gateB_1 x0 _ r hr (x 3) ?_ ?_ ?_).symm
  · change 1 + 1 * (x 0).val = 1
    have := (x 0).isLt; change (x 0).val < 1 at this; omega
  · change r + 1 * (x 1).val = r
    have := (x 1).isLt; change (x 1).val < 1 at this; omega
  · change 0 + 1 * (x 3).val = (x 3).val
    omega

/-- A store of a forward row of input gates stores what `gateI` has there. -/
theorem okI_fwd (x0 : Vec F S1x4x1x40x128 .f32) (r : ℕ) (hr : r < 40) (inb) (h1) (h3) (h2) (A : FVec F S4x40x128 .f32) (hA : A = k0_pay34 x0) :
    okI x0 ⟨Rect.unit (s := S2x40x1x128) ![0, r, 0, 0] S1x1x1x128.size inb, shapeCast S1x1x1x128 (shapeCast S1x128 (extractStridedSlice S1x1x128 ![0, r, 0] A h1) h3) h2⟩ := by
  subst hA; intro x
  have key : ∀ z : S1x1x1x128.Idx, _ = _ := fun z => row3 (k0_pay34 x0) 0 r (by decide) hr h1 h3 h2 z
  refine (key x).trans (gateI_0 x0 _ r hr (x 3) ?_ ?_ ?_).symm
  · change 0 + 1 * (x 0).val = 0
    have := (x 0).isLt; change (x 0).val < 1 at this; omega
  · change r + 1 * (x 1).val = r
    have := (x 1).isLt; change (x 1).val < 1 at this; omega
  · change 0 + 1 * (x 3).val = (x 3).val
    omega

/-- A store of a backward row of input gates stores what `gateI` has there. -/
theorem okI_bwd (x0 : Vec F S1x4x1x40x128 .f32) (r : ℕ) (hr : r < 40) (inb) (h1) (h3) (h2) (A : FVec F S4x40x128 .f32) (hA : A = k0_pay34 x0) :
    okI x0 ⟨Rect.unit (s := S2x40x1x128) ![1, r, 0, 0] S1x1x1x128.size inb, shapeCast S1x1x1x128 (shapeCast S1x128 (extractStridedSlice S1x1x128 ![2, r, 0] A h1) h3) h2⟩ := by
  subst hA; intro x
  have key : ∀ z : S1x1x1x128.Idx, _ = _ := fun z => row3 (k0_pay34 x0) 2 r (by decide) hr h1 h3 h2 z
  refine (key x).trans (gateI_1 x0 _ r hr (x 3) ?_ ?_ ?_).symm
  · change 1 + 1 * (x 0).val = 1
    have := (x 0).isLt; change (x 0).val < 1 at this; omega
  · change r + 1 * (x 1).val = r
    have := (x 1).isLt; change (x 1).val < 1 at this; omega
  · change 0 + 1 * (x 3).val = (x 3).val
    omega

/-- Pieces that all hold `gateB` and tile the scratch leave it at `gateB`. -/
theorem writesB {m : Memref sig .tc .vmem S2x40x1x128 .f32} (hm : m.IsWhole) (x0 : Vec F S1x4x1x40x128 .f32) (f : BufTy.Contents (Elt F) m.view.ty)
    (L : List (View.Piece (Elt F) S2x40x1x128 .f32)) (hL : ∀ p ∈ L, okB x0 p) (hc : View.Piece.tiledL L S1x1x1x128.size = true) :
    m.view.writes (Elt F) f L = hm.unread (gateB x0) :=
  hm.eq_unread (funext fun y => View.read_writes_apply_of_pieces m.view f (gateB x0) L hL y (View.cover_of_tiledL L S1x1x1x128.size hc y))

/-- All the stores of input gates together leave `gateI`. -/
theorem writesI {m : Memref sig .tc .vmem S2x40x1x128 .f32} (hm : m.IsWhole) (x0 : Vec F S1x4x1x40x128 .f32) (f : BufTy.Contents (Elt F) m.view.ty)
    (L : List (View.Piece (Elt F) S2x40x1x128 .f32)) (hL : ∀ p ∈ L, okI x0 p) (hc : View.Piece.tiledL L S1x1x1x128.size = true) :
    m.view.writes (Elt F) f L = hm.unread (gateI x0) :=
  hm.eq_unread (funext fun y => View.read_writes_apply_of_pieces m.view f (gateI x0) L hL y (View.cover_of_tiledL L S1x1x1x128.size hc y))

/-- A scratch stored whole holds what was stored. -/
theorem writesW {s : Shape} {e : EltTy} {m : Memref sig .tc .vmem s e} (hm : m.IsWhole) (f : BufTy.Contents (Elt F) m.view.ty) (off : Fin s.rank → ℕ) (hoff : ∀ a, off a = 0) (inb) (w : Vec F s e) (L) :
    m.view.writes (Elt F) f (⟨Rect.unit (s := s) off s.size inb, w⟩ :: L) = hm.unread w :=
  hm.eq_unread (funext fun y => View.read_writes_cons_hit_of_coords m.view f (Rect.unit (s := s) off s.size inb) w L y y (fun a => by
    change (y a).val = off a + 1 * (y a).val
    rw [hoff a]; omega))

set_option maxHeartbeats 4000000 in
/-- The first part of the body: the gates are laid out in the two row scratches and the two states are set to zero; then the rest runs. -/
theorem phase1 (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole)
    (x0 : Vec F S1x4x1x40x128 .f32) (f11 : BufTy.Contents (Elt F) arg11.view.ty) (f12 : BufTy.Contents (Elt F) arg12.view.ty) (f13 : BufTy.Contents (Elt F) arg13.view.ty) (f14 : BufTy.Contents (Elt F) arg14.view.ty)
    (rest : IVec S128x128 32 → IVec S128x128 32 → IVec S128x128 1 → FVec F S128x128 .bf16 → FVec F S1x1 .f32 → Prog (TpuEff nD τ sig (Elt F) Λ₀ .tc) PUnit)
    (E : Set ℕ) (K : PUnit → sProp 𝕄) :
    iprop((arg2.view.loc (c : Thread nD τ) ↦[arg2.view.set]{fullShare} harg2.unread x0) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg2.view.loc (c : Thread nD τ) ↦[arg2.view.set]{fullShare} harg2.unread x0) ∗ (arg11.view.loc (c : Thread nD τ) ↦[arg11.view.set]{fullShare} harg11.unread (gateB x0)) ∗ (arg12.view.loc (c : Thread nD τ) ↦[arg12.view.set]{fullShare} harg12.unread (gateI x0)) ∗ (arg13.view.loc (c : Thread nD τ) ↦[arg13.view.set]{fullShare} harg13.unread k0_pay220) ∗ (arg14.view.loc (c : Thread nD τ) ↦[arg14.view.set]{fullShare} harg14.unread k0_pay221))
            -∗ wp frame (wpE (defs₀ (F := F)) Variants.none c none) E (rest (iota .tc S128x128 32 [0] iota_S128x128_d0_w32) (iota .tc S128x128 32 [1] iota_S128x128_d1_w32) k0_pay33 k0_pay219 k0_pay222) K))
      ⊢ wp frame (wpE (defs₀ (F := F)) Variants.none c none) E (do
      let ⟨v0, v1, v2, v4, v31, v41, v42, cst_12⟩ : Σ' (v0 : IVec S128x128 32) (v1 : IVec S128x128 32) (v2 : IVec S128x128 1) (v4 : FVec F S4x40x128 .f32) (v31 : FVec F S40x128 .f32) (v41 : FVec F S40x128 .f32) (v42 : IVec S128x128 1), F .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16
      let ⟨v58, v77⟩ : Σ' (v58 : FVec F S40x128 .f32), FVec F S1x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v41 v42 cst_12
      let v104 : FVec F S1x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v77
      let v134 : FVec F S1x1x1x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v104
      let v163 : FVec F S1x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v134
      let v189 : FVec F S1x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v163
      let v217 : FVec F S1x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v189
      let v248 : FVec F S1x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v217
      let v275 : FVec F S1x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v248
      let v302 : FVec F S1x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v275
      let v333 : FVec F S1x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v302
      let v361 : FVec F S1x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v333
      let v387 : FVec F S1x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v361
      k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v387
      let v446 : FVec F S1x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58
      let ⟨v473, v474⟩ : Σ' (v473 : FVec F S1x128 .f32), Vec F S1x1x1x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v446
      k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v473 v474
      let v531 : FVec F S1x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58
      let v559 : FVec F S1x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v531
      k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v559
      let v617 : FVec F S1x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58
      let v644 : FVec F S1x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v617
      let v674 : FVec F S1x1x1x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v644
      let v703 : FVec F S1x128 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v674
      let v729 : FVec F S1x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v703
      let v757 : FVec F S1x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v729
      let ⟨v779, v788⟩ : Σ' (v779 : FVec F S128x128 .bf16), FVec F S1x1 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v757
      rest v0 v1 v2 v779 v788) K := by
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  iintro ⟨H2, H11, H12, H13, H14, Hk⟩
  sl_exec
  have hx : arg2.view.readAt (Elt F) (Rect.unit (s := S1x4x1x40x128) ![0, 0, 0, 0, 0] S1x4x1x40x128.size inb_S1x4x1x40x128_S1x4x1x40x128_0_0_0_0_0).toLoadRect (harg2.unread x0) = x0 := by
    rw [View.readAt_eq_ld, harg2.read_unread]
    funext y
    exact congrArg x0 (funext fun a => Fin.ext (by
      change ![0, 0, 0, 0, 0] a + 1 * (y a).val = (y a).val
      have : (![0, 0, 0, 0, 0] : Fin 5 → ℕ) a = 0 := by revert a; decide
      rw [this]; omega))
  have h4 : phase1.sl.r arg2 harg2 x0 = k0_pay34 x0 := by
    unfold phase1.sl.r; rw [hx]
  have h31 : phase1.sl.r_1 arg2 harg2 x0 = k0_pay35 x0 := by
    unfold phase1.sl.r_1; rw [hx]
  have h58 : phase1.sl.r_3 arg2 harg2 x0 = k0_pay38 (k0_pay36 x0) k0_pay37 (Scalar.ofBits .f32 0x3F800000#32) := by
    unfold phase1.sl.r_3 phase1.sl.r_2; rw [hx]; rfl
  rw [writesB harg11 x0 f11 _ ?hB ?hcB, writesI harg12 x0 f12 _ ?hI ?hcI, writesW harg13 f13 ![0, 0] ?h3, writesW harg14 f14 ![0, 0] ?h3]
  case hcB => sl_kernel_rfl
  case hcI => sl_kernel_rfl
  case h3 => decide
  case hB =>
    refine List.forall_mem_cons.2 ⟨okB_bwd x0 39 (by decide) _ slices_S40x128_o39_0_S1x128 shapeCasts_S1x128_S1x1x1x128 _ h58, List.forall_mem_cons.2 ⟨okB_fwd x0 39 (by decide) _ slices_S40x128_o39_0_S1x128 shapeCasts_S1x128_S1x1x1x128 _ h31, ?_⟩⟩
    refine List.forall_mem_cons.2 ⟨okB_bwd x0 38 (by decide) _ slices_S40x128_o38_0_S1x128 shapeCasts_S1x128_S1x1x1x128 _ h58, List.forall_mem_cons.2 ⟨okB_fwd x0 38 (by decide) _ slices_S40x128_o38_0_S1x128 shapeCasts_S1x128_S1x1x1x128 _ h31, ?_⟩⟩
    refine List.forall_mem_cons.2 ⟨okB_bwd x0 37 (by decide) _ slices_S40x128_o37_0_S1x128 shapeCasts_S1x128_S1x1x1x128 _ h58, List.forall_mem_cons.2 ⟨okB_fwd x0 37 (by decide) _ slices_S40x128_o37_0_S1x128 shapeCasts_S1x128_S1x1x1x128 _ h31, ?_⟩⟩
    refine List.forall_mem_cons.2 ⟨okB_bwd x0 36 (by decide) _ slices_S40x128_o36_0_S1x128 shapeCasts_S1x128_S1x1x1x128 _ h58, List.forall_mem_cons.2 ⟨okB_fwd x0 36 (by decide) _ slices_S40x128_o36_0_S1x128 shapeCasts_S1x128_S1x1x1x128 _ h31, ?_⟩⟩
    refine List.forall_mem_cons.2 ⟨okB_bwd x0 35 (by decide) _ slices_S40x128_o35_0_S1x128 shapeCasts_S1x128_S1x1x1x128 _ h58, List.forall_mem_cons.2 ⟨okB_fwd x0 35 (by decide) _ slices_S40x128_o35_0_S1x128 shapeCasts_S1x128_S1x1x1x128 _ h31, ?_⟩⟩
    refine List.forall_mem_cons.2 ⟨okB_bwd x0 34 (by decide) _ slices_S40x128_o34_0_S1x128 shapeCasts_S1x128_S1x1x1x128 _ h58, List.forall_mem_cons.2 ⟨okB_fwd x0 34 (by decide) _ slices_S40x128_o34_0_S1x128 shapeCasts_S1x128_S1x1x1x128 _ h31, ?_⟩⟩
    refine List.forall_mem_cons.2 ⟨okB_bwd x0 33 (by decide) _ slices_S40x128_o33_0_S1x128 shapeCasts_S1x128_S1x1x1x128 _ h58, List.forall_mem_cons.2 ⟨okB_fwd x0 33 (by decide) _ slices_S40x128_o33_0_S1x128 shapeCasts_S1x128_S1x1x1x128 _ h31, ?_⟩⟩
    refine List.forall_mem_cons.2 ⟨okB_bwd x0 32 (by decide) _ slices_S40x128_o32_0_S1x128 shapeCasts_S1x128_S1x1x1x128 _ h58, List.forall_mem_cons.2 ⟨okB_fwd x0 32 (by decide) _ slices_S40x128_o32_0_S1x128 shapeCasts_S1x128_S1x1x1x128 _ h31, ?_⟩⟩
    refine List.forall_mem_cons.2 ⟨okB_bwd x0 31 (by decide) _ slices_S40x128_o31_0_S1x128 shapeCasts_S1x128_S1x1x1x128 _ h58, List.forall_mem_cons.2 ⟨okB_fwd x0 31 (by decide) _ slices_S40x128_o31_0_S1x128 shapeCasts_S1x128_S1x1x1x128 _ h31, ?_⟩⟩
    refine List.forall_mem_cons.2 ⟨okB_bwd x0 30 (by decide) _ slices_S40x128_o30_0_S1x128 shapeCasts_S1x128_S1x1x1x128 _ h58, List.forall_mem_cons.2 ⟨okB_fwd x0 30 (by decide) _ slices_S40x128_o30_0_S1x128 shapeCasts_S1x128_S1x1x1x128 _ h31, ?_⟩⟩
    refine List.forall_mem_cons.2 ⟨okB_bwd x0 29 (by decide) _ slices_S40x128_o29_0_S1x128 shapeCasts_S1x128_S1x1x1x128 _ h58, List.forall_mem_cons.2 ⟨okB_fwd x0 29 (by decide) _ slices_S40x128_o29_0_S1x128 shapeCasts_S1x128_S1x1x1x128 _ h31, ?_⟩⟩
    refine List.forall_mem_cons.2 ⟨okB_bwd x0 28 (by decide) _ slices_S40x128_o28_0_S1x128 shapeCasts_S1x128_S1x1x1x128 _ h58, List.forall_mem_cons.2 ⟨okB_fwd x0 28 (by decide) _ slices_S40x128_o28_0_S1x128 shapeCasts_S1x128_S1x1x1x128 _ h31, ?_⟩⟩
    refine List.forall_mem_cons.2 ⟨okB_bwd x0 27 (by decide) _ slices_S40x128_o27_0_S1x128 shapeCasts_S1x128_S1x1x1x128 _ h58, List.forall_mem_cons.2 ⟨okB_fwd x0 27 (by decide) _ slices_S40x128_o27_0_S1x128 shapeCasts_S1x128_S1x1x1x128 _ h31, ?_⟩⟩
    refine List.forall_mem_cons.2 ⟨okB_bwd x0 26 (by decide) _ slices_S40x128_o26_0_S1x128 shapeCasts_S1x128_S1x1x1x128 _ h58, List.forall_mem_cons.2 ⟨okB_fwd x0 26 (by decide) _ slices_S40x128_o26_0_S1x128 shapeCasts_S1x128_S1x1x1x128 _ h31, ?_⟩⟩
    refine List.forall_mem_cons.2 ⟨okB_bwd x0 25 (by decide) _ slices_S40x128_o25_0_S1x128 shapeCasts_S1x128_S1x1x1x128 _ h58, List.forall_mem_cons.2 ⟨okB_fwd x0 25 (by decide) _ slices_S40x128_o25_0_S1x128 shapeCasts_S1x128_S1x1x1x128 _ h31, ?_⟩⟩
    refine List.forall_mem_cons.2 ⟨okB_bwd x0 24 (by decide) _ slices_S40x128_o24_0_S1x128 shapeCasts_S1x128_S1x1x1x128 _ h58, List.forall_mem_cons.2 ⟨okB_fwd x0 24 (by decide) _ slices_S40x128_o24_0_S1x128 shapeCasts_S1x128_S1x1x1x128 _ h31, ?_⟩⟩
    refine List.forall_mem_cons.2 ⟨okB_bwd x0 23 (by decide) _ slices_S40x128_o23_0_S1x128 shapeCasts_S1x128_S1x1x1x128 _ h58, List.forall_mem_cons.2 ⟨okB_fwd x0 23 (by decide) _ slices_S40x128_o23_0_S1x128 shapeCasts_S1x128_S1x1x1x128 _ h31, ?_⟩⟩
    refine List.forall_mem_cons.2 ⟨okB_bwd x0 22 (by decide) _ slices_S40x128_o22_0_S1x128 shapeCasts_S1x128_S1x1x1x128 _ h58, List.forall_mem_cons.2 ⟨okB_fwd x0 22 (by decide) _ slices_S40x128_o22_0_S1x128 shapeCasts_S1x128_S1x1x1x128 _ h31, ?_⟩⟩
    refine List.forall_mem_cons.2 ⟨okB_bwd x0 21 (by decide) _ slices_S40x128_o21_0_S1x128 shapeCasts_S1x128_S1x1x1x128 _ h58, List.forall_mem_cons.2 ⟨okB_fwd x0 21 (by decide) _ slices_S40x128_o21_0_S1x128 shapeCasts_S1x128_S1x1x1x128 _ h31, ?_⟩⟩
    refine List.forall_mem_cons.2 ⟨okB_bwd x0 20 (by decide) _ slices_S40x128_o20_0_S1x128 shapeCasts_S1x128_S1x1x1x128 _ h58, List.forall_mem_cons.2 ⟨okB_fwd x0 20 (by decide) _ slices_S40x128_o20_0_S1x128 shapeCasts_S1x128_S1x1x1x128 _ h31, ?_⟩⟩
    refine List.forall_mem_cons.2 ⟨okB_bwd x0 19 (by decide) _ slices_S40x128_o19_0_S1x128 shapeCasts_S1x128_S1x1x1x128 _ h58, List.forall_mem_cons.2 ⟨okB_fwd x0 19 (by decide) _ slices_S40x128_o19_0_S1x128 shapeCasts_S1x128_S1x1x1x128 _ h31, ?_⟩⟩
    refine List.forall_mem_cons.2 ⟨okB_bwd x0 18 (by decide) _ slices_S40x128_o18_0_S1x128 shapeCasts_S1x128_S1x1x1x128 _ h58, List.forall_mem_cons.2 ⟨okB_fwd x0 18 (by decide) _ slices_S40x128_o18_0_S1x128 shapeCasts_S1x128_S1x1x1x128 _ h31, ?_⟩⟩
    refine List.forall_mem_cons.2 ⟨okB_bwd x0 17 (by decide) _ slices_S40x128_o17_0_S1x128 shapeCasts_S1x128_S1x1x1x128 _ h58, List.forall_mem_cons.2 ⟨okB_fwd x0 17 (by decide) _ slices_S40x128_o17_0_S1x128 shapeCasts_S1x128_S1x1x1x128 _ h31, ?_⟩⟩
    refine List.forall_mem_cons.2 ⟨okB_bwd x0 16 (by decide) _ slices_S40x128_o16_0_S1x128 shapeCasts_S1x128_S1x1x1x128 _ h58, List.forall_mem_cons.2 ⟨okB_fwd x0 16 (by decide) _ slices_S40x128_o16_0_S1x128 shapeCasts_S1x128_S1x1x1x128 _ h31, ?_⟩⟩
    refine List.forall_mem_cons.2 ⟨okB_bwd x0 15 (by decide) _ slices_S40x128_o15_0_S1x128 shapeCasts_S1x128_S1x1x1x128 _ h58, List.forall_mem_cons.2 ⟨okB_fwd x0 15 (by decide) _ slices_S40x128_o15_0_S1x128 shapeCasts_S1x128_S1x1x1x128 _ h31, ?_⟩⟩
    refine List.forall_mem_cons.2 ⟨okB_bwd x0 14 (by decide) _ slices_S40x128_o14_0_S1x128 shapeCasts_S1x128_S1x1x1x128 _ h58, List.forall_mem_cons.2 ⟨okB_fwd x0 14 (by decide) _ slices_S40x128_o14_0_S1x128 shapeCasts_S1x128_S1x1x1x128 _ h31, ?_⟩⟩
    refine List.forall_mem_cons.2 ⟨okB_bwd x0 13 (by decide) _ slices_S40x128_o13_0_S1x128 shapeCasts_S1x128_S1x1x1x128 _ h58, List.forall_mem_cons.2 ⟨okB_fwd x0 13 (by decide) _ slices_S40x128_o13_0_S1x128 shapeCasts_S1x128_S1x1x1x128 _ h31, ?_⟩⟩
    refine List.forall_mem_cons.2 ⟨okB_bwd x0 12 (by decide) _ slices_S40x128_o12_0_S1x128 shapeCasts_S1x128_S1x1x1x128 _ h58, List.forall_mem_cons.2 ⟨okB_fwd x0 12 (by decide) _ slices_S40x128_o12_0_S1x128 shapeCasts_S1x128_S1x1x1x128 _ h31, ?_⟩⟩
    refine List.forall_mem_cons.2 ⟨okB_bwd x0 11 (by decide) _ slices_S40x128_o11_0_S1x128 shapeCasts_S1x128_S1x1x1x128 _ h58, List.forall_mem_cons.2 ⟨okB_fwd x0 11 (by decide) _ slices_S40x128_o11_0_S1x128 shapeCasts_S1x128_S1x1x1x128 _ h31, ?_⟩⟩
    refine List.forall_mem_cons.2 ⟨okB_bwd x0 10 (by decide) _ slices_S40x128_o10_0_S1x128 shapeCasts_S1x128_S1x1x1x128 _ h58, List.forall_mem_cons.2 ⟨okB_fwd x0 10 (by decide) _ slices_S40x128_o10_0_S1x128 shapeCasts_S1x128_S1x1x1x128 _ h31, ?_⟩⟩
    refine List.forall_mem_cons.2 ⟨okB_bwd x0 9 (by decide) _ slices_S40x128_o9_0_S1x128 shapeCasts_S1x128_S1x1x1x128 _ h58, List.forall_mem_cons.2 ⟨okB_fwd x0 9 (by decide) _ slices_S40x128_o9_0_S1x128 shapeCasts_S1x128_S1x1x1x128 _ h31, ?_⟩⟩
    refine List.forall_mem_cons.2 ⟨okB_bwd x0 8 (by decide) _ slices_S40x128_o8_0_S1x128 shapeCasts_S1x128_S1x1x1x128 _ h58, List.forall_mem_cons.2 ⟨okB_fwd x0 8 (by decide) _ slices_S40x128_o8_0_S1x128 shapeCasts_S1x128_S1x1x1x128 _ h31, ?_⟩⟩
    refine List.forall_mem_cons.2 ⟨okB_bwd x0 7 (by decide) _ slices_S40x128_o7_0_S1x128 shapeCasts_S1x128_S1x1x1x128 _ h58, List.forall_mem_cons.2 ⟨okB_fwd x0 7 (by decide) _ slices_S40x128_o7_0_S1x128 shapeCasts_S1x128_S1x1x1x128 _ h31, ?_⟩⟩
    refine List.forall_mem_cons.2 ⟨okB_bwd x0 6 (by decide) _ slices_S40x128_o6_0_S1x128 shapeCasts_S1x128_S1x1x1x128 _ h58, List.forall_mem_cons.2 ⟨okB_fwd x0 6 (by decide) _ slices_S40x128_o6_0_S1x128 shapeCasts_S1x128_S1x1x1x128 _ h31, ?_⟩⟩
    refine List.forall_mem_cons.2 ⟨okB_bwd x0 5 (by decide) _ slices_S40x128_o5_0_S1x128 shapeCasts_S1x128_S1x1x1x128 _ h58, List.forall_mem_cons.2 ⟨okB_fwd x0 5 (by decide) _ slices_S40x128_o5_0_S1x128 shapeCasts_S1x128_S1x1x1x128 _ h31, ?_⟩⟩
    refine List.forall_mem_cons.2 ⟨okB_bwd x0 4 (by decide) _ slices_S40x128_o4_0_S1x128 shapeCasts_S1x128_S1x1x1x128 _ h58, List.forall_mem_cons.2 ⟨okB_fwd x0 4 (by decide) _ slices_S40x128_o4_0_S1x128 shapeCasts_S1x128_S1x1x1x128 _ h31, ?_⟩⟩
    refine List.forall_mem_cons.2 ⟨okB_bwd x0 3 (by decide) _ slices_S40x128_o3_0_S1x128 shapeCasts_S1x128_S1x1x1x128 _ h58, List.forall_mem_cons.2 ⟨okB_fwd x0 3 (by decide) _ slices_S40x128_o3_0_S1x128 shapeCasts_S1x128_S1x1x1x128 _ h31, ?_⟩⟩
    refine List.forall_mem_cons.2 ⟨okB_bwd x0 2 (by decide) _ slices_S40x128_o2_0_S1x128 shapeCasts_S1x128_S1x1x1x128 _ h58, List.forall_mem_cons.2 ⟨okB_fwd x0 2 (by decide) _ slices_S40x128_o2_0_S1x128 shapeCasts_S1x128_S1x1x1x128 _ h31, ?_⟩⟩
    refine List.forall_mem_cons.2 ⟨okB_bwd x0 1 (by decide) _ slices_S40x128_o1_0_S1x128 shapeCasts_S1x128_S1x1x1x128 _ h58, List.forall_mem_cons.2 ⟨okB_fwd x0 1 (by decide) _ slices_S40x128_o1_0_S1x128 shapeCasts_S1x128_S1x1x1x128 _ h31, ?_⟩⟩
    refine List.forall_mem_cons.2 ⟨okB_bwd x0 0 (by decide) _ slices_S40x128_o0_0_S1x128 shapeCasts_S1x128_S1x1x1x128 _ h58, List.forall_mem_cons.2 ⟨okB_fwd x0 0 (by decide) _ slices_S40x128_o0_0_S1x128 shapeCasts_S1x128_S1x1x1x128 _ h31, ?_⟩⟩
    exact fun p hp => absurd hp List.not_mem_nil
  case hI =>
    refine List.forall_mem_cons.2 ⟨okI_bwd x0 39 (by decide) _ slices_S4x40x128_o2_39_0_S1x1x128 shapeCasts_S1x1x128_S1x128 shapeCasts_S1x128_S1x1x1x128 _ h4, List.forall_mem_cons.2 ⟨okI_fwd x0 39 (by decide) _ slices_S4x40x128_o0_39_0_S1x1x128 shapeCasts_S1x1x128_S1x128 shapeCasts_S1x128_S1x1x1x128 _ h4, ?_⟩⟩
    refine List.forall_mem_cons.2 ⟨okI_bwd x0 38 (by decide) _ slices_S4x40x128_o2_38_0_S1x1x128 shapeCasts_S1x1x128_S1x128 shapeCasts_S1x128_S1x1x1x128 _ h4, List.forall_mem_cons.2 ⟨okI_fwd x0 38 (by decide) _ slices_S4x40x128_o0_38_0_S1x1x128 shapeCasts_S1x1x128_S1x128 shapeCasts_S1x128_S1x1x1x128 _ h4, ?_⟩⟩
    refine List.forall_mem_cons.2 ⟨okI_bwd x0 37 (by decide) _ slices_S4x40x128_o2_37_0_S1x1x128 shapeCasts_S1x1x128_S1x128 shapeCasts_S1x128_S1x1x1x128 _ h4, List.forall_mem_cons.2 ⟨okI_fwd x0 37 (by decide) _ slices_S4x40x128_o0_37_0_S1x1x128 shapeCasts_S1x1x128_S1x128 shapeCasts_S1x128_S1x1x1x128 _ h4, ?_⟩⟩
    refine List.forall_mem_cons.2 ⟨okI_bwd x0 36 (by decide) _ slices_S4x40x128_o2_36_0_S1x1x128 shapeCasts_S1x1x128_S1x128 shapeCasts_S1x128_S1x1x1x128 _ h4, List.forall_mem_cons.2 ⟨okI_fwd x0 36 (by decide) _ slices_S4x40x128_o0_36_0_S1x1x128 shapeCasts_S1x1x128_S1x128 shapeCasts_S1x128_S1x1x1x128 _ h4, ?_⟩⟩
    refine List.forall_mem_cons.2 ⟨okI_bwd x0 35 (by decide) _ slices_S4x40x128_o2_35_0_S1x1x128 shapeCasts_S1x1x128_S1x128 shapeCasts_S1x128_S1x1x1x128 _ h4, List.forall_mem_cons.2 ⟨okI_fwd x0 35 (by decide) _ slices_S4x40x128_o0_35_0_S1x1x128 shapeCasts_S1x1x128_S1x128 shapeCasts_S1x128_S1x1x1x128 _ h4, ?_⟩⟩
    refine List.forall_mem_cons.2 ⟨okI_bwd x0 34 (by decide) _ slices_S4x40x128_o2_34_0_S1x1x128 shapeCasts_S1x1x128_S1x128 shapeCasts_S1x128_S1x1x1x128 _ h4, List.forall_mem_cons.2 ⟨okI_fwd x0 34 (by decide) _ slices_S4x40x128_o0_34_0_S1x1x128 shapeCasts_S1x1x128_S1x128 shapeCasts_S1x128_S1x1x1x128 _ h4, ?_⟩⟩
    refine List.forall_mem_cons.2 ⟨okI_bwd x0 33 (by decide) _ slices_S4x40x128_o2_33_0_S1x1x128 shapeCasts_S1x1x128_S1x128 shapeCasts_S1x128_S1x1x1x128 _ h4, List.forall_mem_cons.2 ⟨okI_fwd x0 33 (by decide) _ slices_S4x40x128_o0_33_0_S1x1x128 shapeCasts_S1x1x128_S1x128 shapeCasts_S1x128_S1x1x1x128 _ h4, ?_⟩⟩
    refine List.forall_mem_cons.2 ⟨okI_bwd x0 32 (by decide) _ slices_S4x40x128_o2_32_0_S1x1x128 shapeCasts_S1x1x128_S1x128 shapeCasts_S1x128_S1x1x1x128 _ h4, List.forall_mem_cons.2 ⟨okI_fwd x0 32 (by decide) _ slices_S4x40x128_o0_32_0_S1x1x128 shapeCasts_S1x1x128_S1x128 shapeCasts_S1x128_S1x1x1x128 _ h4, ?_⟩⟩
    refine List.forall_mem_cons.2 ⟨okI_bwd x0 31 (by decide) _ slices_S4x40x128_o2_31_0_S1x1x128 shapeCasts_S1x1x128_S1x128 shapeCasts_S1x128_S1x1x1x128 _ h4, List.forall_mem_cons.2 ⟨okI_fwd x0 31 (by decide) _ slices_S4x40x128_o0_31_0_S1x1x128 shapeCasts_S1x1x128_S1x128 shapeCasts_S1x128_S1x1x1x128 _ h4, ?_⟩⟩
    refine List.forall_mem_cons.2 ⟨okI_bwd x0 30 (by decide) _ slices_S4x40x128_o2_30_0_S1x1x128 shapeCasts_S1x1x128_S1x128 shapeCasts_S1x128_S1x1x1x128 _ h4, List.forall_mem_cons.2 ⟨okI_fwd x0 30 (by decide) _ slices_S4x40x128_o0_30_0_S1x1x128 shapeCasts_S1x1x128_S1x128 shapeCasts_S1x128_S1x1x1x128 _ h4, ?_⟩⟩
    refine List.forall_mem_cons.2 ⟨okI_bwd x0 29 (by decide) _ slices_S4x40x128_o2_29_0_S1x1x128 shapeCasts_S1x1x128_S1x128 shapeCasts_S1x128_S1x1x1x128 _ h4, List.forall_mem_cons.2 ⟨okI_fwd x0 29 (by decide) _ slices_S4x40x128_o0_29_0_S1x1x128 shapeCasts_S1x1x128_S1x128 shapeCasts_S1x128_S1x1x1x128 _ h4, ?_⟩⟩
    refine List.forall_mem_cons.2 ⟨okI_bwd x0 28 (by decide) _ slices_S4x40x128_o2_28_0_S1x1x128 shapeCasts_S1x1x128_S1x128 shapeCasts_S1x128_S1x1x1x128 _ h4, List.forall_mem_cons.2 ⟨okI_fwd x0 28 (by decide) _ slices_S4x40x128_o0_28_0_S1x1x128 shapeCasts_S1x1x128_S1x128 shapeCasts_S1x128_S1x1x1x128 _ h4, ?_⟩⟩
    refine List.forall_mem_cons.2 ⟨okI_bwd x0 27 (by decide) _ slices_S4x40x128_o2_27_0_S1x1x128 shapeCasts_S1x1x128_S1x128 shapeCasts_S1x128_S1x1x1x128 _ h4, List.forall_mem_cons.2 ⟨okI_fwd x0 27 (by decide) _ slices_S4x40x128_o0_27_0_S1x1x128 shapeCasts_S1x1x128_S1x128 shapeCasts_S1x128_S1x1x1x128 _ h4, ?_⟩⟩
    refine List.forall_mem_cons.2 ⟨okI_bwd x0 26 (by decide) _ slices_S4x40x128_o2_26_0_S1x1x128 shapeCasts_S1x1x128_S1x128 shapeCasts_S1x128_S1x1x1x128 _ h4, List.forall_mem_cons.2 ⟨okI_fwd x0 26 (by decide) _ slices_S4x40x128_o0_26_0_S1x1x128 shapeCasts_S1x1x128_S1x128 shapeCasts_S1x128_S1x1x1x128 _ h4, ?_⟩⟩
    refine List.forall_mem_cons.2 ⟨okI_bwd x0 25 (by decide) _ slices_S4x40x128_o2_25_0_S1x1x128 shapeCasts_S1x1x128_S1x128 shapeCasts_S1x128_S1x1x1x128 _ h4, List.forall_mem_cons.2 ⟨okI_fwd x0 25 (by decide) _ slices_S4x40x128_o0_25_0_S1x1x128 shapeCasts_S1x1x128_S1x128 shapeCasts_S1x128_S1x1x1x128 _ h4, ?_⟩⟩
    refine List.forall_mem_cons.2 ⟨okI_bwd x0 24 (by decide) _ slices_S4x40x128_o2_24_0_S1x1x128 shapeCasts_S1x1x128_S1x128 shapeCasts_S1x128_S1x1x1x128 _ h4, List.forall_mem_cons.2 ⟨okI_fwd x0 24 (by decide) _ slices_S4x40x128_o0_24_0_S1x1x128 shapeCasts_S1x1x128_S1x128 shapeCasts_S1x128_S1x1x1x128 _ h4, ?_⟩⟩
    refine List.forall_mem_cons.2 ⟨okI_bwd x0 23 (by decide) _ slices_S4x40x128_o2_23_0_S1x1x128 shapeCasts_S1x1x128_S1x128 shapeCasts_S1x128_S1x1x1x128 _ h4, List.forall_mem_cons.2 ⟨okI_fwd x0 23 (by decide) _ slices_S4x40x128_o0_23_0_S1x1x128 shapeCasts_S1x1x128_S1x128 shapeCasts_S1x128_S1x1x1x128 _ h4, ?_⟩⟩
    refine List.forall_mem_cons.2 ⟨okI_bwd x0 22 (by decide) _ slices_S4x40x128_o2_22_0_S1x1x128 shapeCasts_S1x1x128_S1x128 shapeCasts_S1x128_S1x1x1x128 _ h4, List.forall_mem_cons.2 ⟨okI_fwd x0 22 (by decide) _ slices_S4x40x128_o0_22_0_S1x1x128 shapeCasts_S1x1x128_S1x128 shapeCasts_S1x128_S1x1x1x128 _ h4, ?_⟩⟩
    refine List.forall_mem_cons.2 ⟨okI_bwd x0 21 (by decide) _ slices_S4x40x128_o2_21_0_S1x1x128 shapeCasts_S1x1x128_S1x128 shapeCasts_S1x128_S1x1x1x128 _ h4, List.forall_mem_cons.2 ⟨okI_fwd x0 21 (by decide) _ slices_S4x40x128_o0_21_0_S1x1x128 shapeCasts_S1x1x128_S1x128 shapeCasts_S1x128_S1x1x1x128 _ h4, ?_⟩⟩
    refine List.forall_mem_cons.2 ⟨okI_bwd x0 20 (by decide) _ slices_S4x40x128_o2_20_0_S1x1x128 shapeCasts_S1x1x128_S1x128 shapeCasts_S1x128_S1x1x1x128 _ h4, List.forall_mem_cons.2 ⟨okI_fwd x0 20 (by decide) _ slices_S4x40x128_o0_20_0_S1x1x128 shapeCasts_S1x1x128_S1x128 shapeCasts_S1x128_S1x1x1x128 _ h4, ?_⟩⟩
    refine List.forall_mem_cons.2 ⟨okI_bwd x0 19 (by decide) _ slices_S4x40x128_o2_19_0_S1x1x128 shapeCasts_S1x1x128_S1x128 shapeCasts_S1x128_S1x1x1x128 _ h4, List.forall_mem_cons.2 ⟨okI_fwd x0 19 (by decide) _ slices_S4x40x128_o0_19_0_S1x1x128 shapeCasts_S1x1x128_S1x128 shapeCasts_S1x128_S1x1x1x128 _ h4, ?_⟩⟩
    refine List.forall_mem_cons.2 ⟨okI_bwd x0 18 (by decide) _ slices_S4x40x128_o2_18_0_S1x1x128 shapeCasts_S1x1x128_S1x128 shapeCasts_S1x128_S1x1x1x128 _ h4, List.forall_mem_cons.2 ⟨okI_fwd x0 18 (by decide) _ slices_S4x40x128_o0_18_0_S1x1x128 shapeCasts_S1x1x128_S1x128 shapeCasts_S1x128_S1x1x1x128 _ h4, ?_⟩⟩
    refine List.forall_mem_cons.2 ⟨okI_bwd x0 17 (by decide) _ slices_S4x40x128_o2_17_0_S1x1x128 shapeCasts_S1x1x128_S1x128 shapeCasts_S1x128_S1x1x1x128 _ h4, List.forall_mem_cons.2 ⟨okI_fwd x0 17 (by decide) _ slices_S4x40x128_o0_17_0_S1x1x128 shapeCasts_S1x1x128_S1x128 shapeCasts_S1x128_S1x1x1x128 _ h4, ?_⟩⟩
    refine List.forall_mem_cons.2 ⟨okI_bwd x0 16 (by decide) _ slices_S4x40x128_o2_16_0_S1x1x128 shapeCasts_S1x1x128_S1x128 shapeCasts_S1x128_S1x1x1x128 _ h4, List.forall_mem_cons.2 ⟨okI_fwd x0 16 (by decide) _ slices_S4x40x128_o0_16_0_S1x1x128 shapeCasts_S1x1x128_S1x128 shapeCasts_S1x128_S1x1x1x128 _ h4, ?_⟩⟩
    refine List.forall_mem_cons.2 ⟨okI_bwd x0 15 (by decide) _ slices_S4x40x128_o2_15_0_S1x1x128 shapeCasts_S1x1x128_S1x128 shapeCasts_S1x128_S1x1x1x128 _ h4, List.forall_mem_cons.2 ⟨okI_fwd x0 15 (by decide) _ slices_S4x40x128_o0_15_0_S1x1x128 shapeCasts_S1x1x128_S1x128 shapeCasts_S1x128_S1x1x1x128 _ h4, ?_⟩⟩
    refine List.forall_mem_cons.2 ⟨okI_bwd x0 14 (by decide) _ slices_S4x40x128_o2_14_0_S1x1x128 shapeCasts_S1x1x128_S1x128 shapeCasts_S1x128_S1x1x1x128 _ h4, List.forall_mem_cons.2 ⟨okI_fwd x0 14 (by decide) _ slices_S4x40x128_o0_14_0_S1x1x128 shapeCasts_S1x1x128_S1x128 shapeCasts_S1x128_S1x1x1x128 _ h4, ?_⟩⟩
    refine List.forall_mem_cons.2 ⟨okI_bwd x0 13 (by decide) _ slices_S4x40x128_o2_13_0_S1x1x128 shapeCasts_S1x1x128_S1x128 shapeCasts_S1x128_S1x1x1x128 _ h4, List.forall_mem_cons.2 ⟨okI_fwd x0 13 (by decide) _ slices_S4x40x128_o0_13_0_S1x1x128 shapeCasts_S1x1x128_S1x128 shapeCasts_S1x128_S1x1x1x128 _ h4, ?_⟩⟩
    refine List.forall_mem_cons.2 ⟨okI_bwd x0 12 (by decide) _ slices_S4x40x128_o2_12_0_S1x1x128 shapeCasts_S1x1x128_S1x128 shapeCasts_S1x128_S1x1x1x128 _ h4, List.forall_mem_cons.2 ⟨okI_fwd x0 12 (by decide) _ slices_S4x40x128_o0_12_0_S1x1x128 shapeCasts_S1x1x128_S1x128 shapeCasts_S1x128_S1x1x1x128 _ h4, ?_⟩⟩
    refine List.forall_mem_cons.2 ⟨okI_bwd x0 11 (by decide) _ slices_S4x40x128_o2_11_0_S1x1x128 shapeCasts_S1x1x128_S1x128 shapeCasts_S1x128_S1x1x1x128 _ h4, List.forall_mem_cons.2 ⟨okI_fwd x0 11 (by decide) _ slices_S4x40x128_o0_11_0_S1x1x128 shapeCasts_S1x1x128_S1x128 shapeCasts_S1x128_S1x1x1x128 _ h4, ?_⟩⟩
    refine List.forall_mem_cons.2 ⟨okI_bwd x0 10 (by decide) _ slices_S4x40x128_o2_10_0_S1x1x128 shapeCasts_S1x1x128_S1x128 shapeCasts_S1x128_S1x1x1x128 _ h4, List.forall_mem_cons.2 ⟨okI_fwd x0 10 (by decide) _ slices_S4x40x128_o0_10_0_S1x1x128 shapeCasts_S1x1x128_S1x128 shapeCasts_S1x128_S1x1x1x128 _ h4, ?_⟩⟩
    refine List.forall_mem_cons.2 ⟨okI_bwd x0 9 (by decide) _ slices_S4x40x128_o2_9_0_S1x1x128 shapeCasts_S1x1x128_S1x128 shapeCasts_S1x128_S1x1x1x128 _ h4, List.forall_mem_cons.2 ⟨okI_fwd x0 9 (by decide) _ slices_S4x40x128_o0_9_0_S1x1x128 shapeCasts_S1x1x128_S1x128 shapeCasts_S1x128_S1x1x1x128 _ h4, ?_⟩⟩
    refine List.forall_mem_cons.2 ⟨okI_bwd x0 8 (by decide) _ slices_S4x40x128_o2_8_0_S1x1x128 shapeCasts_S1x1x128_S1x128 shapeCasts_S1x128_S1x1x1x128 _ h4, List.forall_mem_cons.2 ⟨okI_fwd x0 8 (by decide) _ slices_S4x40x128_o0_8_0_S1x1x128 shapeCasts_S1x1x128_S1x128 shapeCasts_S1x128_S1x1x1x128 _ h4, ?_⟩⟩
    refine List.forall_mem_cons.2 ⟨okI_bwd x0 7 (by decide) _ slices_S4x40x128_o2_7_0_S1x1x128 shapeCasts_S1x1x128_S1x128 shapeCasts_S1x128_S1x1x1x128 _ h4, List.forall_mem_cons.2 ⟨okI_fwd x0 7 (by decide) _ slices_S4x40x128_o0_7_0_S1x1x128 shapeCasts_S1x1x128_S1x128 shapeCasts_S1x128_S1x1x1x128 _ h4, ?_⟩⟩
    refine List.forall_mem_cons.2 ⟨okI_bwd x0 6 (by decide) _ slices_S4x40x128_o2_6_0_S1x1x128 shapeCasts_S1x1x128_S1x128 shapeCasts_S1x128_S1x1x1x128 _ h4, List.forall_mem_cons.2 ⟨okI_fwd x0 6 (by decide) _ slices_S4x40x128_o0_6_0_S1x1x128 shapeCasts_S1x1x128_S1x128 shapeCasts_S1x128_S1x1x1x128 _ h4, ?_⟩⟩
    refine List.forall_mem_cons.2 ⟨okI_bwd x0 5 (by decide) _ slices_S4x40x128_o2_5_0_S1x1x128 shapeCasts_S1x1x128_S1x128 shapeCasts_S1x128_S1x1x1x128 _ h4, List.forall_mem_cons.2 ⟨okI_fwd x0 5 (by decide) _ slices_S4x40x128_o0_5_0_S1x1x128 shapeCasts_S1x1x128_S1x128 shapeCasts_S1x128_S1x1x1x128 _ h4, ?_⟩⟩
    refine List.forall_mem_cons.2 ⟨okI_bwd x0 4 (by decide) _ slices_S4x40x128_o2_4_0_S1x1x128 shapeCasts_S1x1x128_S1x128 shapeCasts_S1x128_S1x1x1x128 _ h4, List.forall_mem_cons.2 ⟨okI_fwd x0 4 (by decide) _ slices_S4x40x128_o0_4_0_S1x1x128 shapeCasts_S1x1x128_S1x128 shapeCasts_S1x128_S1x1x1x128 _ h4, ?_⟩⟩
    refine List.forall_mem_cons.2 ⟨okI_bwd x0 3 (by decide) _ slices_S4x40x128_o2_3_0_S1x1x128 shapeCasts_S1x1x128_S1x128 shapeCasts_S1x128_S1x1x1x128 _ h4, List.forall_mem_cons.2 ⟨okI_fwd x0 3 (by decide) _ slices_S4x40x128_o0_3_0_S1x1x128 shapeCasts_S1x1x128_S1x128 shapeCasts_S1x128_S1x1x1x128 _ h4, ?_⟩⟩
    refine List.forall_mem_cons.2 ⟨okI_bwd x0 2 (by decide) _ slices_S4x40x128_o2_2_0_S1x1x128 shapeCasts_S1x1x128_S1x128 shapeCasts_S1x128_S1x1x1x128 _ h4, List.forall_mem_cons.2 ⟨okI_fwd x0 2 (by decide) _ slices_S4x40x128_o0_2_0_S1x1x128 shapeCasts_S1x1x128_S1x128 shapeCasts_S1x128_S1x1x1x128 _ h4, ?_⟩⟩
    refine List.forall_mem_cons.2 ⟨okI_bwd x0 1 (by decide) _ slices_S4x40x128_o2_1_0_S1x1x128 shapeCasts_S1x1x128_S1x128 shapeCasts_S1x128_S1x1x1x128 _ h4, List.forall_mem_cons.2 ⟨okI_fwd x0 1 (by decide) _ slices_S4x40x128_o0_1_0_S1x1x128 shapeCasts_S1x1x128_S1x128 shapeCasts_S1x128_S1x1x1x128 _ h4, ?_⟩⟩
    refine List.forall_mem_cons.2 ⟨okI_bwd x0 0 (by decide) _ slices_S4x40x128_o2_0_0_S1x1x128 shapeCasts_S1x1x128_S1x128 shapeCasts_S1x128_S1x1x1x128 _ h4, List.forall_mem_cons.2 ⟨okI_fwd x0 0 (by decide) _ slices_S4x40x128_o0_0_0_S1x1x128 shapeCasts_S1x1x128_S1x128 shapeCasts_S1x128_S1x1x1x128 _ h4, ?_⟩⟩
    exact fun p hp => absurd hp List.not_mem_nil
  iapply Hk
  sl_close

end Cert.KernelIdeal.Gen

end
-- ==== Proof.MPh2.lean ====
/-
  The second phase of the body: the context's chunks, in both directions.
-/
module

public import proofs.«01_k».proof.Proof.MPh1
public import Idealize.ShloMosaic.Lib.WholeRead
public import Idealize.ShloMosaic.Lib.VecWindow
public import Idealize.ShloMosaic.Lib.Pipeline.FrameBody
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The comparison of the two coordinates of a square, true on the diagonal. -/
abbrev eye : IVec S128x128 1 := k0_pay33

/-- The columns of ones beside the values. -/
abbrev ones : FVec F S128x128 .bf16 := k0_pay219

/-- A chunk of the context's keys or values. -/
abbrev ctx0 (X : Vec F S1x256x256 .bf16) : Vec F S1x128x256 .bf16 := View.ld X (Rect.unit (s := S1x256x256) ![0, 0, 0] S1x128x256.size inb_S1x256x256_S1x128x256_0_0_0)
/-- The context's second chunk of rows. -/
abbrev ctx1 (X : Vec F S1x256x256 .bf16) : Vec F S1x128x256 .bf16 := View.ld X (Rect.unit (s := S1x256x256) ![0, 128, 0] S1x128x256.size inb_S1x256x256_S1x128x256_0_128_0)

/-- A row of a gate scratch. -/
abbrev g00 (X : Vec F S2x40x1x128 .f32) : Vec F S1x1x1x128 .f32 := View.ld X (Rect.unit (s := S2x40x1x128) ![0, 0, 0, 0] S1x1x1x128.size inb_S2x40x1x128_S1x1x1x128_0_0_0_0)
/-- The second forward row of gates. -/
abbrev g01 (X : Vec F S2x40x1x128 .f32) : Vec F S1x1x1x128 .f32 := View.ld X (Rect.unit (s := S2x40x1x128) ![0, 1, 0, 0] S1x1x1x128.size inb_S2x40x1x128_S1x1x1x128_0_1_0_0)
/-- The first backward row of gates. -/
abbrev g10 (X : Vec F S2x40x1x128 .f32) : Vec F S1x1x1x128 .f32 := View.ld X (Rect.unit (s := S2x40x1x128) ![1, 0, 0, 0] S1x1x1x128.size inb_S2x40x1x128_S1x1x1x128_1_0_0_0)
/-- The second backward row of gates. -/
abbrev g11 (X : Vec F S2x40x1x128 .f32) : Vec F S1x1x1x128 .f32 := View.ld X (Rect.unit (s := S2x40x1x128) ![1, 1, 0, 0] S1x1x1x128.size inb_S2x40x1x128_S1x1x1x128_1_1_0_0)

/-- The forward maximum after the first context chunk. -/
def mF1 (B I : Vec F S2x40x1x128 .f32) : FVec F S1x1 .f32 := k0_pay229 eye k0_pay222 (g00 B) (g00 I)
/-- The forward state after the first context chunk. -/
def sF1 (B I : Vec F S2x40x1x128 .f32) (x5 x6 : Vec F S1x256x256 .bf16) : Vec F S256x384 .f32 :=
  k0_pay232 (k0_pay226 (ctx0 x5)) (k0_pay227 ones (ctx0 x6)) k0_pay220 (mF1 B I) (k0_pay230 eye k0_pay222 (g00 B) (g00 I)) (k0_pay231 k0_pay222 (g00 B))
/-- The forward maximum after the context. -/
def mF2 (B I : Vec F S2x40x1x128 .f32) : FVec F S1x1 .f32 := k0_pay240 (mF1 B I) (k0_pay234 eye (g01 B)) (k0_pay235 eye (g01 I)) (k0_pay236 (g01 B))
/-- The forward state after the context. -/
def sF2 (B I : Vec F S2x40x1x128 .f32) (x5 x6 : Vec F S1x256x256 .bf16) : Vec F S256x384 .f32 :=
  k0_pay241 (mF1 B I) (k0_pay234 eye (g01 B)) (k0_pay235 eye (g01 I)) (k0_pay236 (g01 B)) (k0_pay237 (ctx1 x5)) (k0_pay238 ones (ctx1 x6)) (sF1 B I x5 x6)
/-- The backward maximum after the last context chunk. -/
def mB1 (B I : Vec F S2x40x1x128 .f32) : FVec F S1x1 .f32 := k0_pay249 eye k0_pay223 (k0_pay244 (g11 B)) (k0_pay245 (g11 I)) (k0_pay246 eye (g11 B))
/-- The backward state after the last context chunk. -/
def sB1 (B I : Vec F S2x40x1x128 .f32) (x5 x6 : Vec F S1x256x256 .bf16) : Vec F S256x384 .f32 :=
  k0_pay250 eye ones k0_pay223 (k0_pay242 (ctx1 x5)) (k0_pay243 (ctx1 x6)) (k0_pay244 (g11 B)) (k0_pay245 (g11 I)) (k0_pay246 eye (g11 B)) k0_pay221
/-- The backward maximum after the context. -/
def mB2 (B I : Vec F S2x40x1x128 .f32) : FVec F S1x1 .f32 := k0_pay256 eye (mB1 B I) (g10 B) (g10 I)
/-- The backward state after the context. -/
def sB2 (B I : Vec F S2x40x1x128 .f32) (x5 x6 : Vec F S1x256x256 .bf16) : Vec F S256x384 .f32 :=
  k0_pay1 (k0_pay257 eye ones (mB1 B I) (k0_pay251 (ctx0 x5)) (k0_pay252 (ctx0 x6)) (g10 B) (g10 I) (sB1 B I x5 x6))

/-- A load through a rectangle of a whole buffer held at contents that read `X` reads `X` through the rectangle. -/
theorem readR {s : Shape} {e : EltTy} {m : Memref sig .tc .vmem s e} (hm : m.IsWhole) (X : Vec F s e) (r : Rect s) :
    View.readAt (Elt F) m.view r.toLoadRect (hm.unread X) = View.ld X r :=
  funext fun x => hm.readAt_unread X r.toLoadRect x

/-- The whole of a state, read back. -/
theorem ldS (X : Vec F S256x384 .f32) (inb) : View.ld X (Rect.unit (s := S256x384) ![0, 0] ![256, 384] inb) = X := by
  funext x
  refine congrArg X (funext fun a => Fin.ext ?_)
  show ![0, 0] a + 1 * (x a).val = (x a).val
  fin_cases a <;> simp

/-- A load of the whole state after a store of the whole state reads what was stored. -/
theorem covS (m : Memref sig .tc .vmem S256x384 .f32) (w : Vec F S256x384 .f32) (inb inb' L) :
    m.view.readCov (⟨Rect.unit (s := S256x384) ![0, 0] ![256, 384] inb, w⟩ :: L) (Rect.unit (s := S256x384) ![0, 0] ![256, 384] inb').toLoadRect = w :=
  View.readCov_full m.view inb inb' w L

set_option maxHeartbeats 4000000 in
/-- The context chunks: from the gates and the context's keys and values, the states and the maxima of both directions. -/
theorem phase2 (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole)
    (x5 x6 : Vec F S1x256x256 .bf16) (B I : Vec F S2x40x1x128 .f32)
    (rest : FVec F S1x1 .f32 → FVec F S1x1 .f32 → Prog (TpuEff nD τ sig (Elt F) Λ₀ .tc) PUnit)
    (E : Set ℕ) (K : PUnit → sProp 𝕄) :
    iprop((arg7.view.loc (c : Thread nD τ) ↦[arg7.view.set]{fullShare} harg7.unread x5) ∗ (arg8.view.loc (c : Thread nD τ) ↦[arg8.view.set]{fullShare} harg8.unread x6) ∗ (arg11.view.loc (c : Thread nD τ) ↦[arg11.view.set]{fullShare} harg11.unread B) ∗ (arg12.view.loc (c : Thread nD τ) ↦[arg12.view.set]{fullShare} harg12.unread I) ∗ (arg13.view.loc (c : Thread nD τ) ↦[arg13.view.set]{fullShare} harg13.unread k0_pay220) ∗ (arg14.view.loc (c : Thread nD τ) ↦[arg14.view.set]{fullShare} harg14.unread k0_pay221)
        ∗ (iprop((arg7.view.loc (c : Thread nD τ) ↦[arg7.view.set]{fullShare} harg7.unread x5) ∗ (arg8.view.loc (c : Thread nD τ) ↦[arg8.view.set]{fullShare} harg8.unread x6) ∗ (arg11.view.loc (c : Thread nD τ) ↦[arg11.view.set]{fullShare} harg11.unread B) ∗ (arg12.view.loc (c : Thread nD τ) ↦[arg12.view.set]{fullShare} harg12.unread I) ∗ (arg13.view.loc (c : Thread nD τ) ↦[arg13.view.set]{fullShare} harg13.unread (sF2 B I x5 x6)) ∗ (arg14.view.loc (c : Thread nD τ) ↦[arg14.view.set]{fullShare} harg14.unread (sB2 B I x5 x6)))
            -∗ wp frame (wpE (defs₀ (F := F)) Variants.none c none) E (rest (mF2 B I) (mB2 B I)) K))
      ⊢ wp frame (wpE (defs₀ (F := F)) Variants.none c none) E (do
      let v2 : IVec S128x128 1 := k0_pay33
      let v779 : FVec F S128x128 .bf16 := k0_pay219
      let v788 : FVec F S1x1 .f32 := k0_pay222
      let ⟨v789, v812, v813, v814, v821, v824, v825⟩ : Σ' (v789 : FVec F S1x1 .f32) (v812 : FVec F S128x256 .bf16) (v813 : FVec F S128x384 .bf16) (v814 : Vec F S256x384 .f32) (v821 : FVec F S1x1 .f32) (v824 : FVec F S128x1 .f32), FVec F S1x1 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v788
      let ⟨v852, v858, v859, v861, v862⟩ : Σ' (v852 : FVec F S128x1 .f32) (v858 : FVec F S128x1 .f32) (v859 : FVec F S1x1 .f32) (v861 : FVec F S128x256 .bf16), FVec F S128x384 .bf16 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v812 v813 v814 v821 v824 v825
      let ⟨v870, v889, v891, v893, v895, v899⟩ : Σ' (v870 : FVec F S1x1 .f32) (v889 : FVec F S128x256 .bf16) (v891 : FVec F S128x256 .bf16) (v893 : FVec F S1x128 .f32) (v895 : FVec F S1x128 .f32), FVec F S128x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v821 v852 v858 v859 v861 v862
      let ⟨v919, v938, v940⟩ : Σ' (v919 : FVec F S1x1 .f32) (v938 : FVec F S128x256 .bf16), FVec F S128x256 .bf16 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v789 v889 v891 v893 v895 v899
      let ⟨v968, v982⟩ : Σ' (v968 : FVec F S1x1 .f32), FVec F S256x384 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v919 v938 v940
      Prog.lift (.store arg14 (Rect.unit (s := S256x384) ![0, 0] S256x384.size inb_S256x384_S256x384_0_0) (k0_pay1 v982) Finset.univ (View.stores_vmem_bits_univ h_S256x384 rfl) (.inl rfl))
      rest v870 v968) K := by
  simp only [k0_part33_eq_skeleton, k0_part34_eq_skeleton, k0_part35_eq_skeleton, k0_part36_eq_skeleton, k0_part37_eq_skeleton]
  iintro ⟨H7, H8, H11, H12, H13, H14, Hk⟩
  sl_exec
  delta phase2.sl.r phase2.sl.r_1 phase2.sl.r_2 phase2.sl.r_3 phase2.sl.r_4 phase2.sl.r_5 phase2.sl.r_6 phase2.sl.r_7 phase2.sl.r_8 phase2.sl.r_9 phase2.sl.r_10 phase2.sl.r_11 phase2.sl.r_12 phase2.sl.r_13 phase2.sl.r_14 phase2.sl.r_15 phase2.sl.r_16 phase2.sl.r_17 phase2.sl.r_18 phase2.sl.r_19 phase2.sl.r_20 phase2.sl.r_21 phase2.sl.v863 phase2.sl.v961 phase2.sl.H13_1 phase2.sl.H14_1
  simp only [readR, ldS, covS, mF1, sF1, mF2, sF2, mB1, sB1, mB2, sB2, eye, ones, ctx0, ctx1, g00, g01, g10, g11]
  rw [writesW harg13 _ ![0, 0] (by decide), writesW harg14 _ ![0, 0] (by decide)]
  iapply Hk
  sl_close

end Cert.KernelIdeal.Gen

end
-- ==== Proof.MPh3.lean ====
/-
  One trip of the chunk loop: one chunk forward, one backward.
-/
module

public import proofs.«01_k».proof.Proof.MPh2
public import Idealize.ShloMosaic.Lib.WholeRead
public import Idealize.ShloMosaic.Lib.VecWindow
public import Idealize.ShloMosaic.Lib.Pipeline.FrameBody
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two coordinates of a square. -/
abbrev io0 : IVec S128x128 32 := iota .tc S128x128 32 [0] iota_S128x128_d0_w32
/-- The lane numbers of a square. -/
abbrev io1 : IVec S128x128 32 := iota .tc S128x128 32 [1] iota_S128x128_d1_w32

/-- A chunk of the latents' rows, and a row of gates, as the trip of the loop loads them. -/
abbrev qF (X : Vec F S1x4096x256 .bf16) (k : Fin k0_t1_loop.trips) : Vec F S1x128x256 .bf16 := View.ld X (Rect.unit (s := S1x4096x256) (k0_off1 k) S1x128x256.size (k0_off1_inb k))
/-- The backward trip's chunk of rows. -/
abbrev qB (X : Vec F S1x4096x256 .bf16) (k : Fin k0_t1_loop.trips) : Vec F S1x128x256 .bf16 := View.ld X (Rect.unit (s := S1x4096x256) (k0_off4 k) S1x128x256.size (k0_off4_inb k))
/-- The forward trip's row of gates. -/
abbrev gF (X : Vec F S2x40x1x128 .f32) (k : Fin k0_t1_loop.trips) : Vec F S1x1x1x128 .f32 := View.ld X (Rect.unit (s := S2x40x1x128) (k0_off2 k) S1x1x1x128.size (k0_off2_inb k))
/-- The backward trip's row of gates. -/
abbrev gB (X : Vec F S2x40x1x128 .f32) (k : Fin k0_t1_loop.trips) : Vec F S1x1x1x128 .f32 := View.ld X (Rect.unit (s := S2x40x1x128) (k0_off5 k) S1x1x1x128.size (k0_off5_inb k))

/-- One forward step: the next maximum, the next state, and the chunk's outputs, from the maximum and the state before, the chunk's two rows of gates, and its keys, values and queries. -/
def stepMF (m : FVec F S1x1 .f32) (gb gi : Vec F S1x1x1x128 .f32) : FVec F S1x1 .f32 := k0_pay16 m (k0_pay9 eye gb) (k0_pay10 eye gi) (k0_pay11 gb)
/-- The forward state after a chunk. -/
def stepSF (m : FVec F S1x1 .f32) (S : Vec F S256x384 .f32) (gb gi : Vec F S1x1x1x128 .f32) (kk vv : Vec F S1x128x256 .bf16) : Vec F S256x384 .f32 :=
  k0_pay18 m (k0_pay11 gb) (k0_pay12 kk) (k0_pay13 ones vv) S (stepMF m gb gi) (k0_pay17 m (k0_pay9 eye gb) (k0_pay10 eye gi) (k0_pay11 gb))
/-- The forward outputs of a chunk. -/
def stepHF (m : FVec F S1x1 .f32) (S : Vec F S256x384 .f32) (gb gi : Vec F S1x1x1x128 .f32) (qq kk vv : Vec F S1x128x256 .bf16) : Vec F S128x256 .f32 :=
  k0_pay14 io0 io1 m (k0_pay6 qq) (k0_pay7 gb) (k0_pay8 gi) (k0_pay9 eye gb) (k0_pay12 kk) (k0_pay13 ones vv) S

/-- One backward step, likewise. -/
def stepMB (m : FVec F S1x1 .f32) (gb gi : Vec F S1x1x1x128 .f32) : FVec F S1x1 .f32 :=
  k0_pay3 m (k0_pay24 eye gb) (k0_pay27 eye (k0_pay25 gi) k0_pay26) (k0_pay28 (k0_pay22 gb))
/-- The backward state after a chunk. -/
def stepSB (m : FVec F S1x1 .f32) (S : Vec F S256x384 .f32) (gb gi : Vec F S1x1x1x128 .f32) (kk vv : Vec F S1x128x256 .bf16) : Vec F S256x384 .f32 :=
  k0_pay4 m (k0_pay24 eye gb) (k0_pay27 eye (k0_pay25 gi) k0_pay26) (k0_pay28 (k0_pay22 gb)) (k0_pay29 (k0_pay20 kk)) (k0_pay30 ones (k0_pay21 vv)) S
/-- The backward outputs of a chunk. -/
def stepHB (m : FVec F S1x1 .f32) (S : Vec F S256x384 .f32) (gb gi : Vec F S1x1x1x128 .f32) (qq kk vv : Vec F S1x128x256 .bf16) : Vec F S128x256 .f32 :=
  k0_pay31 io0 io1 ones m (k0_pay19 qq) (k0_pay20 kk) (k0_pay21 vv) (k0_pay22 gb) (k0_pay23 gi) (k0_pay24 eye gb) S

set_option maxHeartbeats 4000000 in
/-- One trip of the chunk loop. -/
theorem trip1 (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole)
    (x1 x2 x3 : Vec F S1x4096x256 .bf16) (B I : Vec F S2x40x1x128 .f32) (SF SB : Vec F S256x384 .f32)
    (f15 : BufTy.Contents (Elt F) arg15.view.ty) (f16 : BufTy.Contents (Elt F) arg16.view.ty)
    (k : Fin k0_t1_loop.trips) (acc : FVec F S1x1 .f32 × FVec F S1x1 .f32) (E : Set ℕ) :
    iprop((arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg11.view.loc (c : Thread nD τ) ↦[arg11.view.set]{fullShare} harg11.unread B) ∗ (arg12.view.loc (c : Thread nD τ) ↦[arg12.view.set]{fullShare} harg12.unread I) ∗ (arg13.view.loc (c : Thread nD τ) ↦[arg13.view.set]{fullShare} harg13.unread SF) ∗ (arg14.view.loc (c : Thread nD τ) ↦[arg14.view.set]{fullShare} harg14.unread SB) ∗ (arg15.view.loc (c : Thread nD τ) ↦[arg15.view.set]{fullShare} f15) ∗ (arg16.view.loc (c : Thread nD τ) ↦[arg16.view.set]{fullShare} f16))
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 io0 io1 eye ones k acc)
          (fun yld => (iprop(⌜yld = ((stepMF acc.1 (gF B k) (gF I k), stepMB acc.2 (gB B k) (gB I k)) : FVec F S1x1 .f32 × FVec F S1x1 .f32)⌝ ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg11.view.loc (c : Thread nD τ) ↦[arg11.view.set]{fullShare} harg11.unread B) ∗ (arg12.view.loc (c : Thread nD τ) ↦[arg12.view.set]{fullShare} harg12.unread I) ∗ (arg13.view.loc (c : Thread nD τ) ↦[arg13.view.set]{fullShare} harg13.unread (stepSF acc.1 SF (gF B k) (gF I k) (qF x2 k) (qF x3 k)))
            ∗ (arg14.view.loc (c : Thread nD τ) ↦[arg14.view.set]{fullShare} harg14.unread (stepSB acc.2 SB (gB B k) (gB I k) (qB x2 k) (qB x3 k))) ∗ (arg15.view.loc (c : Thread nD τ) ↦[arg15.view.set]{fullShare} arg15.view.writes (Elt F) f15 [⟨Rect.unit (s := S4096x256) (k0_off3 k) S128x256.size (k0_off3_inb k), stepHF acc.1 SF (gF B k) (gF I k) (qF x1 k) (qF x2 k) (qF x3 k)⟩]) ∗ (arg16.view.loc (c : Thread nD τ) ↦[arg16.view.set]{fullShare} arg16.view.writes (Elt F) f16 [⟨Rect.unit (s := S4096x256) (k0_off6 k) S128x256.size (k0_off6_inb k), stepHB acc.2 SB (gB B k) (gB I k) (qB x1 k) (qB x2 k) (qB x3 k)⟩])) : sProp 𝕄)) := by
  have hk : k.val < 32 := Nat.lt_of_lt_of_le k.isLt k0_t1_abs.2.1
  unfold k0_t1_body
  iintro ⟨H3, H4, H5, H11, H12, H13, H14, H15, H16⟩
  sl_exec
  sl_step
  delta trip1.sl.r_17 trip1.sl.r_15 trip1.sl.r_9 trip1.sl.v991 trip1.sl.arg17 trip1.sl.r_14 trip1.sl.r_11 trip1.sl.r_1 trip1.sl.r_22 trip1.sl.r_18 trip1.sl.r_6 trip1.sl.r_16 trip1.sl.v992 trip1.sl.r_4 trip1.sl.r_19 trip1.sl.r trip1.sl.r_2 trip1.sl.r_3 trip1.sl.v989 trip1.sl.r_5 trip1.sl.r_21 trip1.sl.r_20 trip1.sl.r_13 trip1.sl.r_10 trip1.sl.r_7 trip1.sl.r_8 trip1.sl.r_12
  simp only [readR, ldS, covS, stepMF, stepSF, stepHF, stepMB, stepSB, stepHB, eye, ones, io0, io1, qF, qB, gF, gB]
  rw [writesW harg13 _ ![0, 0] (by decide), writesW harg14 _ ![0, 0] (by decide)]
  sl_close

end Cert.KernelIdeal.Gen

end
-- ==== Proof.MPh4.lean ====
/-
  The states, the outputs and the readout as functions of the blocks.
-/
module

public import proofs.«01_k».proof.Proof.MPh3
public import Idealize.ShloMosaic.Lib.WholeRead
public import Idealize.ShloMosaic.Lib.VecWindow
public import Idealize.ShloMosaic.Lib.Pipeline.FrameBody
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The forward chunk's first row. -/
theorem off1_eq : ∀ k : Fin k0_t1_loop.trips, k0_off1 k = ![0, 128 * k.val, 0] := by decide +kernel
/-- The forward chunk's row of gates. -/
theorem off2_eq : ∀ k : Fin k0_t1_loop.trips, k0_off2 k = ![0, 2 + k.val, 0, 0] := by decide +kernel
/-- Where the forward outputs go. -/
theorem off3_eq : ∀ k : Fin k0_t1_loop.trips, k0_off3 k = ![128 * k.val, 0] := by decide +kernel
/-- The backward chunk's first row. -/
theorem off4_eq : ∀ k : Fin k0_t1_loop.trips, k0_off4 k = ![0, 128 * (31 - k.val), 0] := by decide +kernel
/-- The backward chunk's row of gates. -/
theorem off5_eq : ∀ k : Fin k0_t1_loop.trips, k0_off5 k = ![1, 33 - k.val, 0, 0] := by decide +kernel
/-- Where the backward outputs go. -/
theorem off6_eq : ∀ k : Fin k0_t1_loop.trips, k0_off6 k = ![128 * (31 - k.val), 0] := by decide +kernel
/-- The readout's rows of the outputs. -/
theorem off7_eq : ∀ k : Fin k0_t2_loop.trips, k0_off7 k = ![128 * k.val, 0] := by decide +kernel
/-- The readout's rows of the result. -/
theorem off8_eq : ∀ k : Fin k0_t2_loop.trips, k0_off8 k = ![0, 128 * k.val, 0] := by decide +kernel
/-- The chunk loop has 32 trips. -/
theorem trips1 : k0_t1_loop.trips = 32 := by decide +kernel
/-- The readout loop has 32 trips. -/
theorem trips2 : k0_t2_loop.trips = 32 := by decide +kernel

/-- The maxima and the states of the two directions. -/
abbrev St (F : FTy → Type) [FloatOps F] : Type := (FVec F S1x1 .f32 × FVec F S1x1 .f32) × Vec F S256x384 .f32 × Vec F S256x384 .f32

/-- The state of the recurrence before trip `k` of the chunk loop. -/
def kst (x0 : Vec F S1x4x1x40x128 .f32) (x1 x2 x3 : Vec F S1x4096x256 .bf16) (x5 x6 : Vec F S1x256x256 .bf16) : ℕ → St F
  | 0 => ((mF2 (gateB x0) (gateI x0), mB2 (gateB x0) (gateI x0)), sF2 (gateB x0) (gateI x0) x5 x6, sB2 (gateB x0) (gateI x0) x5 x6)
  | k + 1 => if h : k < k0_t1_loop.trips then
      ((stepMF (kst x0 x1 x2 x3 x5 x6 k).1.1 (gF (gateB x0) ⟨k, h⟩) (gF (gateI x0) ⟨k, h⟩), stepMB (kst x0 x1 x2 x3 x5 x6 k).1.2 (gB (gateB x0) ⟨k, h⟩) (gB (gateI x0) ⟨k, h⟩)),
        stepSF (kst x0 x1 x2 x3 x5 x6 k).1.1 (kst x0 x1 x2 x3 x5 x6 k).2.1 (gF (gateB x0) ⟨k, h⟩) (gF (gateI x0) ⟨k, h⟩) (qF x2 ⟨k, h⟩) (qF x3 ⟨k, h⟩),
        stepSB (kst x0 x1 x2 x3 x5 x6 k).1.2 (kst x0 x1 x2 x3 x5 x6 k).2.2 (gB (gateB x0) ⟨k, h⟩) (gB (gateI x0) ⟨k, h⟩) (qB x2 ⟨k, h⟩) (qB x3 ⟨k, h⟩))
    else kst x0 x1 x2 x3 x5 x6 k

/-- The states after one more trip. -/
theorem kst_succ (x0 : Vec F S1x4x1x40x128 .f32) (x1 x2 x3 : Vec F S1x4096x256 .bf16) (x5 x6 : Vec F S1x256x256 .bf16) (k : Fin k0_t1_loop.trips) : kst x0 x1 x2 x3 x5 x6 (k.val + 1) =
      ((stepMF (kst x0 x1 x2 x3 x5 x6 k.val).1.1 (gF (gateB x0) k) (gF (gateI x0) k), stepMB (kst x0 x1 x2 x3 x5 x6 k.val).1.2 (gB (gateB x0) k) (gB (gateI x0) k)),
        stepSF (kst x0 x1 x2 x3 x5 x6 k.val).1.1 (kst x0 x1 x2 x3 x5 x6 k.val).2.1 (gF (gateB x0) k) (gF (gateI x0) k) (qF x2 k) (qF x3 k),
        stepSB (kst x0 x1 x2 x3 x5 x6 k.val).1.2 (kst x0 x1 x2 x3 x5 x6 k.val).2.2 (gB (gateB x0) k) (gB (gateI x0) k) (qB x2 k) (qB x3 k)) := by
  rw [kst]; exact dif_pos k.isLt

/-- The outputs of a trip, forward and backward. -/
def outF (x0 : Vec F S1x4x1x40x128 .f32) (x1 x2 x3 : Vec F S1x4096x256 .bf16) (x5 x6 : Vec F S1x256x256 .bf16) (k : Fin k0_t1_loop.trips) : Vec F S128x256 .f32 :=
  stepHF (kst x0 x1 x2 x3 x5 x6 k.val).1.1 (kst x0 x1 x2 x3 x5 x6 k.val).2.1 (gF (gateB x0) k) (gF (gateI x0) k) (qF x1 k) (qF x2 k) (qF x3 k)
/-- The backward outputs of a trip. -/
def outB (x0 : Vec F S1x4x1x40x128 .f32) (x1 x2 x3 : Vec F S1x4096x256 .bf16) (x5 x6 : Vec F S1x256x256 .bf16) (k : Fin k0_t1_loop.trips) : Vec F S128x256 .f32 :=
  stepHB (kst x0 x1 x2 x3 x5 x6 k.val).1.2 (kst x0 x1 x2 x3 x5 x6 k.val).2.2 (gB (gateB x0) k) (gB (gateI x0) k) (qB x1 k) (qB x2 k) (qB x3 k)

/-- A row lies in a forward trip. -/
theorem row_lt (y : S4096x256.Idx) : (y 0).val / 128 < k0_t1_loop.trips := by
  rw [trips1]; have := (y 0).isLt; change (y 0).val < 4096 at this; omega
/-- A row lies in a backward trip. -/
theorem row_lt' (y : S4096x256.Idx) : 31 - (y 0).val / 128 < k0_t1_loop.trips := by
  rw [trips1]; omega

/-- The forward and the backward outputs of all the latents. -/
def fwd (x0 : Vec F S1x4x1x40x128 .f32) (x1 x2 x3 : Vec F S1x4096x256 .bf16) (x5 x6 : Vec F S1x256x256 .bf16) : Vec F S4096x256 .f32 := fun y =>
  outF x0 x1 x2 x3 x5 x6 ⟨(y 0).val / 128, row_lt y⟩ (ix2 (⟨(y 0).val % 128, Nat.mod_lt _ (by decide)⟩ : Fin 128) (y 1))
/-- The backward outputs of all the latents. -/
def bwd (x0 : Vec F S1x4x1x40x128 .f32) (x1 x2 x3 : Vec F S1x4096x256 .bf16) (x5 x6 : Vec F S1x256x256 .bf16) : Vec F S4096x256 .f32 := fun y =>
  outB x0 x1 x2 x3 x5 x6 ⟨31 - (y 0).val / 128, row_lt' y⟩ (ix2 (⟨(y 0).val % 128, Nat.mod_lt _ (by decide)⟩ : Fin 128) (y 1))

/-- A block of rows written into an array that reads as wanted at some rows: it reads as wanted at the block's rows too. -/
theorem read_rows (M : Memref sig .tc .vmem S4096x256 .f32) (f : BufTy.Contents (Elt F) M.view.ty) (off : Fin 2 → ℕ) (o : ℕ) (hoff : off = ![o, 0]) (inb)
    (v : Vec F S128x256 .f32) (G : Vec F S4096x256 .f32) (P : ℕ → Prop)
    (hf : ∀ y : S4096x256.Idx, P (y 0).val → M.view.read (Elt F) f y = G y)
    (hv : ∀ (x : S128x256.Idx) (y : S4096x256.Idx), (y 0).val = o + (x 0).val → (y 1).val = (x 1).val → v x = G y)
    (y : S4096x256.Idx) (hy : P (y 0).val ∨ (o ≤ (y 0).val ∧ (y 0).val < o + 128)) :
    M.view.read (Elt F) (M.view.writes (Elt F) f [⟨Rect.unit (s := S4096x256) off S128x256.size inb, v⟩]) y = G y := by
  subst hoff
  by_cases h : o ≤ (y 0).val ∧ (y 0).val < o + 128
  · have hx : (y 0).val - o < 128 := by omega
    refine (View.read_writes_cons_hit_of_coords M.view f (Rect.unit (s := S4096x256) ![o, 0] S128x256.size inb) v [] (ix2 (⟨(y 0).val - o, hx⟩ : Fin 128) (y 1)) y (fun a => ?_)).trans (hv _ y ?_ ?_)
    · match a with
      | ⟨0, _⟩ => show (y 0).val = o + 1 * ((y 0).val - o); omega
      | ⟨1, _⟩ => show (y 1).val = 0 + 1 * (y 1).val; omega
    · show (y 0).val = o + ((y 0).val - o); omega
    · rfl
  · refine (View.read_writes_cons_miss_of_axis M.view f ⟨Rect.unit (s := S4096x256) ![o, 0] S128x256.size inb, v⟩ [] y 0 o 128 rfl rfl rfl (by omega)).trans (hf y (by tauto))

/-- The forward outputs in a trip's rows. -/
theorem fwd_at (x0 : Vec F S1x4x1x40x128 .f32) (x1 x2 x3 : Vec F S1x4096x256 .bf16) (x5 x6 : Vec F S1x256x256 .bf16) (k : Fin k0_t1_loop.trips) (x : S128x256.Idx) (y : S4096x256.Idx) (h0 : (y 0).val = 128 * k.val + (x 0).val) (h1 : (y 1).val = (x 1).val) :
    outF x0 x1 x2 x3 x5 x6 k x = fwd x0 x1 x2 x3 x5 x6 y := by
  have hx : (x 0).val < 128 := (x 0).isLt
  unfold fwd
  have hk : (⟨(y 0).val / 128, row_lt y⟩ : Fin k0_t1_loop.trips) = k := Fin.ext (by show (y 0).val / 128 = k.val; omega)
  rw [hk]
  refine congrArg (outF x0 x1 x2 x3 x5 x6 k) (funext fun a => Fin.ext ?_)
  match a with
  | ⟨0, _⟩ => show (x 0).val = (y 0).val % 128; omega
  | ⟨1, _⟩ => exact h1.symm

/-- The backward outputs in a trip's rows. -/
theorem bwd_at (x0 : Vec F S1x4x1x40x128 .f32) (x1 x2 x3 : Vec F S1x4096x256 .bf16) (x5 x6 : Vec F S1x256x256 .bf16) (k : Fin k0_t1_loop.trips) (x : S128x256.Idx) (y : S4096x256.Idx) (h0 : (y 0).val = 128 * (31 - k.val) + (x 0).val) (h1 : (y 1).val = (x 1).val) :
    outB x0 x1 x2 x3 x5 x6 k x = bwd x0 x1 x2 x3 x5 x6 y := by
  have hx : (x 0).val < 128 := (x 0).isLt
  have hk' : k.val < 32 := lt_of_lt_of_eq k.isLt trips1
  unfold bwd
  have hk : (⟨31 - (y 0).val / 128, row_lt' y⟩ : Fin k0_t1_loop.trips) = k := Fin.ext (by show 31 - (y 0).val / 128 = k.val; omega)
  rw [hk]
  refine congrArg (outB x0 x1 x2 x3 x5 x6 k) (funext fun a => Fin.ext ?_)
  match a with
  | ⟨0, _⟩ => show (x 0).val = (y 0).val % 128; omega
  | ⟨1, _⟩ => exact h1.symm

/-- The block of the readout for rows `128 k` to `128 k + 127`. -/
def outR (hf hb : Vec F S4096x256 .f32) (x4 : Vec F S1x4096x256 .bf16) (x7 : Vec F S1x256 .f32) (k : Fin k0_t2_loop.trips) : Vec F S1x128x256 .bf16 :=
  k0_pay5 (k0_pay32 (View.ld hf (Rect.unit (s := S4096x256) (k0_off7 k) S128x256.size (k0_off7_inb k))) (View.ld hb (Rect.unit (s := S4096x256) (k0_off7 k) S128x256.size (k0_off7_inb k)))
    (View.ld x4 (Rect.unit (s := S1x4096x256) (k0_off8 k) S1x128x256.size (k0_off8_inb k))) x7)

/-- A row of the result lies in a trip of the readout. -/
theorem rowr_lt (y : S1x4096x256.Idx) : (y 1).val / 128 < k0_t2_loop.trips := by
  rw [trips2]; have := (y 1).isLt; change (y 1).val < 4096 at this; omega

/-- The readout of all the latents. -/
def readout (hf hb : Vec F S4096x256 .f32) (x4 : Vec F S1x4096x256 .bf16) (x7 : Vec F S1x256 .f32) : Vec F S1x4096x256 .bf16 := fun y =>
  outR hf hb x4 x7 ⟨(y 1).val / 128, rowr_lt y⟩ (ix3 (0 : Fin 1) (⟨(y 1).val % 128, Nat.mod_lt _ (by decide)⟩ : Fin 128) (y 2))

/-- The readout in a trip's rows. -/
theorem readout_at (hf hb : Vec F S4096x256 .f32) (x4 : Vec F S1x4096x256 .bf16) (x7 : Vec F S1x256 .f32) (k : Fin k0_t2_loop.trips) (x : S1x128x256.Idx) (y : S1x4096x256.Idx)
    (h0 : (y 1).val = 128 * k.val + (x 1).val) (h1 : (y 2).val = (x 2).val) : outR hf hb x4 x7 k x = readout hf hb x4 x7 y := by
  have hx : (x 1).val < 128 := (x 1).isLt
  unfold readout
  have hk : (⟨(y 1).val / 128, rowr_lt y⟩ : Fin k0_t2_loop.trips) = k := Fin.ext (by show (y 1).val / 128 = k.val; omega)
  rw [hk]
  refine congrArg (outR hf hb x4 x7 k) (funext fun a => Fin.ext ?_)
  match a with
  | ⟨0, _⟩ => show (x 0).val = 0; have : (x 0).val < 1 := (x 0).isLt; omega
  | ⟨1, _⟩ => show (x 1).val = (y 1).val % 128; omega
  | ⟨2, _⟩ => exact h1.symm

/-- Reading a chunk of rows of a whole buffer. -/
theorem read_slab (M : Memref sig .tc .vmem S1x4096x256 .bf16) (f : BufTy.Contents (Elt F) M.view.ty) (off : Fin 3 → ℕ) (o : ℕ) (hoff : off = ![0, o, 0]) (inb)
    (v : Vec F S1x128x256 .bf16) (G : Vec F S1x4096x256 .bf16)
    (hf : ∀ y : S1x4096x256.Idx, (y 1).val < o → M.view.read (Elt F) f y = G y)
    (hv : ∀ (x : S1x128x256.Idx) (y : S1x4096x256.Idx), (y 1).val = o + (x 1).val → (y 2).val = (x 2).val → v x = G y)
    (y : S1x4096x256.Idx) (hy : (y 1).val < o + 128) :
    M.view.read (Elt F) (M.view.writes (Elt F) f [⟨Rect.unit (s := S1x4096x256) off S1x128x256.size inb, v⟩]) y = G y := by
  subst hoff
  by_cases h : o ≤ (y 1).val
  · have hx : (y 1).val - o < 128 := by omega
    have hz : (y 0).val < 1 := (y 0).isLt
    refine (View.read_writes_cons_hit_of_coords M.view f (Rect.unit (s := S1x4096x256) ![0, o, 0] S1x128x256.size inb) v [] (ix3 (0 : Fin 1) (⟨(y 1).val - o, hx⟩ : Fin 128) (y 2)) y (fun a => ?_)).trans (hv _ y ?_ ?_)
    · match a with
      | ⟨0, _⟩ => show (y 0).val = 0 + 1 * 0; omega
      | ⟨1, _⟩ => show (y 1).val = o + 1 * ((y 1).val - o); omega
      | ⟨2, _⟩ => show (y 2).val = 0 + 1 * (y 2).val; omega
    · show (y 1).val = o + ((y 1).val - o); omega
    · rfl
  · exact (View.read_writes_cons_miss_of_axis M.view f ⟨Rect.unit (s := S1x4096x256) ![0, o, 0] S1x128x256.size inb, v⟩ [] y 1 o 128 rfl rfl rfl (by omega)).trans (hf y (by omega))

/-- The weights, read whole. -/
theorem ldW (X : Vec F S1x256 .f32) (inb) : View.ld X (Rect.unit (s := S1x256) ![0, 0] ![1, 256] inb) = X := by
  funext x
  refine congrArg X (funext fun a => Fin.ext ?_)
  show ![0, 0] a + 1 * (x a).val = (x a).val
  fin_cases a <;> simp

set_option maxHeartbeats 4000000 in
/-- One trip of the readout loop. -/
theorem trip2 (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole)
    (hf hb : Vec F S4096x256 .f32) (x4 : Vec F S1x4096x256 .bf16) (x7 : Vec F S1x256 .f32)
    (f10 : BufTy.Contents (Elt F) arg10.view.ty)
    (k : Fin k0_t2_loop.trips) (acc : Unit) (E : Set ℕ) :
    iprop((arg6.view.loc (c : Thread nD τ) ↦[arg6.view.set]{fullShare} harg6.unread x4) ∗ (arg9.view.loc (c : Thread nD τ) ↦[arg9.view.set]{fullShare} harg9.unread x7) ∗ (arg15.view.loc (c : Thread nD τ) ↦[arg15.view.set]{fullShare} harg15.unread hf) ∗ (arg16.view.loc (c : Thread nD τ) ↦[arg16.view.set]{fullShare} harg16.unread hb) ∗ (arg10.view.loc (c : Thread nD τ) ↦[arg10.view.set]{fullShare} f10))
      ⊢ wp frame (wpE (defs₀ (F := F)) Variants.none c none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k acc)
          (fun _ => (iprop((arg6.view.loc (c : Thread nD τ) ↦[arg6.view.set]{fullShare} harg6.unread x4) ∗ (arg9.view.loc (c : Thread nD τ) ↦[arg9.view.set]{fullShare} harg9.unread x7) ∗ (arg15.view.loc (c : Thread nD τ) ↦[arg15.view.set]{fullShare} harg15.unread hf) ∗ (arg16.view.loc (c : Thread nD τ) ↦[arg16.view.set]{fullShare} harg16.unread hb) ∗ (arg10.view.loc (c : Thread nD τ) ↦[arg10.view.set]{fullShare} arg10.view.writes (Elt F) f10 [⟨Rect.unit (s := S1x4096x256) (k0_off8 k) S1x128x256.size (k0_off8_inb k), outR hf hb x4 x7 k⟩])) : sProp 𝕄)) := by
  have hk : k.val < 32 := Nat.lt_of_lt_of_le k.isLt k0_t2_abs.2.1
  unfold k0_t2_body
  iintro ⟨H6, H9, H15, H16, H10⟩
  sl_exec
  sl_step
  delta trip2.sl.r_1 trip2.sl.r
  simp only [readR, ldW, outR]
  sl_close

end Cert.KernelIdeal.Gen

end
-- ==== Proof.MPh5.lean ====
/-
  A run of the whole body: what it leaves in the result's block.
-/
module

public import proofs.«01_k».proof.Proof.MPh4
public import Idealize.ShloMosaic.Lib.WholeRead
public import Idealize.ShloMosaic.Lib.VecWindow
public import Idealize.ShloMosaic.Lib.Pipeline.FrameBody
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What holds before trip `k` of the chunk loop. -/
abbrev inv1 (c : Dev nD) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (x0 : Vec F S1x4x1x40x128 .f32) (x1 x2 x3 : Vec F S1x4096x256 .bf16) (x4 : Vec F S1x4096x256 .bf16) (x5 x6 : Vec F S1x256x256 .bf16) (x7 : Vec F S1x256 .f32) : ℕ → FVec F S1x1 .f32 × FVec F S1x1 .f32 → sProp 𝕄 :=
  fun k acc => iprop(⌜acc = (kst x0 x1 x2 x3 x5 x6 k).1⌝ ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg11.view.loc (c : Thread nD τ) ↦[arg11.view.set]{fullShare} harg11.unread (gateB x0)) ∗ (arg12.view.loc (c : Thread nD τ) ↦[arg12.view.set]{fullShare} harg12.unread (gateI x0)) ∗ (arg13.view.loc (c : Thread nD τ) ↦[arg13.view.set]{fullShare} harg13.unread (kst x0 x1 x2 x3 x5 x6 k).2.1) ∗ (arg14.view.loc (c : Thread nD τ) ↦[arg14.view.set]{fullShare} harg14.unread (kst x0 x1 x2 x3 x5 x6 k).2.2)
    ∗ (∃ f, ⌜∀ y : S4096x256.Idx, (y 0).val < 128 * k → arg15.view.read (Elt F) f y = fwd x0 x1 x2 x3 x5 x6 y⌝ ∗ (arg15.view.loc (c : Thread nD τ) ↦[arg15.view.set]{fullShare} f))
    ∗ (∃ f, ⌜∀ y : S4096x256.Idx, 4096 ≤ (y 0).val + 128 * k → arg16.view.read (Elt F) f y = bwd x0 x1 x2 x3 x5 x6 y⌝ ∗ (arg16.view.loc (c : Thread nD τ) ↦[arg16.view.set]{fullShare} f)))

/-- What holds before trip `k` of the readout loop. -/
abbrev inv2 (c : Dev nD) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (hf hb : Vec F S4096x256 .f32) (x4 : Vec F S1x4096x256 .bf16) (x7 : Vec F S1x256 .f32) : ℕ → Unit → sProp 𝕄 :=
  fun k _ => iprop((arg6.view.loc (c : Thread nD τ) ↦[arg6.view.set]{fullShare} harg6.unread x4) ∗ (arg9.view.loc (c : Thread nD τ) ↦[arg9.view.set]{fullShare} harg9.unread x7) ∗ (arg15.view.loc (c : Thread nD τ) ↦[arg15.view.set]{fullShare} harg15.unread hf) ∗ (arg16.view.loc (c : Thread nD τ) ↦[arg16.view.set]{fullShare} harg16.unread hb) ∗ (∃ f, ⌜∀ y : S1x4096x256.Idx, (y 1).val < 128 * k → arg10.view.read (Elt F) f y = readout hf hb x4 x7 y⌝ ∗ (arg10.view.loc (c : Thread nD τ) ↦[arg10.view.set]{fullShare} f)))

set_option maxHeartbeats 1000000 in
/-- A trip of the chunk loop keeps the loop's invariant. -/
theorem inv1_step (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (x0 : Vec F S1x4x1x40x128 .f32) (x1 x2 x3 : Vec F S1x4096x256 .bf16) (x4 : Vec F S1x4096x256 .bf16) (x5 x6 : Vec F S1x256x256 .bf16) (x7 : Vec F S1x256 .f32) (E : Set ℕ) (k : Fin k0_t1_loop.trips) (acc : FVec F S1x1 .f32 × FVec F S1x1 .f32) :
    inv1 c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 k.val acc ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 io0 io1 eye ones k acc)
      (inv1 c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (k.val + 1)) := by
  have hk : k.val < 32 := lt_of_lt_of_eq k.isLt trips1
  iintro ⟨%hacc, H3, H4, H5, H11, H12, H13, H14, ⟨%f15, %h15, H15⟩, ⟨%f16, %h16, H16⟩⟩
  subst hacc
  iapply (wp_wand_r frame (wpE (defs₀ (F := F)) Variants.none (c : Thread nD τ) none) E)
  isplitl [H3 H4 H5 H11 H12 H13 H14 H15 H16]
  · iapply (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 (gateB x0) (gateI x0) (kst x0 x1 x2 x3 x5 x6 k.val).2.1 (kst x0 x1 x2 x3 x5 x6 k.val).2.2 f15 f16 k (kst x0 x1 x2 x3 x5 x6 k.val).1 E)
    isplitl [H3]; · iexact H3
    isplitl [H4]; · iexact H4
    isplitl [H5]; · iexact H5
    isplitl [H11]; · iexact H11
    isplitl [H12]; · iexact H12
    isplitl [H13]; · iexact H13
    isplitl [H14]; · iexact H14
    isplitl [H15]; · iexact H15
    iexact H16
  · unfold inv1
    rw [kst_succ]
    iintro %yld ⟨%hy, H3, H4, H5, H11, H12, H13, H14, H15, H16⟩
    isplitr; · ipureintro; exact hy
    isplitl [H3]; · iexact H3
    isplitl [H4]; · iexact H4
    isplitl [H5]; · iexact H5
    isplitl [H11]; · iexact H11
    isplitl [H12]; · iexact H12
    isplitl [H13]; · iexact H13
    isplitl [H14]; · iexact H14
    isplitl [H15]
    · iexists _; isplitr; swap; · iexact H15
      ipureintro
      intro y hy
      exact read_rows arg15 f15 _ (128 * k.val) (off3_eq k) _ _ (fwd x0 x1 x2 x3 x5 x6) (fun r => r < 128 * k.val) h15 (fun x y h0 h1 => fwd_at x0 x1 x2 x3 x5 x6 k x y h0 h1) y (by omega)
    · iexists _; isplitr; swap; · iexact H16
      ipureintro
      intro y hy
      have hy0 : (y 0).val < 4096 := (y 0).isLt
      exact read_rows arg16 f16 _ (128 * (31 - k.val)) (off6_eq k) _ _ (bwd x0 x1 x2 x3 x5 x6) (fun r => 4096 ≤ r + 128 * k.val) h16 (fun x y h0 h1 => bwd_at x0 x1 x2 x3 x5 x6 k x y h0 h1) y (by omega)

set_option maxHeartbeats 1000000 in
/-- A trip of the readout loop keeps the loop's invariant. -/
theorem inv2_step (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (hf hb : Vec F S4096x256 .f32) (x4 : Vec F S1x4096x256 .bf16) (x7 : Vec F S1x256 .f32) (E : Set ℕ) (k : Fin k0_t2_loop.trips) (acc : Unit) :
    inv2 c arg2 harg2 arg3 harg3 arg4 harg4 arg5 harg5 arg6 harg6 arg7 harg7 arg8 harg8 arg9 harg9 arg10 harg10 arg11 harg11 arg12 harg12 arg13 harg13 arg14 harg14 arg15 harg15 arg16 harg16 hf hb x4 x7 k.val acc ⊢ wp frame (wpE (defs₀ (F := F)) Variants.none c none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k acc)
      (inv2 c arg2 harg2 arg3 harg3 arg4 harg4 arg5 harg5 arg6 harg6 arg7 harg7 arg8 harg8 arg9 harg9 arg10 harg10 arg11 harg11 arg12 harg12 arg13 harg13 arg14 harg14 arg15 harg15 arg16 harg16 hf hb x4 x7 (k.val + 1)) := by
  iintro ⟨H6, H9, H15, H16, ⟨%f10, %h10, H10⟩⟩
  iapply (wp_wand_r frame (wpE (defs₀ (F := F)) Variants.none (c : Thread nD τ) none) E)
  isplitl [H6 H9 H15 H16 H10]
  · iapply (trip2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hf hb x4 x7 f10 k acc E)
    isplitl [H6]; · iexact H6
    isplitl [H9]; · iexact H9
    isplitl [H15]; · iexact H15
    isplitl [H16]; · iexact H16
    iexact H10
  · iintro %yld ⟨H6, H9, H15, H16, H10⟩
    isplitl [H6]; · iexact H6
    isplitl [H9]; · iexact H9
    isplitl [H15]; · iexact H15
    isplitl [H16]; · iexact H16
    iexists _; isplitr; swap; · iexact H10
    ipureintro
    intro y hy
    exact read_slab arg10 f10 _ (128 * k.val) (off8_eq k) _ _ (readout hf hb x4 x7) h10 (fun x y h0 h1 => readout_at hf hb x4 x7 k x y h0 h1) y (by omega)

/-- What the body leaves in its output block: a function of its eight input blocks alone. -/
def OUT (x0 : Vec F S1x4x1x40x128 .f32) (x1 x2 x3 : Vec F S1x4096x256 .bf16) (x4 : Vec F S1x4096x256 .bf16) (x5 x6 : Vec F S1x256x256 .bf16) (x7 : Vec F S1x256 .f32) : Vec F S1x4096x256 .bf16 := readout (fwd x0 x1 x2 x3 x5 x6) (bwd x0 x1 x2 x3 x5 x6) x4 x7

/-- The body from its first loop on. -/
def rest2 (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (v870 v968 : FVec F S1x1 .f32) : Prog (TpuEff nD τ sig (Elt F) Λ₀ .tc) PUnit := do
  let (v987_0, v987_1) ← Scf.Loop.for k0_t1_loop k0_t1_ok (v870, v968) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 io0 io1 eye ones)
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16)
  pure ⟨⟩

/-- The body from the context's two chunks on. -/
def rest1 (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (v0 : IVec S128x128 32) (v1 : IVec S128x128 32) (v2 : IVec S128x128 1) (v779 : FVec F S128x128 .bf16) (v788 : FVec F S1x1 .f32) : Prog (TpuEff nD τ sig (Elt F) Λ₀ .tc) PUnit := do
  let ⟨v789, v812, v813, v814, v821, v824, v825⟩ : Σ' (v789 : FVec F S1x1 .f32) (v812 : FVec F S128x256 .bf16) (v813 : FVec F S128x384 .bf16) (v814 : Vec F S256x384 .f32) (v821 : FVec F S1x1 .f32) (v824 : FVec F S128x1 .f32), FVec F S1x1 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v788
  let ⟨v852, v858, v859, v861, v862⟩ : Σ' (v852 : FVec F S128x1 .f32) (v858 : FVec F S128x1 .f32) (v859 : FVec F S1x1 .f32) (v861 : FVec F S128x256 .bf16), FVec F S128x384 .bf16 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v812 v813 v814 v821 v824 v825
  let ⟨v870, v889, v891, v893, v895, v899⟩ : Σ' (v870 : FVec F S1x1 .f32) (v889 : FVec F S128x256 .bf16) (v891 : FVec F S128x256 .bf16) (v893 : FVec F S1x128 .f32) (v895 : FVec F S1x128 .f32), FVec F S128x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v821 v852 v858 v859 v861 v862
  let ⟨v919, v938, v940⟩ : Σ' (v919 : FVec F S1x1 .f32) (v938 : FVec F S128x256 .bf16), FVec F S128x256 .bf16 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v789 v889 v891 v893 v895 v899
  let ⟨v968, v982⟩ : Σ' (v968 : FVec F S1x1 .f32), FVec F S256x384 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v919 v938 v940
  Prog.lift (.store arg14 (Rect.unit (s := S256x384) ![0, 0] S256x384.size inb_S256x384_S256x384_0_0) (k0_pay1 v982) Finset.univ (View.stores_vmem_bits_univ h_S256x384 rfl) (.inl rfl))
  let (v987_0, v987_1) ← Scf.Loop.for k0_t1_loop k0_t1_ok (v870, v968) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v779)
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16)
  pure ⟨⟩

/-- The body is its first phase followed by the rest. -/
theorem body_eq (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) : cc0__mlstm_kernel_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (do
      let ⟨v0, v1, v2, v4, v31, v41, v42, cst_12⟩ : Σ' (v0 : IVec S128x128 32) (v1 : IVec S128x128 32) (v2 : IVec S128x128 1) (v4 : FVec F S4x40x128 .f32) (v31 : FVec F S40x128 .f32) (v41 : FVec F S40x128 .f32) (v42 : IVec S128x128 1), F .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16
      let ⟨v58, v77⟩ : Σ' (v58 : FVec F S40x128 .f32), FVec F S1x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v41 v42 cst_12
      let v104 : FVec F S1x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v77
      let v134 : FVec F S1x1x1x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v104
      let v163 : FVec F S1x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v134
      let v189 : FVec F S1x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v163
      let v217 : FVec F S1x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v189
      let v248 : FVec F S1x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v217
      let v275 : FVec F S1x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v248
      let v302 : FVec F S1x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v275
      let v333 : FVec F S1x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v302
      let v361 : FVec F S1x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v333
      let v387 : FVec F S1x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v361
      k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v387
      let v446 : FVec F S1x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58
      let ⟨v473, v474⟩ : Σ' (v473 : FVec F S1x128 .f32), Vec F S1x1x1x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v446
      k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v473 v474
      let v531 : FVec F S1x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58
      let v559 : FVec F S1x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v531
      k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v559
      let v617 : FVec F S1x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58
      let v644 : FVec F S1x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v617
      let v674 : FVec F S1x1x1x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v644
      let v703 : FVec F S1x128 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v674
      let v729 : FVec F S1x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v703
      let v757 : FVec F S1x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v729
      let ⟨v779, v788⟩ : Σ' (v779 : FVec F S128x128 .bf16), FVec F S1x1 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v31 v58 v757
      rest1 i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v779 v788) := rfl

/-- The rest is the context chunks followed by the two loops. -/
theorem rest1_eq (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) : rest1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 io0 io1 k0_pay33 k0_pay219 k0_pay222 = (do
      let v2 : IVec S128x128 1 := k0_pay33
      let v779 : FVec F S128x128 .bf16 := k0_pay219
      let v788 : FVec F S1x1 .f32 := k0_pay222
      let ⟨v789, v812, v813, v814, v821, v824, v825⟩ : Σ' (v789 : FVec F S1x1 .f32) (v812 : FVec F S128x256 .bf16) (v813 : FVec F S128x384 .bf16) (v814 : Vec F S256x384 .f32) (v821 : FVec F S1x1 .f32) (v824 : FVec F S128x1 .f32), FVec F S1x1 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v788
      let ⟨v852, v858, v859, v861, v862⟩ : Σ' (v852 : FVec F S128x1 .f32) (v858 : FVec F S128x1 .f32) (v859 : FVec F S1x1 .f32) (v861 : FVec F S128x256 .bf16), FVec F S128x384 .bf16 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v812 v813 v814 v821 v824 v825
      let ⟨v870, v889, v891, v893, v895, v899⟩ : Σ' (v870 : FVec F S1x1 .f32) (v889 : FVec F S128x256 .bf16) (v891 : FVec F S128x256 .bf16) (v893 : FVec F S1x128 .f32) (v895 : FVec F S1x128 .f32), FVec F S128x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v821 v852 v858 v859 v861 v862
      let ⟨v919, v938, v940⟩ : Σ' (v919 : FVec F S1x1 .f32) (v938 : FVec F S128x256 .bf16), FVec F S128x256 .bf16 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v789 v889 v891 v893 v895 v899
      let ⟨v968, v982⟩ : Σ' (v968 : FVec F S1x1 .f32), FVec F S256x384 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v779 v919 v938 v940
      Prog.lift (.store arg14 (Rect.unit (s := S256x384) ![0, 0] S256x384.size inb_S256x384_S256x384_0_0) (k0_pay1 v982) Finset.univ (View.stores_vmem_bits_univ h_S256x384 rfl) (.inl rfl))
      rest2 i arg2 harg2 arg3 harg3 arg4 harg4 arg5 harg5 arg6 harg6 arg7 harg7 arg8 harg8 arg9 harg9 arg10 harg10 arg11 harg11 arg12 harg12 arg13 harg13 arg14 harg14 arg15 harg15 arg16 harg16 v870 v968) := rfl

set_option maxHeartbeats 1000000 in
/-- The two loops. -/
theorem phase3 (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (x0 : Vec F S1x4x1x40x128 .f32) (x1 x2 x3 : Vec F S1x4096x256 .bf16) (x4 : Vec F S1x4096x256 .bf16) (x5 x6 : Vec F S1x256x256 .bf16) (x7 : Vec F S1x256 .f32) (f10 : BufTy.Contents (Elt F) arg10.view.ty) (f15 : BufTy.Contents (Elt F) arg15.view.ty) (f16 : BufTy.Contents (Elt F) arg16.view.ty) (E : Set ℕ) (K : PUnit → sProp 𝕄) :
    iprop((arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg11.view.loc (c : Thread nD τ) ↦[arg11.view.set]{fullShare} harg11.unread (gateB x0)) ∗ (arg12.view.loc (c : Thread nD τ) ↦[arg12.view.set]{fullShare} harg12.unread (gateI x0)) ∗ (arg13.view.loc (c : Thread nD τ) ↦[arg13.view.set]{fullShare} harg13.unread (sF2 (gateB x0) (gateI x0) x5 x6)) ∗ (arg14.view.loc (c : Thread nD τ) ↦[arg14.view.set]{fullShare} harg14.unread (sB2 (gateB x0) (gateI x0) x5 x6)) ∗ (arg6.view.loc (c : Thread nD τ) ↦[arg6.view.set]{fullShare} harg6.unread x4) ∗ (arg9.view.loc (c : Thread nD τ) ↦[arg9.view.set]{fullShare} harg9.unread x7) ∗ (arg10.view.loc (c : Thread nD τ) ↦[arg10.view.set]{fullShare} f10) ∗ (arg15.view.loc (c : Thread nD τ) ↦[arg15.view.set]{fullShare} f15) ∗ (arg16.view.loc (c : Thread nD τ) ↦[arg16.view.set]{fullShare} f16)
        ∗ (iprop((arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg11.view.loc (c : Thread nD τ) ↦[arg11.view.set]{fullShare} harg11.unread (gateB x0)) ∗ (arg12.view.loc (c : Thread nD τ) ↦[arg12.view.set]{fullShare} harg12.unread (gateI x0)) ∗ (arg6.view.loc (c : Thread nD τ) ↦[arg6.view.set]{fullShare} harg6.unread x4) ∗ (arg9.view.loc (c : Thread nD τ) ↦[arg9.view.set]{fullShare} harg9.unread x7) ∗ (arg10.view.loc (c : Thread nD τ) ↦[arg10.view.set]{fullShare} harg10.unread (OUT x0 x1 x2 x3 x4 x5 x6 x7)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) -∗ K ⟨⟩))
      ⊢ wp frame (wpE (defs₀ (F := F)) Variants.none c none) E (rest2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (mF2 (gateB x0) (gateI x0)) (mB2 (gateB x0) (gateI x0))) K := by
  iintro ⟨H3, H4, H5, H11, H12, H13, H14, H6, H9, H10, H15, H16, Hk⟩
  unfold rest2
  iapply (Scf.wp_for_bind frame (wpE (defs₀ (F := F)) Variants.none (c : Thread nD τ) none) E k0_t1_loop.lb k0_t1_loop.ub k0_t1_loop.st k0_t1_ok _ _ (inv1 c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (fun k acc => inv1_step c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 E k acc)) $$ [H3 H4 H5 H11 H12 H13 H14 H15 H16]
  · isplitr; · ipureintro; rfl
    isplitl [H3]; · iexact H3
    isplitl [H4]; · iexact H4
    isplitl [H5]; · iexact H5
    isplitl [H11]; · iexact H11
    isplitl [H12]; · iexact H12
    isplitl [H13]; · iexact H13
    isplitl [H14]; · iexact H14
    isplitl [H15]
    · iexists _; isplitr; swap; · iexact H15
      ipureintro; intro y hy; omega
    iexists _; isplitr; swap; · iexact H16
    ipureintro; intro y hy
    have hy0 : (y 0).val < 4096 := (y 0).isLt
    omega
  iintro %acc ⟨-, H3, H4, H5, H11, H12, H13, H14, ⟨%g15, %h15, H15⟩, ⟨%g16, %h16, H16⟩⟩
  have e15 : g15 = harg15.unread (fwd x0 x1 x2 x3 x5 x6) := harg15.eq_unread (funext fun y => h15 y (by
    have hy0 : (y 0).val < 4096 := (y 0).isLt
    have := trips1; change (y 0).val < 128 * k0_t1_loop.trips; omega))
  have e16 : g16 = harg16.unread (bwd x0 x1 x2 x3 x5 x6) := harg16.eq_unread (funext fun y => h16 y (by
    have hy0 : (y 0).val < 4096 := (y 0).isLt
    have := trips1; change 4096 ≤ (y 0).val + 128 * k0_t1_loop.trips; omega))
  subst e15 e16
  iapply (Scf.wp_for_bind frame (wpE (defs₀ (F := F)) Variants.none (c : Thread nD τ) none) E k0_t2_loop.lb k0_t2_loop.ub k0_t2_loop.st k0_t2_ok _ _ (inv2 c arg2 harg2 arg3 harg3 arg4 harg4 arg5 harg5 arg6 harg6 arg7 harg7 arg8 harg8 arg9 harg9 arg10 harg10 arg11 harg11 arg12 harg12 arg13 harg13 arg14 harg14 arg15 harg15 arg16 harg16 (fwd x0 x1 x2 x3 x5 x6) (bwd x0 x1 x2 x3 x5 x6) x4 x7) (fun k acc => inv2_step c i arg2 harg2 arg3 harg3 arg4 harg4 arg5 harg5 arg6 harg6 arg7 harg7 arg8 harg8 arg9 harg9 arg10 harg10 arg11 harg11 arg12 harg12 arg13 harg13 arg14 harg14 arg15 harg15 arg16 harg16 (fwd x0 x1 x2 x3 x5 x6) (bwd x0 x1 x2 x3 x5 x6) x4 x7 E k acc)) $$ [H6 H9 H15 H16 H10]
  · isplitl [H6]; · iexact H6
    isplitl [H9]; · iexact H9
    isplitl [H15]; · iexact H15
    isplitl [H16]; · iexact H16
    iexists _; isplitr; swap; · iexact H10
    ipureintro; intro y hy; omega
  iintro %acc2 ⟨H6, H9, H15, H16, ⟨%g10, %h10, H10⟩⟩
  have e10 : g10 = harg10.unread (OUT x0 x1 x2 x3 x4 x5 x6 x7) := harg10.eq_unread (funext fun y => h10 y (by
    have hy0 : (y 1).val < 4096 := (y 1).isLt
    have := trips2; change (y 1).val < 128 * k0_t2_loop.trips; omega))
  subst e10
  sl_step
  iapply Hk
  isplitl [H3]; · iexact H3
  isplitl [H4]; · iexact H4
  isplitl [H5]; · iexact H5
  isplitl [H11]; · iexact H11
  isplitl [H12]; · iexact H12
  isplitl [H6]; · iexact H6
  isplitl [H9]; · iexact H9
  isplitl [H10]; · iexact H10
  isplitl [H13]; · iexists _; iexact H13
  isplitl [H14]; · iexists _; iexact H14
  isplitl [H15]; · iexists _; iexact H15
  iexists _; iexact H16

set_option maxHeartbeats 1000000 in
/-- The whole body: from its eight input blocks and any contents of the others, it leaves the input blocks as they were and its output block at `OUT`. -/
theorem kernelRun (c : Dev nD) (i : grid0.Coords) (arg2 : Memref sig .tc .vmem S1x4x1x40x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S1x4096x256 .bf16) (harg10 : arg10.IsWhole) (arg11 : Memref sig .tc .vmem S2x40x1x128 .f32) (harg11 : arg11.IsWhole) (arg12 : Memref sig .tc .vmem S2x40x1x128 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S4096x256 .f32) (harg15 : arg15.IsWhole) (arg16 : Memref sig .tc .vmem S4096x256 .f32) (harg16 : arg16.IsWhole) (x0 : Vec F S1x4x1x40x128 .f32) (x1 x2 x3 : Vec F S1x4096x256 .bf16) (x4 : Vec F S1x4096x256 .bf16) (x5 x6 : Vec F S1x256x256 .bf16) (x7 : Vec F S1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (OUT x0 x1 x2 x3 x4 x5 x6 x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__mlstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0__mlstm_kernel_eq_skeleton, body_eq]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  iapply (phase1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 f11 f12 f13 f14 (rest1 i arg2 harg2 arg3 harg3 arg4 harg4 arg5 harg5 arg6 harg6 arg7 harg7 arg8 harg8 arg9 harg9 arg10 harg10 arg11 harg11 arg12 harg12 arg13 harg13 arg14 harg14 arg15 harg15 arg16 harg16) E K)
  isplitl [H2]; · iexact H2
  isplitl [H11]; · iexact H11
  isplitl [H12]; · iexact H12
  isplitl [H13]; · iexact H13
  isplitl [H14]; · iexact H14
  iintro ⟨H2, H11, H12, H13, H14⟩
  rw [rest1_eq]
  iapply (phase2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x5 x6 (gateB x0) (gateI x0) (rest2 i arg2 harg2 arg3 harg3 arg4 harg4 arg5 harg5 arg6 harg6 arg7 harg7 arg8 harg8 arg9 harg9 arg10 harg10 arg11 harg11 arg12 harg12 arg13 harg13 arg14 harg14 arg15 harg15 arg16 harg16) E K)
  isplitl [H7]; · iexact H7
  isplitl [H8]; · iexact H8
  isplitl [H11]; · iexact H11
  isplitl [H12]; · iexact H12
  isplitl [H13]; · iexact H13
  isplitl [H14]; · iexact H14
  iintro ⟨H7, H8, H11, H12, H13, H14⟩
  iapply (phase3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 f10 f15 f16 E K)
  isplitl [H3]; · iexact H3
  isplitl [H4]; · iexact H4
  isplitl [H5]; · iexact H5
  isplitl [H11]; · iexact H11
  isplitl [H12]; · iexact H12
  isplitl [H13]; · iexact H13
  isplitl [H14]; · iexact H14
  isplitl [H6]; · iexact H6
  isplitl [H9]; · iexact H9
  isplitl [H10]; · iexact H10
  isplitl [H15]; · iexact H15
  isplitl [H16]; · iexact H16
  iintro ⟨H3, H4, H5, H11, H12, H6, H9, H10, ⟨%g13, H13⟩, ⟨%g14, H14⟩, ⟨%g15, H15⟩, ⟨%g16, H16⟩⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.KernelIdeal.Gen

end
-- ==== Proof.MFrame.lean ====
/-
  The mLSTM kernel's frame: what each window holds after each point.
-/
module

public import proofs.«01_k».proof.Proof.MPh5
public import Idealize.ShloMosaic.Lib.Pipeline.Value
public import Idealize.ShloMosaic.Lib.Claim

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the run's contents at
    the point's memrefs and input blocks. -/
def outsAt0 (c : Dev nD) (t : Fin cfg0.N) : Vec F S1x4096x256 .bf16 :=
  OUT (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = iblk m c 7 t := by dsimp only [dats]
/-- What window 8 holds after a point. -/
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- What window 7 holds before a point. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The launch: the run's post, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the run ends, the argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.InLatRuns.lean ====
/- The facts about grid points and memrefs the runs of the in-projection's body use (the latent stream). -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The host leaves argument 0 alone before the call. -/
theorem V_main_arg0 (c : Dev nD) : V m c main_arg0 = m ((c : Thread nD τ).loc main_arg0) := rfl
/-- The host leaves argument 1 alone before the call. -/
theorem V_main_arg1 (c : Dev nD) : V m c main_arg1 = m ((c : Thread nD τ).loc main_arg1) := rfl
/-- The host leaves argument 2 alone before the call. -/
theorem V_main_arg2 (c : Dev nD) : V m c main_arg2 = m ((c : Thread nD τ).loc main_arg2) := rfl
/-- The host leaves argument 3 alone before the call. -/
theorem V_main_arg3 (c : Dev nD) : V m c main_arg3 = m ((c : Thread nD τ).loc main_arg3) := rfl
/-- The host leaves argument 4 alone before the call. -/
theorem V_main_arg4 (c : Dev nD) : V m c main_arg4 = m ((c : Thread nD τ).loc main_arg4) := rfl
/-- The host leaves argument 5 alone before the call. -/
theorem V_main_arg5 (c : Dev nD) : V m c main_arg5 = m ((c : Thread nD τ).loc main_arg5) := rfl
/-- The host leaves argument 6 alone before the call. -/
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 96 := Nat.lt_of_lt_of_eq t.isLt N_0
    have e0 : (grid0.coords t 0).val = t.val / 6 % 16 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 live: the case stores into it. -/
theorem liveAt0_8_A : ∀ t : Fin cfg0.N, cond0_0 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → cfg0.idle 8 (grid0.coords t) = true := by decide +kernel
/-- Whether the gate window's buffer holds nothing stored since its last write-back: exactly at the first point of a block of rows. -/
def freshTab0_8 (n : ℕ) : Bool := decide (n % 6 = 0)
/-- The table of the points at which the gates' window begins a new block, step by step. -/
theorem freshTab0_8_step : ∀ t : Fin cfg0.N,
    freshTab0_8 (t.val + 1) = ((cfg0.win 8).flush t || (cfg0.idle 8 (cfg0.grid.coords t) && freshTab0_8 t.val)) := by decide +kernel
/-- The table gives the points at which the gates' window begins a new block. -/
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At a later point of a block of rows the gate window's buffer holds what the first point stored. -/
theorem notFresh0_8_B : ∀ t : Fin cfg0.N, ¬cond0_0 (grid0.coords t) → cfg0.fresh 8 t.val = false := by
  intro t; rw [fresh0_8_eq t]; revert t; decide +kernel

/-! ## The kernel body on any staging memrefs: a subtype the run finds -/

/-- One staging buffer of output window 7, through which its contents are stated (`View.read_writes_of_cover`: the
    choice does not matter). -/
abbrev VO0_7 : View sig .tc .vmem S1024x1024 .bf16 := (Memref.whole cc0_stg7_0 : Memref sig .tc .vmem S1024x1024 .bf16).view
/-- One staging buffer of output window 8, through which its contents are stated (`View.read_writes_of_cover`: the
    choice does not matter). -/
abbrev VO0_8 : View sig .tc .vmem S16x1024 .f32 := (Memref.whole cc0_stg8_0 : Memref sig .tc .vmem S16x1024 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
/-- It is a whole memory. -/
abbrev hs0_0 (t : Fin cfg0.N) : (ms0_0 t).IsWhole := hstage0_0 ((cfg0.slots t 0).cast nbuf0_0)
/-- The memory window 1 stands in at a point. -/
abbrev ms0_1 (t : Fin cfg0.N) : Memref sig .tc .vmem S1x1x2048 .f32 := win0_1.stage (cfg0.slots t 1)
/-- It is a whole memory. -/
abbrev hs0_1 (t : Fin cfg0.N) : (ms0_1 t).IsWhole := hstage0_1 ((cfg0.slots t 1).cast nbuf0_1)
/-- The memory window 2 stands in at a point. -/
abbrev ms0_2 (t : Fin cfg0.N) : Memref sig .tc .vmem S1x1x2048 .f32 := win0_2.stage (cfg0.slots t 2)
/-- It is a whole memory. -/
abbrev hs0_2 (t : Fin cfg0.N) : (ms0_2 t).IsWhole := hstage0_2 ((cfg0.slots t 2).cast nbuf0_2)
/-- The memory window 3 stands in at a point. -/
abbrev ms0_3 (t : Fin cfg0.N) : Memref sig .tc .vmem S1x2048 .f32 := win0_3.stage (cfg0.slots t 3)
/-- It is a whole memory. -/
abbrev hs0_3 (t : Fin cfg0.N) : (ms0_3 t).IsWhole := hstage0_3 ((cfg0.slots t 3).cast nbuf0_3)
/-- The memory window 4 stands in at a point. -/
abbrev ms0_4 (t : Fin cfg0.N) : Memref sig .tc .vmem S2048x1024 .bf16 := win0_4.stage (cfg0.slots t 4)
/-- It is a whole memory. -/
abbrev hs0_4 (t : Fin cfg0.N) : (ms0_4 t).IsWhole := hstage0_4 ((cfg0.slots t 4).cast nbuf0_4)
/-- The memory window 5 stands in at a point. -/
abbrev ms0_5 (t : Fin cfg0.N) : Memref sig .tc .vmem S16x2048 .bf16 := win0_5.stage (cfg0.slots t 5)
/-- It is a whole memory. -/
abbrev hs0_5 (t : Fin cfg0.N) : (ms0_5 t).IsWhole := hstage0_5 ((cfg0.slots t 5).cast nbuf0_5)
/-- The memory window 6 stands in at a point. -/
abbrev ms0_6 (t : Fin cfg0.N) : Memref sig .tc .vmem S16x1 .f32 := win0_6.stage (cfg0.slots t 6)
/-- It is a whole memory. -/
abbrev hs0_6 (t : Fin cfg0.N) : (ms0_6 t).IsWhole := hstage0_6 ((cfg0.slots t 6).cast nbuf0_6)
/-- The memory window 7 stands in at a point. -/
abbrev ms0_7 (t : Fin cfg0.N) : Memref sig .tc .vmem S1024x1024 .bf16 := win0_7.stage (cfg0.slots t 7)
/-- It is a whole memory. -/
abbrev hs0_7 (t : Fin cfg0.N) : (ms0_7 t).IsWhole := hstage0_7 ((cfg0.slots t 7).cast nbuf0_7)
/-- The memory window 8 stands in at a point. -/
abbrev ms0_8 (t : Fin cfg0.N) : Memref sig .tc .vmem S16x1024 .f32 := win0_8.stage (cfg0.slots t 8)
/-- It is a whole memory. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x2048 .bf16 := Memref.whole cc0_scratch0
/-- The scratch `arg11` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel3Ideal.Gen

end
-- ==== Proof.InLatRunA.lean ====
/- The body's run at a point that opens a block of rows (the latent stream): the block is normalized into the scratch, the gate
   rows are written, and the first column block of the projection. -/
module

public import proofs.«01_k».proof.Proof.InLatRuns

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 6, … 90: 16 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) :
    Σ' (L7 : List (View.Piece (Elt F) S1024x1024 .bf16)), Σ' (L8 : List (View.Piece (Elt F) S16x1024 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__inproj_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__inproj_kernel_eq_skeleton]; unfold cc0__inproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel3Ideal.Gen

end
-- ==== Proof.InLatRunB.lean ====
/- The body's run at a point that reuses the normalized block (the latent stream): one column block of the projection. -/
module

public import proofs.«01_k».proof.Proof.InLatRunA

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 95: 80 of 96), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : ¬cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S1024x2048 .bf16) :
    Σ' (L7 : List (View.Piece (Elt F) S1024x1024 .bf16)), Σ' (L8 : List (View.Piece (Elt F) S16x1024 .f32)), { LS0 : List (View.Piece (Elt F) S1024x2048 .bf16) //
      ∀ (xi8 : Vec F S16x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xs0) -∗ K ⟨⟩))
          ⊢ wp frame (wpE (defs₀ (F := F)) Variants.none c none) E (cc0__inproj_kernel i arg2 harg2 arg3 harg3 arg4 harg4 arg5 harg5 arg6 harg6 arg7 harg7 arg8 harg8 arg9 harg9 arg10 harg10 arg11 harg11) K } := by
  refine ⟨?_, [], [], fun xi8 E K => ?run⟩
  case run =>
    simp only [cc0__inproj_kernel_eq_skeleton]; unfold cc0__inproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact HS0

end Cert.Kernel3Ideal.Gen

end
-- ==== Proof.InLatFrame.lean ====
/- The frame run of the in-projection (the latent stream). The gate window is stored at the first point of a block of rows and
   written back after the last one: between, its buffer keeps what the first point left. -/
module

public import proofs.«01_k».proof.Proof.InLatRunB
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (1 store of `S1024x1024`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (y : S1024x1024.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).1 S1024x1024.size (by sl_kernel_rfl) y

/-- What case A leaves in output 7's staging buffer: its pieces read back over junk. -/
def out0_A_7 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) : Vec F S1024x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6).1)

/-- Case A's pieces for output 8 tile its block (1 store of `S16x1024`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (y : S16x1024.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.1 S16x1024.size (by sl_kernel_rfl) y

/-- What case A leaves in output 8's staging buffer: its pieces read back over junk. -/
def out0_A_8 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) : Vec F S16x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6).2.1)

/-- Case A's pieces for scratch `arg11`, which the kernel carries between points, cover it: 1 piece of `S1024x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (y : S1024x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.2.1 S1024x2048.size (by sl_kernel_rfl) y

/-- What case A leaves in scratch `arg11`: its pieces read back over junk. -/
def sout0_A_0 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6).2.2.1)

/-- Case B's pieces for output 7 tile its block (1 store of `S1024x1024`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : ¬cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S1024x2048 .bf16) (y : S1024x1024.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).1 S1024x1024.size (by sl_kernel_rfl) y

/-- What case B leaves in output 7's staging buffer: its pieces read back over junk. -/
def out0_B_7 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : ¬cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S1024x2048 .bf16) : Vec F S1024x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 xs0).1)

/-- Case B stores nothing into scratch `arg11`: it holds what the point before left. -/
def sout0_B_0 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (hc0 : ¬cond0_0 i)
    (x0 : Vec F S1024x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .bf16 × Vec F S16x1024 .f32 × Vec F S1024x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 6 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)

/-- `outsAt0` at a point of case A: that case's contents. -/
theorem outsAt0_A (c : Dev nD) (t : Fin cfg0.N) (h0 : t.val % 6 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 6 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

/-- At the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = (outsAt0 m c t.val t.isLt).1 := by dsimp only [dats]
/-- What window 8 holds after a point. -/
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d

/-- The gate window's contents do not move at a point the window is idle at. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 96 := lt_of_lt_of_eq t.isLt (show cfg0.N = 96 from N_0)
  by_cases h0 : t.val % 6 = 0
  · exact absurd hi (by rw [liveAt0_8_A t ((hcond0_0 t).mpr h0)]; exact Bool.false_ne_true)
  · rw [after0_8, after0_8, outsAt0_B m c t h0]

/-- At a later point of a block of rows the gate window's buffer holds what the point before left. -/
theorem before0_8_B (c : Dev nD) (t : Fin cfg0.N) (h0 : ¬t.val % 6 = 0) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_B t (fun h => h0 ((hcond0_0 t).mp h))]; exact Bool.false_ne_true)]
  dsimp only [dats]

/-- What the gate window's buffer holds is what the obligation asks of it there, written back at the point or not. -/
theorem leaves0_8_B (c : Dev nD) (t : Fin cfg0.N) (h0 : ¬t.val % 6 = 0) :
    owns (c : Thread nD τ) (ms0_8 t) fullShare ((outsAt0 m c (t.val - 1) (Nat.lt_of_le_of_lt (Nat.sub_le _ _) t.isLt)).2.1) ⊢ (dats m 0 c).leavesExact 8 t := by
  unfold Dat.leavesExact
  rw [idleAt0_8_B t (fun h => h0 ((hcond0_0 t).mp h))]
  cases hf : (cfg0.win 8).flush t
  · show _ ⊢ iprop(∃ d, owns (c : Thread nD τ) (ms0_8 t) fullShare ((dats m 0 c).before 8 t d))
    simp only [before0_8_B m c t h0]
    iintro H; iexists ((outsAt0 m c (t.val - 1) (Nat.lt_of_le_of_lt (Nat.sub_le _ _) t.isLt)).2.1); iexact H
  · show _ ⊢ owns (c : Thread nD τ) (ms0_8 t) fullShare ((dats m 0 c).after 8 t)
    rw [after0_8, outsAt0_B m c t h0]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 6 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8_A t ((hcond0_0 t).mpr h0)], after0_8]
    by_cases hz : t.val = 0
    · rw [PhiS_castSucc m c t, PhiS_zero m c _ _ hz, PhiA0_eq]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · rw [PhiS_castSucc m c t, PhiS_pos m c _ _ hz]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · exfalso; have hN : t.val < 96 := lt_of_lt_of_eq t.isLt (show cfg0.N = 96 from N_0); omega
    · rw [PhiS_castSucc m c t, PhiS_pos m c _ _ hz]
      simp only [before0_8_B m c t h0]
      rw [outsAt0_B m c t h0]
      unfold out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      iapply (leaves0_8_B m c t h0); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Gen

end
-- ==== Proof.InCtxRuns.lean ====
/- The facts about grid points and memrefs the runs of the in-projection's body use (the context stream). -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The host leaves argument 0 alone before the call. -/
theorem V_main_arg0 (c : Dev nD) : V m c main_arg0 = m ((c : Thread nD τ).loc main_arg0) := rfl
/-- The host leaves argument 1 alone before the call. -/
theorem V_main_arg1 (c : Dev nD) : V m c main_arg1 = m ((c : Thread nD τ).loc main_arg1) := rfl
/-- The host leaves argument 2 alone before the call. -/
theorem V_main_arg2 (c : Dev nD) : V m c main_arg2 = m ((c : Thread nD τ).loc main_arg2) := rfl
/-- The host leaves argument 3 alone before the call. -/
theorem V_main_arg3 (c : Dev nD) : V m c main_arg3 = m ((c : Thread nD τ).loc main_arg3) := rfl
/-- The host leaves argument 4 alone before the call. -/
theorem V_main_arg4 (c : Dev nD) : V m c main_arg4 = m ((c : Thread nD τ).loc main_arg4) := rfl
/-- The host leaves argument 5 alone before the call. -/
theorem V_main_arg5 (c : Dev nD) : V m c main_arg5 = m ((c : Thread nD τ).loc main_arg5) := rfl
/-- The host leaves argument 6 alone before the call. -/
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — by arithmetic of the point. -/
theorem hcond0_0 : ∀ t : Fin cfg0.N, cond0_0 (grid0.coords t) ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 live: the case stores into it. -/
theorem liveAt0_8_A : ∀ t : Fin cfg0.N, cond0_0 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → cfg0.idle 8 (grid0.coords t) = true := by decide +kernel
/-- Whether the gate window's buffer holds nothing stored since its last write-back: exactly at the first point of a block of rows. -/
def freshTab0_8 (n : ℕ) : Bool := decide (n % 2 = 0)
/-- The table of the points at which the gates' window begins a new block, step by step. -/
theorem freshTab0_8_step : ∀ t : Fin cfg0.N,
    freshTab0_8 (t.val + 1) = ((cfg0.win 8).flush t || (cfg0.idle 8 (cfg0.grid.coords t) && freshTab0_8 t.val)) := by decide +kernel
/-- The table gives the points at which the gates' window begins a new block. -/
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At a later point of a block of rows the gate window's buffer holds what the first point stored. -/
theorem notFresh0_8_B : ∀ t : Fin cfg0.N, ¬cond0_0 (grid0.coords t) → cfg0.fresh 8 t.val = false := by
  intro t; rw [fresh0_8_eq t]; revert t; decide +kernel

/-! ## The kernel body on any staging memrefs: a subtype the run finds -/

/-- One staging buffer of output window 7, through which its contents are stated (`View.read_writes_of_cover`: the
    choice does not matter). -/
abbrev VO0_7 : View sig .tc .vmem S256x1024 .bf16 := (Memref.whole cc0_stg7_0 : Memref sig .tc .vmem S256x1024 .bf16).view
/-- One staging buffer of output window 8, through which its contents are stated (`View.read_writes_of_cover`: the
    choice does not matter). -/
abbrev VO0_8 : View sig .tc .vmem S16x256 .f32 := (Memref.whole cc0_stg8_0 : Memref sig .tc .vmem S16x256 .f32).view
/-- Each window's current staging memref at point `t`, spelled as the pipeline passes it (`bodyAt0`), and its wholeness. -/
abbrev ms0_0 (t : Fin cfg0.N) : Memref sig .tc .vmem S256x2048 .f32 := win0_0.stage (cfg0.slots t 0)
/-- It is a whole memory. -/
abbrev hs0_0 (t : Fin cfg0.N) : (ms0_0 t).IsWhole := hstage0_0 ((cfg0.slots t 0).cast nbuf0_0)
/-- The memory window 1 stands in at a point. -/
abbrev ms0_1 (t : Fin cfg0.N) : Memref sig .tc .vmem S1x1x2048 .f32 := win0_1.stage (cfg0.slots t 1)
/-- It is a whole memory. -/
abbrev hs0_1 (t : Fin cfg0.N) : (ms0_1 t).IsWhole := hstage0_1 ((cfg0.slots t 1).cast nbuf0_1)
/-- The memory window 2 stands in at a point. -/
abbrev ms0_2 (t : Fin cfg0.N) : Memref sig .tc .vmem S1x1x2048 .f32 := win0_2.stage (cfg0.slots t 2)
/-- It is a whole memory. -/
abbrev hs0_2 (t : Fin cfg0.N) : (ms0_2 t).IsWhole := hstage0_2 ((cfg0.slots t 2).cast nbuf0_2)
/-- The memory window 3 stands in at a point. -/
abbrev ms0_3 (t : Fin cfg0.N) : Memref sig .tc .vmem S1x2048 .f32 := win0_3.stage (cfg0.slots t 3)
/-- It is a whole memory. -/
abbrev hs0_3 (t : Fin cfg0.N) : (ms0_3 t).IsWhole := hstage0_3 ((cfg0.slots t 3).cast nbuf0_3)
/-- The memory window 4 stands in at a point. -/
abbrev ms0_4 (t : Fin cfg0.N) : Memref sig .tc .vmem S2048x1024 .bf16 := win0_4.stage (cfg0.slots t 4)
/-- It is a whole memory. -/
abbrev hs0_4 (t : Fin cfg0.N) : (ms0_4 t).IsWhole := hstage0_4 ((cfg0.slots t 4).cast nbuf0_4)
/-- The memory window 5 stands in at a point. -/
abbrev ms0_5 (t : Fin cfg0.N) : Memref sig .tc .vmem S16x2048 .bf16 := win0_5.stage (cfg0.slots t 5)
/-- It is a whole memory. -/
abbrev hs0_5 (t : Fin cfg0.N) : (ms0_5 t).IsWhole := hstage0_5 ((cfg0.slots t 5).cast nbuf0_5)
/-- The memory window 6 stands in at a point. -/
abbrev ms0_6 (t : Fin cfg0.N) : Memref sig .tc .vmem S16x1 .f32 := win0_6.stage (cfg0.slots t 6)
/-- It is a whole memory. -/
abbrev hs0_6 (t : Fin cfg0.N) : (ms0_6 t).IsWhole := hstage0_6 ((cfg0.slots t 6).cast nbuf0_6)
/-- The memory window 7 stands in at a point. -/
abbrev ms0_7 (t : Fin cfg0.N) : Memref sig .tc .vmem S256x1024 .bf16 := win0_7.stage (cfg0.slots t 7)
/-- It is a whole memory. -/
abbrev hs0_7 (t : Fin cfg0.N) : (ms0_7 t).IsWhole := hstage0_7 ((cfg0.slots t 7).cast nbuf0_7)
/-- The memory window 8 stands in at a point. -/
abbrev ms0_8 (t : Fin cfg0.N) : Memref sig .tc .vmem S16x256 .f32 := win0_8.stage (cfg0.slots t 8)
/-- It is a whole memory. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x2048 .bf16 := Memref.whole cc0_scratch0
/-- The scratch `arg11` the kernel carries between points, as a view: what it holds is stated through it. -/
abbrev VS0_0 : View sig .tc .vmem S256x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel4Ideal.Gen

end
-- ==== Proof.InCtxRunA.lean ====
/- The body's run at a point that opens a block of rows (the context stream): the block is normalized into the scratch, the gate
   rows are written, and the first column block of the projection. -/
module

public import proofs.«01_k».proof.Proof.InCtxRuns

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 2, 4, 6), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) :
    Σ' (L7 : List (View.Piece (Elt F) S256x1024 .bf16)), Σ' (L8 : List (View.Piece (Elt F) S16x256 .f32)), { LS0 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__inproj_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__inproj_kernel_eq_skeleton]; unfold cc0__inproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel4Ideal.Gen

end
-- ==== Proof.InCtxRunB.lean ====
/- The body's run at a point that reuses the normalized block (the context stream): one column block of the projection. -/
module

public import proofs.«01_k».proof.Proof.InCtxRunA

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 3, 5, 7), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : ¬cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S256x2048 .bf16) :
    Σ' (L7 : List (View.Piece (Elt F) S256x1024 .bf16)), Σ' (L8 : List (View.Piece (Elt F) S16x256 .f32)), { LS0 : List (View.Piece (Elt F) S256x2048 .bf16) //
      ∀ (xi8 : Vec F S16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xs0) -∗ K ⟨⟩))
          ⊢ wp frame (wpE (defs₀ (F := F)) Variants.none c none) E (cc0__inproj_kernel i arg2 harg2 arg3 harg3 arg4 harg4 arg5 harg5 arg6 harg6 arg7 harg7 arg8 harg8 arg9 harg9 arg10 harg10 arg11 harg11) K } := by
  refine ⟨?_, [], [], fun xi8 E K => ?run⟩
  case run =>
    simp only [cc0__inproj_kernel_eq_skeleton]; unfold cc0__inproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact HS0

end Cert.Kernel4Ideal.Gen

end
-- ==== Proof.InCtxFrame.lean ====
/- The frame run of the in-projection (the context stream). The gate window is stored at the first point of a block of rows and
   written back after the last one: between, its buffer keeps what the first point left. -/
module

public import proofs.«01_k».proof.Proof.InCtxRunB
public import Idealize.ShloMosaic.Lib.Claim

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (1 store of `S256x1024`, checked by the kernel's evaluation: Lib/Ring.lean `Piece.tiledL`, linear in the pieces, through a loop's `@[irreducible]` trip theorem too), so they cover it. -/
theorem cover0_A_7 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (y : S256x1024.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).1 S256x1024.size (by sl_kernel_rfl) y

/-- What case A leaves in output 7's staging buffer: its pieces read back over junk. -/
def out0_A_7 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) : Vec F S256x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6).1)

/-- Case A's pieces for output 8 tile its block (1 store of `S16x256`, checked by the kernel's evaluation: Lib/Ring.lean `Piece.tiledL`, linear in the pieces, through a loop's `@[irreducible]` trip theorem too), so they cover it. -/
theorem cover0_A_8 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (y : S16x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.1 S16x256.size (by sl_kernel_rfl) y

/-- What case A leaves in output 8's staging buffer: its pieces read back over junk. -/
def out0_A_8 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) : Vec F S16x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6).2.1)

/-- Case A's pieces for scratch `arg11`, which the kernel carries between points, cover it: 1 piece of `S256x2048` tiling it (Lib/Ring.lean `Piece.tiledL`). -/
theorem scover0_A_0 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (y : S256x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.2.1 S256x2048.size (by sl_kernel_rfl) y

/-- What case A leaves in scratch `arg11`: its pieces read back over junk. -/
def sout0_A_0 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) : Vec F S256x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6).2.2.1)

/-- Case B's pieces for output 7 tile its block (1 store of `S256x1024`, checked by the kernel's evaluation: Lib/Ring.lean `Piece.tiledL`, linear in the pieces, through a loop's `@[irreducible]` trip theorem too), so they cover it. -/
theorem cover0_B_7 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : ¬cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S256x2048 .bf16) (y : S256x1024.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).1 S256x1024.size (by sl_kernel_rfl) y

/-- What case B leaves in output 7's staging buffer: its pieces read back over junk. -/
def out0_B_7 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : ¬cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S256x2048 .bf16) : Vec F S256x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 xs0).1)

/-- Case B stores nothing into scratch `arg11`: it holds what the point before left. -/
def sout0_B_0 (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x2048 .bf16) (harg11 : arg11.IsWhole) (hc0 : ¬cond0_0 i)
    (x0 : Vec F S256x2048 .f32) (x1 : Vec F S1x1x2048 .f32) (x2 : Vec F S1x1x2048 .f32) (x3 : Vec F S1x2048 .f32) (x4 : Vec F S2048x1024 .bf16) (x5 : Vec F S16x2048 .bf16) (x6 : Vec F S16x1 .f32) (xs0 : Vec F S256x2048 .bf16) : Vec F S256x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16 × Vec F S16x256 .f32 × Vec F S256x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 2 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)

/-- `outsAt0` at a point of case A: that case's contents. -/
theorem outsAt0_A (c : Dev nD) (t : Fin cfg0.N) (h0 : t.val % 2 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 2 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

/-- At the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = (outsAt0 m c t.val t.isLt).1 := by dsimp only [dats]
/-- What window 8 holds after a point. -/
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d

/-- The gate window's contents do not move at a point the window is idle at. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 8 := lt_of_lt_of_eq t.isLt (show cfg0.N = 8 from N_0)
  by_cases h0 : t.val % 2 = 0
  · exact absurd hi (by rw [liveAt0_8_A t ((hcond0_0 t).mpr h0)]; exact Bool.false_ne_true)
  · rw [after0_8, after0_8, outsAt0_B m c t h0]

/-- At a later point of a block of rows the gate window's buffer holds what the point before left. -/
theorem before0_8_B (c : Dev nD) (t : Fin cfg0.N) (h0 : ¬t.val % 2 = 0) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_B t (fun h => h0 ((hcond0_0 t).mp h))]; exact Bool.false_ne_true)]
  dsimp only [dats]

/-- What the gate window's buffer holds is what the obligation asks of it there, written back at the point or not. -/
theorem leaves0_8_B (c : Dev nD) (t : Fin cfg0.N) (h0 : ¬t.val % 2 = 0) :
    owns (c : Thread nD τ) (ms0_8 t) fullShare ((outsAt0 m c (t.val - 1) (Nat.lt_of_le_of_lt (Nat.sub_le _ _) t.isLt)).2.1) ⊢ (dats m 0 c).leavesExact 8 t := by
  unfold Dat.leavesExact
  rw [idleAt0_8_B t (fun h => h0 ((hcond0_0 t).mp h))]
  cases hf : (cfg0.win 8).flush t
  · show _ ⊢ iprop(∃ d, owns (c : Thread nD τ) (ms0_8 t) fullShare ((dats m 0 c).before 8 t d))
    simp only [before0_8_B m c t h0]
    iintro H; iexists ((outsAt0 m c (t.val - 1) (Nat.lt_of_le_of_lt (Nat.sub_le _ _) t.isLt)).2.1); iexact H
  · show _ ⊢ owns (c : Thread nD τ) (ms0_8 t) fullShare ((dats m 0 c).after 8 t)
    rw [after0_8, outsAt0_B m c t h0]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 2 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8_A t ((hcond0_0 t).mpr h0)], after0_8]
    by_cases hz : t.val = 0
    · rw [PhiS_castSucc m c t, PhiS_zero m c _ _ hz, PhiA0_eq]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · rw [PhiS_castSucc m c t, PhiS_pos m c _ _ hz]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · exfalso; have hN : t.val < 8 := lt_of_lt_of_eq t.isLt (show cfg0.N = 8 from N_0); omega
    · rw [PhiS_castSucc m c t, PhiS_pos m c _ _ hz]
      simp only [before0_8_B m c t h0]
      rw [outsAt0_B m c t h0]
      unfold out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      iapply (leaves0_8_B m c t h0); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel4Ideal.Gen

end
-- ==== Proof.KerFrames.lean ====
/-
  The three kernels whose runs are worked out by hand are worked out once, in their idealized form and at any reading of the
  floats. No operation was rewritten in idealizing them, so the program as printed is the same program; this module says so
  for the body table of each, and takes the frame over.
-/
module

public import proofs.«01_k».proof.Defs
public import proofs.«01_k».proof.Proof.MFrame
public import proofs.«01_k».proof.Proof.InLatFrame
public import proofs.«01_k».proof.Proof.InCtxFrame
public import proofs.«01_k».proof.Proof.Gen.Kernel.Skeleton
public import proofs.«01_k».proof.Proof.Gen.Kernel3.Skeleton
public import proofs.«01_k».proof.Proof.Gen.Kernel4.Skeleton

@[expose] public section

noncomputable section

namespace Cert.Proof

open Idealize.ShloMosaic

/-- The body of the mLSTM's kernel, as printed and idealized, is one and the same. -/
theorem body_same : Cert.Kernel.defs₀ (F := Bits)
    = (Cert.KernelIdeal.defs₀ (F := Bits) : Defs Cert.KernelIdeal.nD Cert.KernelIdeal.τ Cert.KernelIdeal.sig (Elt Bits) Cert.KernelIdeal.Λ₀) := by
  unfold Cert.Kernel.defs₀ Cert.KernelIdeal.defs₀
  refine congrArg Defs.onTc ?_
  funext l x
  match l with
  | 0 => rfl
  | ⟨_ + 1, h⟩ => exact absurd h (Nat.not_lt.2 (Nat.le_add_left _ _))

/-- And so is the table of all its bodies. -/
theorem defs_same : Cert.Kernel.defs (F := Bits) = Cert.KernelIdeal.defs (F := Bits) := by
  unfold Cert.Kernel.defs Cert.KernelIdeal.defs
  exact congrArg (Pipeline.defs Cert.KernelIdeal.pcfgs) body_same

/-- The mLSTM's kernel, bit for bit, ends with its arguments as they were and no semaphore raised. -/
theorem frameKer : Cert.quiescent_Kernel := by
  intro m ρ _
  rw [defs_same]
  exact Cert.KernelIdeal.Body.frame (F := Bits) m ρ

/-- The body of the latent in-projection's kernel, as printed and idealized, is one and the same. -/
theorem body_same3 : Cert.Kernel3.defs₀ (F := Bits)
    = (Cert.Kernel3Ideal.defs₀ (F := Bits) : Defs Cert.Kernel3Ideal.nD Cert.Kernel3Ideal.τ Cert.Kernel3Ideal.sig (Elt Bits) Cert.Kernel3Ideal.Λ₀) := by
  unfold Cert.Kernel3.defs₀ Cert.Kernel3Ideal.defs₀
  refine congrArg Defs.onTc ?_
  funext l x
  match l with
  | 0 => rfl
  | ⟨_ + 1, h⟩ => exact absurd h (Nat.not_lt.2 (Nat.le_add_left _ _))

/-- And so is the table of all its bodies. -/
theorem defs_same3 : Cert.Kernel3.defs (F := Bits) = Cert.Kernel3Ideal.defs (F := Bits) := by
  unfold Cert.Kernel3.defs Cert.Kernel3Ideal.defs
  exact congrArg (Pipeline.defs Cert.Kernel3Ideal.pcfgs) body_same3

/-- The latent in-projection's kernel, bit for bit, ends with its arguments as they were and no semaphore raised. -/
theorem frameKer3 : Cert.quiescent_Kernel3 := by
  intro m ρ _
  rw [defs_same3]
  exact Cert.Kernel3Ideal.Gen.frame (F := Bits) m ρ

/-- The body of the context in-projection's kernel, as printed and idealized, is one and the same. -/
theorem body_same4 : Cert.Kernel4.defs₀ (F := Bits)
    = (Cert.Kernel4Ideal.defs₀ (F := Bits) : Defs Cert.Kernel4Ideal.nD Cert.Kernel4Ideal.τ Cert.Kernel4Ideal.sig (Elt Bits) Cert.Kernel4Ideal.Λ₀) := by
  unfold Cert.Kernel4.defs₀ Cert.Kernel4Ideal.defs₀
  refine congrArg Defs.onTc ?_
  funext l x
  match l with
  | 0 => rfl
  | ⟨_ + 1, h⟩ => exact absurd h (Nat.not_lt.2 (Nat.le_add_left _ _))

/-- And so is the table of all its bodies. -/
theorem defs_same4 : Cert.Kernel4.defs (F := Bits) = Cert.Kernel4Ideal.defs (F := Bits) := by
  unfold Cert.Kernel4.defs Cert.Kernel4Ideal.defs
  exact congrArg (Pipeline.defs Cert.Kernel4Ideal.pcfgs) body_same4

/-- The context in-projection's kernel, bit for bit, ends with its arguments as they were and no semaphore raised. -/
theorem frameKer4 : Cert.quiescent_Kernel4 := by
  intro m ρ _
  rw [defs_same4]
  exact Cert.Kernel4Ideal.Gen.frame (F := Bits) m ρ

end Cert.Proof

end
-- ==== Proof.RefFrames.lean ====
/-
  The references keep their arguments and leave every semaphore at zero: all are host programs without semaphores,
  so what is left to say is what their runs say.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import Idealize.ShloMosaic.Lib.Claim

@[expose] public section

set_option maxRecDepth 16384

noncomputable section

namespace Cert.Proof

open Idealize.ShloMosaic Idealize.SL.Sem

/-- The mLSTM's reference ends with its arguments as they were and no semaphore raised. -/
theorem frameRef1 : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- The expert network's reference ends with its arguments as they were and no semaphore raised. -/
theorem frameRef2 : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run m ρ)

/-- The latent in-projection's reference ends with its arguments as they were and no semaphore raised. -/
theorem frameRef3 : Cert.quiescent_Reference3Ideal := by
  intro m ρ _
  exact (θ_run Cert.Reference3Ideal.defs _ _).mono
    (fun r h => ⟨fun c => (h c).2.2, Idealize.ShloMosaic.sem_eq_zero_of_no_sems (by decide) r.2⟩)
    (Cert.Reference3Ideal.Value.run m ρ)

/-- The context in-projection's reference ends with its arguments as they were and no semaphore raised. -/
theorem frameRef4 : Cert.quiescent_Reference4Ideal := by
  intro m ρ _
  exact (θ_run Cert.Reference4Ideal.defs _ _).mono
    (fun r h => ⟨fun c => (h c).2.2, Idealize.ShloMosaic.sem_eq_zero_of_no_sems (by decide) r.2⟩)
    (Cert.Reference4Ideal.Value.run m ρ)

/-- The out-projection's reference ends with its arguments as they were and no semaphore raised. -/
theorem frameRef5 : Cert.quiescent_Reference5Ideal := by
  intro m ρ _
  exact (θ_run Cert.Reference5Ideal.defs _ _).mono
    (fun r h => ⟨fun c => (h c).2.2.2, Idealize.ShloMosaic.sem_eq_zero_of_no_sems (by decide) r.2⟩)
    (Cert.Reference5Ideal.Value.run m ρ)

/-- The modulation parameters' reference ends with its arguments as they were and no semaphore raised. -/
theorem frameRef6 : Cert.quiescent_Reference6Ideal := by
  intro m ρ _
  exact (θ_run Cert.Reference6Ideal.defs _ _).mono
    (fun r h => ⟨fun c => (h c).2, Idealize.ShloMosaic.sem_eq_zero_of_no_sems (by decide) r.2⟩)
    (Cert.Reference6Ideal.Value.run m ρ)

end Cert.Proof

end
-- ==== Proof.MPure.lean ====
module

public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open scoped BigOperators

/-! One chunk of the mLSTM recurrence over the extended reals, written once: `b` is the running sum of the
log forget gates inside the chunk, `g` the input gates, `q`, `k`, `v` the chunk's rows, `C`, `n`, `m` the state. -/

namespace Cert.MLstm

variable (b g : Fin 128 → EReal) (m : EReal)

/-- The log weight of position `j` in the output at `r`: `⊥` after `r`. -/
def LD (r j : Fin 128) : EReal := if j ≤ r then b r - b j + g j else ⊥
/-- The maximum subtracted from the log weights at `r`. -/
def MR (r : Fin 128) : EReal := max (b r + m) (Finset.fold max ⊥ (fun x => LD b g r x) Finset.univ)
/-- The log weight of position `x` in the state after the chunk. -/
def LA (x : Fin 128) : EReal := b 127 - b x + g x
/-- The state's maximum after the chunk. -/
def MN : EReal := max (b 127 + m) (Finset.fold max ⊥ (fun x => LA b g x) Finset.univ)
/-- One column of the state after the chunk: `c` the column before, `w` the column of values. -/
def CN (k : Fin 128 → Fin 256 → EReal) (w : Fin 128 → EReal) (c : Fin 256 → EReal) (d : Fin 256) : EReal :=
  Ideal.exp (b 127 + m - MN b g m) * c d + ∑ x, Ideal.exp (LA b g x - MN b g m) * k x d * w x
/-- One column of the unnormalised output at `r`. -/
def NU (q k : Fin 128 → Fin 256 → EReal) (w : Fin 128 → EReal) (c : Fin 256 → EReal) (r : Fin 128) : EReal :=
  (∑ x, (∑ y, q r y * k x y) * Ideal.exp (LD b g r x - MR b g m r) * w x)
    + Ideal.exp (b r + m - MR b g m r) * ∑ y, q r y * c y
/-- The output at row `r` of the column with values `w` and state column `c`; `n` is the normaliser's column. -/
def HN (q k : Fin 128 → Fin 256 → EReal) (w : Fin 128 → EReal) (c n : Fin 256 → EReal) (r : Fin 128) : EReal :=
  Ideal.div (NU b g m q k w c r)
    (max (FloatOps.absf (F := Ideal) (φ := .f32) (NU b g m q k (fun _ => 1) n r)) (Ideal.exp (-MR b g m r)))

/-- The single-precision pattern of −∞ is the bottom. -/
theorem negInf : Ideal.ofBits .f32 0xFF800000#32 = ⊥ := by
  simp [Ideal.ofBits, Ideal.ieee]

/-- A selection on equality of two lane numbers. -/
theorem sel_eq (r c : Fin 128) (x y : EReal) :
    Scalar.select (IntOp.cmpi .eq (BitVec.ofNat 32 r.val) (BitVec.ofNat 32 c.val)) x y = if r = c then x else y := by
  have e : IntOp.cmpi .eq (BitVec.ofNat 32 r.val) (BitVec.ofNat 32 c.val) = if r = c then 1#1 else 0#1 := by
    revert r c; decide +kernel
  rw [e]; split <;> rfl

/-- A selection on one lane number being at most another, signed. -/
theorem sel_sle (r c : Fin 128) (x y : EReal) :
    Scalar.select (IntOp.cmpi .sle (BitVec.ofNat 32 r.val) (BitVec.ofNat 32 c.val)) x y = if r ≤ c then x else y := by
  have e : IntOp.cmpi .sle (BitVec.ofNat 32 r.val) (BitVec.ofNat 32 c.val) = if r ≤ c then 1#1 else 0#1 := by
    revert r c; decide +kernel
  rw [e]; split <;> rfl

/-- The same, written as at least. -/
theorem sel_sge (r c : Fin 128) (x y : EReal) :
    Scalar.select (IntOp.cmpi .sge (BitVec.ofNat 32 r.val) (BitVec.ofNat 32 c.val)) x y = if c ≤ r then x else y := by
  have e : IntOp.cmpi .sge (BitVec.ofNat 32 r.val) (BitVec.ofNat 32 c.val) = if c ≤ r then 1#1 else 0#1 := by
    revert r c; decide +kernel
  rw [e]; split <;> rfl

/-- The selection of the printed mask, itself a selection. -/
theorem sel_mask (r c : Fin 128) (x y : EReal) :
    Scalar.select (Scalar.select (IntOp.cmpi .sge (IntOp.addi (BitVec.ofNat 32 r.val) 0#32) (BitVec.ofNat 32 c.val)) 1#1 0#1) x y
      = if c ≤ r then x else y := by
  have e : Scalar.select (IntOp.cmpi .sge (IntOp.addi (BitVec.ofNat 32 r.val) 0#32) (BitVec.ofNat 32 c.val)) 1#1 0#1 = if c ≤ r then 1#1 else 0#1 := by
    revert r c; decide +kernel
  rw [e]; split <;> rfl

/-- The sum along the diagonal is the entry. -/
theorem sum_diag (r : Fin 128) (f : Fin 128 → EReal) : (∑ x, if r = x then f x else 0) = f r := by
  rw [Finset.sum_ite_eq]; simp

/-- A sum over the reversed lanes. -/
theorem sum_rev (f : Fin 128 → EReal) : ∑ x : Fin 128, f x.rev = ∑ x, f x :=
  Equiv.sum_comp Fin.revPerm f

/-- A maximum over the reversed lanes. -/
theorem fold_rev (f : Fin 128 → EReal) : Finset.fold max ⊥ (fun x : Fin 128 => f x.rev) Finset.univ = Finset.fold max ⊥ f Finset.univ := by
  have h : (Finset.univ : Finset (Fin 128)) = Finset.univ.map Fin.revPerm.toEmbedding := by simp
  conv_rhs => rw [h, Finset.fold_map]
  rfl

end Cert.MLstm
end
-- ==== Proof.MKern.lean ====
/-
  The forward step of the kernel, at an index: the gates, the output and the state.
-/
module

public import proofs.«01_k».proof.Proof.MPh3
public import proofs.«01_k».proof.Proof.MPure
public import Idealize.ShloMosaic.Lib.IdealHost

@[expose] public section
set_option maxRecDepth 16384
noncomputable section
open Idealize.ShloMosaic Idealize.ShloMosaic.TcCoe Idealize.SL.Sem
open scoped BigOperators
namespace Cert.KernelIdeal.Gen
open Cert.KernelIdeal Cert.MLstm

/-- A gate row as a function of the lane. -/
abbrev lane (x : Vec Ideal S1x1x1x128 .f32) (j : Fin 128) : EReal := x (ix4 0 0 0 j)
/-- The rows of keys, scaled. -/
abbrev keys (x : Vec Ideal S1x128x256 .bf16) (r : Fin 128) (d : Fin 256) : EReal := x (ix3 0 r d) * Ideal.ofBits .bf16 0x3D80#16
/-- The rows of values or queries. -/
abbrev rows (x : Vec Ideal S1x128x256 .bf16) (r : Fin 128) (d : Fin 256) : EReal := x (ix3 0 r d)
/-- The columns of values, the ones after them. -/
def vcol (x : Vec Ideal S1x128x256 .bf16) (e : Fin 384) (r : Fin 128) : EReal := if h : e.val < 256 then x (ix3 0 r ⟨e.val, h⟩) else 1

/-- Zero minus a number is its negation. -/
theorem zsub (x : EReal) : 0 - x = -x := by rw [sub_eq_add_neg, zero_add]

/-- The forward running sum as a column: a diagonal selection summed over the lanes. -/
theorem pay9_at (gb : Vec Ideal S1x1x1x128 .f32) (r : Fin 128) : k0_pay9 eye gb (ix2 r 0) = lane gb r := by
  pointwise [k0_pay9, k0_pay7, eye, k0_pay33]
  simp only [sel_eq, sum_diag]

/-- The forward input gate as a column. -/
theorem pay10_at (gb : Vec Ideal S1x1x1x128 .f32) (r : Fin 128) : k0_pay10 eye gb (ix2 r 0) = lane gb r := by
  pointwise [k0_pay10, k0_pay8, eye, k0_pay33]
  simp only [sel_eq, sum_diag]

/-- The forward chunk's total is the last lane. -/
theorem pay11_at (gb : Vec Ideal S1x1x1x128 .f32) : k0_pay11 gb (ix2 0 0) = lane gb 127 := by
  pointwise [k0_pay11, k0_pay7]

/-- The forward running sum as a row. -/
theorem pay7_at (gb : Vec Ideal S1x1x1x128 .f32) (j : Fin 128) : k0_pay7 gb (ix2 0 j) = lane gb j := by
  pointwise [k0_pay7]
/-- The forward input gate as a row. -/
theorem pay8_at (gb : Vec Ideal S1x1x1x128 .f32) (j : Fin 128) : k0_pay8 gb (ix2 0 j) = lane gb j := by
  pointwise [k0_pay8]
/-- The forward queries of a chunk. -/
theorem pay6_at (x : Vec Ideal S1x128x256 .bf16) (r : Fin 128) (d : Fin 256) : k0_pay6 x (ix2 r d) = rows x r d := by
  pointwise [k0_pay6]
/-- The forward keys of a chunk, scaled. -/
theorem pay12_at (x : Vec Ideal S1x128x256 .bf16) (r : Fin 128) (d : Fin 256) : k0_pay12 x (ix2 r d) = keys x r d := by
  pointwise [k0_pay12]
/-- The forward values of a chunk with the columns of ones. -/
theorem pay13_at (x : Vec Ideal S1x128x256 .bf16) (r : Fin 128) (e : Fin 384) : k0_pay13 (F := Ideal) ones x (ix2 r e) = vcol x e r := by
  pointwise [k0_pay13, ones, k0_pay219]
  unfold vcol
  simp

/-- The forward maximum after a chunk. -/
theorem stepMF_at (m : FVec Ideal S1x1 .f32) (gb gi : Vec Ideal S1x1x1x128 .f32) :
    stepMF m gb gi (ix2 0 0) = MN (lane gb) (lane gi) (m (ix2 0 0)) := by
  unfold stepMF
  have e : ∀ (a b : FVec Ideal S128x1 .f32) (g : FVec Ideal S1x1 .f32), k0_pay16 m a b g (ix2 0 0)
      = max (g (ix2 0 0) + m (ix2 0 0)) (Finset.fold max (Ideal.ofBits .f32 0xFF800000#32) (fun x => g (ix2 0 0) - a (ix2 x 0) + b (ix2 x 0)) Finset.univ) := by
    intro a b g
    pointwise [k0_pay16, k0_pay15]
  rw [e, negInf]
  simp only [pay9_at, pay10_at, pay11_at]
  rfl

/-- The forward state after a chunk, a column of it. -/
theorem stepSF_at (m : FVec Ideal S1x1 .f32) (S : Vec Ideal S256x384 .f32) (gb gi : Vec Ideal S1x1x1x128 .f32) (kk vv : Vec Ideal S1x128x256 .bf16) (d : Fin 256) (e : Fin 384) :
    stepSF m S gb gi kk vv (ix2 d e) = CN (lane gb) (lane gi) (m (ix2 0 0)) (keys kk) (vcol vv e) (fun d => S (ix2 d e)) d := by
  unfold stepSF
  have e1 : ∀ (g : FVec Ideal S1x1 .f32) (kk : FVec Ideal S128x256 .bf16) (vv : FVec Ideal S128x384 .bf16) (m' : FVec Ideal S1x1 .f32) (z : FVec Ideal S128x1 .f32),
      k0_pay18 m g kk vv S m' z (ix2 d e) = Ideal.exp (g (ix2 0 0) + m (ix2 0 0) - m' (ix2 0 0)) * S (ix2 d e) + ∑ x, kk (ix2 x d) * (vv (ix2 x e) * Ideal.exp (z (ix2 x 0))) := by
    intro g kk vv m' z
    pointwise [k0_pay18]
  have e2 : ∀ (a b : FVec Ideal S128x1 .f32) (g : FVec Ideal S1x1 .f32) (x : Fin 128), k0_pay17 m a b g (ix2 x 0)
      = g (ix2 0 0) - a (ix2 x 0) + b (ix2 x 0) - k0_pay16 m a b g (ix2 0 0) := by
    intro a b g x
    pointwise [k0_pay17, k0_pay15]
  rw [e1]
  simp only [e2]
  change Ideal.exp (_ + _ - stepMF m gb gi (ix2 0 0)) * _ + ∑ x, _ * (_ * Ideal.exp (_ - stepMF m gb gi (ix2 0 0))) = _
  simp only [stepMF_at, pay9_at, pay10_at, pay11_at, pay12_at, pay13_at]
  unfold CN LA
  congr 1
  exact Finset.sum_congr rfl fun x _ => by rw [mul_comm (vcol vv e x), ← mul_assoc, mul_comm (keys kk x d)]

/-- The forward output of a chunk. -/
theorem stepHF_at (m : FVec Ideal S1x1 .f32) (S : Vec Ideal S256x384 .f32) (gb gi : Vec Ideal S1x1x1x128 .f32) (qq kk vv : Vec Ideal S1x128x256 .bf16) (r : Fin 128) (e : Fin 256) :
    stepHF m S gb gi qq kk vv (ix2 r e) = HN (lane gb) (lane gi) (m (ix2 0 0)) (rows qq) (keys kk) (fun r => rows vv r e)
      (fun d => S (ix2 d ⟨e.val, by omega⟩)) (fun d => S (ix2 d 256)) r := by
  unfold stepHF
  have e1 : ∀ (qq : FVec Ideal S128x256 .bf16) (gb gi : FVec Ideal S1x128 .f32) (bc : FVec Ideal S128x1 .f32) (kk : FVec Ideal S128x256 .bf16) (vv : FVec Ideal S128x384 .bf16)
      (LDx : Fin 128 → EReal) (hLD : ∀ x, (if x ≤ r then (bc (ix2 r 0) - gb (ix2 0 x) + gi (ix2 0 x)) else ⊥) = LDx x) (MRx : EReal) (hMR : max (bc (ix2 r 0) + m (ix2 0 0)) (Finset.fold max ⊥ LDx Finset.univ) = MRx)
      (N : Fin 384 → EReal) (hN : ∀ e, N e = (∑ x, (∑ y, qq (ix2 r y) * kk (ix2 x y)) * Ideal.exp (LDx x - MRx) * vv (ix2 x e)) + Ideal.exp (bc (ix2 r 0) + m (ix2 0 0) - MRx) * ∑ y, qq (ix2 r y) * S (ix2 y e)),
      k0_pay14 io0 io1 m qq gb gi bc kk vv S (ix2 r e) = Ideal.div (N ⟨e.val, by omega⟩) (max (FloatOps.absf (F := Ideal) (φ := .f32) (N 256)) (Ideal.exp (-MRx))) := by
    intro qq gb gi bc kk vv LDx hLD MRx hMR N hN
    pointwise [k0_pay14, io0, io1]
    simp only [sel_sle, negInf, hLD, hMR, zsub]
    rw [hN, hN]
  rw [e1 _ _ _ _ _ _ (LD (lane gb) (lane gi) r) (fun x => by rw [pay9_at, pay7_at, pay8_at]; rfl) (MR (lane gb) (lane gi) (m (ix2 0 0)) r) (by rw [pay9_at]; rfl)
    (fun e => NU (lane gb) (lane gi) (m (ix2 0 0)) (rows qq) (keys kk) (vcol vv e) (fun d => S (ix2 d e)) r)
    (fun e => by simp only [pay9_at, pay6_at, pay12_at, pay13_at]; rfl)]
  have h1 : vcol vv ⟨e.val, by omega⟩ = fun r => rows vv r e := funext fun x => by unfold vcol; rw [dif_pos e.isLt]
  have h2 : vcol vv 256 = fun _ => 1 := funext fun x => by unfold vcol; rw [dif_neg (by decide)]
  unfold HN
  rw [h1, h2]

end Cert.KernelIdeal.Gen
end
-- ==== Proof.MKernB.lean ====
/-
  The backward step of the kernel, at an index, and the context chunks as steps.
-/
module

public import proofs.«01_k».proof.Proof.MKern

@[expose] public section
set_option maxRecDepth 16384
noncomputable section
open Idealize.ShloMosaic Idealize.ShloMosaic.TcCoe Idealize.SL.Sem
open scoped BigOperators
namespace Cert.KernelIdeal.Gen
open Cert.KernelIdeal Cert.MLstm

/-- The backward running sum as a column. -/
theorem pay24_at (gb : Vec Ideal S1x1x1x128 .f32) (r : Fin 128) : k0_pay24 eye gb (ix2 r 0) = lane gb r := by
  pointwise [k0_pay24, k0_pay22, eye, k0_pay33]
  simp only [sel_eq, sum_diag]

/-- The backward input gate as a column. -/
theorem pay27_at (gb : Vec Ideal S1x1x1x128 .f32) (r : Fin 128) : k0_pay27 eye (k0_pay25 gb) k0_pay26 (ix2 r 0) = lane gb r := by
  pointwise [k0_pay27, k0_pay25, k0_pay23, k0_pay26, eye, k0_pay33]
  simp only [sel_eq, sum_diag]

/-- The backward chunk's total is the first lane. -/
theorem pay28_at (gb : Vec Ideal S1x1x1x128 .f32) : k0_pay28 (k0_pay22 gb) (ix2 0 0) = lane gb 0 := by
  pointwise [k0_pay28, k0_pay22]

/-- The backward running sum as a row. -/
theorem pay22_at (gb : Vec Ideal S1x1x1x128 .f32) (j : Fin 128) : k0_pay22 gb (ix2 0 j) = lane gb j := by
  pointwise [k0_pay22]
/-- The backward input gate as a row. -/
theorem pay23_at (gb : Vec Ideal S1x1x1x128 .f32) (j : Fin 128) : k0_pay23 gb (ix2 0 j) = lane gb j := by
  pointwise [k0_pay23]
/-- The backward queries of a chunk. -/
theorem pay19_at (x : Vec Ideal S1x128x256 .bf16) (r : Fin 128) (d : Fin 256) : k0_pay19 x (ix2 r d) = rows x r d := by
  pointwise [k0_pay19]
/-- The backward keys of a chunk, scaled. -/
theorem pay29_at (x : Vec Ideal S1x128x256 .bf16) (r : Fin 128) (d : Fin 256) : k0_pay29 (k0_pay20 x) (ix2 r d) = keys x r d := by
  pointwise [k0_pay29, k0_pay20]
/-- The backward values of a chunk with the columns of ones. -/
theorem pay30_at (x : Vec Ideal S1x128x256 .bf16) (r : Fin 128) (e : Fin 384) : k0_pay30 (F := Ideal) ones (k0_pay21 x) (ix2 r e) = vcol x e r := by
  pointwise [k0_pay30, k0_pay21, ones, k0_pay219]
  unfold vcol
  simp

/-- The backward maximum after a chunk: the forward one of the reversed rows. -/
theorem stepMB_at (m : FVec Ideal S1x1 .f32) (gb gi : Vec Ideal S1x1x1x128 .f32) :
    stepMB m gb gi (ix2 0 0) = MN (fun j => lane gb j.rev) (fun j => lane gi j.rev) (m (ix2 0 0)) := by
  unfold stepMB
  have e : ∀ (a b : FVec Ideal S128x1 .f32) (g : FVec Ideal S1x1 .f32), k0_pay3 m a b g (ix2 0 0)
      = max (g (ix2 0 0) + m (ix2 0 0)) (Finset.fold max (Ideal.ofBits .f32 0xFF800000#32) (fun x => g (ix2 0 0) - a (ix2 x 0) + b (ix2 x 0)) Finset.univ) := by
    intro a b g
    pointwise [k0_pay3, k0_pay2]
  rw [e, negInf]
  simp only [pay24_at, pay27_at, pay28_at]
  unfold MN LA
  rw [← fold_rev]
  rfl

/-- The backward state after a chunk, a column of it. -/
theorem stepSB_at (m : FVec Ideal S1x1 .f32) (S : Vec Ideal S256x384 .f32) (gb gi : Vec Ideal S1x1x1x128 .f32) (kk vv : Vec Ideal S1x128x256 .bf16) (d : Fin 256) (e : Fin 384) :
    stepSB m S gb gi kk vv (ix2 d e) = CN (fun j => lane gb j.rev) (fun j => lane gi j.rev) (m (ix2 0 0)) (fun j => keys kk j.rev) (fun j => vcol vv e j.rev) (fun d => S (ix2 d e)) d := by
  unfold stepSB
  have e1 : ∀ (a b : FVec Ideal S128x1 .f32) (g : FVec Ideal S1x1 .f32) (kk : FVec Ideal S128x256 .bf16) (vv : FVec Ideal S128x384 .bf16),
      k0_pay4 m a b g kk vv S (ix2 d e) = Ideal.exp (g (ix2 0 0) + m (ix2 0 0) - k0_pay3 m a b g (ix2 0 0)) * S (ix2 d e)
        + ∑ x, kk (ix2 x d) * (vv (ix2 x e) * Ideal.exp (g (ix2 0 0) - a (ix2 x 0) + b (ix2 x 0) - k0_pay3 m a b g (ix2 0 0))) := by
    intro a b g kk vv
    pointwise [k0_pay4, k0_pay2]
  rw [e1]
  change Ideal.exp (_ + _ - stepMB m gb gi (ix2 0 0)) * _ + ∑ x, _ * (_ * Ideal.exp (_ - stepMB m gb gi (ix2 0 0))) = _
  simp only [stepMB_at, pay24_at, pay27_at, pay28_at, pay29_at, pay30_at]
  unfold CN LA
  rw [← sum_rev]
  change Ideal.exp (lane gb 0 + m (ix2 0 0) - _) * _ + _ = Ideal.exp (lane gb 0 + m (ix2 0 0) - _) * _ + ∑ x : Fin 128, Ideal.exp (lane gb 0 - lane gb x.rev + lane gi x.rev - _) * keys kk x.rev d * vcol vv e x.rev
  congr 1
  exact Finset.sum_congr rfl fun x _ => by rw [mul_comm (vcol vv e x.rev), ← mul_assoc, mul_comm (keys kk x.rev d)]

/-- The backward output of a chunk, row `r` counted from the chunk's end. -/
theorem stepHB_at (m : FVec Ideal S1x1 .f32) (S : Vec Ideal S256x384 .f32) (gb gi : Vec Ideal S1x1x1x128 .f32) (qq kk vv : Vec Ideal S1x128x256 .bf16) (r : Fin 128) (e : Fin 256) :
    stepHB m S gb gi qq kk vv (ix2 r.rev e) = HN (fun j => lane gb j.rev) (fun j => lane gi j.rev) (m (ix2 0 0)) (fun j => rows qq j.rev) (fun j => keys kk j.rev) (fun j => rows vv j.rev e)
      (fun d => S (ix2 d ⟨e.val, by omega⟩)) (fun d => S (ix2 d 256)) r := by
  unfold stepHB
  have e1 : ∀ (qq kk' vv' : FVec Ideal S128x256 .bf16) (gb gi : FVec Ideal S1x128 .f32) (bc : FVec Ideal S128x1 .f32) (kk : FVec Ideal S128x256 .bf16) (hkk : k0_pay29 kk' = kk) (vv : FVec Ideal S128x384 .bf16) (hvv : k0_pay30 ones vv' = vv)
      (LDx : Fin 128 → EReal) (hLD : ∀ x : Fin 128, (if r.rev ≤ x then (bc (ix2 r.rev 0) - gb (ix2 0 x) + gi (ix2 0 x)) else ⊥) = LDx x.rev) (MRx : EReal) (hMR : max (bc (ix2 r.rev 0) + m (ix2 0 0)) (Finset.fold max ⊥ LDx Finset.univ) = MRx)
      (N : Fin 384 → EReal) (hN : ∀ e, N e = (∑ x : Fin 128, (∑ y, qq (ix2 r.rev y) * kk (ix2 x y)) * Ideal.exp (LDx x.rev - MRx) * vv (ix2 x e)) + Ideal.exp (bc (ix2 r.rev 0) + m (ix2 0 0) - MRx) * ∑ y, qq (ix2 r.rev y) * S (ix2 y e)),
      k0_pay31 io0 io1 ones m qq kk' vv' gb gi bc S (ix2 r.rev e) = Ideal.div (N ⟨e.val, by omega⟩) (max (FloatOps.absf (F := Ideal) (φ := .f32) (N 256)) (Ideal.exp (-MRx))) := by
    intro qq kk' vv' gb gi bc kk hkk vv hvv LDx hLD MRx hMR N hN
    unfold k0_pay31
    rw [hkk, hvv]
    generalize ones (F := Ideal) = one'
    pointwise [io0, io1]
    simp only [sel_sge, negInf, hLD, fold_rev, hMR, zsub]
    rw [hN, hN]
  rw [e1 _ _ _ _ _ _ (k0_pay29 (k0_pay20 kk)) rfl (k0_pay30 ones (k0_pay21 vv)) rfl (LD (fun j => lane gb j.rev) (fun j => lane gi j.rev) r)
      (fun x => by
        rw [pay24_at, pay22_at, pay23_at]
        unfold LD
        simp only [Fin.rev_rev]
        exact if_congr (by rw [← Fin.rev_le_rev, Fin.rev_rev]) rfl rfl)
      (MR (fun j => lane gb j.rev) (fun j => lane gi j.rev) (m (ix2 0 0)) r) (by rw [pay24_at]; rfl)
    (fun e => NU (fun j => lane gb j.rev) (fun j => lane gi j.rev) (m (ix2 0 0)) (fun j => rows qq j.rev) (fun j => keys kk j.rev) (fun j => vcol vv e j.rev) (fun d => S (ix2 d e)) r)
    (fun e => by
      simp only [pay24_at, pay19_at, pay29_at, pay30_at]
      unfold NU
      rw [← sum_rev (fun x => (∑ y, rows qq r.rev y * keys kk x y) * _ * vcol vv e x)]
      simp only [Fin.rev_rev])]
  have h1 : (fun j : Fin 128 => vcol vv ⟨e.val, by omega⟩ j.rev) = fun j => rows vv j.rev e := funext fun x => by unfold vcol; rw [dif_pos e.isLt]
  have h2 : (fun j : Fin 128 => vcol vv 256 j.rev) = fun _ => 1 := funext fun x => by unfold vcol; rw [dif_neg (by decide)]
  unfold HN
  rw [h1, h2]

/-- The context steps are the same steps, from the zero state. -/
theorem mF1_eq (B I : Vec Ideal S2x40x1x128 .f32) : mF1 B I = stepMF k0_pay222 (g00 B) (g00 I) := by
  unfold mF1 stepMF
  rfl
/-- The forward state after the first context chunk is one step from zero. -/
theorem sF1_eq (B I : Vec Ideal S2x40x1x128 .f32) (x5 x6 : Vec Ideal S1x256x256 .bf16) : sF1 B I x5 x6 = stepSF k0_pay222 k0_pay220 (g00 B) (g00 I) (ctx0 x5) (ctx0 x6) := by
  unfold sF1 stepSF
  rfl
/-- The forward maximum after the second context chunk. -/
theorem mF2_eq (B I : Vec Ideal S2x40x1x128 .f32) : mF2 B I = stepMF (mF1 B I) (g01 B) (g01 I) := by
  unfold mF2 stepMF
  rfl
/-- The forward state after the second context chunk. -/
theorem sF2_eq (B I : Vec Ideal S2x40x1x128 .f32) (x5 x6 : Vec Ideal S1x256x256 .bf16) : sF2 B I x5 x6 = stepSF (mF1 B I) (sF1 B I x5 x6) (g01 B) (g01 I) (ctx1 x5) (ctx1 x6) := by
  unfold sF2 stepSF
  rfl
/-- The backward maximum after the last context chunk. -/
theorem mB1_eq (B I : Vec Ideal S2x40x1x128 .f32) : mB1 B I = stepMB k0_pay223 (g11 B) (g11 I) := by
  unfold mB1 stepMB
  rfl
/-- The backward state after the last context chunk. -/
theorem sB1_eq (B I : Vec Ideal S2x40x1x128 .f32) (x5 x6 : Vec Ideal S1x256x256 .bf16) : sB1 B I x5 x6 = stepSB k0_pay223 k0_pay221 (g11 B) (g11 I) (ctx1 x5) (ctx1 x6) := by
  unfold sB1 stepSB
  rfl
/-- The backward maximum after the first context chunk. -/
theorem mB2_eq (B I : Vec Ideal S2x40x1x128 .f32) : mB2 B I = stepMB (mB1 B I) (g10 B) (g10 I) := by
  unfold mB2 stepMB
  rfl
/-- The backward state after the first context chunk. -/
theorem sB2_eq (B I : Vec Ideal S2x40x1x128 .f32) (x5 x6 : Vec Ideal S1x256x256 .bf16) : sB2 B I x5 x6 = stepSB (mB1 B I) (sB1 B I x5 x6) (g10 B) (g10 I) (ctx0 x5) (ctx0 x6) := by
  unfold sB2 stepSB
  rfl

end Cert.KernelIdeal.Gen
end
-- ==== Proof.MGate.lean ====
module

public import proofs.«01_k».proof.Proof.MPh1
public import proofs.«01_k».proof.Proof.MPure
public import Idealize.ShloMosaic.Lib.IdealHost

@[expose] public section
set_option maxRecDepth 16384
noncomputable section
open Idealize.ShloMosaic Idealize.ShloMosaic.TcCoe Idealize.SL.Sem
open scoped BigOperators

/-! The gates: the log forget gate in its two writings, and the running sums the kernel makes with three products. -/

namespace Cert.MLstm

/-- The log forget gate of a gate's value. -/
def LS (z : EReal) : EReal := min z 0 - Ideal.log1p (Ideal.exp (0 - FloatOps.absf (F := Ideal) (φ := .f32) z))

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The logarithm of one plus a non-negative number is not the bottom. -/
theorem log1p_ne_bot (x : EReal) (hx : 0 ≤ x) : Ideal.log1p x ≠ ⊥ := by
  unfold Ideal.log1p
  induction x using EReal.rec with
  | bot => simp at hx
  | top =>
    rw [EReal.add_top_of_ne_bot (by decide)]
    exact (by simp : (⊤ : EReal) ≠ ⊥)
  | coe r =>
    have hr : 0 ≤ r := EReal.coe_nonneg.mp hx
    have e : (1 : EReal) + (r : EReal) = ((1 + r : ℝ) : EReal) := by norm_cast
    rw [e]
    show (if 1 + r ≤ 0 then ⊥ else (Real.log (1 + r) : EReal)) ≠ ⊥
    rw [if_neg (by linarith)]
    exact EReal.coe_ne_bot _

/-- A log forget gate is never the top. -/
theorem LS_ne_top (z : EReal) : LS z ≠ ⊤ := by
  unfold LS
  rw [sub_eq_add_neg]
  refine EReal.add_ne_top ?_ ?_
  · exact ((min_le_right z 0).trans_lt (by simp)).ne
  · intro h
    exact log1p_ne_bot _ (exp_nonneg _) (EReal.neg_eq_top_iff.mp h)

/-- The log forget gate written as minus the softplus of the negated gate. -/
theorem LS_softplus (z : EReal) : -(max (-z) 0 + Ideal.log1p (Ideal.exp (-FloatOps.absf (F := Ideal) (φ := .f32) (-z - 0)))) = LS z := by
  have e : FloatOps.absf (F := Ideal) (φ := .f32) (-z - 0) = FloatOps.absf (F := Ideal) (φ := .f32) z := by
    show max (-z - 0) (-(-z - 0)) = max z (-z)
    rw [sub_zero, neg_neg, max_comm]
  rw [e, EReal.neg_add (Or.inl ((show (⊥ : EReal) < 0 by simp).trans_le (le_max_right _ _)).ne') (Or.inr (log1p_ne_bot _ (exp_nonneg _)))]
  unfold LS
  have e2 : -max (-z) 0 = min z 0 := by
    rcases le_total z 0 with h | h
    · rw [min_eq_left h, max_eq_left (EReal.le_neg_of_le_neg (by simpa using h)), neg_neg]
    · rw [min_eq_right h, max_eq_right (EReal.neg_le_of_neg_le (by simpa using h)), neg_zero]
  rw [e2, sub_eq_add_neg (0 : EReal), zero_add]

/-- A sum that holds the bottom is the bottom. -/
theorem sum_bot {n : ℕ} (f : Fin n → EReal) (i : Fin n) (h : f i = ⊥) : ∑ x, f x = ⊥ := by
  rw [← Finset.add_sum_erase _ _ (Finset.mem_univ i), h, EReal.bot_add]

/-- Split in three parts over the reals, the selected sum is the sum of the first. -/
theorem sum_split (p : Fin 128 → Prop) [DecidablePred p] (x : Fin 128 → EReal) (hx : ∀ j, x j ≠ ⊤) :
    (∑ j, if p j then x j else 0) + (∑ j, if p j then x j - x j else 0) + (∑ j, if p j then x j - x j - (x j - x j) else 0)
      = ∑ j, if p j then x j else 0 := by
  by_cases h : ∃ j, p j ∧ x j = ⊥
  · obtain ⟨j, hj, hb⟩ := h
    rw [sum_bot (fun j => if p j then x j else 0) j (by rw [if_pos hj, hb]), EReal.bot_add, EReal.bot_add]
  · have e : ∀ j, p j → x j - x j = 0 := fun j hj => EReal.sub_self (hx j) (fun hb => h ⟨j, hj, hb⟩)
    have e1 : (∑ j, if p j then x j - x j else 0) = 0 := Finset.sum_eq_zero fun j _ => by
      split
      · next hj => exact e j hj
      · rfl
    have e2 : (∑ j, if p j then x j - x j - (x j - x j) else 0) = 0 := Finset.sum_eq_zero fun j _ => by
      split
      · next hj => rw [e j hj, sub_zero]
      · rfl
    rw [e1, e2, add_zero, add_zero]

end Cert.MLstm

namespace Cert.KernelIdeal.Gen
open Cert.KernelIdeal Cert.MLstm

/-- The forward running sums of the log forget gates. -/
theorem pay35_at (x : Vec Ideal S1x4x1x40x128 .f32) (r : Fin 40) (l : Fin 128) :
    k0_pay35 x (ix2 r l) = ∑ j : Fin 128, if j ≤ l then LS (x (ix5 0 1 0 r j)) else 0 := by
  pointwise [k0_pay35, k0_pay34]
  simp only [sel_sle]
  exact sum_split (fun j => j ≤ l) (fun j => LS (x (ix5 0 1 0 r j))) fun j => LS_ne_top _

/-- The backward log forget gates. -/
theorem pay36_at (x : Vec Ideal S1x4x1x40x128 .f32) (r : Fin 40) (l : Fin 128) : k0_pay36 x (ix2 r l) = LS (x (ix5 0 3 0 r l)) := by
  pointwise [k0_pay36, k0_pay34]
  rfl

/-- The backward running sums of the log forget gates. -/
theorem pay38_at (x : Vec Ideal S1x4x1x40x128 .f32) (r : Fin 40) (l : Fin 128) :
    k0_pay38 (k0_pay36 x) k0_pay37 (Scalar.ofBits .f32 0x3F800000#32) (ix2 r l) = ∑ j : Fin 128, if l ≤ j then LS (x (ix5 0 3 0 r j)) else 0 := by
  pointwise [k0_pay38, k0_pay37]
  simp only [sel_sge, pay36_at]
  exact sum_split (fun j => l ≤ j) (fun j => LS (x (ix5 0 3 0 r j))) fun j => LS_ne_top _

/-- The gates, read from their block. -/
theorem pay34_at (x : Vec Ideal S1x4x1x40x128 .f32) (a : Fin 4) (r : Fin 40) (l : Fin 128) : k0_pay34 x (ix3 a r l) = x (ix5 0 a 0 r l) := by
  pointwise [k0_pay34]

end Cert.KernelIdeal.Gen
end
-- ==== Proof.MSeq.lean ====
module

public import proofs.«01_k».proof.Proof.MGate

@[expose] public section
set_option maxRecDepth 16384
noncomputable section
open Idealize.ShloMosaic Idealize.ShloMosaic.TcCoe Idealize.SL.Sem
open scoped BigOperators

/-! The sequence the recurrence runs over, and the recurrence over its chunks, of the argument arrays: gates of the
context `a0` and of the latents `a1`, projections of the latents `a2` and of the context `a3`. -/

namespace Cert.MLstm

/-- A matrix read at two numbers, zero outside. -/
def rd {n k : ℕ} (a : (⟨2, ![n, k]⟩ : Shape).Idx → EReal) (i j : ℕ) : EReal :=
  if h : i < n ∧ j < k then a (ix2 (⟨i, h.1⟩ : Fin n) (⟨j, h.2⟩ : Fin k)) else 0

/-- An entry of a matrix read by numbers. -/
theorem rd_at {n k : ℕ} (a : (⟨2, ![n, k]⟩ : Shape).Idx → EReal) (i : Fin n) (j : Fin k) (i' j' : ℕ) (hi : i.val = i') (hj : j.val = j') : a (ix2 i j) = rd a i' j' := by
  subst hi; subst hj
  unfold rd
  rw [dif_pos ⟨i.isLt, j.isLt⟩]

/-- The place in the sequence (256 of the context, then 4096 latents) that step `p` of a direction reads: the backward
direction reverses the context and the latents. -/
def pos (dir p : ℕ) : ℕ := if dir = 0 then p else if p < 256 then 255 - p else 4607 - p

/-- A matrix over the extended reals. -/
abbrev MatF (n k : ℕ) : Type := (⟨2, ![n, k]⟩ : Shape).Idx → EReal

variable (a0 : MatF 16 1024) (a1 : MatF 16 16384) (a2 : MatF 16384 6144) (a3 : MatF 1024 2048)

/-- The gates, queries, keys and values of batch element `b` and head `h` at place `p` of the sequence. -/
def seqG (dir kind b h p : ℕ) : EReal := if p < 256 then rd a0 (4 * h + 2 * dir + kind) (256 * b + p) else rd a1 (4 * h + 2 * dir + kind) (4096 * b + (p - 256))
/-- The queries along context and latents; zero at the context. -/
def seqQ (b h p d : ℕ) : EReal := if p < 256 then 0 else rd a2 (4096 * b + (p - 256)) (256 * h + d)
/-- The scaled keys along context and latents. -/
def seqK (b h p d : ℕ) : EReal := (if p < 256 then rd a3 (256 * b + p) (256 * h + d) else rd a2 (4096 * b + (p - 256)) (1024 + 256 * h + d)) * ((1 / 16 : ℝ) : EReal)
/-- The values along context and latents. -/
def seqV (b h p e : ℕ) : EReal := if p < 256 then rd a3 (256 * b + p) (1024 + 256 * h + e) else rd a2 (4096 * b + (p - 256)) (2048 + 256 * h + e)

variable (dir b h : ℕ)

/-- Chunk `t`: the running sums of the log forget gates, the input gates, queries, keys, values. -/
def chB (t : ℕ) (r : Fin 128) : EReal := ∑ x : Fin 128, if x ≤ r then LS (seqG a0 a1 dir 1 b h (pos dir (128 * t + x.val))) else 0
/-- A chunk's input gates, in the direction's order. -/
def chG (t : ℕ) (r : Fin 128) : EReal := seqG a0 a1 dir 0 b h (pos dir (128 * t + r.val))
/-- A chunk's queries, in the direction's order. -/
def chQ (t : ℕ) (r : Fin 128) (d : Fin 256) : EReal := seqQ a2 b h (pos dir (128 * t + r.val)) d.val
/-- A chunk's keys, in the direction's order. -/
def chK (t : ℕ) (r : Fin 128) (d : Fin 256) : EReal := seqK a2 a3 b h (pos dir (128 * t + r.val)) d.val
/-- A column of a chunk's values, in the direction's order. -/
def chV (t : ℕ) (e : Fin 256) (r : Fin 128) : EReal := seqV a2 a3 b h (pos dir (128 * t + r.val)) e.val

/-- The state before chunk `t`: the maximum, the columns, the normaliser. -/
def rM : ℕ → EReal
  | 0 => 0
  | t + 1 => MN (chB a0 a1 dir b h t) (chG a0 a1 dir b h t) (rM t)
/-- A column of the state before chunk `t`. -/
def rC (e : Fin 256) : ℕ → Fin 256 → EReal
  | 0 => fun _ => 0
  | t + 1 => CN (chB a0 a1 dir b h t) (chG a0 a1 dir b h t) (rM a0 a1 dir b h t) (chK a2 a3 dir b h t) (chV a2 a3 dir b h t e) (rC e t)
/-- The normaliser before chunk `t`. -/
def rN : ℕ → Fin 256 → EReal
  | 0 => fun _ => 0
  | t + 1 => CN (chB a0 a1 dir b h t) (chG a0 a1 dir b h t) (rM a0 a1 dir b h t) (chK a2 a3 dir b h t) (fun _ => 1) (rN t)
/-- The output of chunk `t`. -/
def rH (t : ℕ) (r : Fin 128) (e : Fin 256) : EReal :=
  HN (chB a0 a1 dir b h t) (chG a0 a1 dir b h t) (rM a0 a1 dir b h t) (chQ a2 dir b h t) (chK a2 a3 dir b h t) (chV a2 a3 dir b h t e)
    (rC a0 a1 a2 a3 dir b h e t) (rN a0 a1 a2 a3 dir b h t) r

end Cert.MLstm
end
-- ==== Proof.MIndK.lean ====
module

public import proofs.«01_k».proof.Proof.MKernB
public import proofs.«01_k».proof.Proof.MPh4
public import proofs.«01_k».proof.Proof.MSeq

@[expose] public section
set_option maxRecDepth 16384
noncomputable section
open Idealize.ShloMosaic Idealize.ShloMosaic.TcCoe Idealize.SL.Sem
open scoped BigOperators

/-! The kernel's loop at a grid point whose blocks hold batch element `b` and head `h`: the state it carries and the
outputs it stores are the recurrence's, two chunks of the context first. -/

namespace Cert.KernelIdeal.Gen
open Cert.MLstm

variable (a0 : MatF 16 1024) (a1 : MatF 16 16384) (a2 : MatF 16384 6144) (a3 : MatF 1024 2048) (b h : ℕ)

/-- What the blocks hold. -/
structure Blk (x0 : Vec Ideal S1x4x1x40x128 .f32) (x1 x2 x3 : Vec Ideal S1x4096x256 .bf16) (x5 x6 : Vec Ideal S1x256x256 .bf16) : Prop where
  e0 : ∀ (a : Fin 4) (r : Fin 40) (l : Fin 128), r.val < 34 → x0 (ix5 0 a 0 r l) = seqG a0 a1 (a.val / 2) (a.val % 2) b h (128 * r.val + l.val)
  e1 : ∀ (s : Fin 4096) (d : Fin 256), x1 (ix3 0 s d) = rd a2 (4096 * b + s.val) (256 * h + d.val)
  e2 : ∀ (s : Fin 4096) (d : Fin 256), x2 (ix3 0 s d) = rd a2 (4096 * b + s.val) (1024 + 256 * h + d.val)
  e3 : ∀ (s : Fin 4096) (d : Fin 256), x3 (ix3 0 s d) = rd a2 (4096 * b + s.val) (2048 + 256 * h + d.val)
  e5 : ∀ (s : Fin 256) (d : Fin 256), x5 (ix3 0 s d) = rd a3 (256 * b + s.val) (256 * h + d.val)
  e6 : ∀ (s : Fin 256) (d : Fin 256), x6 (ix3 0 s d) = rd a3 (256 * b + s.val) (1024 + 256 * h + d.val)

/-- The forward direction runs over the places in order. -/
theorem pos0 (p : ℕ) : pos 0 p = p := if_pos rfl
/-- The backward direction's place in a context chunk, counted from the chunk's end. -/
theorem pos1c (t : ℕ) (ht : t < 2) (x : Fin 128) : pos 1 (128 * t + x.val) = 128 * (1 - t) + x.rev.val := by
  unfold pos
  rw [if_neg (by omega), if_pos (by omega), Fin.val_rev]; omega
/-- The backward direction's place in a latent chunk, counted from the chunk's end. -/
theorem pos1l (k : ℕ) (hk : k < 32) (x : Fin 128) : pos 1 (128 * (k + 2) + x.val) = 128 * (33 - k) + x.rev.val := by
  unfold pos
  rw [if_neg (by omega), if_neg (by omega), Fin.val_rev]; omega

variable {a0 a1 a2 a3 b h}
variable {x0 : Vec Ideal S1x4x1x40x128 .f32} {x1 x2 x3 : Vec Ideal S1x4096x256 .bf16} {x5 x6 : Vec Ideal S1x256x256 .bf16}

section
variable (K : Blk a0 a1 a2 a3 b h x0 x1 x2 x3 x5 x6)
include K

/-- The forward gates of a chunk, and their running sums. -/
theorem laneB0 (off : Fin 4 → ℕ) (R : ℕ) (hoff : off = ![0, R, 0, 0]) (hR : R < 34) (inb) :
    lane (View.ld (gateB x0) (Rect.unit (s := S2x40x1x128) off S1x1x1x128.size inb)) = chB a0 a1 0 b h R := by
  subst hoff
  funext l
  refine (gateB_0 x0 _ R (by omega) l rfl (Nat.add_zero _) (by show 0 + 1 * l.val = l.val; omega)).trans ((pay35_at x0 _ l).trans ?_)
  refine Finset.sum_congr rfl fun x _ => ?_
  rw [K.e0 1 ⟨R, by omega⟩ x hR, pos0]
  rfl
/-- The forward input gates' row of a chunk, as loaded. -/
theorem laneI0 (off : Fin 4 → ℕ) (R : ℕ) (hoff : off = ![0, R, 0, 0]) (hR : R < 34) (inb) :
    lane (View.ld (gateI x0) (Rect.unit (s := S2x40x1x128) off S1x1x1x128.size inb)) = chG a0 a1 0 b h R := by
  subst hoff
  funext l
  refine (gateI_0 x0 _ R (by omega) l rfl (Nat.add_zero _) (by show 0 + 1 * l.val = l.val; omega)).trans ((pay34_at x0 0 _ l).trans ?_)
  rw [K.e0 0 ⟨R, by omega⟩ l hR]
  unfold chG
  rw [pos0]
  rfl
/-- The backward gates of a chunk, read from its last row. -/
theorem laneB1 (off : Fin 4 → ℕ) (R t : ℕ) (hoff : off = ![1, R, 0, 0]) (hR : R < 34) (hp : ∀ x : Fin 128, pos 1 (128 * t + x.val) = 128 * R + x.rev.val) (inb) :
    (fun j : Fin 128 => lane (View.ld (gateB x0) (Rect.unit (s := S2x40x1x128) off S1x1x1x128.size inb)) j.rev) = chB a0 a1 1 b h t := by
  subst hoff
  funext l
  refine (gateB_1 x0 _ R (by omega) l.rev rfl (Nat.add_zero _) (by show 0 + 1 * l.rev.val = l.rev.val; omega)).trans ((pay38_at x0 _ l.rev).trans ?_)
  refine (sum_rev fun x => if l.rev ≤ x then LS (x0 (ix5 0 3 0 ⟨R, by omega⟩ x)) else 0).symm.trans ?_
  refine Finset.sum_congr rfl fun x _ => ?_
  simp only [Fin.rev_le_rev]
  rw [K.e0 3 ⟨R, by omega⟩ x.rev hR, hp]
  rfl
/-- The backward input gates' row of a chunk, as loaded and read from its end. -/
theorem laneI1 (off : Fin 4 → ℕ) (R t : ℕ) (hoff : off = ![1, R, 0, 0]) (hR : R < 34) (hp : ∀ x : Fin 128, pos 1 (128 * t + x.val) = 128 * R + x.rev.val) (inb) :
    (fun j : Fin 128 => lane (View.ld (gateI x0) (Rect.unit (s := S2x40x1x128) off S1x1x1x128.size inb)) j.rev) = chG a0 a1 1 b h t := by
  subst hoff
  funext l
  refine (gateI_1 x0 _ R (by omega) l.rev rfl (Nat.add_zero _) (by show 0 + 1 * l.rev.val = l.rev.val; omega)).trans ((pay34_at x0 2 _ l.rev).trans ?_)
  rw [K.e0 2 ⟨R, by omega⟩ l.rev hR]
  unfold chG
  rw [hp]
  rfl
end

/-- A chunk of the latents, and of the context. -/
theorem ldL (X : Vec Ideal S1x4096x256 .bf16) (off : Fin 3 → ℕ) (o : ℕ) (hoff : off = ![0, o, 0]) (ho : o + 128 ≤ 4096) (inb) (r : Fin 128) (d : Fin 256) :
    rows (View.ld X (Rect.unit (s := S1x4096x256) off S1x128x256.size inb)) r d = X (ix3 0 ⟨o + r.val, by omega⟩ d) := by
  subst hoff
  refine congrArg X (funext fun a => Fin.ext ?_)
  match a with
  | ⟨0, _⟩ => rfl
  | ⟨1, _⟩ => show o + 1 * r.val = o + r.val; omega
  | ⟨2, _⟩ => show 0 + 1 * d.val = d.val; omega
/-- A row of a chunk loaded from the context's block. -/
theorem ldC (X : Vec Ideal S1x256x256 .bf16) (off : Fin 3 → ℕ) (o : ℕ) (hoff : off = ![0, o, 0]) (ho : o + 128 ≤ 256) (inb) (r : Fin 128) (d : Fin 256) :
    rows (View.ld X (Rect.unit (s := S1x256x256) off S1x128x256.size inb)) r d = X (ix3 0 ⟨o + r.val, by omega⟩ d) := by
  subst hoff
  refine congrArg X (funext fun a => Fin.ext ?_)
  match a with
  | ⟨0, _⟩ => rfl
  | ⟨1, _⟩ => show o + 1 * r.val = o + r.val; omega
  | ⟨2, _⟩ => show 0 + 1 * d.val = d.val; omega

/-- The state is the recurrence's before chunk `t`. -/
structure Is (a0 : MatF 16 1024) (a1 : MatF 16 16384) (a2 : MatF 16384 6144) (a3 : MatF 1024 2048) (b h dir t : ℕ) (m : FVec Ideal S1x1 .f32) (S : Vec Ideal S256x384 .f32) : Prop where
  mx : m (ix2 0 0) = rM a0 a1 dir b h t
  col : ∀ e : Fin 256, (fun d : Fin 256 => S (ix2 d (⟨e.val, by omega⟩ : Fin 384))) = rC a0 a1 a2 a3 dir b h e t
  nrm : ∀ e : Fin 384, 256 ≤ e.val → (fun d : Fin 256 => S (ix2 d e)) = rN a0 a1 a2 a3 dir b h t

/-- A column of the augmented values below 256 is a column of the values. -/
theorem vcol_lt (vv : Vec Ideal S1x128x256 .bf16) (e : Fin 256) : vcol vv ⟨e.val, by omega⟩ = fun r => rows vv r e := by
  funext r
  unfold vcol
  exact dif_pos e.isLt
/-- The further columns of the augmented values are ones. -/
theorem vcol_ge (vv : Vec Ideal S1x128x256 .bf16) (e : Fin 384) (he : 256 ≤ e.val) : vcol vv e = fun _ => 1 := by
  funext r
  unfold vcol
  exact dif_neg (by omega)

variable {t : ℕ} {m : FVec Ideal S1x1 .f32} {S : Vec Ideal S256x384 .f32} {gb gi : Vec Ideal S1x1x1x128 .f32} {qq kk vv : Vec Ideal S1x128x256 .bf16}

/-- One forward chunk on. -/
theorem Is.nextF (I : Is a0 a1 a2 a3 b h 0 t m S) (hb : lane gb = chB a0 a1 0 b h t) (hg : lane gi = chG a0 a1 0 b h t)
    (hk : keys kk = chK a2 a3 0 b h t) (hv : ∀ e, (fun r => rows vv r e) = chV a2 a3 0 b h t e) :
    Is a0 a1 a2 a3 b h 0 (t + 1) (stepMF m gb gi) (stepSF m S gb gi kk vv) where
  mx := by
    rw [stepMF_at, hb, hg, I.mx]
    rfl
  col e := by
    funext d
    rw [stepSF_at, hb, hg, I.mx, hk, vcol_lt, hv, I.col]
    rfl
  nrm e he := by
    funext d
    rw [stepSF_at, hb, hg, I.mx, hk, vcol_ge _ _ he, I.nrm e he]
    rfl

/-- The forward outputs of a chunk. -/
theorem Is.outF (I : Is a0 a1 a2 a3 b h 0 t m S) (hb : lane gb = chB a0 a1 0 b h t) (hg : lane gi = chG a0 a1 0 b h t)
    (hq : rows qq = chQ a2 0 b h t) (hk : keys kk = chK a2 a3 0 b h t) (hv : ∀ e, (fun r => rows vv r e) = chV a2 a3 0 b h t e) (r : Fin 128) (e : Fin 256) :
    stepHF m S gb gi qq kk vv (ix2 r e) = rH a0 a1 a2 a3 0 b h t r e := by
  rw [stepHF_at, hb, hg, I.mx, hk, hq, hv, I.col, I.nrm 256 (by decide)]
  rfl

/-- One backward chunk on. -/
theorem Is.nextB (I : Is a0 a1 a2 a3 b h 1 t m S) (hb : (fun j : Fin 128 => lane gb j.rev) = chB a0 a1 1 b h t) (hg : (fun j : Fin 128 => lane gi j.rev) = chG a0 a1 1 b h t)
    (hk : (fun j : Fin 128 => keys kk j.rev) = chK a2 a3 1 b h t) (hv : ∀ e, (fun j : Fin 128 => rows vv j.rev e) = chV a2 a3 1 b h t e) :
    Is a0 a1 a2 a3 b h 1 (t + 1) (stepMB m gb gi) (stepSB m S gb gi kk vv) where
  mx := by
    rw [stepMB_at, hb, hg, I.mx]
    rfl
  col e := by
    funext d
    rw [stepSB_at, hb, hg, I.mx, hk, vcol_lt, hv, I.col]
    rfl
  nrm e he := by
    funext d
    rw [stepSB_at, hb, hg, I.mx, hk, vcol_ge _ _ he, I.nrm e he]
    rfl

/-- The backward outputs of a chunk. -/
theorem Is.outB (I : Is a0 a1 a2 a3 b h 1 t m S) (hb : (fun j : Fin 128 => lane gb j.rev) = chB a0 a1 1 b h t) (hg : (fun j : Fin 128 => lane gi j.rev) = chG a0 a1 1 b h t)
    (hq : (fun j : Fin 128 => rows qq j.rev) = chQ a2 1 b h t) (hk : (fun j : Fin 128 => keys kk j.rev) = chK a2 a3 1 b h t) (hv : ∀ e, (fun j : Fin 128 => rows vv j.rev e) = chV a2 a3 1 b h t e)
    (r : Fin 128) (e : Fin 256) :
    stepHB m S gb gi qq kk vv (ix2 r.rev e) = rH a0 a1 a2 a3 1 b h t r e := by
  rw [stepHB_at, hb, hg, I.mx, hk, hq, hv, I.col, I.nrm 256 (by decide)]
  rfl

section
variable (K : Blk a0 a1 a2 a3 b h x0 x1 x2 x3 x5 x6)
include K

/-- The chunks' keys, values and queries: forward at the latents. -/
theorem kF (off : Fin 3 → ℕ) (k : ℕ) (hoff : off = ![0, 128 * k, 0]) (hk : k < 32) (inb) :
    keys (View.ld x2 (Rect.unit (s := S1x4096x256) off S1x128x256.size inb)) = chK a2 a3 0 b h (k + 2) := by
  funext r d
  refine (congrArg₂ (· * ·) ((ldL x2 off _ hoff (by omega) inb r d).trans (K.e2 _ d)) Ideal.ofBits_sixteenth_bf16).trans ?_
  unfold chK seqK
  rw [pos0, if_neg (by omega)]
  congr 2
  show 4096 * b + (128 * k + r.val) = 4096 * b + (128 * (k + 2) + r.val - 256); omega
/-- The forward chunk's values, as loaded. -/
theorem vF (off : Fin 3 → ℕ) (k : ℕ) (hoff : off = ![0, 128 * k, 0]) (hk : k < 32) (inb) (e : Fin 256) :
    (fun r => rows (View.ld x3 (Rect.unit (s := S1x4096x256) off S1x128x256.size inb)) r e) = chV a2 a3 0 b h (k + 2) e := by
  funext r
  refine ((ldL x3 off _ hoff (by omega) inb r e).trans (K.e3 _ e)).trans ?_
  unfold chV seqV
  rw [pos0, if_neg (by omega)]
  congr 1
  show 4096 * b + (128 * k + r.val) = 4096 * b + (128 * (k + 2) + r.val - 256); omega
/-- The forward chunk's queries, as loaded. -/
theorem qF' (off : Fin 3 → ℕ) (k : ℕ) (hoff : off = ![0, 128 * k, 0]) (hk : k < 32) (inb) :
    rows (View.ld x1 (Rect.unit (s := S1x4096x256) off S1x128x256.size inb)) = chQ a2 0 b h (k + 2) := by
  funext r d
  refine ((ldL x1 off _ hoff (by omega) inb r d).trans (K.e1 _ d)).trans ?_
  unfold chQ seqQ
  rw [pos0, if_neg (by omega)]
  congr 1
  show 4096 * b + (128 * k + r.val) = 4096 * b + (128 * (k + 2) + r.val - 256); omega
/-- Backward at the latents. -/
theorem kB (off : Fin 3 → ℕ) (k : ℕ) (hoff : off = ![0, 128 * (31 - k), 0]) (hk : k < 32) (inb) :
    (fun j : Fin 128 => keys (View.ld x2 (Rect.unit (s := S1x4096x256) off S1x128x256.size inb)) j.rev) = chK a2 a3 1 b h (k + 2) := by
  funext r d
  refine (congrArg₂ (· * ·) ((ldL x2 off _ hoff (by omega) inb r.rev d).trans (K.e2 _ d)) Ideal.ofBits_sixteenth_bf16).trans ?_
  unfold chK seqK
  rw [pos1l k hk, if_neg (by omega)]
  congr 2
  show 4096 * b + (128 * (31 - k) + r.rev.val) = 4096 * b + (128 * (33 - k) + r.rev.val - 256); omega
/-- The backward chunk's values, as loaded and read from the end. -/
theorem vB (off : Fin 3 → ℕ) (k : ℕ) (hoff : off = ![0, 128 * (31 - k), 0]) (hk : k < 32) (inb) (e : Fin 256) :
    (fun j : Fin 128 => rows (View.ld x3 (Rect.unit (s := S1x4096x256) off S1x128x256.size inb)) j.rev e) = chV a2 a3 1 b h (k + 2) e := by
  funext r
  refine ((ldL x3 off _ hoff (by omega) inb r.rev e).trans (K.e3 _ e)).trans ?_
  unfold chV seqV
  rw [pos1l k hk, if_neg (by omega)]
  congr 1
  show 4096 * b + (128 * (31 - k) + r.rev.val) = 4096 * b + (128 * (33 - k) + r.rev.val - 256); omega
/-- The backward chunk's queries, as loaded and read from the end. -/
theorem qB' (off : Fin 3 → ℕ) (k : ℕ) (hoff : off = ![0, 128 * (31 - k), 0]) (hk : k < 32) (inb) :
    (fun j : Fin 128 => rows (View.ld x1 (Rect.unit (s := S1x4096x256) off S1x128x256.size inb)) j.rev) = chQ a2 1 b h (k + 2) := by
  funext r d
  refine ((ldL x1 off _ hoff (by omega) inb r.rev d).trans (K.e1 _ d)).trans ?_
  unfold chQ seqQ
  rw [pos1l k hk, if_neg (by omega)]
  congr 1
  show 4096 * b + (128 * (31 - k) + r.rev.val) = 4096 * b + (128 * (33 - k) + r.rev.val - 256); omega
/-- The context's, forward and backward. -/
theorem kCF (off : Fin 3 → ℕ) (t : ℕ) (hoff : off = ![0, 128 * t, 0]) (ht : t < 2) (inb) :
    keys (View.ld x5 (Rect.unit (s := S1x256x256) off S1x128x256.size inb)) = chK a2 a3 0 b h t := by
  funext r d
  refine (congrArg₂ (· * ·) ((ldC x5 off _ hoff (by omega) inb r d).trans (K.e5 _ d)) Ideal.ofBits_sixteenth_bf16).trans ?_
  unfold chK seqK
  rw [pos0, if_pos (by omega)]
/-- The context's values for the forward direction. -/
theorem vCF (off : Fin 3 → ℕ) (t : ℕ) (hoff : off = ![0, 128 * t, 0]) (ht : t < 2) (inb) (e : Fin 256) :
    (fun r => rows (View.ld x6 (Rect.unit (s := S1x256x256) off S1x128x256.size inb)) r e) = chV a2 a3 0 b h t e := by
  funext r
  refine ((ldC x6 off _ hoff (by omega) inb r e).trans (K.e6 _ e)).trans ?_
  unfold chV seqV
  rw [pos0, if_pos (by omega)]
/-- The context's keys for the backward direction, read from the end. -/
theorem kCB (off : Fin 3 → ℕ) (t : ℕ) (hoff : off = ![0, 128 * (1 - t), 0]) (ht : t < 2) (inb) :
    (fun j : Fin 128 => keys (View.ld x5 (Rect.unit (s := S1x256x256) off S1x128x256.size inb)) j.rev) = chK a2 a3 1 b h t := by
  funext r d
  refine (congrArg₂ (· * ·) ((ldC x5 off _ hoff (by omega) inb r.rev d).trans (K.e5 _ d)) Ideal.ofBits_sixteenth_bf16).trans ?_
  unfold chK seqK
  rw [pos1c t ht, if_pos (by omega)]
/-- The context's values for the backward direction, read from the end. -/
theorem vCB (off : Fin 3 → ℕ) (t : ℕ) (hoff : off = ![0, 128 * (1 - t), 0]) (ht : t < 2) (inb) (e : Fin 256) :
    (fun j : Fin 128 => rows (View.ld x6 (Rect.unit (s := S1x256x256) off S1x128x256.size inb)) j.rev e) = chV a2 a3 1 b h t e := by
  funext r
  refine ((ldC x6 off _ hoff (by omega) inb r.rev e).trans (K.e6 _ e)).trans ?_
  unfold chV seqV
  rw [pos1c t ht, if_pos (by omega)]

/-- The state after the context. -/
theorem startF : Is a0 a1 a2 a3 b h 0 2 (mF2 (gateB x0) (gateI x0)) (sF2 (gateB x0) (gateI x0) x5 x6) := by
  have I0 : Is a0 a1 a2 a3 b h 0 0 (k0_pay222 (F := Ideal)) (k0_pay220 (F := Ideal)) := ⟨Ideal.ofBits_zero_f32, fun e => funext fun _ => Ideal.ofBits_zero_f32, fun e _ => funext fun _ => Ideal.ofBits_zero_f32⟩
  have I1 := I0.nextF (laneB0 K _ 0 rfl (by omega) inb_S2x40x1x128_S1x1x1x128_0_0_0_0) (laneI0 K _ 0 rfl (by omega) inb_S2x40x1x128_S1x1x1x128_0_0_0_0) (kCF K _ 0 rfl (by omega) inb_S1x256x256_S1x128x256_0_0_0) (vCF K _ 0 rfl (by omega) inb_S1x256x256_S1x128x256_0_0_0)
  have I2 := I1.nextF (laneB0 K _ 1 rfl (by omega) inb_S2x40x1x128_S1x1x1x128_0_1_0_0) (laneI0 K _ 1 rfl (by omega) inb_S2x40x1x128_S1x1x1x128_0_1_0_0) (kCF K _ 1 rfl (by omega) inb_S1x256x256_S1x128x256_0_128_0) (vCF K _ 1 rfl (by omega) inb_S1x256x256_S1x128x256_0_128_0)
  rw [sF2_eq, mF2_eq, sF1_eq, mF1_eq]
  exact I2
/-- After the two context chunks the backward state is the recurrence's. -/
theorem startB : Is a0 a1 a2 a3 b h 1 2 (mB2 (gateB x0) (gateI x0)) (sB2 (gateB x0) (gateI x0) x5 x6) := by
  have I0 : Is a0 a1 a2 a3 b h 1 0 (k0_pay223 (F := Ideal)) (k0_pay221 (F := Ideal)) := ⟨Ideal.ofBits_zero_f32, fun e => funext fun _ => Ideal.ofBits_zero_f32, fun e _ => funext fun _ => Ideal.ofBits_zero_f32⟩
  have I1 := I0.nextB (laneB1 K _ 1 0 rfl (by omega) (pos1c 0 (by omega)) inb_S2x40x1x128_S1x1x1x128_1_1_0_0) (laneI1 K _ 1 0 rfl (by omega) (pos1c 0 (by omega)) inb_S2x40x1x128_S1x1x1x128_1_1_0_0) (kCB K _ 0 rfl (by omega) inb_S1x256x256_S1x128x256_0_128_0) (vCB K _ 0 rfl (by omega) inb_S1x256x256_S1x128x256_0_128_0)
  have I2 := I1.nextB (laneB1 K _ 0 1 rfl (by omega) (pos1c 1 (by omega)) inb_S2x40x1x128_S1x1x1x128_1_0_0_0) (laneI1 K _ 0 1 rfl (by omega) (pos1c 1 (by omega)) inb_S2x40x1x128_S1x1x1x128_1_0_0_0) (kCB K _ 1 rfl (by omega) inb_S1x256x256_S1x128x256_0_0_0) (vCB K _ 1 rfl (by omega) inb_S1x256x256_S1x128x256_0_0_0)
  rw [sB2_eq, mB2_eq, sB1_eq, mB1_eq]
  exact I2

/-- The state before trip `k`. -/
theorem kst_is : ∀ k, k ≤ 32 → Is a0 a1 a2 a3 b h 0 (k + 2) (kst x0 x1 x2 x3 x5 x6 k).1.1 (kst x0 x1 x2 x3 x5 x6 k).2.1
    ∧ Is a0 a1 a2 a3 b h 1 (k + 2) (kst x0 x1 x2 x3 x5 x6 k).1.2 (kst x0 x1 x2 x3 x5 x6 k).2.2
  | 0, _ => ⟨startF K, startB K⟩
  | k + 1, hk => by
    have hk' : k < k0_t1_loop.trips := by rw [trips1]; omega
    obtain ⟨IF, IB⟩ := kst_is k (by omega)
    rw [kst_succ x0 x1 x2 x3 x5 x6 ⟨k, hk'⟩]
    refine ⟨?_, ?_⟩
    · refine IF.nextF (laneB0 K _ (k + 2) ?_ (by omega) _) (laneI0 K _ (k + 2) ?_ (by omega) _) (kF K _ k (off1_eq ⟨k, hk'⟩) (by omega) _) (vF K _ k (off1_eq ⟨k, hk'⟩) (by omega) _)
      all_goals rw [off2_eq, Nat.add_comm]
    · exact IB.nextB (laneB1 K _ (33 - k) (k + 2) (off5_eq ⟨k, hk'⟩) (by omega) (pos1l k (by omega)) _) (laneI1 K _ (33 - k) (k + 2) (off5_eq ⟨k, hk'⟩) (by omega) (pos1l k (by omega)) _) (kB K _ k (off4_eq ⟨k, hk'⟩) (by omega) _) (vB K _ k (off4_eq ⟨k, hk'⟩) (by omega) _)

/-- The outputs of trip `k`. -/
theorem outF_at (k : Fin k0_t1_loop.trips) (r : Fin 128) (e : Fin 256) : outF x0 x1 x2 x3 x5 x6 k (ix2 r e) = rH a0 a1 a2 a3 0 b h (k.val + 2) r e := by
  have hk : k.val < 32 := lt_of_lt_of_eq k.isLt trips1
  have h2 : k0_off2 k = ![0, k.val + 2, 0, 0] := by rw [off2_eq, Nat.add_comm]
  exact (kst_is K k.val (by omega)).1.outF (laneB0 K _ (k.val + 2) h2 (by omega) _) (laneI0 K _ (k.val + 2) h2 (by omega) _) (qF' K _ k.val (off1_eq k) hk _) (kF K _ k.val (off1_eq k) hk _) (vF K _ k.val (off1_eq k) hk _) r e
/-- The output of a backward trip is the recurrence's, its rows from the last to the first. -/
theorem outB_at (k : Fin k0_t1_loop.trips) (r : Fin 128) (e : Fin 256) : outB x0 x1 x2 x3 x5 x6 k (ix2 r.rev e) = rH a0 a1 a2 a3 1 b h (k.val + 2) r e := by
  have hk : k.val < 32 := lt_of_lt_of_eq k.isLt trips1
  exact (kst_is K k.val (by omega)).2.outB (laneB1 K _ (33 - k.val) (k.val + 2) (off5_eq k) (by omega) (pos1l k.val hk) _) (laneI1 K _ (33 - k.val) (k.val + 2) (off5_eq k) (by omega) (pos1l k.val hk) _) (qB' K _ k.val (off4_eq k) hk _) (kB K _ k.val (off4_eq k) hk _) (vB K _ k.val (off4_eq k) hk _) r e

/-- The outputs of all the latents: row `s` is row `s % 128` of chunk `2 + s / 128` forward, and counted from the end
backward. -/
theorem fwd_rH (s : Fin 4096) (e : Fin 256) : fwd x0 x1 x2 x3 x5 x6 (ix2 s e) = rH a0 a1 a2 a3 0 b h (s.val / 128 + 2) ⟨s.val % 128, Nat.mod_lt _ (by decide)⟩ e :=
  outF_at K ⟨s.val / 128, row_lt (ix2 s e)⟩ _ e
/-- The backward outputs of all the latents are the recurrence's. -/
theorem bwd_rH (s : Fin 4096) (e : Fin 256) : bwd x0 x1 x2 x3 x5 x6 (ix2 s e) = rH a0 a1 a2 a3 1 b h ((4095 - s.val) / 128 + 2) ⟨(4095 - s.val) % 128, Nat.mod_lt _ (by decide)⟩ e := by
  have hs := s.isLt
  have hk : (4095 - s.val) / 128 < k0_t1_loop.trips := by rw [trips1]; omega
  refine Eq.trans ?_ (outB_at K ⟨(4095 - s.val) / 128, hk⟩ ⟨(4095 - s.val) % 128, Nat.mod_lt _ (by decide)⟩ e)
  refine (bwd_at x0 x1 x2 x3 x5 x6 _ _ _ ?_ rfl).symm
  show s.val = 128 * (31 - (4095 - s.val) / 128) + (Fin.rev (⟨(4095 - s.val) % 128, Nat.mod_lt _ (by decide)⟩ : Fin 128)).val
  rw [Fin.val_rev]
  show s.val = 128 * (31 - (4095 - s.val) / 128) + (128 - ((4095 - s.val) % 128 + 1))
  omega
end

end Cert.KernelIdeal.Gen
end
-- ==== Proof.MNorm.lean ====
module

public import Idealize.ShloMosaic.Lib.Pipeline.ValueKit
public import Idealize.ShloMosaic.Lib.Pointwise

@[expose] public section
noncomputable section
open Idealize.ShloMosaic
open scoped BigOperators

/-! A head's normalization, output gate and weights, over the extended reals. -/

namespace Cert.MLstm
/-- A head's columns `f` at a place, centred. -/
def CT (f : Fin 256 → EReal) (e : Fin 256) : EReal := f e - Ideal.div (∑ x, f x) (Ideal.ofBits .f32 0x43800000#32)
/-- Normalized, gated and weighted. -/
def NO (f : Fin 256 → EReal) (o w : EReal) (e : Fin 256) : EReal :=
  CT f e * Ideal.rsqrt (Ideal.div (∑ x, CT f x * CT f x) (Ideal.ofBits .f32 0x43800000#32) + Ideal.ofBits .f32 0x358637BD#32)
    * Ideal.div 1 (1 + Ideal.exp (-o)) * w
end Cert.MLstm

end
-- ==== Proof.MValue.lean ====
/-
  The mLSTM call's run: the result's array and the arguments unchanged.
-/
module

public import proofs.«01_k».proof.Proof.MFrame
public import Idealize.ShloMosaic.Lib.Pipeline.Value
public import Idealize.ShloMosaic.Lib.Claim

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x4096x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v8) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v8) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      kept_main_arg0 m r h c,
      kept_main_arg1 m r h c,
      kept_main_arg2 m r h c,
      kept_main_arg3 m r h c,
      kept_main_arg4 m r h c⟩)
    (run_main m ρ)

end Cert.KernelIdeal.Body

end
-- ==== Proof.MBlk.lean ====
module

public import proofs.«01_k».proof.Proof.MValue
public import proofs.«01_k».proof.Proof.MSeq

@[expose] public section
set_option maxRecDepth 16384
noncomputable section
open Idealize.ShloMosaic Idealize.ShloMosaic.TcCoe Idealize.SL.Sem
open Idealize.ShloMosaic.Pipeline (Dat)
open scoped BigOperators

/-! The mLSTM kernel's input blocks read at an index: grid point `t` works on batch element `t / 4`, head `t % 4`. -/

namespace Cert.KernelIdeal.Body
open Cert.KernelIdeal Cert.KernelIdeal.Gen Cert.MLstm

variable (m : (ℓ : Loc nD τ sig) → Buf (Elt Ideal) ℓ)

/-- Where each window's block sits. -/
theorem idx : ∀ t : Fin cfg0.N, win0_0.index t = ![t.val % 4, 0, t.val / 4, 0, 0] ∧ win0_1.index t = ![t.val / 4, 0, t.val % 4]
    ∧ win0_2.index t = ![t.val / 4, 0, 4 + t.val % 4] ∧ win0_3.index t = ![t.val / 4, 0, 8 + t.val % 4]
    ∧ win0_4.index t = ![t.val / 4, 0, 12 + t.val % 4] ∧ win0_5.index t = ![t.val / 4, 0, t.val % 4]
    ∧ win0_6.index t = ![t.val / 4, 0, 4 + t.val % 4] ∧ win0_7.index t = ![0, t.val % 4] ∧ win0_8.index t = ![t.val / 4, 0, t.val % 4] :=
  (by decide +kernel : ∀ t : Fin grid0.N, _)

/-- The kernel's arguments at their types. -/
abbrev A0 (c : Dev nD) : FVec Ideal S16x1024 .f32 := m ((c : Thread nD τ).loc main_arg0)
/-- The latents' gates. -/
abbrev A1 (c : Dev nD) : FVec Ideal S16x16384 .f32 := m ((c : Thread nD τ).loc main_arg1)
/-- The latents' projections. -/
abbrev A2 (c : Dev nD) : FVec Ideal S16384x6144 .bf16 := m ((c : Thread nD τ).loc main_arg2)
/-- The context's projections. -/
abbrev A3 (c : Dev nD) : FVec Ideal S1024x2048 .bf16 := m ((c : Thread nD τ).loc main_arg3)
/-- The norm's weights. -/
abbrev A4 (c : Dev nD) : FVec Ideal S1x1024 .f32 := m ((c : Thread nD τ).loc main_arg4)

/-- The queries' block. -/
theorem iblk1_at (c : Dev nD) (p : Fin cfg0.N) (s : Fin 4096) (d : Fin 256) :
    (show FVec Ideal S1x4096x256 .bf16 from iblk m c 1 p) (ix3 0 s d) = rd (A2 m c) (4096 * (p.val / 4) + s.val) (256 * (p.val % 4) + d.val) := by
  show iblk m c 1 p (ix3 0 s d) = _
  blk_simp [iblk]
  entry_read
  pointwise
  refine rd_at (A2 m c) _ _ _ _ ?_ ?_
  · show (win0_1.index p 0 * 1 + 1 * 0) * 4096 + (win0_1.index p 1 * 4096 + 1 * s.val) = _
    rw [(idx p).2.1]; show (p.val / 4 * 1 + 1 * 0) * 4096 + (0 * 4096 + 1 * s.val) = _; omega
  · show win0_1.index p 2 * 256 + 1 * d.val = _
    rw [(idx p).2.1]; show p.val % 4 * 256 + 1 * d.val = _; omega

/-- The keys' block. -/
theorem iblk2_at (c : Dev nD) (p : Fin cfg0.N) (s : Fin 4096) (d : Fin 256) :
    (show FVec Ideal S1x4096x256 .bf16 from iblk m c 2 p) (ix3 0 s d) = rd (A2 m c) (4096 * (p.val / 4) + s.val) (1024 + 256 * (p.val % 4) + d.val) := by
  show iblk m c 2 p (ix3 0 s d) = _
  blk_simp [iblk]
  entry_read
  pointwise
  refine rd_at (A2 m c) _ _ _ _ ?_ ?_
  · show (win0_2.index p 0 * 1 + 1 * 0) * 4096 + (win0_2.index p 1 * 4096 + 1 * s.val) = _
    rw [(idx p).2.2.1]; show (p.val / 4 * 1 + 1 * 0) * 4096 + (0 * 4096 + 1 * s.val) = _; omega
  · show win0_2.index p 2 * 256 + 1 * d.val = _
    rw [(idx p).2.2.1]; show (4 + p.val % 4) * 256 + 1 * d.val = _; omega

/-- The values' block. -/
theorem iblk3_at (c : Dev nD) (p : Fin cfg0.N) (s : Fin 4096) (d : Fin 256) :
    (show FVec Ideal S1x4096x256 .bf16 from iblk m c 3 p) (ix3 0 s d) = rd (A2 m c) (4096 * (p.val / 4) + s.val) (2048 + 256 * (p.val % 4) + d.val) := by
  show iblk m c 3 p (ix3 0 s d) = _
  blk_simp [iblk]
  entry_read
  pointwise
  refine rd_at (A2 m c) _ _ _ _ ?_ ?_
  · show (win0_3.index p 0 * 1 + 1 * 0) * 4096 + (win0_3.index p 1 * 4096 + 1 * s.val) = _
    rw [(idx p).2.2.2.1]; show (p.val / 4 * 1 + 1 * 0) * 4096 + (0 * 4096 + 1 * s.val) = _; omega
  · show win0_3.index p 2 * 256 + 1 * d.val = _
    rw [(idx p).2.2.2.1]; show (8 + p.val % 4) * 256 + 1 * d.val = _; omega

/-- The output gates' block. -/
theorem iblk4_at (c : Dev nD) (p : Fin cfg0.N) (s : Fin 4096) (d : Fin 256) :
    (show FVec Ideal S1x4096x256 .bf16 from iblk m c 4 p) (ix3 0 s d) = rd (A2 m c) (4096 * (p.val / 4) + s.val) (3072 + 256 * (p.val % 4) + d.val) := by
  show iblk m c 4 p (ix3 0 s d) = _
  blk_simp [iblk]
  entry_read
  pointwise
  refine rd_at (A2 m c) _ _ _ _ ?_ ?_
  · show (win0_4.index p 0 * 1 + 1 * 0) * 4096 + (win0_4.index p 1 * 4096 + 1 * s.val) = _
    rw [(idx p).2.2.2.2.1]; show (p.val / 4 * 1 + 1 * 0) * 4096 + (0 * 4096 + 1 * s.val) = _; omega
  · show win0_4.index p 2 * 256 + 1 * d.val = _
    rw [(idx p).2.2.2.2.1]; show (12 + p.val % 4) * 256 + 1 * d.val = _; omega

/-- The context's keys' block. -/
theorem iblk5_at (c : Dev nD) (p : Fin cfg0.N) (s : Fin 256) (d : Fin 256) :
    (show FVec Ideal S1x256x256 .bf16 from iblk m c 5 p) (ix3 0 s d) = rd (A3 m c) (256 * (p.val / 4) + s.val) (256 * (p.val % 4) + d.val) := by
  show iblk m c 5 p (ix3 0 s d) = _
  blk_simp [iblk]
  entry_read
  pointwise
  refine rd_at (A3 m c) _ _ _ _ ?_ ?_
  · show (win0_5.index p 0 * 1 + 1 * 0) * 256 + (win0_5.index p 1 * 256 + 1 * s.val) = _
    rw [(idx p).2.2.2.2.2.1]; show (p.val / 4 * 1 + 1 * 0) * 256 + (0 * 256 + 1 * s.val) = _; omega
  · show win0_5.index p 2 * 256 + 1 * d.val = _
    rw [(idx p).2.2.2.2.2.1]; show p.val % 4 * 256 + 1 * d.val = _; omega

/-- The context's values' block. -/
theorem iblk6_at (c : Dev nD) (p : Fin cfg0.N) (s : Fin 256) (d : Fin 256) :
    (show FVec Ideal S1x256x256 .bf16 from iblk m c 6 p) (ix3 0 s d) = rd (A3 m c) (256 * (p.val / 4) + s.val) (1024 + 256 * (p.val % 4) + d.val) := by
  show iblk m c 6 p (ix3 0 s d) = _
  blk_simp [iblk]
  entry_read
  pointwise
  refine rd_at (A3 m c) _ _ _ _ ?_ ?_
  · show (win0_6.index p 0 * 1 + 1 * 0) * 256 + (win0_6.index p 1 * 256 + 1 * s.val) = _
    rw [(idx p).2.2.2.2.2.2.1]; show (p.val / 4 * 1 + 1 * 0) * 256 + (0 * 256 + 1 * s.val) = _; omega
  · show win0_6.index p 2 * 256 + 1 * d.val = _
    rw [(idx p).2.2.2.2.2.2.1]; show (4 + p.val % 4) * 256 + 1 * d.val = _; omega

/-- The norm weights' block. -/
theorem iblk7_at (c : Dev nD) (p : Fin cfg0.N) (d : Fin 256) :
    (show FVec Ideal S1x256 .f32 from iblk m c 7 p) (ix2 0 d) = rd (A4 m c) 0 (256 * (p.val % 4) + d.val) := by
  show iblk m c 7 p (ix2 0 d) = _
  blk_simp [iblk]
  entry_read
  pointwise
  have e : ((View.whole main_v7).slice (win0_7.rect p)).emb (ix2 0 d) = ix2 (0 : Fin 1) (⟨256 * (p.val % 4) + d.val, by omega⟩ : Fin 1024) := by
    funext a
    refine Fin.ext ?_
    fin_cases a
    · show win0_7.index p 0 * 1 + 1 * 0 = 0
      rw [(idx p).2.2.2.2.2.2.2.1]; rfl
    · show win0_7.index p 1 * 256 + 1 * d.val = 256 * (p.val % 4) + d.val
      rw [(idx p).2.2.2.2.2.2.2.1]; show p.val % 4 * 256 + 1 * d.val = _; omega
  rw [e]
  exact rd_at (A4 m c) _ _ _ _ rfl rfl

/-- Where the gates' block lies. -/
theorem emb0 (p : Fin cfg0.N) (hp : p.val < 16) (a : Fin 4) (r : Fin 40) (l : Fin 128) :
    ((View.whole main_v3).slice (win0_0.rect p)).emb (ix5 0 a 0 r l) = ix5 (⟨p.val % 4, by omega⟩ : Fin 4) a (⟨p.val / 4, by omega⟩ : Fin 4) r l := by
  funext x
  refine Fin.ext ?_
  fin_cases x
  · show win0_0.index p 0 * 1 + 1 * 0 = p.val % 4
    rw [(idx p).1]; show p.val % 4 * 1 + 1 * 0 = _; omega
  · show win0_0.index p 1 * 4 + 1 * a.val = a.val
    rw [(idx p).1]; show 0 * 4 + 1 * a.val = _; omega
  · show win0_0.index p 2 * 1 + 1 * 0 = p.val / 4
    rw [(idx p).1]; show p.val / 4 * 1 + 1 * 0 = _; omega
  · show win0_0.index p 3 * 40 + 1 * r.val = r.val
    rw [(idx p).1]; show 0 * 40 + 1 * r.val = _; omega
  · show win0_0.index p 4 * 128 + 1 * l.val = l.val
    rw [(idx p).1]; show 0 * 128 + 1 * l.val = _; omega

end Cert.KernelIdeal.Body
end
-- ==== Proof.MBlk0.lean ====
module

public import proofs.«01_k».proof.Proof.MBlk
public import Idealize.ShloMosaic.Lib.StableHlo.RunRead

@[expose] public section
set_option maxRecDepth 16384
noncomputable section
open Idealize.ShloMosaic Idealize.ShloMosaic.TcCoe Idealize.SL.Sem
open Idealize.ShloMosaic.Pipeline (Dat)
open scoped BigOperators

/-! The mLSTM kernel's gates' block read at an index. -/

namespace Cert.KernelIdeal.Body
open Cert.KernelIdeal Cert.KernelIdeal.Gen Cert.MLstm

variable (m : (ℓ : Loc nD τ sig) → Buf (Elt Ideal) ℓ)

/-- A concatenation of three equal arrays is equal. -/
theorem cat3_congr {α : Type} {t : Shape} {d : Fin t.rank} {s1 s2 s3 : Shape} {a a' : s1.Idx → α} {b b' : s2.Idx → α} {c c' : s3.Idx → α} (h) (ha : a = a') (hb : b = b') (hc : c = c') :
    concatenate t d [⟨s1, a⟩, ⟨s2, b⟩, ⟨s3, c⟩] h = concatenate t d [⟨s1, a'⟩, ⟨s2, b'⟩, ⟨s3, c'⟩] h := by
  subst ha; subst hb; subst hc; rfl

/-- The gates' array the kernel is launched on. -/
def GT (c : Dev nD) : FVec Ideal S4x4x4x40x128 .f32 :=
  concatenate S4x4x4x40x128 3 [⟨S4x4x4x2x128, shapeCast S4x4x4x2x128 (A0 m c) shapeCasts_S16x1024_S4x4x4x2x128⟩, ⟨S4x4x4x32x128, shapeCast S4x4x4x32x128 (A1 m c) shapeCasts_S16x16384_S4x4x4x32x128⟩, ⟨S4x4x4x6x128, broadcastInDim S4x4x4x6x128 ![] bcast_S_S4x4x4x6x128 (constant S_ .f32 0x00000000#32)⟩] concatenates_S4x4x4x2x128_S4x4x4x32x128_S4x4x4x6x128_S4x4x4x40x128_d3

set_option maxRecDepth 65536 in
set_option maxHeartbeats 1600000 in
/-- The gates' array the call receives. -/
theorem V3 (c : Dev nD) : V m c main_v3 = GT m c := by
  unfold GT
  after_reads_simp
  refine cat3_congr _ ?_ ?_ ?_
  · after_reads_simp
    rfl
  · after_reads_simp
    rfl
  · show StableHlo.upto hostOps0 (fun b => m (c, b)) 4 (Proc.tc.devRef main_v2) = _
    after_reads_simp

/-- The gates' array at an index. -/
theorem GT_at (c : Dev nD) (h a b : Fin 4) (r : Fin 40) (l : Fin 128) (hr : r.val < 34) :
    GT m c (ix5 h a b r l) = seqG (A0 m c) (A1 m c) (a.val / 2) (a.val % 2) b.val h.val (128 * r.val + l.val) := by
  pointwise [GT]
  unfold seqG
  by_cases h1 : r.val < 2
  · rw [if_pos (by omega : 128 * r.val + l.val < 256)]
    refine (dif_pos h1).trans ?_
    exact rd_at _ _ _ _ _ (by show h.val * 4 + a.val = _; omega) (by show b.val * 256 + r.val * 128 + l.val = _; omega)
  · rw [if_neg (by omega : ¬ 128 * r.val + l.val < 256)]
    have h2 : r.val - 2 < 32 := by omega
    refine (dif_neg h1).trans ((dif_pos h2).trans ?_)
    exact rd_at _ _ _ _ _ (by show h.val * 4 + a.val = _; omega) (by show b.val * 4096 + (r.val - 2) * 128 + l.val = _; omega)

/-- The gates' block. -/
theorem iblk0_at (c : Dev nD) (p : Fin cfg0.N) (a : Fin 4) (r : Fin 40) (l : Fin 128) (hr : r.val < 34) :
    (show FVec Ideal S1x4x1x40x128 .f32 from iblk m c 0 p) (ix5 0 a 0 r l) = seqG (A0 m c) (A1 m c) (a.val / 2) (a.val % 2) (p.val / 4) (p.val % 4) (128 * r.val + l.val) := by
  have hp : p.val < 16 := lt_of_lt_of_eq p.isLt N_0
  refine Eq.trans (b := V m c main_v3 (((View.whole main_v3).slice (win0_0.rect p)).emb (ix5 0 a 0 r l))) rfl ?_
  rw [emb0 p hp, V3]
  exact GT_at m c _ a _ r l hr

end Cert.KernelIdeal.Body
end
-- ==== Proof.MOutK.lean ====
module

public import proofs.«01_k».proof.Proof.MPh4
public import proofs.«01_k».proof.Proof.MIndK
public import proofs.«01_k».proof.Proof.MNorm
public import proofs.«01_k».proof.Proof.MBlk0

@[expose] public section
set_option maxRecDepth 16384
noncomputable section
open Idealize.ShloMosaic Idealize.ShloMosaic.TcCoe Idealize.SL.Sem
open scoped BigOperators

/-! The kernel's readout, an entry at a time. -/

namespace Cert.KernelIdeal.Gen
open Cert.MLstm

/-- The readout of a chunk, at a place. -/
theorem pay32_at (hf hb : Vec Ideal S128x256 .f32) (o : Vec Ideal S1x128x256 .bf16) (w : Vec Ideal S1x256 .f32) (r : Fin 128) (e : Fin 256) :
    k0_pay5 (k0_pay32 hf hb o w) (ix3 0 r e) = NO (fun e => hf (ix2 r e) + hb (ix2 r e)) (o (ix3 0 r e)) (w (ix2 0 e)) e := by
  pointwise [k0_pay5, k0_pay32]
  rw [zsub]
  rfl

/-- A row of a chunk loaded from the outputs. -/
theorem ld2 (X : Vec Ideal S4096x256 .f32) (off : Fin 2 → ℕ) (o : ℕ) (hoff : off = ![o, 0]) (ho : o + 128 ≤ 4096) (inb) (r : Fin 128) (d : Fin 256) :
    View.ld X (Rect.unit (s := S4096x256) off S128x256.size inb) (ix2 r d) = X (ix2 ⟨o + r.val, by omega⟩ d) := by
  subst hoff
  refine congrArg X (funext fun a => Fin.ext ?_)
  match a with
  | ⟨0, _⟩ => show o + 1 * r.val = o + r.val; omega
  | ⟨1, _⟩ => show 0 + 1 * d.val = d.val; omega

/-- The readout at a row and a column. -/
theorem readout_NO (hf hb : Vec Ideal S4096x256 .f32) (x4 : Vec Ideal S1x4096x256 .bf16) (x7 : Vec Ideal S1x256 .f32) (s : Fin 4096) (e : Fin 256) :
    readout hf hb x4 x7 (ix3 0 s e) = NO (fun e => hf (ix2 s e) + hb (ix2 s e)) (x4 (ix3 0 s e)) (x7 (ix2 0 e)) e := by
  have hs := s.isLt
  let k : Fin k0_t2_loop.trips := ⟨s.val / 128, rowr_lt (ix3 0 s e)⟩
  let r : Fin 128 := ⟨s.val % 128, Nat.mod_lt _ (by decide)⟩
  have es : ∀ q : 128 * k.val + r.val < 4096, (⟨128 * k.val + r.val, q⟩ : Fin 4096) = s := fun q => Fin.ext (by show 128 * (s.val / 128) + s.val % 128 = s.val; omega)
  have hk : 128 * k.val + 128 ≤ 4096 := by show 128 * (s.val / 128) + 128 ≤ 4096; omega
  show outR hf hb x4 x7 k (ix3 0 r e) = _
  unfold outR
  rw [pay32_at]
  have e1 : ∀ (X : Vec Ideal S4096x256 .f32) (d : Fin 256), View.ld X (Rect.unit (s := S4096x256) (k0_off7 k) S128x256.size (k0_off7_inb k)) (ix2 r d) = X (ix2 s d) := fun X d => by
    rw [ld2 X _ _ (off7_eq k) hk, es]
  have e2 : View.ld x4 (Rect.unit (s := S1x4096x256) (k0_off8 k) S1x128x256.size (k0_off8_inb k)) (ix3 0 r e) = x4 (ix3 0 s e) := by
    refine (ldL x4 _ _ (off8_eq k) hk _ r e).trans ?_
    rw [es]
  rw [e2]
  refine congrArg (fun f => NO f _ _ e) (funext fun d => ?_)
  exact congrArg₂ (· + ·) (e1 hf d) (e1 hb d)

end Cert.KernelIdeal.Gen

namespace Cert.KernelIdeal.Body
open Cert.KernelIdeal Cert.KernelIdeal.Gen Cert.MLstm

variable (m : (ℓ : Loc nD τ sig) → Buf (Elt Ideal) ℓ)

/-- The blocks of point `p` are batch element `p / 4`'s and head `p % 4`'s. -/
theorem blk (c : Dev nD) (p : Fin cfg0.N) : Blk (A0 m c) (A1 m c) (A2 m c) (A3 m c) (p.val / 4) (p.val % 4) (iblk m c 0 p) (iblk m c 1 p) (iblk m c 2 p) (iblk m c 3 p) (iblk m c 5 p) (iblk m c 6 p) where
  e0 a r l hr := iblk0_at m c p a r l hr
  e1 s d := iblk1_at m c p s d
  e2 s d := iblk2_at m c p s d
  e3 s d := iblk3_at m c p s d
  e5 s d := iblk5_at m c p s d
  e6 s d := iblk6_at m c p s d

/-- What point `p` stores, a row and a column of it. -/
theorem OUT_at (c : Dev nD) (p : Fin cfg0.N) (s : Fin 4096) (e : Fin 256) :
    OUT (F := Ideal) (iblk m c 0 p) (iblk m c 1 p) (iblk m c 2 p) (iblk m c 3 p) (iblk m c 4 p) (iblk m c 5 p) (iblk m c 6 p) (iblk m c 7 p) (ix3 0 s e)
      = NO (fun e => rH (A0 m c) (A1 m c) (A2 m c) (A3 m c) 0 (p.val / 4) (p.val % 4) (s.val / 128 + 2) ⟨s.val % 128, Nat.mod_lt _ (by decide)⟩ e
          + rH (A0 m c) (A1 m c) (A2 m c) (A3 m c) 1 (p.val / 4) (p.val % 4) ((4095 - s.val) / 128 + 2) ⟨(4095 - s.val) % 128, Nat.mod_lt _ (by decide)⟩ e)
        (rd (A2 m c) (4096 * (p.val / 4) + s.val) (3072 + 256 * (p.val % 4) + e.val)) (rd (A4 m c) 0 (256 * (p.val % 4) + e.val)) e := by
  unfold OUT
  refine (readout_NO _ _ _ _ s e).trans ?_
  have h4 := iblk4_at m c p s e
  have h7 := iblk7_at m c p e
  refine Eq.trans ?_ (congrArg₂ (fun o w => NO _ o w e) h4 h7)
  congr 1
  funext d
  exact congrArg₂ (· + ·) (fwd_rH (blk m c p) s d) (bwd_rH (blk m c p) s d)

end Cert.KernelIdeal.Body
end
-- ==== Proof.MCum.lean ====
/-
  The reference's running sum is a sum over the lanes.
-/
module

public import proofs.«01_k».proof.Proof.Gen.ReferenceIdeal
public import proofs.«01_k».proof.Proof.MPure

@[expose] public section
set_option maxRecDepth 16384
noncomputable section
open Idealize.ShloMosaic Idealize.ShloMosaic.TcCoe Idealize.SL.Sem
open scoped BigOperators
namespace Cert.ReferenceIdeal.Step
open Cert.ReferenceIdeal Cert.ReferenceIdeal.Gen Cert.MLstm

/-- A fold of additions over a list of numbers is the sum of the list's terms. -/
theorem foldl_sum {α : Type} (f : α → EReal) : ∀ (l : List α) (z : EReal), l.foldl (fun r n => r + f n) z = z + (l.map f).sum
  | [], z => by simp
  | a :: l, z => by simp [foldl_sum f l, add_assoc]

/-- The running sum along the lanes: a window of all the lanes, padded low. -/
theorem cumsum_at (x : FVec Ideal S8x4x128 .f32) (z : FVec Ideal S_ .f32) (hz : ∀ i, z i = 0) (hw hu) (D : Fin 8) (h : Fin 4) (r : Fin 128) :
    Host.reduceWindowAdd ![1, 1, 128] ![1, 1, 1] ![0, 0, 127] ![0, 0, 0] x z hw hu (ix3 D h r) = ∑ j : Fin 128, if j ≤ r then x (ix3 D h j) else 0 := by
  obtain ⟨z0, hz0⟩ : ∃ z0, z0 = z (Shape.Idx.first hu) := ⟨_, rfl⟩
  have hz1 : z0 = 0 := hz0.trans (hz _)
  let G : (⟨3, ![1, 1, 128]⟩ : Shape).Idx → EReal := fun w =>
    if hin : ∀ a : Fin S8x4x128.rank, (![0, 0, 127] : Fin 3 → ℕ) a ≤ ((ix3 D h r : S8x4x128.Idx) (a.cast hw.1.symm)).val * (![1, 1, 1] : Fin 3 → ℕ) a + (w a).val
        ∧ ((ix3 D h r : S8x4x128.Idx) (a.cast hw.1.symm)).val * (![1, 1, 1] : Fin 3 → ℕ) a + (w a).val - (![0, 0, 127] : Fin 3 → ℕ) a < S8x4x128.size a
      then x (fun a => ⟨((ix3 D h r : S8x4x128.Idx) (a.cast hw.1.symm)).val * (![1, 1, 1] : Fin 3 → ℕ) a + (w a).val - (![0, 0, 127] : Fin 3 → ℕ) a, (hin a).2⟩) else z0
  have e : Host.reduceWindowAdd ![1, 1, 128] ![1, 1, 1] ![0, 0, 127] ![0, 0, 0] x z hw hu (ix3 D h r)
      = (List.finRange (⟨3, ![1, 1, 128]⟩ : Shape).numel).foldl (fun a n => a + G ((⟨3, ![1, 1, 128]⟩ : Shape).rowMajor.symm n)) z0 := by
    have e0 := congrFun (Ideal.hostReduceWindowAdd_def (φ := .f32) ![1, 1, 128] ![1, 1, 1] ![0, 0, 127] ![0, 0, 0] hw .single x (z (Shape.Idx.first hu))) (ix3 D h r)
    refine e0.trans ?_
    rw [← hz0]
    unfold Ideal.hostReduceWindowAdd Host.reduceWindow
    dsimp only
    refine congrArg (fun f => List.foldl f z0 _) (funext fun a => funext fun n => ?_)
    refine congrArg (a + ·) ?_
    dsimp only [G]
    congr
  have hG : ∀ c : Fin 128, G (ix3 0 0 c) = if hc : 127 ≤ r.val + c.val then x (ix3 D h ⟨r.val + c.val - 127, by omega⟩) else 0 := by
    intro c
    by_cases hc : 127 ≤ r.val + c.val
    · rw [dif_pos hc]
      have hin : ∀ a : Fin S8x4x128.rank, (![0, 0, 127] : Fin 3 → ℕ) a ≤ ((ix3 D h r : S8x4x128.Idx) (a.cast hw.1.symm)).val * (![1, 1, 1] : Fin 3 → ℕ) a + ((ix3 0 0 c : (⟨3, ![1, 1, 128]⟩ : Shape).Idx) a).val
          ∧ ((ix3 D h r : S8x4x128.Idx) (a.cast hw.1.symm)).val * (![1, 1, 1] : Fin 3 → ℕ) a + ((ix3 0 0 c : (⟨3, ![1, 1, 128]⟩ : Shape).Idx) a).val - (![0, 0, 127] : Fin 3 → ℕ) a < S8x4x128.size a := by
        intro a
        match a with
        | ⟨0, _⟩ => show 0 ≤ D.val * 1 + 0 ∧ D.val * 1 + 0 - 0 < 8; omega
        | ⟨1, _⟩ => show 0 ≤ h.val * 1 + 0 ∧ h.val * 1 + 0 - 0 < 4; omega
        | ⟨2, _⟩ => show 127 ≤ r.val * 1 + c.val ∧ r.val * 1 + c.val - 127 < 128; omega
      refine (dif_pos hin).trans (congrArg x (funext fun a => Fin.ext ?_))
      match a with
      | ⟨0, _⟩ => show D.val * 1 + 0 - 0 = D.val; omega
      | ⟨1, _⟩ => show h.val * 1 + 0 - 0 = h.val; omega
      | ⟨2, _⟩ => show r.val * 1 + c.val - 127 = r.val + c.val - 127; omega
    · rw [dif_neg hc]
      refine (dif_neg fun hin => hc ?_).trans hz1
      have := (hin 2).1
      change 127 ≤ r.val * 1 + c.val at this
      omega
  rw [e, foldl_sum, hz1, zero_add, ← Fin.sum_univ_def, Equiv.sum_comp (⟨3, ![1, 1, 128]⟩ : Shape).rowMajor.symm G, sum_idx3]
  simp only [Fin.sum_univ_one, Finset.univ_unique, Finset.sum_singleton]
  have hG' : ∀ c : Fin 128, G (ix3 default default c) = _ := hG
  simp only [hG, hG']
  let f : ℕ → EReal := fun n => if hn : n < 128 then x (ix3 D h ⟨n, hn⟩) else 0
  have h1 : ∀ c : Fin 128, (if hc : 127 ≤ r.val + c.val then x (ix3 D h ⟨r.val + c.val - 127, by omega⟩) else 0) = (fun n : ℕ => if 127 ≤ r.val + n then f (r.val + n - 127) else 0) c.val := by
    intro c
    dsimp only [f]
    by_cases hc : 127 ≤ r.val + c.val
    · rw [dif_pos hc, if_pos hc, dif_pos (by omega)]
    · rw [dif_neg hc, if_neg hc]
  have h2 : ∀ c : Fin 128, (if c ≤ r then x (ix3 D h c) else 0) = (fun n : ℕ => if n ≤ r.val then f n else 0) c.val := by
    intro c
    dsimp only [f]
    rw [dif_pos c.isLt]
    rfl
  rw [Finset.sum_congr rfl fun c _ => h1 c, Finset.sum_congr rfl fun c _ => h2 c, Fin.sum_univ_eq_sum_range (fun n : ℕ => if 127 ≤ r.val + n then f (r.val + n - 127) else 0), Fin.sum_univ_eq_sum_range (fun n : ℕ => if n ≤ r.val then f n else 0), ← Finset.sum_filter, ← Finset.sum_filter]
  have hr := r.isLt
  refine Finset.sum_nbij' (fun c => r.val + c - 127) (fun j => j + 127 - r.val) ?_ ?_ ?_ ?_ ?_
  · intro a ha; simp only [Finset.mem_filter, Finset.mem_range] at *; omega
  · intro a ha; simp only [Finset.mem_filter, Finset.mem_range] at *; omega
  · intro a ha; simp only [Finset.mem_filter, Finset.mem_range] at *; omega
  · intro a ha; simp only [Finset.mem_filter, Finset.mem_range] at *; omega
  · intro a ha; rfl

end Cert.ReferenceIdeal.Step
end
-- ==== Proof.MRef.lean ====
/-
  One step of the reference, at an index.
-/
module

public import proofs.«01_k».proof.Proof.Gen.ReferenceIdeal.Step
public import proofs.«01_k».proof.Proof.MCum
public import Idealize.ShloMosaic.Lib.WordCmp

@[expose] public section
set_option maxRecDepth 16384
noncomputable section
open Idealize.ShloMosaic Idealize.ShloMosaic.TcCoe Idealize.SL.Sem
open scoped BigOperators
namespace Cert.ReferenceIdeal.Step
open Cert.ReferenceIdeal Cert.ReferenceIdeal.Gen Cert.MLstm

variable (j : ℕ) (s : State Ideal) (D : Fin 8) (h : Fin 4) (hj : j < 34)

/-- A slice of a five-dimensional array starts at the chunk. -/
theorem start5 (hj : j < 34) : ∀ a : Fin 5, BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) a (Shape.Idx.first h_S_)) = ((![j, 0, 0, 0, 0] : Fin 5 → ℕ) a : ℤ) := by
  have hjj : ((BitVec.ofNat 32 j).toInt) = (j : ℤ) := by
    have : ∀ j : Fin 34, (BitVec.ofNat 32 j.val).toInt = (j.val : ℤ) := by decide +kernel
    exact this ⟨j, hj⟩
  intro a
  fin_cases a
  · exact hjj
  all_goals rfl

/-- A slice of a four-dimensional array starts at the chunk. -/
theorem start4 (hj : j < 34) : ∀ a : Fin 4, BitVec.toInt ((![constantI S_ 32 (BitVec.ofNat 32 j), constantI S_ 32 0#32, constantI S_ 32 0#32, constantI S_ 32 0#32] : Fin 4 → (⟨S_, .i32⟩ : BufTy).Contents (Elt Ideal)) a (Shape.Idx.first h_S_)) = ((![j, 0, 0, 0] : Fin 4 → ℕ) a : ℤ) := by
  have hjj : ((BitVec.ofNat 32 j).toInt) = (j : ℤ) := by
    have : ∀ j : Fin 34, (BitVec.ofNat 32 j.val).toInt = (j.val : ℤ) := by decide +kernel
    exact this ⟨j, hj⟩
  intro a
  fin_cases a
  · exact hjj
  all_goals rfl

/-- The five-dimensional slice lies in the array. -/
theorem fits5 (hj : j < 34) : S34x8x4x128x256.Slices ![j, 0, 0, 0, 0] S1x8x4x128x256 := by
  refine ⟨rfl, fun a => ?_⟩
  fin_cases a
  · show j + 1 ≤ 34; omega
  · show 0 + 8 ≤ 8; omega
  · show 0 + 4 ≤ 4; omega
  · show 0 + 128 ≤ 128; omega
  · show 0 + 256 ≤ 256; omega

/-- The four-dimensional slice lies in the array. -/
theorem fits4 (hj : j < 34) : S34x8x4x128.Slices ![j, 0, 0, 0] S1x8x4x128 := by
  refine ⟨rfl, fun a => ?_⟩
  fin_cases a
  · show j + 1 ≤ 34; omega
  · show 0 + 8 ≤ 8; omega
  · show 0 + 4 ≤ 4; omega
  · show 0 + 128 ≤ 128; omega

/-- The chunk's queries, keys, values and gates. -/
theorem b5_at (r : Fin 128) (e : Fin 256) : b5 j s (ix4 D h r e) = s.main_v105_0 (ix5 ⟨j, hj⟩ D h r e) := by
  unfold b5 b4 b0 b1 b2 b3
  rw [WordCmp.dynamicSlice_eq_extract _ _ _ _ ![j, 0, 0, 0, 0] (fits5 j hj) (start5 j hj)]
  pointwise []
/-- The chunk's keys, sliced. -/
theorem b11_at (r : Fin 128) (e : Fin 256) : b11 j s (ix4 D h r e) = s.main_v105_1 (ix5 ⟨j, hj⟩ D h r e) := by
  unfold b11 b10 b6 b7 b8 b9
  rw [WordCmp.dynamicSlice_eq_extract _ _ _ _ ![j, 0, 0, 0, 0] (fits5 j hj) (start5 j hj)]
  pointwise []
/-- The chunk's values, sliced. -/
theorem b17_at (r : Fin 128) (e : Fin 256) : b17 j s (ix4 D h r e) = s.main_v105_2 (ix5 ⟨j, hj⟩ D h r e) := by
  unfold b17 b16 b12 b13 b14 b15
  rw [WordCmp.dynamicSlice_eq_extract _ _ _ _ ![j, 0, 0, 0, 0] (fits5 j hj) (start5 j hj)]
  pointwise []
/-- The chunk's input gates, sliced. -/
theorem b22_at (r : Fin 128) : b22 j s (ix3 D h r) = s.main_v105_3 (ix4 ⟨j, hj⟩ D h r) := by
  unfold b22 b21 b18 b19 b20
  rw [WordCmp.dynamicSlice_eq_extract _ _ _ _ ![j, 0, 0, 0] (fits4 j hj) (start4 j hj)]
  pointwise []
/-- The chunk's log forget gates, sliced. -/
theorem b27_at (r : Fin 128) : b27 j s (ix3 D h r) = s.main_v105_4 (ix4 ⟨j, hj⟩ D h r) := by
  unfold b27 b26 b23 b24 b25
  rw [WordCmp.dynamicSlice_eq_extract _ _ _ _ ![j, 0, 0, 0] (fits4 j hj) (start4 j hj)]
  pointwise []

/-- Chunk `t` of the reference's set-up arrays in direction and batch `D`, head `h`. -/
abbrev cq (t : Fin 34) (r : Fin 128) (e : Fin 256) : EReal := s.main_v105_0 (ix5 t D h r e)
/-- The chunk's keys. -/
abbrev ck (t : Fin 34) (r : Fin 128) (e : Fin 256) : EReal := s.main_v105_1 (ix5 t D h r e)
/-- A column of the chunk's values. -/
abbrev cv (t : Fin 34) (e : Fin 256) (r : Fin 128) : EReal := s.main_v105_2 (ix5 t D h r e)
/-- The chunk's input gates. -/
abbrev cg (t : Fin 34) (r : Fin 128) : EReal := s.main_v105_3 (ix4 t D h r)
/-- The running sum of the chunk's log forget gates. -/
abbrev cb (t : Fin 34) (r : Fin 128) : EReal := ∑ x : Fin 128, if x ≤ r then s.main_v105_4 (ix4 t D h x) else 0
/-- The carried state: a column, the normaliser, the maximum. -/
abbrev sC (e : Fin 256) (d : Fin 256) : EReal := s.main_v105_6 (ix4 D h d e)
/-- The state's normaliser. -/
abbrev sN (d : Fin 256) : EReal := s.main_v105_7 (ix3 D h d)
/-- The state's maximum. -/
abbrev sM : EReal := s.main_v105_8 (ix2 D h)

/-- The running sums. -/
theorem b41_at (r : Fin 128) : b41 j s (ix3 D h r) = cb s D h ⟨j, hj⟩ r := by
  unfold b41
  rw [cumsum_at _ _ (fun i => by unfold b40 b39; exact Ideal.ofBits_zero_f32)]
  exact Finset.sum_congr rfl fun x _ => by rw [b27_at j s D h hj]

/-- The masked logarithms of the decays. -/
theorem b54_at (r c : Fin 128) : b54 j s (ix4 D h r c) = LD (cb s D h ⟨j, hj⟩) (cg s D h ⟨j, hj⟩) r c := by
  pointwise [b54, b52, b38, b35, b33, b30, b32, b31, b34, b29, b28, b37, b36, b49, b46, b44, b42, b45, b43, b48, b47, b53, b51, b50]
  rw [sel_mask, negInf, b41_at j s D h hj, b41_at j s D h hj, b22_at j s D h hj]
  rfl

/-- The logarithms of the weights of the state. -/
theorem b57_at (r : Fin 128) : b57 j s (ix3 D h r) = cb s D h ⟨j, hj⟩ r + sM s D h := by
  pointwise [b57, b56, b55]
  rw [b41_at j s D h hj]

/-- The rows' maxima. -/
theorem b60_at (r : Fin 128) : b60 j s (ix3 D h r) = MR (cb s D h ⟨j, hj⟩) (cg s D h ⟨j, hj⟩) (sM s D h) r := by
  pointwise [b60, b59, b57, b56, b55, b58]
  simp only [b41_at j s D h hj, b54_at j s D h hj, negInf]
  rfl

/-- The chunk's total. -/
theorem b88_at : b88 j s (ix2 D h) = cb s D h ⟨j, hj⟩ 127 := by
  pointwise [b88, b87]
  rw [b41_at j s D h hj]

/-- The reference's maximum after a chunk. -/
theorem b96_at : b96 j s (ix2 D h) = MN (cb s D h ⟨j, hj⟩) (cg s D h ⟨j, hj⟩) (sM s D h) := by
  pointwise [b96, b95, b93, b94, b92, b91, b90, b89]
  simp only [b88_at j s D h hj, b41_at j s D h hj, b22_at j s D h hj, negInf]
  rfl

/-- The logarithms of the weights of the update. -/
theorem b92_at (r : Fin 128) : b92 j s (ix3 D h r) = LA (cb s D h ⟨j, hj⟩) (cg s D h ⟨j, hj⟩) r := by
  pointwise [b92, b91, b90, b89]
  simp only [b88_at j s D h hj, b41_at j s D h hj, b22_at j s D h hj]
  rfl

/-- The reference's state after a chunk, a column of it. -/
theorem b111_at (d e : Fin 256) : b111 j s (ix4 D h d e)
    = CN (cb s D h ⟨j, hj⟩) (cg s D h ⟨j, hj⟩) (sM s D h) (ck s D h ⟨j, hj⟩) (cv s D h ⟨j, hj⟩ e) (sC s D h e) d := by
  pointwise [b111, b110, b109, b108, b107, b106, b105, b104, b103, b102, b101, b100, b99, b98, b97]
  simp only [b88_at j s D h hj, b96_at j s D h hj, b92_at j s D h hj, b11_at j s D h hj, b17_at j s D h hj]
  rfl

/-- The reference's normaliser after a chunk. -/
theorem b116_at (d : Fin 256) : b116 j s (ix3 D h d)
    = CN (cb s D h ⟨j, hj⟩) (cg s D h ⟨j, hj⟩) (sM s D h) (ck s D h ⟨j, hj⟩) (fun _ => 1) (sN s D h) d := by
  have e3 : b103 j s (ix2 D h) = Ideal.exp (b88 j s (ix2 D h) + sM s D h - b96 j s (ix2 D h)) := by
    pointwise [b103, b102, b101]
  have e0 : ∀ x : Fin 128, b100 j s (ix3 D h x) = Ideal.exp (b92 j s (ix3 D h x) - b96 j s (ix2 D h)) := by
    intro x
    pointwise [b100, b99, b98, b97]
  pointwise [b116, b115, b114, b113, b112]
  simp only [e3, e0, b88_at j s D h hj, b96_at j s D h hj, b92_at j s D h hj, b11_at j s D h hj]
  unfold CN
  simp only [mul_one]

/-- The reference's output of a chunk. -/
theorem b86_at (r : Fin 128) (e : Fin 256) : b86 j s (ix4 D h r e)
    = HN (cb s D h ⟨j, hj⟩) (cg s D h ⟨j, hj⟩) (sM s D h) (cq s D h ⟨j, hj⟩) (ck s D h ⟨j, hj⟩) (cv s D h ⟨j, hj⟩ e) (sC s D h e) (sN s D h) r := by
  pointwise [b86, b85, b84, b83, b82, b81, b80, b79, b78, b77, b76, b75, b74, b73, b72, b71, b70, b69, b68, b67, b66, b65, b64, b63, b62, b61]
  simp only [b57_at j s D h hj, b60_at j s D h hj, b54_at j s D h hj, b5_at j s D h hj, b11_at j s D h hj, b17_at j s D h hj]
  unfold HN NU
  simp only [mul_one]

/-- The outputs after a chunk: the chunk's at its own place, the others kept. -/
theorem b122_at (hj : j < 34) (t : Fin 34) (r : Fin 128) (e : Fin 256) : b122 j s (ix5 t D h r e) = if t.val = j then b86 j s (ix4 D h r e) else s.main_v105_9 (ix5 t D h r e) := by
  unfold b122 b118 b119 b120 b121
  rw [WordCmp.dynamicUpdateSlice_eq_update _ _ _ _ ![j, 0, 0, 0, 0] (fits5 j hj) (start5 j hj)]
  have := t.isLt; have := D.isLt; have := h.isLt; have := r.isLt; have := e.isLt
  pointwise [b117]
  by_cases ht : t.val = j
  · rw [if_pos ht, dif_pos (by omega)]
  · rw [if_neg ht, dif_neg (by omega)]

end Cert.ReferenceIdeal.Step
end
-- ==== Proof.MEnt.lean ====
module

public import proofs.«01_k».proof.Proof.Gen.ReferenceIdeal.Run
public import proofs.«01_k».proof.Proof.Gen.ReferenceIdeal.Step

@[expose] public section

/-! What the reference's operations before the loop leave in the loop's arrays: the recurrence's starting state and
set-up values. -/

noncomputable section

namespace Cert.ReferenceIdeal.MRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

/-- A join of two arrays is known from its two parts. -/
theorem cat2_congr {α : Type} {t : Shape} {d : Fin t.rank} {s1 s2 : Shape} {a a' : s1.Idx → α} {b b' : s2.Idx → α} (h) (ha : a = a') (hb : b = b') :
    concatenate t d [⟨s1, a⟩, ⟨s2, b⟩] h = concatenate t d [⟨s1, a'⟩, ⟨s2, b'⟩] h := by
  subst ha; subst hb; rfl

set_option maxRecDepth 65536 in
set_option maxHeartbeats 1600000 in
/-- The loop enters with the first state's array 6. -/
theorem en_6 : entryContents preI m c (Proc.devRef .tc main_v105_6) = (initState m c).main_v105_6 := by
  simp only [entryContents, afterL_cons, afterL_nil]
  after_reads_simp
  rfl

set_option maxRecDepth 65536 in
set_option maxHeartbeats 1600000 in
/-- The loop enters with the first state's array 7. -/
theorem en_7 : entryContents preI m c (Proc.devRef .tc main_v105_7) = (initState m c).main_v105_7 := by
  simp only [entryContents, afterL_cons, afterL_nil]
  after_reads_simp
  rfl

set_option maxRecDepth 65536 in
set_option maxHeartbeats 1600000 in
/-- The loop enters with the first state's array 8. -/
theorem en_8 : entryContents preI m c (Proc.devRef .tc main_v105_8) = (initState m c).main_v105_8 := by
  simp only [entryContents, afterL_cons, afterL_nil]
  after_reads_simp
  rfl

set_option maxRecDepth 65536 in
set_option maxHeartbeats 1600000 in
/-- The loop enters with the first state's array 9. -/
theorem en_9 : entryContents preI m c (Proc.devRef .tc main_v105_9) = (initState m c).main_v105_9 := by
  simp only [entryContents, afterL_cons, afterL_nil]
  after_reads_simp
  rfl

set_option maxRecDepth 65536 in
set_option maxHeartbeats 1600000 in
/-- The loop enters with the first state's array 0. -/
theorem en_0 : entryContents preI m c (Proc.devRef .tc main_v105_0) = (initState m c).main_v105_0 := by
  simp only [entryContents, afterL_cons, afterL_nil]
  after_reads_simp
  dsimp only [initState, Cert.ReferenceIdeal.Step.init, Cert.ReferenceIdeal.Step.A_main_v95, Cert.ReferenceIdeal.Step.A_main_v94, Cert.ReferenceIdeal.Step.A_main_v54, Cert.ReferenceIdeal.Step.A_main_v50, Cert.ReferenceIdeal.Step.K_main_v26, Cert.ReferenceIdeal.Step.K_main_v25, Cert.ReferenceIdeal.Step.K_main_v15, Cert.ReferenceIdeal.Step.K_main_cst, Cert.ReferenceIdeal.Step.A_main_v43, Cert.ReferenceIdeal.Step.A_main_v42, Cert.ReferenceIdeal.Step.A_main_v2, Cert.ReferenceIdeal.Step.A_main_v1, Cert.ReferenceIdeal.Step.A_main_v0, Cert.ReferenceIdeal.Step.A_main_v53, Cert.ReferenceIdeal.Step.K_main_v51, Cert.ReferenceIdeal.Step.A_main_v52]
  rfl

set_option maxRecDepth 65536 in
set_option maxHeartbeats 1600000 in
/-- The loop enters with the first state's array 1. -/
theorem en_1 : entryContents preI m c (Proc.devRef .tc main_v105_1) = (initState m c).main_v105_1 := by
  simp only [entryContents, afterL_cons, afterL_nil]
  after_reads_simp
  rfl

set_option maxRecDepth 65536 in
set_option maxHeartbeats 1600000 in
/-- The loop enters with the first state's array 2. -/
theorem en_2 : entryContents preI m c (Proc.devRef .tc main_v105_2) = (initState m c).main_v105_2 := by
  simp only [entryContents, afterL_cons, afterL_nil]
  after_reads_simp
  rfl

set_option maxRecDepth 65536 in
set_option maxHeartbeats 1600000 in
/-- The loop enters with the first state's array 3. -/
theorem en_3 : entryContents preI m c (Proc.devRef .tc main_v105_3) = (initState m c).main_v105_3 := by
  simp only [entryContents, afterL_cons, afterL_nil]
  after_reads_simp
  dsimp only [initState, Cert.ReferenceIdeal.Step.init, Cert.ReferenceIdeal.Step.A_main_v101, Cert.ReferenceIdeal.Step.A_main_v100, Cert.ReferenceIdeal.Step.A_main_v77, Cert.ReferenceIdeal.Step.A_main_v73, Cert.ReferenceIdeal.Step.A_main_v76, Cert.ReferenceIdeal.Step.A_main_v66, Cert.ReferenceIdeal.Step.A_main_v68, Cert.ReferenceIdeal.Step.A_main_v74, Cert.ReferenceIdeal.Step.A_main_v75, Cert.ReferenceIdeal.Step.A_main_v65, Cert.ReferenceIdeal.Step.A_main_v67, Cert.ReferenceIdeal.Step.A_main_v70, Cert.ReferenceIdeal.Step.A_main_v72, Cert.ReferenceIdeal.Step.A_main_v19, Cert.ReferenceIdeal.Step.A_main_v36, Cert.ReferenceIdeal.Step.A_main_v69, Cert.ReferenceIdeal.Step.A_main_v71, Cert.ReferenceIdeal.Step.A_main_v18, Cert.ReferenceIdeal.Step.A_main_v35, Cert.ReferenceIdeal.Step.A_main_v17, Cert.ReferenceIdeal.Step.A_main_v34, Cert.ReferenceIdeal.Step.A_main_v16, Cert.ReferenceIdeal.Step.A_main_v33]
  refine congrArg (fun x : FVec F S8x4x4352 .f32 => transpose S34x8x4x128 [2, 0, 1, 3] (shapeCast S8x4x34x128 x shapeCasts_S8x4x4352_S8x4x34x128) transposes_S8x4x34x128_S34x8x4x128_2_0_1_3) ?_
  refine cat2_congr _ ?_ ?_
  · after_reads_simp
    refine cat2_congr _ ?_ ?_
    · after_reads_simp
      rfl
    · after_reads_simp
      rfl
  · after_reads_simp
    refine cat2_congr _ ?_ ?_
    · after_reads_simp
      rfl
    · after_reads_simp
      rfl

set_option maxRecDepth 65536 in
set_option maxHeartbeats 1600000 in
/-- The loop enters with the first state's array 4. -/
theorem en_4 : entryContents preI m c (Proc.devRef .tc main_v105_4) = (initState m c).main_v105_4 := by
  simp only [entryContents, afterL_cons, afterL_nil]
  after_reads_simp
  dsimp only [initState, Cert.ReferenceIdeal.Step.init, Cert.ReferenceIdeal.Step.A_main_v103, Cert.ReferenceIdeal.Step.A_main_v102, Cert.ReferenceIdeal.Step.A_main_v90, Cert.ReferenceIdeal.Step.A_main_v86, Cert.ReferenceIdeal.Step.A_main_v89, Cert.ReferenceIdeal.Step.A_main_v79, Cert.ReferenceIdeal.Step.A_main_v81, Cert.ReferenceIdeal.Step.A_main_v87, Cert.ReferenceIdeal.Step.A_main_v88, Cert.ReferenceIdeal.Step.A_main_v78, Cert.ReferenceIdeal.Step.A_main_v80, Cert.ReferenceIdeal.Step.A_main_v83, Cert.ReferenceIdeal.Step.A_main_v85, Cert.ReferenceIdeal.Step.A_main_v24, Cert.ReferenceIdeal.Step.A_main_v41, Cert.ReferenceIdeal.Step.A_main_v82, Cert.ReferenceIdeal.Step.A_main_v84, Cert.ReferenceIdeal.Step.A_main_v23, Cert.ReferenceIdeal.Step.A_main_v40, Cert.ReferenceIdeal.Step.A_main_call0_v4, Cert.ReferenceIdeal.Step.A_main_call0_v6, Cert.ReferenceIdeal.Step.A_main_call0_v11, Cert.ReferenceIdeal.Step.A_main_call1_v4, Cert.ReferenceIdeal.Step.A_main_call1_v6, Cert.ReferenceIdeal.Step.A_main_call1_v11, Cert.ReferenceIdeal.Step.A_main_call0_v3, Cert.ReferenceIdeal.Step.A_main_v22, Cert.ReferenceIdeal.Step.K_main_call0_v5, Cert.ReferenceIdeal.Step.A_main_call0_v1, Cert.ReferenceIdeal.Step.A_main_call0_v10, Cert.ReferenceIdeal.Step.A_main_call1_v3, Cert.ReferenceIdeal.Step.A_main_v39, Cert.ReferenceIdeal.Step.K_main_call1_v5, Cert.ReferenceIdeal.Step.A_main_call1_v1, Cert.ReferenceIdeal.Step.A_main_call1_v10, Cert.ReferenceIdeal.Step.K_main_call0_v2, Cert.ReferenceIdeal.Step.A_main_v21, Cert.ReferenceIdeal.Step.K_main_call0_cst, Cert.ReferenceIdeal.Step.K_main_call0_v0, Cert.ReferenceIdeal.Step.A_main_call0_v9, Cert.ReferenceIdeal.Step.K_main_call1_v2, Cert.ReferenceIdeal.Step.A_main_v38, Cert.ReferenceIdeal.Step.K_main_call1_cst, Cert.ReferenceIdeal.Step.K_main_call1_v0, Cert.ReferenceIdeal.Step.A_main_call1_v9, Cert.ReferenceIdeal.Step.A_main_v20, Cert.ReferenceIdeal.Step.A_main_call0_v8, Cert.ReferenceIdeal.Step.A_main_v37, Cert.ReferenceIdeal.Step.A_main_call1_v8, Cert.ReferenceIdeal.Step.A_main_v17, Cert.ReferenceIdeal.Step.A_main_call0_v7, Cert.ReferenceIdeal.Step.A_main_v34, Cert.ReferenceIdeal.Step.A_main_call1_v7, Cert.ReferenceIdeal.Step.A_main_v16, Cert.ReferenceIdeal.Step.A_main_v33]
  refine congrArg (fun x : FVec F S8x4x4352 .f32 => transpose S34x8x4x128 [2, 0, 1, 3] (shapeCast S8x4x34x128 x shapeCasts_S8x4x4352_S8x4x34x128) transposes_S8x4x34x128_S34x8x4x128_2_0_1_3) ?_
  refine cat2_congr _ ?_ ?_
  · after_reads_simp
    refine cat2_congr _ ?_ ?_
    · after_reads_simp
      rfl
    · after_reads_simp
      rfl
  · after_reads_simp
    refine cat2_congr _ ?_ ?_
    · after_reads_simp
      rfl
    · after_reads_simp
      rfl

set_option maxRecDepth 65536 in
set_option maxHeartbeats 1600000 in
/-- The loop enters with counter zero. -/
theorem en_5 : entryContents preI m c (Proc.devRef .tc main_v105_5) = (constantI S_ 32 (BitVec.ofNat 32 0) : (Proc.devRef .tc main_v105_5 : DevRef τ sig).ty.Contents (Elt F)) := by
  simp only [entryContents, afterL_cons, afterL_nil]
  after_reads_simp
  rfl

end Cert.ReferenceIdeal.MRun

end
-- ==== Proof.MRun.lean ====
module

public import proofs.«01_k».proof.Proof.MEnt

@[expose] public section

/-! The reference's run as a recurrence: at a valuation that holds a state, every value one trip of the loop
computes is the step module's, so a trip keeps holding with the step applied, and the result is read from the
last state. -/

set_option maxRecDepth 8192

noncomputable section

namespace Cert.ReferenceIdeal.MRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v105_6) = s.main_v105_6
  f_7 : V0 (Proc.devRef .tc main_v105_7) = s.main_v105_7
  f_8 : V0 (Proc.devRef .tc main_v105_8) = s.main_v105_8
  f_9 : V0 (Proc.devRef .tc main_v105_9) = s.main_v105_9
  f_0 : V0 (Proc.devRef .tc main_v105_0) = s.main_v105_0
  f_1 : V0 (Proc.devRef .tc main_v105_1) = s.main_v105_1
  f_2 : V0 (Proc.devRef .tc main_v105_2) = s.main_v105_2
  f_3 : V0 (Proc.devRef .tc main_v105_3) = s.main_v105_3
  f_4 : V0 (Proc.devRef .tc main_v105_4) = s.main_v105_4
  n_5 : V0 (Proc.devRef .tc main_v105_5) = constantI S_ 32 (BitVec.ofNat 32 j)

variable {V0 s j}

/-! `al_k`: the `k`-th array the loop's body computes is the step's `k`-th array. -/

theorem al_0 (h : Holds V0 s j) : (constantI S_ 32 0#32 : (Proc.devRef .tc main_while0b_call12_c : DevRef τ sig).ty.Contents (Elt F)) = Cert.ReferenceIdeal.Step.b0 j s := by
  unfold Cert.ReferenceIdeal.Step.b0
  rfl
theorem al_1 (h : Holds V0 s j) : (constantI S_ 32 0#32 : (Proc.devRef .tc main_while0b_call12_c_0 : DevRef τ sig).ty.Contents (Elt F)) = Cert.ReferenceIdeal.Step.b1 j s := by
  unfold Cert.ReferenceIdeal.Step.b1
  rfl
theorem al_2 (h : Holds V0 s j) : (constantI S_ 32 0#32 : (Proc.devRef .tc main_while0b_call12_c_1 : DevRef τ sig).ty.Contents (Elt F)) = Cert.ReferenceIdeal.Step.b2 j s := by
  unfold Cert.ReferenceIdeal.Step.b2
  rfl
theorem al_3 (h : Holds V0 s j) : (constantI S_ 32 0#32 : (Proc.devRef .tc main_while0b_call12_c_2 : DevRef τ sig).ty.Contents (Elt F)) = Cert.ReferenceIdeal.Step.b3 j s := by
  unfold Cert.ReferenceIdeal.Step.b3
  rfl
theorem al_4 (h : Holds V0 s j) : (Host.dynamicSlice S1x8x4x128x256 (V0 (Proc.devRef .tc main_v105_0)) (fun k => (((![V0 (Proc.devRef .tc main_v105_5), constantI S_ 32 0#32, constantI S_ 32 0#32, constantI S_ 32 0#32, constantI S_ 32 0#32] : Fin 5 → (⟨S_, .i32⟩ : BufTy).Contents (Elt F))) k (Shape.Idx.first h_S_)).toInt) sliceFits_S34x8x4x128x256_S1x8x4x128x256 : (Proc.devRef .tc main_while0b_call12_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
theorem al_5 (h : Holds V0 s j) : (res_main_while0b_v147 V0 : (Proc.devRef .tc main_while0b_v147 : DevRef τ sig).ty.Contents (Elt F)) = Cert.ReferenceIdeal.Step.b5 j s := by
  unfold res_main_while0b_v147 Cert.ReferenceIdeal.Step.b5
  rw [← al_4 h]
  try rfl
theorem al_6 (h : Holds V0 s j) : (constantI S_ 32 0#32 : (Proc.devRef .tc main_while0b_call13_c : DevRef τ sig).ty.Contents (Elt F)) = Cert.ReferenceIdeal.Step.b6 j s := by
  unfold Cert.ReferenceIdeal.Step.b6
  rfl
theorem al_7 (h : Holds V0 s j) : (constantI S_ 32 0#32 : (Proc.devRef .tc main_while0b_call13_c_0 : DevRef τ sig).ty.Contents (Elt F)) = Cert.ReferenceIdeal.Step.b7 j s := by
  unfold Cert.ReferenceIdeal.Step.b7
  rfl
theorem al_8 (h : Holds V0 s j) : (constantI S_ 32 0#32 : (Proc.devRef .tc main_while0b_call13_c_1 : DevRef τ sig).ty.Contents (Elt F)) = Cert.ReferenceIdeal.Step.b8 j s := by
  unfold Cert.ReferenceIdeal.Step.b8
  rfl
theorem al_9 (h : Holds V0 s j) : (constantI S_ 32 0#32 : (Proc.devRef .tc main_while0b_call13_c_2 : DevRef τ sig).ty.Contents (Elt F)) = Cert.ReferenceIdeal.Step.b9 j s := by
  unfold Cert.ReferenceIdeal.Step.b9
  rfl
theorem al_10 (h : Holds V0 s j) : (Host.dynamicSlice S1x8x4x128x256 (V0 (Proc.devRef .tc main_v105_1)) (fun k => (((![V0 (Proc.devRef .tc main_v105_5), constantI S_ 32 0#32, constantI S_ 32 0#32, constantI S_ 32 0#32, constantI S_ 32 0#32] : Fin 5 → (⟨S_, .i32⟩ : BufTy).Contents (Elt F))) k (Shape.Idx.first h_S_)).toInt) sliceFits_S34x8x4x128x256_S1x8x4x128x256 : (Proc.devRef .tc main_while0b_call13_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
theorem al_11 (h : Holds V0 s j) : (res_main_while0b_v148 V0 : (Proc.devRef .tc main_while0b_v148 : DevRef τ sig).ty.Contents (Elt F)) = Cert.ReferenceIdeal.Step.b11 j s := by
  unfold res_main_while0b_v148 Cert.ReferenceIdeal.Step.b11
  rw [← al_10 h]
  try rfl
theorem al_12 (h : Holds V0 s j) : (constantI S_ 32 0#32 : (Proc.devRef .tc main_while0b_call14_c : DevRef τ sig).ty.Contents (Elt F)) = Cert.ReferenceIdeal.Step.b12 j s := by
  unfold Cert.ReferenceIdeal.Step.b12
  rfl
theorem al_13 (h : Holds V0 s j) : (constantI S_ 32 0#32 : (Proc.devRef .tc main_while0b_call14_c_0 : DevRef τ sig).ty.Contents (Elt F)) = Cert.ReferenceIdeal.Step.b13 j s := by
  unfold Cert.ReferenceIdeal.Step.b13
  rfl
theorem al_14 (h : Holds V0 s j) : (constantI S_ 32 0#32 : (Proc.devRef .tc main_while0b_call14_c_1 : DevRef τ sig).ty.Contents (Elt F)) = Cert.ReferenceIdeal.Step.b14 j s := by
  unfold Cert.ReferenceIdeal.Step.b14
  rfl
theorem al_15 (h : Holds V0 s j) : (constantI S_ 32 0#32 : (Proc.devRef .tc main_while0b_call14_c_2 : DevRef τ sig).ty.Contents (Elt F)) = Cert.ReferenceIdeal.Step.b15 j s := by
  unfold Cert.ReferenceIdeal.Step.b15
  rfl
theorem al_16 (h : Holds V0 s j) : (Host.dynamicSlice S1x8x4x128x256 (V0 (Proc.devRef .tc main_v105_2)) (fun k => (((![V0 (Proc.devRef .tc main_v105_5), constantI S_ 32 0#32, constantI S_ 32 0#32, constantI S_ 32 0#32, constantI S_ 32 0#32] : Fin 5 → (⟨S_, .i32⟩ : BufTy).Contents (Elt F))) k (Shape.Idx.first h_S_)).toInt) sliceFits_S34x8x4x128x256_S1x8x4x128x256 : (Proc.devRef .tc main_while0b_call14_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
theorem al_17 (h : Holds V0 s j) : (res_main_while0b_v149 V0 : (Proc.devRef .tc main_while0b_v149 : DevRef τ sig).ty.Contents (Elt F)) = Cert.ReferenceIdeal.Step.b17 j s := by
  unfold res_main_while0b_v149 Cert.ReferenceIdeal.Step.b17
  rw [← al_16 h]
  try rfl
theorem al_18 (h : Holds V0 s j) : (constantI S_ 32 0#32 : (Proc.devRef .tc main_while0b_call15_c : DevRef τ sig).ty.Contents (Elt F)) = Cert.ReferenceIdeal.Step.b18 j s := by
  unfold Cert.ReferenceIdeal.Step.b18
  rfl
theorem al_19 (h : Holds V0 s j) : (constantI S_ 32 0#32 : (Proc.devRef .tc main_while0b_call15_c_0 : DevRef τ sig).ty.Contents (Elt F)) = Cert.ReferenceIdeal.Step.b19 j s := by
  unfold Cert.ReferenceIdeal.Step.b19
  rfl
theorem al_20 (h : Holds V0 s j) : (constantI S_ 32 0#32 : (Proc.devRef .tc main_while0b_call15_c_1 : DevRef τ sig).ty.Contents (Elt F)) = Cert.ReferenceIdeal.Step.b20 j s := by
  unfold Cert.ReferenceIdeal.Step.b20
  rfl
theorem al_21 (h : Holds V0 s j) : (Host.dynamicSlice S1x8x4x128 (V0 (Proc.devRef .tc main_v105_3)) (fun k => (((![V0 (Proc.devRef .tc main_v105_5), constantI S_ 32 0#32, constantI S_ 32 0#32, constantI S_ 32 0#32] : Fin 4 → (⟨S_, .i32⟩ : BufTy).Contents (Elt F))) k (Shape.Idx.first h_S_)).toInt) sliceFits_S34x8x4x128_S1x8x4x128 : (Proc.devRef .tc main_while0b_call15_v0 : DevRef τ sig).ty.Contents (Elt F)) = Cert.ReferenceIdeal.Step.b21 j s := by
  unfold Cert.ReferenceIdeal.Step.b21
  rw [← al_18 h, ← al_19 h, ← al_20 h, h.f_3, h.n_5]
  try rfl
theorem al_22 (h : Holds V0 s j) : (res_main_while0b_v150 V0 : (Proc.devRef .tc main_while0b_v150 : DevRef τ sig).ty.Contents (Elt F)) = Cert.ReferenceIdeal.Step.b22 j s := by
  unfold res_main_while0b_v150 Cert.ReferenceIdeal.Step.b22
  rw [← al_21 h]
  try rfl
theorem al_23 (h : Holds V0 s j) : (constantI S_ 32 0#32 : (Proc.devRef .tc main_while0b_call16_c : DevRef τ sig).ty.Contents (Elt F)) = Cert.ReferenceIdeal.Step.b23 j s := by
  unfold Cert.ReferenceIdeal.Step.b23
  rfl
theorem al_24 (h : Holds V0 s j) : (constantI S_ 32 0#32 : (Proc.devRef .tc main_while0b_call16_c_0 : DevRef τ sig).ty.Contents (Elt F)) = Cert.ReferenceIdeal.Step.b24 j s := by
  unfold Cert.ReferenceIdeal.Step.b24
  rfl
theorem al_25 (h : Holds V0 s j) : (constantI S_ 32 0#32 : (Proc.devRef .tc main_while0b_call16_c_1 : DevRef τ sig).ty.Contents (Elt F)) = Cert.ReferenceIdeal.Step.b25 j s := by
  unfold Cert.ReferenceIdeal.Step.b25
  rfl
theorem al_26 (h : Holds V0 s j) : (Host.dynamicSlice S1x8x4x128 (V0 (Proc.devRef .tc main_v105_4)) (fun k => (((![V0 (Proc.devRef .tc main_v105_5), constantI S_ 32 0#32, constantI S_ 32 0#32, constantI S_ 32 0#32] : Fin 4 → (⟨S_, .i32⟩ : BufTy).Contents (Elt F))) k (Shape.Idx.first h_S_)).toInt) sliceFits_S34x8x4x128_S1x8x4x128 : (Proc.devRef .tc main_while0b_call16_v0 : DevRef τ sig).ty.Contents (Elt F)) = Cert.ReferenceIdeal.Step.b26 j s := by
  unfold Cert.ReferenceIdeal.Step.b26
  rw [← al_23 h, ← al_24 h, ← al_25 h, h.f_4, h.n_5]
  try rfl
theorem al_27 (h : Holds V0 s j) : (shapeCast S8x4x128 (Host.dynamicSlice S1x8x4x128 (V0 (Proc.devRef .tc main_v105_4)) (fun k => (((![V0 (Proc.devRef .tc main_v105_5), constantI S_ 32 0#32, constantI S_ 32 0#32, constantI S_ 32 0#32] : Fin 4 → (⟨S_, .i32⟩ : BufTy).Contents (Elt F))) k (Shape.Idx.first h_S_)).toInt) sliceFits_S34x8x4x128_S1x8x4x128) shapeCasts_S1x8x4x128_S8x4x128 : (Proc.devRef .tc main_while0b_v151 : DevRef τ sig).ty.Contents (Elt F)) = Cert.ReferenceIdeal.Step.b27 j s := by
  unfold Cert.ReferenceIdeal.Step.b27
  rw [← al_26 h]
  try rfl
theorem al_28 (h : Holds V0 s j) : (constantI S_ 1 1#1 : (Proc.devRef .tc main_while0b_c_22 : DevRef τ sig).ty.Contents (Elt F)) = Cert.ReferenceIdeal.Step.b28 j s := by
  unfold Cert.ReferenceIdeal.Step.b28
  rfl
theorem al_29 (h : Holds V0 s j) : (broadcastInDim S128x128 ![] bcast_S_S128x128 (constantI S_ 1 1#1) : (Proc.devRef .tc main_while0b_v152 : DevRef τ sig).ty.Contents (Elt F)) = Cert.ReferenceIdeal.Step.b29 j s := by
  unfold Cert.ReferenceIdeal.Step.b29
  rw [← al_28 h]
  try rfl
theorem al_30 (h : Holds V0 s j) : (iotaInDim S128x128 32 0 : (Proc.devRef .tc main_while0b_call17_v0 : DevRef τ sig).ty.Contents (Elt F)) = Cert.ReferenceIdeal.Step.b30 j s := by
  unfold Cert.ReferenceIdeal.Step.b30
  rfl
theorem al_31 (h : Holds V0 s j) : (constantI S_ 32 0#32 : (Proc.devRef .tc main_while0b_call17_c : DevRef τ sig).ty.Contents (Elt F)) = Cert.ReferenceIdeal.Step.b31 j s := by
  unfold Cert.ReferenceIdeal.Step.b31
  rfl
theorem al_32 (h : Holds V0 s j) : (broadcastInDim S128x128 ![] bcast_S_S128x128 (constantI S_ 32 0#32) : (Proc.devRef .tc main_while0b_call17_v1 : DevRef τ sig).ty.Contents (Elt F)) = Cert.ReferenceIdeal.Step.b32 j s := by
  unfold Cert.ReferenceIdeal.Step.b32
  rw [← al_31 h]
  try rfl
theorem al_33 (h : Holds V0 s j) : (addi (iotaInDim S128x128 32 0) (broadcastInDim S128x128 ![] bcast_S_S128x128 (constantI S_ 32 0#32)) : (Proc.devRef .tc main_while0b_call17_v2 : DevRef τ sig).ty.Contents (Elt F)) = Cert.ReferenceIdeal.Step.b33 j s := by
  unfold Cert.ReferenceIdeal.Step.b33
  rw [← al_30 h, ← al_32 h]
  try rfl
theorem al_34 (h : Holds V0 s j) : (iotaInDim S128x128 32 1 : (Proc.devRef .tc main_while0b_call17_v3 : DevRef τ sig).ty.Contents (Elt F)) = Cert.ReferenceIdeal.Step.b34 j s := by
  unfold Cert.ReferenceIdeal.Step.b34
  rfl
theorem al_35 (h : Holds V0 s j) : (cmpi .sge (addi (iotaInDim S128x128 32 0) (broadcastInDim S128x128 ![] bcast_S_S128x128 (constantI S_ 32 0#32))) (iotaInDim S128x128 32 1) : (Proc.devRef .tc main_while0b_call17_v4 : DevRef τ sig).ty.Contents (Elt F)) = Cert.ReferenceIdeal.Step.b35 j s := by
  unfold Cert.ReferenceIdeal.Step.b35
  rw [← al_33 h, ← al_34 h]
  try rfl
theorem al_36 (h : Holds V0 s j) : (constantI S_ 1 0#1 : (Proc.devRef .tc main_while0b_call17_c_0 : DevRef τ sig).ty.Contents (Elt F)) = Cert.ReferenceIdeal.Step.b36 j s := by
  unfold Cert.ReferenceIdeal.Step.b36
  rfl
theorem al_37 (h : Holds V0 s j) : (broadcastInDim S128x128 ![] bcast_S_S128x128 (constantI S_ 1 0#1) : (Proc.devRef .tc main_while0b_call17_v5 : DevRef τ sig).ty.Contents (Elt F)) = Cert.ReferenceIdeal.Step.b37 j s := by
  unfold Cert.ReferenceIdeal.Step.b37
  rw [← al_36 h]
  try rfl
theorem al_38 (h : Holds V0 s j) : (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : (Proc.devRef .tc main_while0b_v153 : DevRef τ sig).ty.Contents (Elt F)) = Cert.ReferenceIdeal.Step.b38 j s := by
  unfold Cert.ReferenceIdeal.Step.b38
  rw [← al_35 h, ← al_29 h, ← al_37 h]
  try rfl
theorem al_39 (h : Holds V0 s j) : (constant S_ .f32 0x00000000#32 : (Proc.devRef .tc main_while0b_call18_call0_cst : DevRef τ sig).ty.Contents (Elt F)) = Cert.ReferenceIdeal.Step.b39 j s := by
  unfold Cert.ReferenceIdeal.Step.b39
  rfl
theorem al_40 (h : Holds V0 s j) : (broadcastInDim S_ ![] bcast_S_S_ (constant S_ .f32 0x00000000#32) : (Proc.devRef .tc main_while0b_call18_call0_v0 : DevRef τ sig).ty.Contents (Elt F)) = Cert.ReferenceIdeal.Step.b40 j s := by
  unfold Cert.ReferenceIdeal.Step.b40
  rw [← al_39 h]
  try rfl
theorem al_41 (h : Holds V0 s j) : (res_main_while0b_v154 V0 : (Proc.devRef .tc main_while0b_v154 : DevRef τ sig).ty.Contents (Elt F)) = Cert.ReferenceIdeal.Step.b41 j s := by
  unfold res_main_while0b_v154 Cert.ReferenceIdeal.Step.b41
  rw [← al_27 h, ← al_40 h]
  try rfl
theorem al_42 (h : Holds V0 s j) : (broadcastInDim S8x4x128x1 ![0, 1, 2] bcast_S8x4x128_S8x4x128x1_0_1_2 (res_main_while0b_v154 V0) : (Proc.devRef .tc main_while0b_v155 : DevRef τ sig).ty.Contents (Elt F)) = Cert.ReferenceIdeal.Step.b42 j s := by
  unfold Cert.ReferenceIdeal.Step.b42
  rw [← al_41 h]
  try rfl
theorem al_43 (h : Holds V0 s j) : (broadcastInDim S8x4x1x128 ![0, 1, 3] bcast_S8x4x128_S8x4x1x128_0_1_3 (res_main_while0b_v154 V0) : (Proc.devRef .tc main_while0b_v156 : DevRef τ sig).ty.Contents (Elt F)) = Cert.ReferenceIdeal.Step.b43 j s := by
  unfold Cert.ReferenceIdeal.Step.b43
  rw [← al_41 h]
  try rfl
theorem al_44 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v154 V0)) : (Proc.devRef .tc main_while0b_v157 : DevRef τ sig).ty.Contents (Elt F)) = Cert.ReferenceIdeal.Step.b44 j s := by
  unfold Cert.ReferenceIdeal.Step.b44
  rw [← al_42 h]
  try rfl
theorem al_45 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v154 V0)) : (Proc.devRef .tc main_while0b_v158 : DevRef τ sig).ty.Contents (Elt F)) = Cert.ReferenceIdeal.Step.b45 j s := by
  unfold Cert.ReferenceIdeal.Step.b45
  rw [← al_43 h]
  try rfl
theorem al_46 (h : Holds V0 s j) : (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v154 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v154 V0))) : (Proc.devRef .tc main_while0b_v159 : DevRef τ sig).ty.Contents (Elt F)) = Cert.ReferenceIdeal.Step.b46 j s := by
  unfold Cert.ReferenceIdeal.Step.b46
  rw [← al_44 h, ← al_45 h]
  try rfl
theorem al_47 (h : Holds V0 s j) : (broadcastInDim S8x4x1x128 ![0, 1, 3] bcast_S8x4x128_S8x4x1x128_0_1_3 (res_main_while0b_v150 V0) : (Proc.devRef .tc main_while0b_v160 : DevRef τ sig).ty.Contents (Elt F)) = Cert.ReferenceIdeal.Step.b47 j s := by
  unfold Cert.ReferenceIdeal.Step.b47
  rw [← al_22 h]
  try rfl
theorem al_48 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v150 V0)) : (Proc.devRef .tc main_while0b_v161 : DevRef τ sig).ty.Contents (Elt F)) = Cert.ReferenceIdeal.Step.b48 j s := by
  unfold Cert.ReferenceIdeal.Step.b48
  rw [← al_47 h]
  try rfl
theorem al_49 (h : Holds V0 s j) : (addf (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v154 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v154 V0)))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v150 V0))) : (Proc.devRef .tc main_while0b_v162 : DevRef τ sig).ty.Contents (Elt F)) = Cert.ReferenceIdeal.Step.b49 j s := by
  unfold Cert.ReferenceIdeal.Step.b49
  rw [← al_46 h, ← al_48 h]
  try rfl
theorem al_50 (h : Holds V0 s j) : (constant S_ .f32 0xFF800000#32 : (Proc.devRef .tc main_while0b_cst_23 : DevRef τ sig).ty.Contents (Elt F)) = Cert.ReferenceIdeal.Step.b50 j s := by
  unfold Cert.ReferenceIdeal.Step.b50
  rfl
theorem al_51 (h : Holds V0 s j) : (id (constant S_ .f32 0xFF800000#32) : (Proc.devRef .tc main_while0b_call19_v0 : DevRef τ sig).ty.Contents (Elt F)) = Cert.ReferenceIdeal.Step.b51 j s := by
  unfold Cert.ReferenceIdeal.Step.b51
  rw [← al_50 h]
  try rfl
theorem al_52 (h : Holds V0 s j) : (broadcastInDim S8x4x128x128 ![2, 3] bcast_S128x128_S8x4x128x128_2_3 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))) : (Proc.devRef .tc main_while0b_call19_v1 : DevRef τ sig).ty.Contents (Elt F)) = Cert.ReferenceIdeal.Step.b52 j s := by
  unfold Cert.ReferenceIdeal.Step.b52
  rw [← al_38 h]
  try rfl
theorem al_53 (h : Holds V0 s j) : (broadcastInDim S8x4x128x128 ![] bcast_S_S8x4x128x128 (id (constant S_ .f32 0xFF800000#32)) : (Proc.devRef .tc main_while0b_call19_v2 : DevRef τ sig).ty.Contents (Elt F)) = Cert.ReferenceIdeal.Step.b53 j s := by
  unfold Cert.ReferenceIdeal.Step.b53
  rw [← al_51 h]
  try rfl
theorem al_54 (h : Holds V0 s j) : (res_main_while0b_v163 V0 : (Proc.devRef .tc main_while0b_v163 : DevRef τ sig).ty.Contents (Elt F)) = Cert.ReferenceIdeal.Step.b54 j s := by
  unfold res_main_while0b_v163 Cert.ReferenceIdeal.Step.b54
  rw [← al_52 h, ← al_49 h, ← al_53 h]
  try rfl
theorem al_55 (h : Holds V0 s j) : (broadcastInDim S8x4x1 ![0, 1] bcast_S8x4_S8x4x1_0_1 (V0 (Proc.devRef .tc main_v105_8)) : (Proc.devRef .tc main_while0b_v164 : DevRef τ sig).ty.Contents (Elt F)) = Cert.ReferenceIdeal.Step.b55 j s := by
  unfold Cert.ReferenceIdeal.Step.b55
  rw [h.f_8]
  try rfl
theorem al_56 (h : Holds V0 s j) : (broadcastInDim S8x4x128 ![0, 1, 2] bcast_S8x4x1_S8x4x128_0_1_2 (broadcastInDim S8x4x1 ![0, 1] bcast_S8x4_S8x4x1_0_1 (V0 (Proc.devRef .tc main_v105_8))) : (Proc.devRef .tc main_while0b_v165 : DevRef τ sig).ty.Contents (Elt F)) = Cert.ReferenceIdeal.Step.b56 j s := by
  unfold Cert.ReferenceIdeal.Step.b56
  rw [← al_55 h]
  try rfl
theorem al_57 (h : Holds V0 s j) : (res_main_while0b_v166 V0 : (Proc.devRef .tc main_while0b_v166 : DevRef τ sig).ty.Contents (Elt F)) = Cert.ReferenceIdeal.Step.b57 j s := by
  unfold res_main_while0b_v166 Cert.ReferenceIdeal.Step.b57
  rw [← al_41 h, ← al_56 h]
  try rfl
theorem al_58 (h : Holds V0 s j) : (constant S_ .f32 0xFF800000#32 : (Proc.devRef .tc main_while0b_cst_24 : DevRef τ sig).ty.Contents (Elt F)) = Cert.ReferenceIdeal.Step.b58 j s := by
  unfold Cert.ReferenceIdeal.Step.b58
  rfl
theorem al_59 (h : Holds V0 s j) : (Host.reduce FloatOps.maximumf (res_main_while0b_v163 V0) (constant S_ .f32 0xFF800000#32) reducesTo_S8x4x128x128_S8x4x128_d3 h_S_ : (Proc.devRef .tc main_while0b_v167 : DevRef τ sig).ty.Contents (Elt F)) = Cert.ReferenceIdeal.Step.b59 j s := by
  unfold Cert.ReferenceIdeal.Step.b59
  rw [← al_54 h, ← al_58 h]
  try rfl
theorem al_60 (h : Holds V0 s j) : (res_main_while0b_v168 V0 : (Proc.devRef .tc main_while0b_v168 : DevRef τ sig).ty.Contents (Elt F)) = Cert.ReferenceIdeal.Step.b60 j s := by
  unfold res_main_while0b_v168 Cert.ReferenceIdeal.Step.b60
  rw [← al_57 h, ← al_59 h]
  try rfl
theorem al_61 (h : Holds V0 s j) : (broadcastInDim S8x4x128x1 ![0, 1, 2] bcast_S8x4x128_S8x4x128x1_0_1_2 (res_main_while0b_v168 V0) : (Proc.devRef .tc main_while0b_v169 : DevRef τ sig).ty.Contents (Elt F)) = Cert.ReferenceIdeal.Step.b61 j s := by
  unfold Cert.ReferenceIdeal.Step.b61
  rw [← al_60 h]
  try rfl
theorem al_62 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v168 V0)) : (Proc.devRef .tc main_while0b_v170 : DevRef τ sig).ty.Contents (Elt F)) = Cert.ReferenceIdeal.Step.b62 j s := by
  unfold Cert.ReferenceIdeal.Step.b62
  rw [← al_61 h]
  try rfl
theorem al_63 (h : Holds V0 s j) : (subf (res_main_while0b_v163 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v168 V0))) : (Proc.devRef .tc main_while0b_v171 : DevRef τ sig).ty.Contents (Elt F)) = Cert.ReferenceIdeal.Step.b63 j s := by
  unfold Cert.ReferenceIdeal.Step.b63
  rw [← al_54 h, ← al_62 h]
  try rfl
theorem al_64 (h : Holds V0 s j) : (Host.exp (subf (res_main_while0b_v163 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v168 V0)))) : (Proc.devRef .tc main_while0b_v172 : DevRef τ sig).ty.Contents (Elt F)) = Cert.ReferenceIdeal.Step.b64 j s := by
  unfold Cert.ReferenceIdeal.Step.b64
  rw [← al_63 h]
  try rfl
theorem al_65 (h : Holds V0 s j) : (subf (res_main_while0b_v166 V0) (res_main_while0b_v168 V0) : (Proc.devRef .tc main_while0b_v173 : DevRef τ sig).ty.Contents (Elt F)) = Cert.ReferenceIdeal.Step.b65 j s := by
  unfold Cert.ReferenceIdeal.Step.b65
  rw [← al_57 h, ← al_60 h]
  try rfl
theorem al_66 (h : Holds V0 s j) : (res_main_while0b_v174 V0 : (Proc.devRef .tc main_while0b_v174 : DevRef τ sig).ty.Contents (Elt F)) = Cert.ReferenceIdeal.Step.b66 j s := by
  unfold res_main_while0b_v174 Cert.ReferenceIdeal.Step.b66
  rw [← al_65 h]
  try rfl
theorem al_67 (h : Holds V0 s j) : (Host.dotGeneral dot_S8x4x128x256_S8x4x128x256_S8x4x128x128_3_3_2_2_01_01 none (res_main_while0b_v147 V0) (res_main_while0b_v148 V0) : (Proc.devRef .tc main_while0b_v175 : DevRef τ sig).ty.Contents (Elt F)) = Cert.ReferenceIdeal.Step.b67 j s := by
  unfold Cert.ReferenceIdeal.Step.b67
  rw [← al_5 h, ← al_11 h]
  try rfl
theorem al_68 (h : Holds V0 s j) : (res_main_while0b_v176 V0 : (Proc.devRef .tc main_while0b_v176 : DevRef τ sig).ty.Contents (Elt F)) = Cert.ReferenceIdeal.Step.b68 j s := by
  unfold res_main_while0b_v176 Cert.ReferenceIdeal.Step.b68
  rw [← al_67 h, ← al_64 h]
  try rfl
theorem al_69 (h : Holds V0 s j) : (Host.dotGeneral dot_S8x4x128x128_S8x4x128x256_S8x4x128x256_3_2_2_3_01_01 none (res_main_while0b_v176 V0) (res_main_while0b_v149 V0) : (Proc.devRef .tc main_while0b_v177 : DevRef τ sig).ty.Contents (Elt F)) = Cert.ReferenceIdeal.Step.b69 j s := by
  unfold Cert.ReferenceIdeal.Step.b69
  rw [← al_68 h, ← al_17 h]
  try rfl
theorem al_70 (h : Holds V0 s j) : (broadcastInDim S8x4x128x1 ![0, 1, 2] bcast_S8x4x128_S8x4x128x1_0_1_2 (res_main_while0b_v174 V0) : (Proc.devRef .tc main_while0b_v178 : DevRef τ sig).ty.Contents (Elt F)) = Cert.ReferenceIdeal.Step.b70 j s := by
  unfold Cert.ReferenceIdeal.Step.b70
  rw [← al_66 h]
  try rfl
theorem al_71 (h : Holds V0 s j) : (Host.dotGeneral dot_S8x4x128x256_S8x4x256x256_S8x4x128x256_3_2_2_3_01_01 none (res_main_while0b_v147 V0) (V0 (Proc.devRef .tc main_v105_6)) : (Proc.devRef .tc main_while0b_v179 : DevRef τ sig).ty.Contents (Elt F)) = Cert.ReferenceIdeal.Step.b71 j s := by
  unfold Cert.ReferenceIdeal.Step.b71
  rw [← al_5 h, h.f_6]
  try rfl
theorem al_72 (h : Holds V0 s j) : (broadcastInDim S8x4x128x256 ![0, 1, 2, 3] bcast_S8x4x128x1_S8x4x128x256_0_1_2_3 (broadcastInDim S8x4x128x1 ![0, 1, 2] bcast_S8x4x128_S8x4x128x1_0_1_2 (res_main_while0b_v174 V0)) : (Proc.devRef .tc main_while0b_v180 : DevRef τ sig).ty.Contents (Elt F)) = Cert.ReferenceIdeal.Step.b72 j s := by
  unfold Cert.ReferenceIdeal.Step.b72
  rw [← al_70 h]
  try rfl
theorem al_73 (h : Holds V0 s j) : (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v174 V0))) (Host.dotGeneral dot_S8x4x128x256_S8x4x256x256_S8x4x128x256_3_2_2_3_01_01 none (res_main_while0b_v147 V0) (V0 (Proc.devRef .tc main_v105_6))) : (Proc.devRef .tc main_while0b_v181 : DevRef τ sig).ty.Contents (Elt F)) = Cert.ReferenceIdeal.Step.b73 j s := by
  unfold Cert.ReferenceIdeal.Step.b73
  rw [← al_72 h, ← al_71 h]
  try rfl
theorem al_74 (h : Holds V0 s j) : (addf (Host.dotGeneral dot_S8x4x128x128_S8x4x128x256_S8x4x128x256_3_2_2_3_01_01 none (res_main_while0b_v176 V0) (res_main_while0b_v149 V0)) (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v174 V0))) (Host.dotGeneral dot_S8x4x128x256_S8x4x256x256_S8x4x128x256_3_2_2_3_01_01 none (res_main_while0b_v147 V0) (V0 (Proc.devRef .tc main_v105_6)))) : (Proc.devRef .tc main_while0b_v182 : DevRef τ sig).ty.Contents (Elt F)) = Cert.ReferenceIdeal.Step.b74 j s := by
  unfold Cert.ReferenceIdeal.Step.b74
  rw [← al_69 h, ← al_73 h]
  try rfl
theorem al_75 (h : Holds V0 s j) : (constant S_ .f32 0x00000000#32 : (Proc.devRef .tc main_while0b_cst_25 : DevRef τ sig).ty.Contents (Elt F)) = Cert.ReferenceIdeal.Step.b75 j s := by
  unfold Cert.ReferenceIdeal.Step.b75
  rfl
theorem al_76 (h : Holds V0 s j) : (Host.reduceAdd (res_main_while0b_v176 V0) (constant S_ .f32 0x00000000#32) reducesTo_S8x4x128x128_S8x4x128_d3 h_S_ : (Proc.devRef .tc main_while0b_v183 : DevRef τ sig).ty.Contents (Elt F)) = Cert.ReferenceIdeal.Step.b76 j s := by
  unfold Cert.ReferenceIdeal.Step.b76
  rw [← al_68 h, ← al_75 h]
  try rfl
theorem al_77 (h : Holds V0 s j) : (Host.dotGeneral dot_S8x4x128x256_S8x4x256_S8x4x128_3_2_2_n_01_01 none (res_main_while0b_v147 V0) (V0 (Proc.devRef .tc main_v105_7)) : (Proc.devRef .tc main_while0b_v184 : DevRef τ sig).ty.Contents (Elt F)) = Cert.ReferenceIdeal.Step.b77 j s := by
  unfold Cert.ReferenceIdeal.Step.b77
  rw [← al_5 h, h.f_7]
  try rfl
theorem al_78 (h : Holds V0 s j) : (mulf (res_main_while0b_v174 V0) (Host.dotGeneral dot_S8x4x128x256_S8x4x256_S8x4x128_3_2_2_n_01_01 none (res_main_while0b_v147 V0) (V0 (Proc.devRef .tc main_v105_7))) : (Proc.devRef .tc main_while0b_v185 : DevRef τ sig).ty.Contents (Elt F)) = Cert.ReferenceIdeal.Step.b78 j s := by
  unfold Cert.ReferenceIdeal.Step.b78
  rw [← al_66 h, ← al_77 h]
  try rfl
theorem al_79 (h : Holds V0 s j) : (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7)))) : (Proc.devRef .tc main_while0b_v186 : DevRef τ sig).ty.Contents (Elt F)) = Cert.ReferenceIdeal.Step.b79 j s := by
  unfold Cert.ReferenceIdeal.Step.b79
  rw [← al_76 h, ← al_78 h]
  try rfl
theorem al_80 (h : Holds V0 s j) : (Host.absf (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7))))) : (Proc.devRef .tc main_while0b_v187 : DevRef τ sig).ty.Contents (Elt F)) = Cert.ReferenceIdeal.Step.b80 j s := by
  unfold Cert.ReferenceIdeal.Step.b80
  rw [← al_79 h]
  try rfl
theorem al_81 (h : Holds V0 s j) : (Host.negf (res_main_while0b_v168 V0) : (Proc.devRef .tc main_while0b_v188 : DevRef τ sig).ty.Contents (Elt F)) = Cert.ReferenceIdeal.Step.b81 j s := by
  unfold Cert.ReferenceIdeal.Step.b81
  rw [← al_60 h]
  try rfl
theorem al_82 (h : Holds V0 s j) : (Host.exp (Host.negf (res_main_while0b_v168 V0)) : (Proc.devRef .tc main_while0b_v189 : DevRef τ sig).ty.Contents (Elt F)) = Cert.ReferenceIdeal.Step.b82 j s := by
  unfold Cert.ReferenceIdeal.Step.b82
  rw [← al_81 h]
  try rfl
theorem al_83 (h : Holds V0 s j) : (maximumf (Host.absf (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7)))))) (Host.exp (Host.negf (res_main_while0b_v168 V0))) : (Proc.devRef .tc main_while0b_v190 : DevRef τ sig).ty.Contents (Elt F)) = Cert.ReferenceIdeal.Step.b83 j s := by
  unfold Cert.ReferenceIdeal.Step.b83
  rw [← al_80 h, ← al_82 h]
  try rfl
theorem al_84 (h : Holds V0 s j) : (broadcastInDim S8x4x128x1 ![0, 1, 2] bcast_S8x4x128_S8x4x128x1_0_1_2 (maximumf (Host.absf (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7)))))) (Host.exp (Host.negf (res_main_while0b_v168 V0)))) : (Proc.devRef .tc main_while0b_v191 : DevRef τ sig).ty.Contents (Elt F)) = Cert.ReferenceIdeal.Step.b84 j s := by
  unfold Cert.ReferenceIdeal.Step.b84
  rw [← al_83 h]
  try rfl
theorem al_85 (h : Holds V0 s j) : (broadcastInDim S8x4x128x256 ![0, 1, 2, 3] bcast_S8x4x128x1_S8x4x128x256_0_1_2_3 (broadcastInDim S8x4x128x1 ![0, 1, 2] bcast_S8x4x128_S8x4x128x1_0_1_2 (maximumf (Host.absf (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7)))))) (Host.exp (Host.negf (res_main_while0b_v168 V0))))) : (Proc.devRef .tc main_while0b_v192 : DevRef τ sig).ty.Contents (Elt F)) = Cert.ReferenceIdeal.Step.b85 j s := by
  unfold Cert.ReferenceIdeal.Step.b85
  rw [← al_84 h]
  try rfl
theorem al_86 (h : Holds V0 s j) : (Host.divf (addf (Host.dotGeneral dot_S8x4x128x128_S8x4x128x256_S8x4x128x256_3_2_2_3_01_01 none (res_main_while0b_v176 V0) (res_main_while0b_v149 V0)) (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v174 V0))) (Host.dotGeneral dot_S8x4x128x256_S8x4x256x256_S8x4x128x256_3_2_2_3_01_01 none (res_main_while0b_v147 V0) (V0 (Proc.devRef .tc main_v105_6))))) (broadcastInDim S8x4x128x256 ![0, 1, 2, 3] bcast_S8x4x128x1_S8x4x128x256_0_1_2_3 (broadcastInDim S8x4x128x1 ![0, 1, 2] bcast_S8x4x128_S8x4x128x1_0_1_2 (maximumf (Host.absf (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7)))))) (Host.exp (Host.negf (res_main_while0b_v168 V0)))))) : (Proc.devRef .tc main_while0b_v193 : DevRef τ sig).ty.Contents (Elt F)) = Cert.ReferenceIdeal.Step.b86 j s := by
  unfold Cert.ReferenceIdeal.Step.b86
  rw [← al_74 h, ← al_85 h]
  try rfl
theorem al_87 (h : Holds V0 s j) : (extractStridedSlice S8x4x1 ![0, 0, 127] (res_main_while0b_v154 V0) slices_S8x4x128_S8x4x1_0_0_127 : (Proc.devRef .tc main_while0b_v194 : DevRef τ sig).ty.Contents (Elt F)) = Cert.ReferenceIdeal.Step.b87 j s := by
  unfold Cert.ReferenceIdeal.Step.b87
  rw [← al_41 h]
  try rfl
theorem al_88 (h : Holds V0 s j) : (res_main_while0b_v195 V0 : (Proc.devRef .tc main_while0b_v195 : DevRef τ sig).ty.Contents (Elt F)) = Cert.ReferenceIdeal.Step.b88 j s := by
  unfold res_main_while0b_v195 Cert.ReferenceIdeal.Step.b88
  rw [← al_87 h]
  try rfl
theorem al_89 (h : Holds V0 s j) : (broadcastInDim S8x4x1 ![0, 1] bcast_S8x4_S8x4x1_0_1 (res_main_while0b_v195 V0) : (Proc.devRef .tc main_while0b_v196 : DevRef τ sig).ty.Contents (Elt F)) = Cert.ReferenceIdeal.Step.b89 j s := by
  unfold Cert.ReferenceIdeal.Step.b89
  rw [← al_88 h]
  try rfl
theorem al_90 (h : Holds V0 s j) : (broadcastInDim S8x4x128 ![0, 1, 2] bcast_S8x4x1_S8x4x128_0_1_2 (broadcastInDim S8x4x1 ![0, 1] bcast_S8x4_S8x4x1_0_1 (res_main_while0b_v195 V0)) : (Proc.devRef .tc main_while0b_v197 : DevRef τ sig).ty.Contents (Elt F)) = Cert.ReferenceIdeal.Step.b90 j s := by
  unfold Cert.ReferenceIdeal.Step.b90
  rw [← al_89 h]
  try rfl
theorem al_91 (h : Holds V0 s j) : (subf (broadcastInDim S8x4x128 ![0, 1, 2] bcast_S8x4x1_S8x4x128_0_1_2 (broadcastInDim S8x4x1 ![0, 1] bcast_S8x4_S8x4x1_0_1 (res_main_while0b_v195 V0))) (res_main_while0b_v154 V0) : (Proc.devRef .tc main_while0b_v198 : DevRef τ sig).ty.Contents (Elt F)) = Cert.ReferenceIdeal.Step.b91 j s := by
  unfold Cert.ReferenceIdeal.Step.b91
  rw [← al_90 h, ← al_41 h]
  try rfl
theorem al_92 (h : Holds V0 s j) : (res_main_while0b_v199 V0 : (Proc.devRef .tc main_while0b_v199 : DevRef τ sig).ty.Contents (Elt F)) = Cert.ReferenceIdeal.Step.b92 j s := by
  unfold res_main_while0b_v199 Cert.ReferenceIdeal.Step.b92
  rw [← al_91 h, ← al_22 h]
  try rfl
theorem al_93 (h : Holds V0 s j) : (addf (res_main_while0b_v195 V0) (V0 (Proc.devRef .tc main_v105_8)) : (Proc.devRef .tc main_while0b_v200 : DevRef τ sig).ty.Contents (Elt F)) = Cert.ReferenceIdeal.Step.b93 j s := by
  unfold Cert.ReferenceIdeal.Step.b93
  rw [← al_88 h, h.f_8]
  try rfl
theorem al_94 (h : Holds V0 s j) : (constant S_ .f32 0xFF800000#32 : (Proc.devRef .tc main_while0b_cst_26 : DevRef τ sig).ty.Contents (Elt F)) = Cert.ReferenceIdeal.Step.b94 j s := by
  unfold Cert.ReferenceIdeal.Step.b94
  rfl
theorem al_95 (h : Holds V0 s j) : (Host.reduce FloatOps.maximumf (res_main_while0b_v199 V0) (constant S_ .f32 0xFF800000#32) reducesTo_S8x4x128_S8x4_d2 h_S_ : (Proc.devRef .tc main_while0b_v201 : DevRef τ sig).ty.Contents (Elt F)) = Cert.ReferenceIdeal.Step.b95 j s := by
  unfold Cert.ReferenceIdeal.Step.b95
  rw [← al_92 h, ← al_94 h]
  try rfl
theorem al_96 (h : Holds V0 s j) : (res_main_while0b_v202 V0 : (Proc.devRef .tc main_while0b_v202 : DevRef τ sig).ty.Contents (Elt F)) = Cert.ReferenceIdeal.Step.b96 j s := by
  unfold res_main_while0b_v202 Cert.ReferenceIdeal.Step.b96
  rw [← al_93 h, ← al_95 h]
  try rfl
theorem al_97 (h : Holds V0 s j) : (broadcastInDim S8x4x1 ![0, 1] bcast_S8x4_S8x4x1_0_1 (res_main_while0b_v202 V0) : (Proc.devRef .tc main_while0b_v203 : DevRef τ sig).ty.Contents (Elt F)) = Cert.ReferenceIdeal.Step.b97 j s := by
  unfold Cert.ReferenceIdeal.Step.b97
  rw [← al_96 h]
  try rfl
theorem al_98 (h : Holds V0 s j) : (broadcastInDim S8x4x128 ![0, 1, 2] bcast_S8x4x1_S8x4x128_0_1_2 (broadcastInDim S8x4x1 ![0, 1] bcast_S8x4_S8x4x1_0_1 (res_main_while0b_v202 V0)) : (Proc.devRef .tc main_while0b_v204 : DevRef τ sig).ty.Contents (Elt F)) = Cert.ReferenceIdeal.Step.b98 j s := by
  unfold Cert.ReferenceIdeal.Step.b98
  rw [← al_97 h]
  try rfl
theorem al_99 (h : Holds V0 s j) : (subf (res_main_while0b_v199 V0) (broadcastInDim S8x4x128 ![0, 1, 2] bcast_S8x4x1_S8x4x128_0_1_2 (broadcastInDim S8x4x1 ![0, 1] bcast_S8x4_S8x4x1_0_1 (res_main_while0b_v202 V0))) : (Proc.devRef .tc main_while0b_v205 : DevRef τ sig).ty.Contents (Elt F)) = Cert.ReferenceIdeal.Step.b99 j s := by
  unfold Cert.ReferenceIdeal.Step.b99
  rw [← al_92 h, ← al_98 h]
  try rfl
theorem al_100 (h : Holds V0 s j) : (res_main_while0b_v206 V0 : (Proc.devRef .tc main_while0b_v206 : DevRef τ sig).ty.Contents (Elt F)) = Cert.ReferenceIdeal.Step.b100 j s := by
  unfold res_main_while0b_v206 Cert.ReferenceIdeal.Step.b100
  rw [← al_99 h]
  try rfl
theorem al_101 (h : Holds V0 s j) : (addf (res_main_while0b_v195 V0) (V0 (Proc.devRef .tc main_v105_8)) : (Proc.devRef .tc main_while0b_v207 : DevRef τ sig).ty.Contents (Elt F)) = Cert.ReferenceIdeal.Step.b101 j s := by
  unfold Cert.ReferenceIdeal.Step.b101
  rw [← al_88 h, h.f_8]
  try rfl
theorem al_102 (h : Holds V0 s j) : (subf (addf (res_main_while0b_v195 V0) (V0 (Proc.devRef .tc main_v105_8))) (res_main_while0b_v202 V0) : (Proc.devRef .tc main_while0b_v208 : DevRef τ sig).ty.Contents (Elt F)) = Cert.ReferenceIdeal.Step.b102 j s := by
  unfold Cert.ReferenceIdeal.Step.b102
  rw [← al_101 h, ← al_96 h]
  try rfl
theorem al_103 (h : Holds V0 s j) : (res_main_while0b_v209 V0 : (Proc.devRef .tc main_while0b_v209 : DevRef τ sig).ty.Contents (Elt F)) = Cert.ReferenceIdeal.Step.b103 j s := by
  unfold res_main_while0b_v209 Cert.ReferenceIdeal.Step.b103
  rw [← al_102 h]
  try rfl
theorem al_104 (h : Holds V0 s j) : (broadcastInDim S8x4x1x1 ![0, 1] bcast_S8x4_S8x4x1x1_0_1 (res_main_while0b_v209 V0) : (Proc.devRef .tc main_while0b_v210 : DevRef τ sig).ty.Contents (Elt F)) = Cert.ReferenceIdeal.Step.b104 j s := by
  unfold Cert.ReferenceIdeal.Step.b104
  rw [← al_103 h]
  try rfl
theorem al_105 (h : Holds V0 s j) : (broadcastInDim S8x4x256x256 ![0, 1, 2, 3] bcast_S8x4x1x1_S8x4x256x256_0_1_2_3 (broadcastInDim S8x4x1x1 ![0, 1] bcast_S8x4_S8x4x1x1_0_1 (res_main_while0b_v209 V0)) : (Proc.devRef .tc main_while0b_v211 : DevRef τ sig).ty.Contents (Elt F)) = Cert.ReferenceIdeal.Step.b105 j s := by
  unfold Cert.ReferenceIdeal.Step.b105
  rw [← al_104 h]
  try rfl
theorem al_106 (h : Holds V0 s j) : (mulf (broadcastInDim S8x4x256x256 ![0, 1, 2, 3] bcast_S8x4x1x1_S8x4x256x256_0_1_2_3 (broadcastInDim S8x4x1x1 ![0, 1] bcast_S8x4_S8x4x1x1_0_1 (res_main_while0b_v209 V0))) (V0 (Proc.devRef .tc main_v105_6)) : (Proc.devRef .tc main_while0b_v212 : DevRef τ sig).ty.Contents (Elt F)) = Cert.ReferenceIdeal.Step.b106 j s := by
  unfold Cert.ReferenceIdeal.Step.b106
  rw [← al_105 h, h.f_6]
  try rfl
theorem al_107 (h : Holds V0 s j) : (broadcastInDim S8x4x128x1 ![0, 1, 2] bcast_S8x4x128_S8x4x128x1_0_1_2 (res_main_while0b_v206 V0) : (Proc.devRef .tc main_while0b_v213 : DevRef τ sig).ty.Contents (Elt F)) = Cert.ReferenceIdeal.Step.b107 j s := by
  unfold Cert.ReferenceIdeal.Step.b107
  rw [← al_100 h]
  try rfl
theorem al_108 (h : Holds V0 s j) : (broadcastInDim S8x4x128x256 ![0, 1, 2, 3] bcast_S8x4x128x1_S8x4x128x256_0_1_2_3 (broadcastInDim S8x4x128x1 ![0, 1, 2] bcast_S8x4x128_S8x4x128x1_0_1_2 (res_main_while0b_v206 V0)) : (Proc.devRef .tc main_while0b_v214 : DevRef τ sig).ty.Contents (Elt F)) = Cert.ReferenceIdeal.Step.b108 j s := by
  unfold Cert.ReferenceIdeal.Step.b108
  rw [← al_107 h]
  try rfl
theorem al_109 (h : Holds V0 s j) : (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v206 V0))) (res_main_while0b_v148 V0) : (Proc.devRef .tc main_while0b_v215 : DevRef τ sig).ty.Contents (Elt F)) = Cert.ReferenceIdeal.Step.b109 j s := by
  unfold Cert.ReferenceIdeal.Step.b109
  rw [← al_108 h, ← al_11 h]
  try rfl
theorem al_110 (h : Holds V0 s j) : (Host.dotGeneral dot_S8x4x128x256_S8x4x128x256_S8x4x256x256_2_2_3_3_01_01 none (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v206 V0))) (res_main_while0b_v148 V0)) (res_main_while0b_v149 V0) : (Proc.devRef .tc main_while0b_v216 : DevRef τ sig).ty.Contents (Elt F)) = Cert.ReferenceIdeal.Step.b110 j s := by
  unfold Cert.ReferenceIdeal.Step.b110
  rw [← al_109 h, ← al_17 h]
  try rfl
theorem al_111 (h : Holds V0 s j) : (addf (mulf (broadcastInDim S8x4x256x256 ![0, 1, 2, 3] bcast_S8x4x1x1_S8x4x256x256_0_1_2_3 (broadcastInDim S8x4x1x1 ![0, 1] bcast_S8x4_S8x4x1x1_0_1 (res_main_while0b_v209 V0))) (V0 (Proc.devRef .tc main_v105_6))) (Host.dotGeneral dot_S8x4x128x256_S8x4x128x256_S8x4x256x256_2_2_3_3_01_01 none (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v206 V0))) (res_main_while0b_v148 V0)) (res_main_while0b_v149 V0)) : (Proc.devRef .tc main_while0b_v217 : DevRef τ sig).ty.Contents (Elt F)) = Cert.ReferenceIdeal.Step.b111 j s := by
  unfold Cert.ReferenceIdeal.Step.b111
  rw [← al_106 h, ← al_110 h]
  try rfl
theorem al_112 (h : Holds V0 s j) : (broadcastInDim S8x4x1 ![0, 1] bcast_S8x4_S8x4x1_0_1 (res_main_while0b_v209 V0) : (Proc.devRef .tc main_while0b_v218 : DevRef τ sig).ty.Contents (Elt F)) = Cert.ReferenceIdeal.Step.b112 j s := by
  unfold Cert.ReferenceIdeal.Step.b112
  rw [← al_103 h]
  try rfl
theorem al_113 (h : Holds V0 s j) : (broadcastInDim S8x4x256 ![0, 1, 2] bcast_S8x4x1_S8x4x256_0_1_2 (broadcastInDim S8x4x1 ![0, 1] bcast_S8x4_S8x4x1_0_1 (res_main_while0b_v209 V0)) : (Proc.devRef .tc main_while0b_v219 : DevRef τ sig).ty.Contents (Elt F)) = Cert.ReferenceIdeal.Step.b113 j s := by
  unfold Cert.ReferenceIdeal.Step.b113
  rw [← al_112 h]
  try rfl
theorem al_114 (h : Holds V0 s j) : (mulf (broadcastInDim S8x4x256 ![0, 1, 2] bcast_S8x4x1_S8x4x256_0_1_2 (broadcastInDim S8x4x1 ![0, 1] bcast_S8x4_S8x4x1_0_1 (res_main_while0b_v209 V0))) (V0 (Proc.devRef .tc main_v105_7)) : (Proc.devRef .tc main_while0b_v220 : DevRef τ sig).ty.Contents (Elt F)) = Cert.ReferenceIdeal.Step.b114 j s := by
  unfold Cert.ReferenceIdeal.Step.b114
  rw [← al_113 h, h.f_7]
  try rfl
theorem al_115 (h : Holds V0 s j) : (Host.dotGeneral dot_S8x4x128_S8x4x128x256_S8x4x256_2_2_n_3_01_01 none (res_main_while0b_v206 V0) (res_main_while0b_v148 V0) : (Proc.devRef .tc main_while0b_v221 : DevRef τ sig).ty.Contents (Elt F)) = Cert.ReferenceIdeal.Step.b115 j s := by
  unfold Cert.ReferenceIdeal.Step.b115
  rw [← al_100 h, ← al_11 h]
  try rfl
theorem al_116 (h : Holds V0 s j) : (addf (mulf (broadcastInDim S8x4x256 ![0, 1, 2] bcast_S8x4x1_S8x4x256_0_1_2 (broadcastInDim S8x4x1 ![0, 1] bcast_S8x4_S8x4x1_0_1 (res_main_while0b_v209 V0))) (V0 (Proc.devRef .tc main_v105_7))) (Host.dotGeneral dot_S8x4x128_S8x4x128x256_S8x4x256_2_2_n_3_01_01 none (res_main_while0b_v206 V0) (res_main_while0b_v148 V0)) : (Proc.devRef .tc main_while0b_v222 : DevRef τ sig).ty.Contents (Elt F)) = Cert.ReferenceIdeal.Step.b116 j s := by
  unfold Cert.ReferenceIdeal.Step.b116
  rw [← al_114 h, ← al_115 h]
  try rfl
theorem al_117 (h : Holds V0 s j) : (broadcastInDim S1x8x4x128x256 ![1, 2, 3, 4] bcast_S8x4x128x256_S1x8x4x128x256_1_2_3_4 (Host.divf (addf (Host.dotGeneral dot_S8x4x128x128_S8x4x128x256_S8x4x128x256_3_2_2_3_01_01 none (res_main_while0b_v176 V0) (res_main_while0b_v149 V0)) (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v174 V0))) (Host.dotGeneral dot_S8x4x128x256_S8x4x256x256_S8x4x128x256_3_2_2_3_01_01 none (res_main_while0b_v147 V0) (V0 (Proc.devRef .tc main_v105_6))))) (broadcastInDim S8x4x128x256 ![0, 1, 2, 3] bcast_S8x4x128x1_S8x4x128x256_0_1_2_3 (broadcastInDim S8x4x128x1 ![0, 1, 2] bcast_S8x4x128_S8x4x128x1_0_1_2 (maximumf (Host.absf (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7)))))) (Host.exp (Host.negf (res_main_while0b_v168 V0))))))) : (Proc.devRef .tc main_while0b_call20_v0 : DevRef τ sig).ty.Contents (Elt F)) = Cert.ReferenceIdeal.Step.b117 j s := by
  unfold Cert.ReferenceIdeal.Step.b117
  rw [← al_86 h]
  try rfl
theorem al_118 (h : Holds V0 s j) : (constantI S_ 32 0#32 : (Proc.devRef .tc main_while0b_call20_c : DevRef τ sig).ty.Contents (Elt F)) = Cert.ReferenceIdeal.Step.b118 j s := by
  unfold Cert.ReferenceIdeal.Step.b118
  rfl
theorem al_119 (h : Holds V0 s j) : (constantI S_ 32 0#32 : (Proc.devRef .tc main_while0b_call20_c_0 : DevRef τ sig).ty.Contents (Elt F)) = Cert.ReferenceIdeal.Step.b119 j s := by
  unfold Cert.ReferenceIdeal.Step.b119
  rfl
theorem al_120 (h : Holds V0 s j) : (constantI S_ 32 0#32 : (Proc.devRef .tc main_while0b_call20_c_1 : DevRef τ sig).ty.Contents (Elt F)) = Cert.ReferenceIdeal.Step.b120 j s := by
  unfold Cert.ReferenceIdeal.Step.b120
  rfl
theorem al_121 (h : Holds V0 s j) : (constantI S_ 32 0#32 : (Proc.devRef .tc main_while0b_call20_c_2 : DevRef τ sig).ty.Contents (Elt F)) = Cert.ReferenceIdeal.Step.b121 j s := by
  unfold Cert.ReferenceIdeal.Step.b121
  rfl
theorem al_122 (h : Holds V0 s j) : (Host.dynamicUpdateSlice (V0 (Proc.devRef .tc main_v105_9)) (broadcastInDim S1x8x4x128x256 ![1, 2, 3, 4] bcast_S8x4x128x256_S1x8x4x128x256_1_2_3_4 (Host.divf (addf (Host.dotGeneral dot_S8x4x128x128_S8x4x128x256_S8x4x128x256_3_2_2_3_01_01 none (res_main_while0b_v176 V0) (res_main_while0b_v149 V0)) (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v174 V0))) (Host.dotGeneral dot_S8x4x128x256_S8x4x256x256_S8x4x128x256_3_2_2_3_01_01 none (res_main_while0b_v147 V0) (V0 (Proc.devRef .tc main_v105_6))))) (broadcastInDim S8x4x128x256 ![0, 1, 2, 3] bcast_S8x4x128x1_S8x4x128x256_0_1_2_3 (broadcastInDim S8x4x128x1 ![0, 1, 2] bcast_S8x4x128_S8x4x128x1_0_1_2 (maximumf (Host.absf (addf (Host.reduceAdd (res_main_while0b_v176 V0) (constant S_ .f32 0x00000000#32) reducesTo_S8x4x128x128_S8x4x128_d3 h_S_) (mulf (res_main_while0b_v174 V0) (Host.dotGeneral dot_S8x4x128x256_S8x4x256_S8x4x128_3_2_2_n_01_01 none (res_main_while0b_v147 V0) (V0 (Proc.devRef .tc main_v105_7)))))) (Host.exp (Host.negf (res_main_while0b_v168 V0)))))))) (fun k => (((![V0 (Proc.devRef .tc main_v105_5), constantI S_ 32 0#32, constantI S_ 32 0#32, constantI S_ 32 0#32, constantI S_ 32 0#32] : Fin 5 → (⟨S_, .i32⟩ : BufTy).Contents (Elt F))) k (Shape.Idx.first h_S_)).toInt) updateFits_S34x8x4x128x256_S1x8x4x128x256 : (Proc.devRef .tc main_while0b_v223 : DevRef τ sig).ty.Contents (Elt F)) = Cert.ReferenceIdeal.Step.b122 j s := by
  unfold Cert.ReferenceIdeal.Step.b122
  rw [← al_117 h, ← al_118 h, ← al_119 h, ← al_120 h, ← al_121 h, h.f_9, h.n_5]
  try rfl

/-! One trip's step of the carried values is `step`, field by field; a counter steps to the next number. -/

/-- The loop's array 6 after a turn is the step's. -/
theorem step_6 (h : Holds V0 s j) : step_main_v105_6 V0 = (step j s).main_v105_6 := by
  unfold step_main_v105_6 Cert.ReferenceIdeal.Step.step
  show id (addf (mulf (broadcastInDim S8x4x256x256 ![0, 1, 2, 3] bcast_S8x4x1x1_S8x4x256x256_0_1_2_3 (broadcastInDim S8x4x1x1 ![0, 1] bcast_S8x4_S8x4x1x1_0_1 (res_main_while0b_v209 V0))) (V0 (Proc.devRef .tc main_v105_6))) (Host.dotGeneral dot_S8x4x128x256_S8x4x128x256_S8x4x256x256_2_2_3_3_01_01 none (mulf (broadcastInDim S8x4x128x256 ![0, 1, 2, 3] bcast_S8x4x128x1_S8x4x128x256_0_1_2_3 (broadcastInDim S8x4x128x1 ![0, 1, 2] bcast_S8x4x128_S8x4x128x1_0_1_2 (res_main_while0b_v206 V0))) (res_main_while0b_v148 V0)) (res_main_while0b_v149 V0))) = _
  rw [al_111 h]
  try rfl
/-- The loop's array 7 after a turn is the step's. -/
theorem step_7 (h : Holds V0 s j) : step_main_v105_7 V0 = (step j s).main_v105_7 := by
  unfold step_main_v105_7 Cert.ReferenceIdeal.Step.step
  show id (addf (mulf (broadcastInDim S8x4x256 ![0, 1, 2] bcast_S8x4x1_S8x4x256_0_1_2 (broadcastInDim S8x4x1 ![0, 1] bcast_S8x4_S8x4x1_0_1 (res_main_while0b_v209 V0))) (V0 (Proc.devRef .tc main_v105_7))) (Host.dotGeneral dot_S8x4x128_S8x4x128x256_S8x4x256_2_2_n_3_01_01 none (res_main_while0b_v206 V0) (res_main_while0b_v148 V0))) = _
  rw [al_116 h]
  try rfl
/-- The loop's array 8 after a turn is the step's. -/
theorem step_8 (h : Holds V0 s j) : step_main_v105_8 V0 = (step j s).main_v105_8 := by
  unfold step_main_v105_8 Cert.ReferenceIdeal.Step.step
  show id (res_main_while0b_v202 V0) = _
  rw [al_96 h]
  try rfl
/-- The loop's array 9 after a turn is the step's. -/
theorem step_9 (h : Holds V0 s j) : step_main_v105_9 V0 = (step j s).main_v105_9 := by
  unfold step_main_v105_9 Cert.ReferenceIdeal.Step.step
  exact al_122 h
/-- The counter goes up by one. -/
theorem step_5 (h : Holds V0 s j) : step_main_v105_5 V0 = constantI S_ 32 (BitVec.ofNat 32 (j + 1)) := by
  unfold step_main_v105_5
  rw [h.n_5]
  funext i
  show BitVec.ofNat 32 j + 1#32 = BitVec.ofNat 32 (j + 1)
  simp only [BitVec.ofNat_add]

/-- The host's last lines compute the result from the state. -/
theorem out_main_v146_holds (h : Holds V0 s j) {x_main_arg2 : (⟨S16384x6144, .bf16⟩ : BufTy).Contents (Elt F)} (h_main_arg2 : V0 (Proc.devRef .tc main_arg2) = x_main_arg2) {x_main_arg4 : (⟨S1x1024, .f32⟩ : BufTy).Contents (Elt F)} (h_main_arg4 : V0 (Proc.devRef .tc main_arg4) = x_main_arg4) : out_main_v146 V0 = Cert.ReferenceIdeal.Step.R_main_v146 s x_main_arg2 x_main_arg4 := by
  unfold out_main_v146 Cert.ReferenceIdeal.Step.R_main_v146
  rw [h.f_9, h_main_arg2, h_main_arg4]
  try rfl

/-- One trip keeps the valuation holding: `step` of the state, the same set-up values, the next number. -/
theorem holds_step (h : Holds V0 s j) : Holds (STEP V0) (step j s) (j + 1) where
  f_6 := (STEP_main_v105_6 V0).trans (step_6 h)
  f_7 := (STEP_main_v105_7 V0).trans (step_7 h)
  f_8 := (STEP_main_v105_8 V0).trans (step_8 h)
  f_9 := (STEP_main_v105_9 V0).trans (step_9 h)
  n_5 := (STEP_main_v105_5 V0).trans (step_5 h)
  f_0 := (STEP_main_v105_0 V0).trans h.f_0
  f_1 := (STEP_main_v105_1 V0).trans h.f_1
  f_2 := (STEP_main_v105_2 V0).trans h.f_2
  f_3 := (STEP_main_v105_3 V0).trans h.f_3
  f_4 := (STEP_main_v105_4 V0).trans h.f_4

variable (m : (ℓ : Loc nD τ sig) → Buf (Elt F) ℓ) (c : Dev nD)

/-- What the operations before the loop leave: the set-up values, number 0, the initial state. -/
theorem entry_holds : Holds (entryContents preI m c) (initState m c) 0 where
  f_6 := en_6 m c
  f_7 := en_7 m c
  f_8 := en_8 m c
  f_9 := en_9 m c
  f_0 := en_0 m c
  f_1 := en_1 m c
  f_2 := en_2 m c
  f_3 := en_3 m c
  f_4 := en_4 m c
  n_5 := en_5 m c

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 34 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v146) = Cert.ReferenceIdeal.Step.R_main_v146 (it c 34) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 34
    ⟨(h c).1.trans (out_main_v146_holds hk (iter_main_arg2 m c 34) (iter_main_arg4 m c 34)), (h c).2.1, (h c).2.2.1, (h c).2.2.2.1, (h c).2.2.2.2.1, (h c).2.2.2.2.2⟩) (Value.run m ρ)

end Cert.ReferenceIdeal.MRun

end
-- ==== Proof.MSetA.lean ====
module

public import proofs.«01_k».proof.Proof.Gen.ReferenceIdeal.Step
public import proofs.«01_k».proof.Proof.MSeq

@[expose] public section
set_option maxRecDepth 16384
noncomputable section
open Idealize.ShloMosaic Idealize.ShloMosaic.TcCoe Idealize.SL.Sem
open scoped BigOperators
/-! The projections and gates the reference reads, an entry at a time, of the argument arrays. -/

namespace Cert.ReferenceIdeal.Step
open Cert.ReferenceIdeal Cert.ReferenceIdeal.Gen Cert.MLstm

variable (a0 : (⟨S16x1024, .f32⟩ : BufTy).Contents (Elt Ideal)) (a1 : (⟨S16x16384, .f32⟩ : BufTy).Contents (Elt Ideal)) (a2 : (⟨S16384x6144, .bf16⟩ : BufTy).Contents (Elt Ideal)) (a3 : (⟨S1024x2048, .bf16⟩ : BufTy).Contents (Elt Ideal))

/-- The reference's key scale is a sixteenth. -/
theorem sixteenth : Ideal.ofBits .f32 0x3D800000#32 = ((1 / 16 : ℝ) : EReal) := by
  simp [Ideal.ofBits, Ideal.ieee, -EReal.coe_mul]; norm_num

/-- Minus the softplus of the negated gate is the logarithm of its sigmoid. -/
theorem softplus_LS (z : EReal) : (-(if -z ≠ -z then -z else max (-z) 0 + Ideal.log1p (Ideal.exp (-FloatOps.absf (F := Ideal) (φ := .f32) (-z))))) = LS z := by
  rw [if_neg (fun h => h rfl)]
  have := LS_softplus z
  rwa [sub_zero] at this

/-- A query of the latents. -/
theorem A_main_v43_at (b : Fin 4) (h : Fin 4) (s : Fin 4096) (e : Fin 256) : A_main_v43 a0 a1 a2 a3 (ix4 b h s e) = rd a2 (4096 * b.val + s.val) (256 * h.val + e.val) := by
  pointwise [A_main_v43, A_main_v42, A_main_v2, A_main_v1, A_main_v0]
  exact rd_at a2 _ _ _ _ (by show b.val * 4096 + s.val = _; omega) (by show h.val * 256 + e.val = _; omega)
/-- A key of the latents. -/
theorem A_main_v47_at (b : Fin 4) (h : Fin 4) (s : Fin 4096) (e : Fin 256) : A_main_v47 a0 a1 a2 a3 (ix4 b h s e) = rd a2 (4096 * b.val + s.val) (1024 + 256 * h.val + e.val) * ((1 / 16 : ℝ) : EReal) := by
  pointwise [A_main_v47, A_main_v45, K_main_v46, A_main_v44, K_main_cst_1, A_main_v5, A_main_v4, A_main_v3]
  exact congrArg₂ (· * ·) (rd_at a2 _ _ _ _ (by show b.val * 4096 + s.val = _; omega) (by show 1024 + (h.val * 256 + e.val) = _; omega)) sixteenth
/-- A value of the latents. -/
theorem A_main_v49_at (b : Fin 4) (h : Fin 4) (s : Fin 4096) (e : Fin 256) : A_main_v49 a0 a1 a2 a3 (ix4 b h s e) = rd a2 (4096 * b.val + s.val) (2048 + 256 * h.val + e.val) := by
  pointwise [A_main_v49, A_main_v48, A_main_v8, A_main_v7, A_main_v6]
  exact rd_at a2 _ _ _ _ (by show b.val * 4096 + s.val = _; omega) (by show 2048 + (h.val * 256 + e.val) = _; omega)
/-- A key of the context. -/
theorem A_main_v30_at (b : Fin 4) (h : Fin 4) (s : Fin 256) (e : Fin 256) : A_main_v30 a0 a1 a2 a3 (ix4 b h s e) = rd a3 (256 * b.val + s.val) (256 * h.val + e.val) * ((1 / 16 : ℝ) : EReal) := by
  pointwise [A_main_v30, A_main_v28, K_main_v29, A_main_v27, K_main_cst_0, A_main_v11, A_main_v10, A_main_v9]
  exact congrArg₂ (· * ·) (rd_at a3 _ _ _ _ (by show b.val * 256 + s.val = _; omega) (by show h.val * 256 + e.val = _; omega)) sixteenth
/-- A value of the context. -/
theorem A_main_v32_at (b : Fin 4) (h : Fin 4) (s : Fin 256) (e : Fin 256) : A_main_v32 a0 a1 a2 a3 (ix4 b h s e) = rd a3 (256 * b.val + s.val) (1024 + 256 * h.val + e.val) := by
  pointwise [A_main_v32, A_main_v31, A_main_v14, A_main_v13, A_main_v12]
  exact rd_at a3 _ _ _ _ (by show b.val * 256 + s.val = _; omega) (by show 1024 + (h.val * 256 + e.val) = _; omega)
/-- An input gate of the context. -/
theorem A_main_v19_at (dir : Fin 2) (b : Fin 4) (h : Fin 4) (s : Fin 256) : A_main_v19 a0 a1 a2 a3 (ix4 dir b h s) = rd a0 (4 * h.val + 2 * dir.val + 0) (256 * b.val + s.val) := by
  pointwise [A_main_v19, A_main_v18, A_main_v17, A_main_v16]
  exact rd_at a0 _ _ _ _ (by show h.val * 4 + dir.val * 2 = _; omega) (by show b.val * 256 + s.val = _; omega)
/-- An input gate of the latents. -/
theorem A_main_v36_at (dir : Fin 2) (b : Fin 4) (h : Fin 4) (s : Fin 4096) : A_main_v36 a0 a1 a2 a3 (ix4 dir b h s) = rd a1 (4 * h.val + 2 * dir.val + 0) (4096 * b.val + s.val) := by
  pointwise [A_main_v36, A_main_v35, A_main_v34, A_main_v33]
  exact rd_at a1 _ _ _ _ (by show h.val * 4 + dir.val * 2 = _; omega) (by show b.val * 4096 + s.val = _; omega)
/-- A log forget gate of the context. -/
theorem A_main_v24_at (dir : Fin 2) (b : Fin 4) (h : Fin 4) (s : Fin 256) : A_main_v24 a0 a1 a2 a3 (ix4 dir b h s) = LS (rd a0 (4 * h.val + 2 * dir.val + 1) (256 * b.val + s.val)) := by
  pointwise [A_main_v24, A_main_v23, A_main_call0_v4, A_main_call0_v6, A_main_call0_v11, A_main_call0_v3, A_main_v22, K_main_call0_v5, A_main_call0_v1, A_main_call0_v10, K_main_call0_v2, A_main_v21, K_main_call0_cst, K_main_call0_v0, A_main_call0_v9, A_main_v20, A_main_call0_v8, A_main_v17, A_main_call0_v7, A_main_v16]
  refine (softplus_LS _).trans (congrArg LS ?_)
  exact rd_at a0 _ _ _ _ (by show h.val * 4 + (dir.val * 2 + 1) = _; omega) (by show b.val * 256 + s.val = _; omega)
/-- A log forget gate of the latents. -/
theorem A_main_v41_at (dir : Fin 2) (b : Fin 4) (h : Fin 4) (s : Fin 4096) : A_main_v41 a0 a1 a2 a3 (ix4 dir b h s) = LS (rd a1 (4 * h.val + 2 * dir.val + 1) (4096 * b.val + s.val)) := by
  pointwise [A_main_v41, A_main_v40, A_main_call1_v4, A_main_call1_v6, A_main_call1_v11, A_main_call1_v3, A_main_v39, K_main_call1_v5, A_main_call1_v1, A_main_call1_v10, K_main_call1_v2, A_main_v38, K_main_call1_cst, K_main_call1_v0, A_main_call1_v9, A_main_v37, A_main_call1_v8, A_main_v34, A_main_call1_v7, A_main_v33]
  refine (softplus_LS _).trans (congrArg LS ?_)
  exact rd_at a1 _ _ _ _ (by show h.val * 4 + (dir.val * 2 + 1) = _; omega) (by show b.val * 4096 + s.val = _; omega)

end Cert.ReferenceIdeal.Step
end
-- ==== Proof.MSetB.lean ====
module

public import proofs.«01_k».proof.Proof.Gen.ReferenceIdeal.Step
public import proofs.«01_k».proof.Proof.MSetA

@[expose] public section
set_option maxRecDepth 16384
noncomputable section
open Idealize.ShloMosaic Idealize.ShloMosaic.TcCoe Idealize.SL.Sem
open scoped BigOperators
/-! Both directions laid along the batch, the context before the latents, an entry at a time. -/

namespace Cert.ReferenceIdeal.Step
open Cert.ReferenceIdeal Cert.ReferenceIdeal.Gen Cert.MLstm

variable (a0 : (⟨S16x1024, .f32⟩ : BufTy).Contents (Elt Ideal)) (a1 : (⟨S16x16384, .f32⟩ : BufTy).Contents (Elt Ideal)) (a2 : (⟨S16384x6144, .bf16⟩ : BufTy).Contents (Elt Ideal)) (a3 : (⟨S1024x2048, .bf16⟩ : BufTy).Contents (Elt Ideal))

/-- Reading a matrix at equal numbers. -/
theorem rd_congr {n k : ℕ} (a : MatF n k) {i j i' j' : ℕ} (hi : i = i') (hj : j = j') : rd a i j = rd a i' j' := by
  rw [hi, hj]

/-- The queries; zero at the context. -/
theorem A_main_v54_at (D : Fin 8) (h : Fin 4) (p : Fin 4352) (e : Fin 256) : A_main_v54 a0 a1 a2 a3 (ix4 D h p e) = seqQ a2 (D.val % 4) h.val (pos (D.val / 4) p.val) e.val := by
  pointwise [A_main_v54, A_main_v50, A_main_v53, K_main_v26, K_main_v51, A_main_v52, K_main_v25, K_main_v15, K_main_cst]
  have hD := D.isLt
  have hp := p.isLt
  have hh := h.isLt
  unfold seqQ pos
  by_cases h1 : D.val < 4
  · rw [dif_pos h1, if_pos (by omega : D.val / 4 = 0)]
    by_cases h2 : p.val < 256
    · rw [dif_pos h2, if_pos h2]
    · rw [dif_neg h2, if_neg h2]
      exact (A_main_v43_at _ _ _ _ _ _ _ _).trans ((rd_congr _ (by (try simp [Fin.val_rev]); (try omega)) (by (try simp [Fin.val_rev]); (try omega))))
  · rw [dif_neg h1, if_neg (by omega : ¬ D.val / 4 = 0)]
    by_cases h2 : p.val < 256
    · rw [dif_pos h2, if_pos h2, if_pos (by omega : 255 - p.val < 256)]
    · rw [dif_neg h2, if_neg h2, if_neg (by omega : ¬ 4607 - p.val < 256)]
      exact (A_main_v43_at _ _ _ _ _ _ _ _).trans ((rd_congr _ (by (try simp [Fin.val_rev]); (try omega)) (by (try simp [Fin.val_rev]); (try omega))))

/-- The keys. -/
theorem A_main_v59_at (D : Fin 8) (h : Fin 4) (p : Fin 4352) (e : Fin 256) : A_main_v59 a0 a1 a2 a3 (ix4 D h p e) = seqK a2 a3 (D.val % 4) h.val (pos (D.val / 4) p.val) e.val := by
  pointwise [A_main_v59, A_main_v55, A_main_v58, A_main_v56, A_main_v57]
  have hD := D.isLt
  have hp := p.isLt
  have hh := h.isLt
  unfold seqK pos
  by_cases h1 : D.val < 4
  · rw [dif_pos h1, if_pos (by omega : D.val / 4 = 0)]
    by_cases h2 : p.val < 256
    · rw [dif_pos h2, if_pos h2]
      exact (A_main_v30_at _ _ _ _ _ _ _ _).trans (congrArg (· * ((1 / 16 : ℝ) : EReal)) (rd_congr _ (by (try simp [Fin.val_rev]); (try omega)) (by (try simp [Fin.val_rev]); (try omega))))
    · rw [dif_neg h2, if_neg h2]
      exact (A_main_v47_at _ _ _ _ _ _ _ _).trans (congrArg (· * ((1 / 16 : ℝ) : EReal)) (rd_congr _ (by (try simp [Fin.val_rev]); (try omega)) (by (try simp [Fin.val_rev]); (try omega))))
  · rw [dif_neg h1, if_neg (by omega : ¬ D.val / 4 = 0)]
    by_cases h2 : p.val < 256
    · rw [dif_pos h2, if_pos h2, if_pos (by omega : 255 - p.val < 256)]
      exact (A_main_v30_at _ _ _ _ _ _ _ _).trans (congrArg (· * ((1 / 16 : ℝ) : EReal)) (rd_congr _ (by (try simp [Fin.val_rev]); (try omega)) (by (try simp [Fin.val_rev]); (try omega))))
    · rw [dif_neg h2, if_neg h2, if_neg (by omega : ¬ 4607 - p.val < 256)]
      exact (A_main_v47_at _ _ _ _ _ _ _ _).trans (congrArg (· * ((1 / 16 : ℝ) : EReal)) (rd_congr _ (by (try simp [Fin.val_rev]); (try omega)) (by (try simp [Fin.val_rev]); (try omega))))

/-- The values. -/
theorem A_main_v64_at (D : Fin 8) (h : Fin 4) (p : Fin 4352) (e : Fin 256) : A_main_v64 a0 a1 a2 a3 (ix4 D h p e) = seqV a2 a3 (D.val % 4) h.val (pos (D.val / 4) p.val) e.val := by
  pointwise [A_main_v64, A_main_v60, A_main_v63, A_main_v61, A_main_v62]
  have hD := D.isLt
  have hp := p.isLt
  have hh := h.isLt
  unfold seqV pos
  by_cases h1 : D.val < 4
  · rw [dif_pos h1, if_pos (by omega : D.val / 4 = 0)]
    by_cases h2 : p.val < 256
    · rw [dif_pos h2, if_pos h2]
      exact (A_main_v32_at _ _ _ _ _ _ _ _).trans ((rd_congr _ (by (try simp [Fin.val_rev]); (try omega)) (by (try simp [Fin.val_rev]); (try omega))))
    · rw [dif_neg h2, if_neg h2]
      exact (A_main_v49_at _ _ _ _ _ _ _ _).trans ((rd_congr _ (by (try simp [Fin.val_rev]); (try omega)) (by (try simp [Fin.val_rev]); (try omega))))
  · rw [dif_neg h1, if_neg (by omega : ¬ D.val / 4 = 0)]
    by_cases h2 : p.val < 256
    · rw [dif_pos h2, if_pos h2, if_pos (by omega : 255 - p.val < 256)]
      exact (A_main_v32_at _ _ _ _ _ _ _ _).trans ((rd_congr _ (by (try simp [Fin.val_rev]); (try omega)) (by (try simp [Fin.val_rev]); (try omega))))
    · rw [dif_neg h2, if_neg h2, if_neg (by omega : ¬ 4607 - p.val < 256)]
      exact (A_main_v49_at _ _ _ _ _ _ _ _).trans ((rd_congr _ (by (try simp [Fin.val_rev]); (try omega)) (by (try simp [Fin.val_rev]); (try omega))))

/-- The input gates. -/
theorem A_main_v77_at (D : Fin 8) (h : Fin 4) (p : Fin 4352) : A_main_v77 a0 a1 a2 a3 (ix3 D h p) = seqG a0 a1 (D.val / 4) 0 (D.val % 4) h.val (pos (D.val / 4) p.val) := by
  pointwise [A_main_v77, A_main_v73, A_main_v76, A_main_v66, A_main_v68, A_main_v74, A_main_v75, A_main_v65, A_main_v67, A_main_v70, A_main_v72, A_main_v69, A_main_v71]
  have hD := D.isLt
  have hp := p.isLt
  have hh := h.isLt
  unfold seqG pos
  by_cases h1 : D.val < 4
  · rw [dif_pos h1, if_pos (by omega : D.val / 4 = 0)]
    by_cases h2 : p.val < 256
    · rw [dif_pos h2, if_pos h2]
      exact (A_main_v19_at _ _ _ _ _ _ _ _).trans ((rd_congr _ (by (try simp [Fin.val_rev]); (try omega)) (by (try simp [Fin.val_rev]); (try omega))))
    · rw [dif_neg h2, if_neg h2]
      exact (A_main_v36_at _ _ _ _ _ _ _ _).trans ((rd_congr _ (by (try simp [Fin.val_rev]); (try omega)) (by (try simp [Fin.val_rev]); (try omega))))
  · rw [dif_neg h1, if_neg (by omega : ¬ D.val / 4 = 0)]
    by_cases h2 : p.val < 256
    · rw [dif_pos h2, if_pos h2, if_pos (by omega : 255 - p.val < 256)]
      exact (A_main_v19_at _ _ _ _ _ _ _ _).trans ((rd_congr _ (by (try simp [Fin.val_rev]); (try omega)) (by (try simp [Fin.val_rev]); (try omega))))
    · rw [dif_neg h2, if_neg h2, if_neg (by omega : ¬ 4607 - p.val < 256)]
      exact (A_main_v36_at _ _ _ _ _ _ _ _).trans ((rd_congr _ (by (try simp [Fin.val_rev]); (try omega)) (by (try simp [Fin.val_rev]); (try omega))))

/-- The log forget gates. -/
theorem A_main_v90_at (D : Fin 8) (h : Fin 4) (p : Fin 4352) : A_main_v90 a0 a1 a2 a3 (ix3 D h p) = LS (seqG a0 a1 (D.val / 4) 1 (D.val % 4) h.val (pos (D.val / 4) p.val)) := by
  pointwise [A_main_v90, A_main_v86, A_main_v89, A_main_v79, A_main_v81, A_main_v87, A_main_v88, A_main_v78, A_main_v80, A_main_v83, A_main_v85, A_main_v82, A_main_v84]
  have hD := D.isLt
  have hp := p.isLt
  have hh := h.isLt
  unfold seqG pos
  by_cases h1 : D.val < 4
  · rw [dif_pos h1, if_pos (by omega : D.val / 4 = 0)]
    by_cases h2 : p.val < 256
    · rw [dif_pos h2, if_pos h2]
      exact (A_main_v24_at _ _ _ _ _ _ _ _).trans (congrArg LS (rd_congr _ (by (try simp [Fin.val_rev]); (try omega)) (by (try simp [Fin.val_rev]); (try omega))))
    · rw [dif_neg h2, if_neg h2]
      exact (A_main_v41_at _ _ _ _ _ _ _ _).trans (congrArg LS (rd_congr _ (by (try simp [Fin.val_rev]); (try omega)) (by (try simp [Fin.val_rev]); (try omega))))
  · rw [dif_neg h1, if_neg (by omega : ¬ D.val / 4 = 0)]
    by_cases h2 : p.val < 256
    · rw [dif_pos h2, if_pos h2, if_pos (by omega : 255 - p.val < 256)]
      exact (A_main_v24_at _ _ _ _ _ _ _ _).trans (congrArg LS (rd_congr _ (by (try simp [Fin.val_rev]); (try omega)) (by (try simp [Fin.val_rev]); (try omega))))
    · rw [dif_neg h2, if_neg h2, if_neg (by omega : ¬ 4607 - p.val < 256)]
      exact (A_main_v41_at _ _ _ _ _ _ _ _).trans (congrArg LS (rd_congr _ (by (try simp [Fin.val_rev]); (try omega)) (by (try simp [Fin.val_rev]); (try omega))))

end Cert.ReferenceIdeal.Step
end
-- ==== Proof.MSetC.lean ====
module

public import proofs.«01_k».proof.Proof.Gen.ReferenceIdeal.Step
public import proofs.«01_k».proof.Proof.MSetB

@[expose] public section
set_option maxRecDepth 16384
noncomputable section
open Idealize.ShloMosaic Idealize.ShloMosaic.TcCoe Idealize.SL.Sem
open scoped BigOperators
/-! The set-up arrays in chunks of 128. -/

namespace Cert.ReferenceIdeal.Step
open Cert.ReferenceIdeal Cert.ReferenceIdeal.Gen Cert.MLstm

variable (a0 : (⟨S16x1024, .f32⟩ : BufTy).Contents (Elt Ideal)) (a1 : (⟨S16x16384, .f32⟩ : BufTy).Contents (Elt Ideal)) (a2 : (⟨S16384x6144, .bf16⟩ : BufTy).Contents (Elt Ideal)) (a3 : (⟨S1024x2048, .bf16⟩ : BufTy).Contents (Elt Ideal))

/-- Cutting the sequence axis into chunks and bringing the chunks to the front. -/
theorem cut5 (x : S8x4x4352x256.Idx → EReal) (h1 : S8x4x4352x256.ShapeCasts S8x4x34x128x256) (h2 : S8x4x34x128x256.Transposes [2, 0, 1, 3, 4] S34x8x4x128x256)
    (t : Fin 34) (D : Fin 8) (h : Fin 4) (r : Fin 128) (e : Fin 256) :
    transpose S34x8x4x128x256 [2, 0, 1, 3, 4] (shapeCast S8x4x34x128x256 x h1) h2 (ix5 t D h r e) = x (ix4 D h ⟨128 * t.val + r.val, by omega⟩ e) := by
  have e1 : ∀ y : S8x4x34x128x256.Idx → EReal, transpose S34x8x4x128x256 [2, 0, 1, 3, 4] y h2 (ix5 t D h r e) = y (ix5 D h t r e) := by
    intro y
    pointwise []
  rw [e1]
  refine shapeCast_apply x h1 _ _ ?_
  rw [Shape.rowMajor_val_four, Shape.rowMajor_val_five]
  show ((D.val * 4 + h.val) * 4352 + (128 * t.val + r.val)) * 256 + e.val = (((D.val * 4 + h.val) * 34 + t.val) * 128 + r.val) * 256 + e.val
  omega
/-- A sequence of gates cut into chunks, the chunk in front. -/
theorem cut4 (x : S8x4x4352.Idx → EReal) (h1 : S8x4x4352.ShapeCasts S8x4x34x128) (h2 : S8x4x34x128.Transposes [2, 0, 1, 3] S34x8x4x128)
    (t : Fin 34) (D : Fin 8) (h : Fin 4) (r : Fin 128) :
    transpose S34x8x4x128 [2, 0, 1, 3] (shapeCast S8x4x34x128 x h1) h2 (ix4 t D h r) = x (ix3 D h ⟨128 * t.val + r.val, by omega⟩) := by
  have e1 : ∀ y : S8x4x34x128.Idx → EReal, transpose S34x8x4x128 [2, 0, 1, 3] y h2 (ix4 t D h r) = y (ix4 D h t r) := by
    intro y
    pointwise []
  rw [e1]
  refine shapeCast_apply x h1 _ _ ?_
  rw [Shape.rowMajor_val_three, Shape.rowMajor_val_four]
  show (D.val * 4 + h.val) * 4352 + (128 * t.val + r.val) = ((D.val * 4 + h.val) * 34 + t.val) * 128 + r.val
  omega
/-- The queries of chunk `t`. -/
theorem A_main_v95_at (t : Fin 34) (D : Fin 8) (h : Fin 4) (r : Fin 128) (e : Fin 256) : A_main_v95 a0 a1 a2 a3 (ix5 t D h r e) = chQ a2 (D.val / 4) (D.val % 4) h.val t.val r e := by
  unfold A_main_v95 A_main_v94
  exact (cut5 _ _ _ t D h r e).trans (A_main_v54_at a0 a1 a2 a3 _ _ _ _)
/-- The keys of chunk `t`. -/
theorem A_main_v97_at (t : Fin 34) (D : Fin 8) (h : Fin 4) (r : Fin 128) (e : Fin 256) : A_main_v97 a0 a1 a2 a3 (ix5 t D h r e) = chK a2 a3 (D.val / 4) (D.val % 4) h.val t.val r e := by
  unfold A_main_v97 A_main_v96
  exact (cut5 _ _ _ t D h r e).trans (A_main_v59_at a0 a1 a2 a3 _ _ _ _)
/-- The values of chunk `t`. -/
theorem A_main_v99_at (t : Fin 34) (D : Fin 8) (h : Fin 4) (r : Fin 128) (e : Fin 256) : A_main_v99 a0 a1 a2 a3 (ix5 t D h r e) = chV a2 a3 (D.val / 4) (D.val % 4) h.val t.val e r := by
  unfold A_main_v99 A_main_v98
  exact (cut5 _ _ _ t D h r e).trans (A_main_v64_at a0 a1 a2 a3 _ _ _ _)
/-- The input gates of chunk `t`. -/
theorem A_main_v101_at (t : Fin 34) (D : Fin 8) (h : Fin 4) (r : Fin 128) : A_main_v101 a0 a1 a2 a3 (ix4 t D h r) = chG a0 a1 (D.val / 4) (D.val % 4) h.val t.val r := by
  unfold A_main_v101 A_main_v100
  exact (cut4 _ _ _ t D h r).trans (A_main_v77_at a0 a1 a2 a3 _ _ _)
/-- The log forget gates of chunk `t`. -/
theorem A_main_v103_at (t : Fin 34) (D : Fin 8) (h : Fin 4) (r : Fin 128) : A_main_v103 a0 a1 a2 a3 (ix4 t D h r) = LS (seqG a0 a1 (D.val / 4) 1 (D.val % 4) h.val (pos (D.val / 4) (128 * t.val + r.val))) := by
  unfold A_main_v103 A_main_v102
  exact (cut4 _ _ _ t D h r).trans (A_main_v90_at a0 a1 a2 a3 _ _ _)

end Cert.ReferenceIdeal.Step
end
-- ==== Proof.MIndR.lean ====
module

public import proofs.«01_k».proof.Proof.MRef
public import proofs.«01_k».proof.Proof.MRun
public import proofs.«01_k».proof.Proof.MSetC

@[expose] public section
set_option maxRecDepth 16384
noncomputable section
open Idealize.ShloMosaic Idealize.ShloMosaic.TcCoe Idealize.SL.Sem
open scoped BigOperators

/-! The reference's loop: its state before chunk `k` and the outputs it has written are the recurrence's. Row `D` of the
batch axis is batch element `D % 4` in direction `D / 4`. -/

namespace Cert.ReferenceIdeal.Step
open Cert.ReferenceIdeal Cert.ReferenceIdeal.Gen Cert.MLstm

variable (a0 : (⟨S16x1024, .f32⟩ : BufTy).Contents (Elt Ideal)) (a1 : (⟨S16x16384, .f32⟩ : BufTy).Contents (Elt Ideal)) (a2 : (⟨S16384x6144, .bf16⟩ : BufTy).Contents (Elt Ideal)) (a3 : (⟨S1024x2048, .bf16⟩ : BufTy).Contents (Elt Ideal))

/-- What holds of the state before chunk `k`. -/
structure At (s : State Ideal) (k : ℕ) : Prop where
  q : s.main_v105_0 = A_main_v95 a0 a1 a2 a3
  ky : s.main_v105_1 = A_main_v97 a0 a1 a2 a3
  v : s.main_v105_2 = A_main_v99 a0 a1 a2 a3
  g : s.main_v105_3 = A_main_v101 a0 a1 a2 a3
  f : s.main_v105_4 = A_main_v103 a0 a1 a2 a3
  mx : ∀ (D : Fin 8) (h : Fin 4), sM s D h = rM a0 a1 (D.val / 4) (D.val % 4) h.val k
  col : ∀ (D : Fin 8) (h : Fin 4) (e : Fin 256), sC s D h e = rC a0 a1 a2 a3 (D.val / 4) (D.val % 4) h.val e k
  nrm : ∀ (D : Fin 8) (h : Fin 4), sN s D h = rN a0 a1 a2 a3 (D.val / 4) (D.val % 4) h.val k
  out : ∀ (D : Fin 8) (h : Fin 4) (t : Fin 34) (r : Fin 128) (e : Fin 256), t.val < k →
    s.main_v105_9 (ix5 t D h r e) = rH a0 a1 a2 a3 (D.val / 4) (D.val % 4) h.val t.val r e

variable {a0 a1 a2 a3}

section
variable {s : State Ideal} {j : ℕ} (A : At a0 a1 a2 a3 s j) (D : Fin 8) (h : Fin 4) (t : Fin 34)
include A
/-- The chunk's queries in a state that keeps the set-up arrays. -/
theorem At.cq : cq s D h t = chQ a2 (D.val / 4) (D.val % 4) h.val t.val := by
  funext r e
  exact (congrFun A.q _).trans (A_main_v95_at a0 a1 a2 a3 t D h r e)
/-- The chunk's keys in a state that keeps the set-up arrays. -/
theorem At.ck : ck s D h t = chK a2 a3 (D.val / 4) (D.val % 4) h.val t.val := by
  funext r e
  exact (congrFun A.ky _).trans (A_main_v97_at a0 a1 a2 a3 t D h r e)
/-- The chunk's values in a state that keeps the set-up arrays. -/
theorem At.cv (e : Fin 256) : cv s D h t e = chV a2 a3 (D.val / 4) (D.val % 4) h.val t.val e := by
  funext r
  exact (congrFun A.v _).trans (A_main_v99_at a0 a1 a2 a3 t D h r e)
/-- The chunk's input gates in a state that keeps the set-up arrays. -/
theorem At.cg : cg s D h t = chG a0 a1 (D.val / 4) (D.val % 4) h.val t.val := by
  funext r
  exact (congrFun A.g _).trans (A_main_v101_at a0 a1 a2 a3 t D h r)
/-- The chunk's running sums in a state that keeps the set-up arrays. -/
theorem At.cb : cb s D h t = chB a0 a1 (D.val / 4) (D.val % 4) h.val t.val := by
  funext r
  refine Finset.sum_congr rfl fun x _ => ?_
  rw [congrFun A.f _, A_main_v103_at a0 a1 a2 a3 t D h x]
end

/-- One chunk on. -/
theorem At.next {s : State Ideal} {j : ℕ} (A : At a0 a1 a2 a3 s j) (hj : j < 34) : At a0 a1 a2 a3 (step j s) (j + 1) where
  q := A.q
  ky := A.ky
  v := A.v
  g := A.g
  f := A.f
  mx D h := by
    show (step j s).main_v105_8 (ix2 D h) = _
    rw [step_main_v105_8, b96_at j s D h hj, A.cb, A.cg, A.mx]
    rfl
  col D h e := by
    funext d
    show (step j s).main_v105_6 (ix4 D h d e) = _
    rw [step_main_v105_6, b111_at j s D h hj, A.cb, A.cg, A.mx, A.ck, A.cv, A.col]
    rfl
  nrm D h := by
    funext d
    show (step j s).main_v105_7 (ix3 D h d) = _
    rw [step_main_v105_7, b116_at j s D h hj, A.cb, A.cg, A.mx, A.ck, A.nrm]
    rfl
  out D h t r e ht := by
    rw [step_main_v105_9, b122_at j s D h hj t r e]
    by_cases hte : t.val = j
    · subst hte
      rw [if_pos rfl, b86_at t.val s D h hj, A.cb, A.cg, A.mx, A.cq, A.ck, A.cv, A.col, A.nrm]
      rfl
    · rw [if_neg hte]
      exact A.out D h t r e (by omega)

/-- The starting state. -/
theorem at_init : At a0 a1 a2 a3 (init a0 a1 a2 a3) 0 where
  q := rfl
  ky := rfl
  v := rfl
  g := rfl
  f := rfl
  mx D h := Ideal.ofBits_zero_f32
  col D h e := funext fun _ => Ideal.ofBits_zero_f32
  nrm D h := funext fun _ => Ideal.ofBits_zero_f32
  out D h t r e ht := absurd ht (by omega)

/-- Before chunk `k` the reference's state is the recurrence's, and the outputs of the chunks before are there. -/
theorem at_iter (it : ℕ → State Ideal) (h0 : it 0 = init a0 a1 a2 a3) (hs : ∀ n, it (n + 1) = step n (it n)) :
    ∀ k, k ≤ 34 → At a0 a1 a2 a3 (it k) k
  | 0, _ => h0 ▸ at_init
  | k + 1, hk => by
    rw [hs k]
    exact (at_iter it h0 hs k (by omega)).next (by omega)

end Cert.ReferenceIdeal.Step
end
-- ==== Proof.MOutR.lean ====
module

public import proofs.«01_k».proof.Proof.MIndR
public import proofs.«01_k».proof.Proof.MNorm

@[expose] public section
set_option maxRecDepth 16384
noncomputable section
open Idealize.ShloMosaic Idealize.ShloMosaic.TcCoe Idealize.SL.Sem
open scoped BigOperators

/-! The reference's result, an entry at a time, from the loop's outputs: the two directions' sum, its normalization over
a head's 256 columns, the output gate and the weights. -/

namespace Cert.ReferenceIdeal.Step
open Cert.ReferenceIdeal Cert.ReferenceIdeal.Gen Cert.MLstm

/-- The loop's outputs along the sequence. -/
def OH (o : FVec Ideal S34x8x4x128x256 .f32) : FVec Ideal S8x4x4352x256 .f32 := shapeCast S8x4x4352x256 (transpose S8x4x34x128x256 [1, 2, 0, 3, 4] o transposes_S34x8x4x128x256_S8x4x34x128x256_1_2_0_3_4) shapeCasts_S8x4x34x128x256_S8x4x4352x256
/-- The two directions' sum at the latents. -/
def HS (o : FVec Ideal S34x8x4x128x256 .f32) : FVec Ideal S4x4x4096x256 .f32 :=
  addf (extractStridedSlice S4x4x4096x256 ![0, 0, 256, 0] (OH o) slices_S8x4x4352x256_S4x4x4096x256_0_0_256_0) (Host.reverse [2] (extractStridedSlice S4x4x4096x256 ![4, 0, 256, 0] (OH o) slices_S8x4x4352x256_S4x4x4096x256_4_0_256_0))
/-- Centred over the columns. -/
def CEN (x : FVec Ideal S4x4x4096x256 .f32) : FVec Ideal S4x4x4096x256 .f32 :=
  subf x (broadcastInDim S4x4x4096x256 ![0, 1, 2, 3] bcast_S4x4x4096x1_S4x4x4096x256_0_1_2_3 (Host.divf (broadcastInDim S4x4x4096x1 ![0, 1, 2] bcast_S4x4x4096_S4x4x4096x1_0_1_2 (Host.reduceAdd x (constant S_ .f32 0x00000000#32) reducesTo_S4x4x4096x256_S4x4x4096_d3 h_S_)) (broadcastInDim S4x4x4096x1 ![] bcast_S_S4x4x4096x1 (constant S_ .f32 0x43800000#32))))
/-- The result from the sum. -/
def NRM (x : FVec Ideal S4x4x4096x256 .f32) (a2 : FVec Ideal S16384x6144 .bf16) (a4 : FVec Ideal S1x1024 .f32) : FVec Ideal S4x4096x1024 .bf16 :=
  truncf .bf16 (mulf (mulf (shapeCast _ (transpose S4x4096x4x256 [0, 2, 1, 3] (mulf (CEN x) (broadcastInDim S4x4x4096x256 ![0, 1, 2, 3] bcast_S4x4x4096x1_S4x4x4096x256_0_1_2_3 (Host.rsqrt (addf (Host.divf (broadcastInDim S4x4x4096x1 ![0, 1, 2] bcast_S4x4x4096_S4x4x4096x1_0_1_2 (Host.reduceAdd (mulf (CEN x) (CEN x)) (constant S_ .f32 0x00000000#32) reducesTo_S4x4x4096x256_S4x4x4096_d3 h_S_)) (broadcastInDim S4x4x4096x1 ![] bcast_S_S4x4x4096x1 (constant S_ .f32 0x43800000#32))) (broadcastInDim S4x4x4096x1 ![] bcast_S_S4x4x4096x1 (constant S_ .f32 0x358637BD#32)))))) transposes_S4x4x4096x256_S4x4096x4x256_0_2_1_3) shapeCasts_S4x4096x4x256_S4x4096x1024) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extf .f32 (extractStridedSlice S4x4096x1024 ![0, 0, 3072] (shapeCast _ a2 shapeCasts_S16384x6144_S4x4096x6144) slices_S4x4096x6144_S4x4096x1024_0_0_3072) bitsLt_bf16_f32)))))) (broadcastInDim S4x4096x1024 ![0, 1, 2] bcast_S1x1x1024_S4x4096x1024_0_1_2 (broadcastInDim S1x1x1024 ![2] bcast_S1024_S1x1x1024_2 (shapeCast _ a4 shapeCasts_S1x1024_S1024)))) bitsLt_bf16_f32

/-- The reference's result is the readout of the two directions' sum. -/
theorem R_eq (s : State Ideal) (a2 : FVec Ideal S16384x6144 .bf16) (a4 : FVec Ideal S1x1024 .f32) : R_main_v146 s a2 a4 = NRM (HS s.main_v105_9) a2 a4 := by
  unfold R_main_v146
  rfl

/-- The outputs laid one after the other. -/
theorem OH_at (o : FVec Ideal S34x8x4x128x256 .f32) (D : Fin 8) (h : Fin 4) (p : Fin 4352) (e : Fin 256) :
    OH o (ix4 D h p e) = o (ix5 (⟨p.val / 128, by omega⟩ : Fin 34) D h (⟨p.val % 128, Nat.mod_lt _ (by decide)⟩ : Fin 128) e) := by
  unfold OH
  have e1 : ∀ (t : Fin 34) (r : Fin 128), transpose S8x4x34x128x256 [1, 2, 0, 3, 4] o transposes_S34x8x4x128x256_S8x4x34x128x256_1_2_0_3_4 (ix5 D h t r e) = o (ix5 t D h r e) := by
    intro t r
    pointwise []
  refine (shapeCast_apply _ _ _ (ix5 D h (⟨p.val / 128, by omega⟩ : Fin 34) (⟨p.val % 128, Nat.mod_lt _ (by decide)⟩ : Fin 128) e) ?_).trans (e1 _ _)
  rw [Shape.rowMajor_val_four, Shape.rowMajor_val_five]
  show (((D.val * 4 + h.val) * 34 + p.val / 128) * 128 + p.val % 128) * 256 + e.val = ((D.val * 4 + h.val) * 4352 + p.val) * 256 + e.val
  omega

/-- The sum of the two directions' outputs at a latent. -/
theorem HS_at (o : FVec Ideal S34x8x4x128x256 .f32) (b h : Fin 4) (s : Fin 4096) (e : Fin 256) :
    HS o (ix4 b h s e) = OH o (ix4 (⟨b.val, by omega⟩ : Fin 8) h (⟨256 + s.val, by omega⟩ : Fin 4352) e) + OH o (ix4 (⟨4 + b.val, by omega⟩ : Fin 8) h (⟨256 + s.rev.val, by omega⟩ : Fin 4352) e) := by
  pointwise [HS]
  rfl

/-- The centred head. -/
theorem CEN_at (x : FVec Ideal S4x4x4096x256 .f32) (b h : Fin 4) (s : Fin 4096) (e : Fin 256) : CEN x (ix4 b h s e) = CT (fun e => x (ix4 b h s e)) e := by
  pointwise [CEN]
  rfl

/-- The readout at a place. -/
theorem NRM_at (x : FVec Ideal S4x4x4096x256 .f32) (a2 : FVec Ideal S16384x6144 .bf16) (a4 : FVec Ideal S1x1024 .f32) (b h : Fin 4) (s : Fin 4096) (e : Fin 256) (E : Fin 1024) (hE : E.val = 256 * h.val + e.val) :
    NRM x a2 a4 (ix3 b s E) = NO (fun e => x (ix4 b h s e)) (rd a2 (4096 * b.val + s.val) (3072 + 256 * h.val + e.val)) (rd a4 0 (256 * h.val + e.val)) e := by
  pointwise [NRM]
  have e1 : (⟨E.val / 256, by omega⟩ : Fin 4) = h := Fin.ext (by show E.val / 256 = h.val; omega)
  have e2 : (⟨E.val % 256, Nat.mod_lt _ (by decide)⟩ : Fin 256) = e := Fin.ext (by show E.val % 256 = e.val; omega)
  rw [e1, e2]
  simp only [CEN_at]
  rw [rd_at a2 _ _ (4096 * b.val + s.val) (3072 + 256 * h.val + e.val) (by show b.val * 4096 + s.val = _; omega) (by show 3072 + E.val = _; omega),
    rd_at a4 _ _ 0 (256 * h.val + e.val) rfl hE]
  rfl

end Cert.ReferenceIdeal.Step
end
-- ==== Proof.MOut.lean ====
module

public import proofs.«01_k».proof.Proof.MOutK
public import proofs.«01_k».proof.Proof.MOutR

@[expose] public section
set_option maxRecDepth 16384
noncomputable section
open Idealize.ShloMosaic Idealize.ShloMosaic.TcCoe Idealize.SL.Sem
open Idealize.ShloMosaic.Pipeline (Dat)
open scoped BigOperators

/-! The mLSTM kernel's result array is the reference's. -/

namespace Cert.ReferenceIdeal.Step
open Cert.ReferenceIdeal Cert.ReferenceIdeal.Gen Cert.MLstm

/-- The reference's states, chunk by chunk. -/
def it (a0 : FVec Ideal S16x1024 .f32) (a1 : FVec Ideal S16x16384 .f32) (a2 : FVec Ideal S16384x6144 .bf16) (a3 : FVec Ideal S1024x2048 .bf16) : ℕ → State Ideal
  | 0 => init a0 a1 a2 a3
  | n + 1 => step n (it a0 a1 a2 a3 n)

/-- The reference's result at a batch element, a place, and column `e` of head `h`. -/
theorem res_at (a0 : FVec Ideal S16x1024 .f32) (a1 : FVec Ideal S16x16384 .f32) (a2 : FVec Ideal S16384x6144 .bf16) (a3 : FVec Ideal S1024x2048 .bf16) (a4 : FVec Ideal S1x1024 .f32)
    (b h : Fin 4) (s : Fin 4096) (e : Fin 256) (E : Fin 1024) (hE : E.val = 256 * h.val + e.val) :
    R_main_v146 (it a0 a1 a2 a3 34) a2 a4 (ix3 b s E)
      = NO (fun e => rH a0 a1 a2 a3 0 b.val h.val (s.val / 128 + 2) ⟨s.val % 128, Nat.mod_lt _ (by decide)⟩ e
          + rH a0 a1 a2 a3 1 b.val h.val ((4095 - s.val) / 128 + 2) ⟨(4095 - s.val) % 128, Nat.mod_lt _ (by decide)⟩ e)
        (rd a2 (4096 * b.val + s.val) (3072 + 256 * h.val + e.val)) (rd a4 0 (256 * h.val + e.val)) e := by
  have A : At a0 a1 a2 a3 (it a0 a1 a2 a3 34) 34 := at_iter (it a0 a1 a2 a3) rfl (fun _ => rfl) 34 (le_refl _)
  have hs := s.isLt
  have hb := b.isLt
  rw [R_eq, NRM_at _ a2 a4 b h s e E hE]
  refine congrArg (fun f => NO f _ _ e) (funext fun d => ?_)
  rw [HS_at, OH_at, OH_at, A.out _ _ _ _ _ (Fin.isLt _), A.out _ _ _ _ _ (Fin.isLt _)]
  have e1 : (256 + s.val) / 128 = s.val / 128 + 2 := by omega
  have e2 : (⟨(256 + s.val) % 128, Nat.mod_lt _ (by decide)⟩ : Fin 128) = ⟨s.val % 128, Nat.mod_lt _ (by decide)⟩ := Fin.ext (by show (256 + s.val) % 128 = s.val % 128; omega)
  have er : s.rev.val = 4095 - s.val := by rw [Fin.val_rev]; omega
  have e3 : (256 + s.rev.val) / 128 = (4095 - s.val) / 128 + 2 := by rw [er]; omega
  have e4 : (⟨(256 + s.rev.val) % 128, Nat.mod_lt _ (by decide)⟩ : Fin 128) = ⟨(4095 - s.val) % 128, Nat.mod_lt _ (by decide)⟩ := Fin.ext (by show (256 + s.rev.val) % 128 = (4095 - s.val) % 128; rw [er]; omega)
  have e5 : b.val / 4 = 0 := by omega
  have e6 : b.val % 4 = b.val := by omega
  have e7 : (4 + b.val) / 4 = 1 := by omega
  have e8 : (4 + b.val) % 4 = b.val := by omega
  dsimp only
  rw [e1, e2, e3, e4, e5, e6, e7, e8]

end Cert.ReferenceIdeal.Step

namespace Cert.KernelIdeal.Body
open Cert.KernelIdeal Cert.KernelIdeal.Gen Cert.MLstm

variable (m : (ℓ : Loc nD τ sig) → Buf (Elt Ideal) ℓ)

/-- The kernel's result array is the reference's result, read from the kernel's arguments. -/
theorem final (c : Dev nD) : (dats m 0 c).arrAt 8 (cfgs 0).N
    = Cert.ReferenceIdeal.Step.R_main_v146 (Cert.ReferenceIdeal.Step.it (A0 m c) (A1 m c) (A2 m c) (A3 m c) 34) (A2 m c) (A4 m c) := by
  refine (dats m 0 c).arrAt_eq_of_covers 8 _ (by decide +kernel) fun t hf y => ?_
  have ht : t.val < 16 := lt_of_lt_of_eq t.isLt N_0
  blk_simp
  rw [after0_8]
  unfold outsAt0
  obtain ⟨z, s, e, rfl⟩ : ∃ (z : Fin 1) (s : Fin 4096) (e : Fin 256), y = ix3 z s e := ⟨y 0, y 1, y 2, eq_ix3 y⟩
  obtain rfl : z = 0 := Subsingleton.elim _ _
  let b : Fin 4 := ⟨t.val / 4, by omega⟩
  let h : Fin 4 := ⟨t.val % 4, by omega⟩
  let E : Fin 1024 := ⟨256 * (t.val % 4) + e.val, by omega⟩
  have hemb : ((cfg0.win 8).blk t).view.emb (ix3 0 s e) = ix3 b s E := by
    funext a
    refine Fin.ext ?_
    match a with
    | ⟨0, _⟩ => show win0_8.index t 0 * 1 + 1 * 0 = t.val / 4; rw [(idx t).2.2.2.2.2.2.2.2]; show t.val / 4 * 1 + 1 * 0 = _; omega
    | ⟨1, _⟩ => show win0_8.index t 1 * 4096 + 1 * s.val = s.val; rw [(idx t).2.2.2.2.2.2.2.2]; show 0 * 4096 + 1 * s.val = _; omega
    | ⟨2, _⟩ => show win0_8.index t 2 * 256 + 1 * e.val = 256 * (t.val % 4) + e.val; rw [(idx t).2.2.2.2.2.2.2.2]; show t.val % 4 * 256 + 1 * e.val = _; omega
  rw [hemb]
  exact (OUT_at m c t s e).trans (Cert.ReferenceIdeal.Step.res_at _ _ _ _ _ b h s e E rfl).symm

end Cert.KernelIdeal.Body
end
-- ==== Proof.MClaim.lean ====
/-
  The mLSTM's value claim, from the two runs and the equation of the arrays.
-/
module

public import proofs.«01_k».proof.Defs
public import proofs.«01_k».proof.Proof.MOut
public import Idealize.ShloMosaic.Lib.Claim

@[expose] public section

set_option maxRecDepth 16384

noncomputable section

namespace Cert.Proof

open Idealize.ShloMosaic Idealize.SL.Sem

/-- The mLSTM: over the extended reals the kernel's result is the reference's, from any memories that agree on the
    arguments. -/
theorem algebraicMLstm : Cert.algebraic_KernelIdeal_ReferenceIdeal := by
  pair_intro
  · run_from Cert.KernelIdeal.Body.run_blocks m g
  · run_from Cert.ReferenceIdeal.MRun.run_iter m' g' (fun c => Cert.ReferenceIdeal.Step.it (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) (fun _ => rfl) (fun _ _ => rfl)
    · exact (Cert.KernelIdeal.Body.final m c).symm

end Cert.Proof

end
-- ==== Proof.FfnPure.lean ====
/-
  The expert network: what one grid point's payload is at an index, what the reference is at an index, and the
  sum over the intermediate features cut into 21 tiles of 256 and one of 128.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Ffn

/-- The gated activation `g · σ(g) · u` on the extended reals, `σ(g) = 1 / (1 + exp(−g))`. -/
def act (g u : EReal) : EReal := g * Ideal.div 1 (1 + Ideal.exp (-g)) * u

end Cert.Ffn

namespace Cert.Kernel2Ideal.Value

open Cert.Kernel2Ideal Cert.Kernel2Ideal.Gen

/-- The payload of a first tile at an index: the tile's 256 features' contribution. -/
theorem pay1_at (x : FVec Ideal S1024x2048 .bf16) (wg wu : FVec Ideal S1x2048x256 .f32) (wd : FVec Ideal S1x256x2048 .f32)
    (r : Fin 1024) (d : Fin 2048) :
    k0_pay1 (F := Ideal) x wg wu wd (ix2 r d) = ∑ f : Fin 256, Ffn.act (∑ k : Fin 2048, x (ix2 r k) * wg (ix3 0 k f))
      (∑ k : Fin 2048, x (ix2 r k) * wu (ix3 0 k f)) * wd (ix3 0 f d) := by
  pointwise [k0_pay1, Ffn.act]
  simp only [zero_add, zero_sub]

/-- The payload of a later tile at an index: what was there plus the tile's 256 features' contribution. -/
theorem pay2_at (acc : FVec Ideal S1024x2048 .f32) (x : FVec Ideal S1024x2048 .bf16) (wg wu : FVec Ideal S1x2048x256 .f32)
    (wd : FVec Ideal S1x256x2048 .f32) (r : Fin 1024) (d : Fin 2048) :
    k0_pay2 (F := Ideal) acc x wg wu wd (ix2 r d) = acc (ix2 r d) + ∑ f : Fin 256, Ffn.act (∑ k : Fin 2048, x (ix2 r k) * wg (ix3 0 k f))
      (∑ k : Fin 2048, x (ix2 r k) * wu (ix3 0 k f)) * wd (ix3 0 f d) := by
  pointwise [k0_pay2, Ffn.act]
  simp only [zero_add, zero_sub]

/-- The payload of the last tile at an index: what was there plus the remaining 128 features' contribution. -/
theorem pay3_at (acc : FVec Ideal S1024x2048 .f32) (x : FVec Ideal S1024x2048 .bf16) (wg wu : FVec Ideal S1x2048x128 .f32)
    (wd : FVec Ideal S1x128x2048 .f32) (r : Fin 1024) (d : Fin 2048) :
    k0_pay3 (F := Ideal) acc x wg wu wd (ix2 r d) = acc (ix2 r d) + ∑ f : Fin 128, Ffn.act (∑ k : Fin 2048, x (ix2 r k) * wg (ix3 0 k f))
      (∑ k : Fin 2048, x (ix2 r k) * wu (ix3 0 k f)) * wd (ix3 0 f d) := by
  pointwise [k0_pay3, Ffn.act]
  simp only [zero_add, zero_sub]

end Cert.Kernel2Ideal.Value

namespace Cert.Reference2Ideal.Value

open Cert.Reference2Ideal Cert.Reference2Ideal.Gen

/-- The reference's result as one term of its four arguments. -/
def REF (X : FVec Ideal S32768x2048 .bf16) (Wg Wu : FVec Ideal S1x16x2048x5504 .f32) (Wd : FVec Ideal S1x16x5504x2048 .f32) :
    FVec Ideal S32768x2048 .f32 :=
  shapeCast _ (Host.dotGeneral dot_S16x2048x5504_S16x5504x2048_S16x2048x2048_2_1_1_2_0_0 none (mulf (mulf (Host.dotGeneral dot_S16x2048x2048_S16x2048x5504_S16x2048x5504_2_1_1_2_0_0 none (shapeCast _ (extf .f32 X bitsLt_bf16_f32) shapeCasts_S32768x2048_S16x2048x2048) (shapeCast _ Wg shapeCasts_S1x16x2048x5504_S16x2048x5504)) (Host.divf (broadcastInDim S16x2048x5504 ![] bcast_S_S16x2048x5504 (constant S_ .f32 0x3F800000#32)) (addf (broadcastInDim S16x2048x5504 ![] bcast_S_S16x2048x5504 (constant S_ .f32 0x3F800000#32)) (Host.exp (Host.negf (Host.dotGeneral dot_S16x2048x2048_S16x2048x5504_S16x2048x5504_2_1_1_2_0_0 none (shapeCast _ (extf .f32 X bitsLt_bf16_f32) shapeCasts_S32768x2048_S16x2048x2048) (shapeCast _ Wg shapeCasts_S1x16x2048x5504_S16x2048x5504))))))) (Host.dotGeneral dot_S16x2048x2048_S16x2048x5504_S16x2048x5504_2_1_1_2_0_0 none (shapeCast _ (extf .f32 X bitsLt_bf16_f32) shapeCasts_S32768x2048_S16x2048x2048) (shapeCast _ Wu shapeCasts_S1x16x2048x5504_S16x2048x5504))) (shapeCast _ Wd shapeCasts_S1x16x5504x2048_S16x5504x2048)) shapeCasts_S16x2048x2048_S32768x2048

/-- The reference at row `r` of expert `e` and output feature `d`: the sum over all 5504 intermediate features. -/
theorem REF_at (X : FVec Ideal S32768x2048 .bf16) (Wg Wu : FVec Ideal S1x16x2048x5504 .f32) (Wd : FVec Ideal S1x16x5504x2048 .f32)
    (R : Fin 32768) (d : Fin 2048) (e : Fin 16) (he : e.val = R.val / 2048) :
    REF X Wg Wu Wd (ix2 R d) = ∑ f : Fin 5504, Ffn.act (∑ k : Fin 2048, X (ix2 R k) * Wg (ix4 0 e k f))
      (∑ k : Fin 2048, X (ix2 R k) * Wu (ix4 0 e k f)) * Wd (ix4 0 e f d) := by
  have hlt : R.val / 2048 < 16 := by have := R.isLt; omega
  obtain rfl : e = ⟨R.val / 2048, hlt⟩ := Fin.ext he
  pointwise [REF, Ffn.act]

end Cert.Reference2Ideal.Value

end
-- ==== Proof.FfnValue.lean ====
/-
  The expert network's kernel: its result array is the reference's term. The block of 1024 rows of an expert is
  accumulated over 22 grid points, 21 of 256 features and one of the remaining 128.
-/
module

public import proofs.«01_k».proof.Proof.FfnPure

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

/-- Where each window's block sits: expert `t / 44`, row block `t / 22`, feature tile `t % 22` (the main window stops at 20). -/
theorem idx : ∀ t : Fin cfg0.N, win0_0.index t = ![t.val / 22, 0] ∧ win0_1.index t = ![t.val / 44, 0, min (t.val % 22) 20]
    ∧ win0_2.index t = ![t.val / 44, 0, min (t.val % 22) 20] ∧ win0_3.index t = ![t.val / 44, min (t.val % 22) 20, 0]
    ∧ win0_4.index t = ![t.val / 44, 0, 42] ∧ win0_5.index t = ![t.val / 44, 0, 42]
    ∧ win0_6.index t = ![t.val / 44, 42, 0] ∧ win0_7.index t = ![t.val / 22, 0] :=
  (by decide +kernel : ∀ t : Fin grid0.N, _)

/-- The contribution of 256 features of the tile at point `p` to the block. -/
def mainTerm (c : Dev nD) (p : Fin cfg0.N) (r : Fin 1024) (d : Fin 2048) (f : Fin 256) : EReal :=
  Ffn.act (∑ k : Fin 2048, (show FVec Ideal S1024x2048 .bf16 from iblk m c 0 p) (ix2 r k) * (show FVec Ideal S1x2048x256 .f32 from X0_1 m c p) (ix3 0 k f))
    (∑ k : Fin 2048, (show FVec Ideal S1024x2048 .bf16 from iblk m c 0 p) (ix2 r k) * (show FVec Ideal S1x2048x256 .f32 from X0_2 m c p) (ix3 0 k f))
    * (show FVec Ideal S1x256x2048 .f32 from X0_3 m c p) (ix3 0 f d)

/-- The contribution of one of the remaining 128 features to the block. -/
def tailTerm (c : Dev nD) (p : Fin cfg0.N) (r : Fin 1024) (d : Fin 2048) (f : Fin 128) : EReal :=
  Ffn.act (∑ k : Fin 2048, (show FVec Ideal S1024x2048 .bf16 from iblk m c 0 p) (ix2 r k) * (show FVec Ideal S1x2048x128 .f32 from iblk m c 4 p) (ix3 0 k f))
    (∑ k : Fin 2048, (show FVec Ideal S1024x2048 .bf16 from iblk m c 0 p) (ix2 r k) * (show FVec Ideal S1x2048x128 .f32 from iblk m c 5 p) (ix3 0 k f))
    * (show FVec Ideal S1x128x2048 .f32 from iblk m c 6 p) (ix3 0 f d)

/-- What point `p` adds to the block at an index. -/
def term (c : Dev nD) (p : Fin cfg0.N) (j : S1024x2048.Idx) : EReal :=
  if p.val % 22 = 21 then ∑ f : Fin 128, tailTerm m c p (j 0) (j 1) f else ∑ f : Fin 256, mainTerm m c p (j 0) (j 1) f

/-- The first point of a run leaves its own term. -/
theorem outs_first (c : Dev nD) (t : Fin cfg0.N) (h : t.val % 22 = 0) (j : S1024x2048.Idx) :
    outsAt0 m c t.val t.isLt j = 0 + term m c t j := by
  rw [outsAt0_A m c t h (by omega) (by omega)]; frame_out
  unfold term
  rw [if_neg (by omega), zero_add]
  obtain ⟨r, d, rfl⟩ : ∃ (r : Fin 1024) (d : Fin 2048), j = ix2 r d := ⟨j 0, j 1, eq_ix2 j⟩
  exact pay1_at _ _ _ _ r d

/-- A later point adds its term to what the point before left. -/
theorem outs_step (c : Dev nD) (t : Fin cfg0.N) (h : ¬t.val % 22 = 0) (j : S1024x2048.Idx) :
    outsAt0 m c t.val t.isLt j = outsAt0 m c (t.val - 1) (Nat.lt_of_le_of_lt (Nat.sub_le _ _) t.isLt) j + term m c t j := by
  obtain ⟨r, d, rfl⟩ : ∃ (r : Fin 1024) (d : Fin 2048), j = ix2 r d := ⟨j 0, j 1, eq_ix2 j⟩
  unfold term
  by_cases h' : t.val % 22 = 21
  · rw [outsAt0_C m c t h (by omega) h']; frame_out
    rw [if_pos h']
    exact pay3_at _ _ _ _ _ r d
  · rw [outsAt0_B m c t h (by omega) h']; frame_out
    rw [if_neg h']
    exact pay2_at _ _ _ _ _ r d

/-- A main window's block of the gate weights, read at an index. -/
theorem X1_at (c : Dev nD) (p : Fin cfg0.N) (k : Fin 2048) (f : Fin 256) (e : Fin 16) (l : Fin 5504) (he : e.val = p.val / 44) (hl : l.val = min (p.val % 22) 20 * 256 + f.val) :
    (show FVec Ideal S1x2048x256 .f32 from X0_1 m c p) (ix3 0 k f)
      = (show FVec Ideal S1x16x2048x5504 .f32 from m ((c : Thread nD τ).loc main_arg1)) (ix4 0 e k l) := by
  show X0_1 m c p (ix3 0 k f) = _
  unfold X0_1 Pipeline.Window.fill
  rw [dif_pos (moved0_1 p _)]
  blk_simp [iblk]
  entry_read
  pointwise
  refine congrArg (m (c, Proc.tc.devRef main_arg1)) ((ix4_inj ..).2 ⟨rfl, Fin.ext ?_, Fin.ext ?_, Fin.ext ?_⟩)
  · show win0_1.index p 0 * 1 + 1 * 0 = e.val
    rw [(idx p).2.1]; show p.val / 44 * 1 + 1 * 0 = _; omega
  · show win0_1.index p 1 * 2048 + 1 * (k).val = k.val
    rw [(idx p).2.1]; show 0 * 2048 + 1 * (k).val = _; omega
  · show win0_1.index p 2 * 256 + 1 * (f).val = l.val
    rw [(idx p).2.1]; show min (p.val % 22) 20 * 256 + 1 * (f).val = _; omega

/-- A main window's block of the up weights, read at an index. -/
theorem X2_at (c : Dev nD) (p : Fin cfg0.N) (k : Fin 2048) (f : Fin 256) (e : Fin 16) (l : Fin 5504) (he : e.val = p.val / 44) (hl : l.val = min (p.val % 22) 20 * 256 + f.val) :
    (show FVec Ideal S1x2048x256 .f32 from X0_2 m c p) (ix3 0 k f)
      = (show FVec Ideal S1x16x2048x5504 .f32 from m ((c : Thread nD τ).loc main_arg2)) (ix4 0 e k l) := by
  show X0_2 m c p (ix3 0 k f) = _
  unfold X0_2 Pipeline.Window.fill
  rw [dif_pos (moved0_2 p _)]
  blk_simp [iblk]
  entry_read
  pointwise
  refine congrArg (m (c, Proc.tc.devRef main_arg2)) ((ix4_inj ..).2 ⟨rfl, Fin.ext ?_, Fin.ext ?_, Fin.ext ?_⟩)
  · show win0_2.index p 0 * 1 + 1 * 0 = e.val
    rw [(idx p).2.2.1]; show p.val / 44 * 1 + 1 * 0 = _; omega
  · show win0_2.index p 1 * 2048 + 1 * (k).val = k.val
    rw [(idx p).2.2.1]; show 0 * 2048 + 1 * (k).val = _; omega
  · show win0_2.index p 2 * 256 + 1 * (f).val = l.val
    rw [(idx p).2.2.1]; show min (p.val % 22) 20 * 256 + 1 * (f).val = _; omega

/-- A main window's block of the down weights, read at an index. -/
theorem X3_at (c : Dev nD) (p : Fin cfg0.N) (f : Fin 256) (d : Fin 2048) (e : Fin 16) (l : Fin 5504) (he : e.val = p.val / 44) (hl : l.val = min (p.val % 22) 20 * 256 + f.val) :
    (show FVec Ideal S1x256x2048 .f32 from X0_3 m c p) (ix3 0 f d)
      = (show FVec Ideal S1x16x5504x2048 .f32 from m ((c : Thread nD τ).loc main_arg3)) (ix4 0 e l d) := by
  show X0_3 m c p (ix3 0 f d) = _
  unfold X0_3 Pipeline.Window.fill
  rw [dif_pos (moved0_3 p _)]
  blk_simp [iblk]
  entry_read
  pointwise
  refine congrArg (m (c, Proc.tc.devRef main_arg3)) ((ix4_inj ..).2 ⟨rfl, Fin.ext ?_, Fin.ext ?_, Fin.ext ?_⟩)
  · show win0_3.index p 0 * 1 + 1 * 0 = e.val
    rw [(idx p).2.2.2.1]; show p.val / 44 * 1 + 1 * 0 = _; omega
  · show win0_3.index p 1 * 256 + 1 * (f).val = l.val
    rw [(idx p).2.2.2.1]; show min (p.val % 22) 20 * 256 + 1 * (f).val = _; omega
  · show win0_3.index p 2 * 2048 + 1 * (d).val = d.val
    rw [(idx p).2.2.2.1]; show 0 * 2048 + 1 * (d).val = _; omega

/-- A tail window's block of the gate weights, read at an index. -/
theorem iblk4_at (c : Dev nD) (p : Fin cfg0.N) (k : Fin 2048) (f : Fin 128) (e : Fin 16) (l : Fin 5504) (he : e.val = p.val / 44) (hl : l.val = 5376 + f.val) :
    (show FVec Ideal S1x2048x128 .f32 from iblk m c 4 p) (ix3 0 k f)
      = (show FVec Ideal S1x16x2048x5504 .f32 from m ((c : Thread nD τ).loc main_arg1)) (ix4 0 e k l) := by
  show iblk m c 4 p (ix3 0 k f) = _
  blk_simp [iblk]
  entry_read
  pointwise
  refine congrArg (m (c, Proc.tc.devRef main_arg1)) ((ix4_inj ..).2 ⟨rfl, Fin.ext ?_, Fin.ext ?_, Fin.ext ?_⟩)
  · show win0_4.index p 0 * 1 + 1 * 0 = e.val
    rw [(idx p).2.2.2.2.1]; show p.val / 44 * 1 + 1 * 0 = _; omega
  · show win0_4.index p 1 * 2048 + 1 * (k).val = k.val
    rw [(idx p).2.2.2.2.1]; show 0 * 2048 + 1 * (k).val = _; omega
  · show win0_4.index p 2 * 128 + 1 * (f).val = l.val
    rw [(idx p).2.2.2.2.1]; show 42 * 128 + 1 * (f).val = _; omega

/-- A tail window's block of the up weights, read at an index. -/
theorem iblk5_at (c : Dev nD) (p : Fin cfg0.N) (k : Fin 2048) (f : Fin 128) (e : Fin 16) (l : Fin 5504) (he : e.val = p.val / 44) (hl : l.val = 5376 + f.val) :
    (show FVec Ideal S1x2048x128 .f32 from iblk m c 5 p) (ix3 0 k f)
      = (show FVec Ideal S1x16x2048x5504 .f32 from m ((c : Thread nD τ).loc main_arg2)) (ix4 0 e k l) := by
  show iblk m c 5 p (ix3 0 k f) = _
  blk_simp [iblk]
  entry_read
  pointwise
  refine congrArg (m (c, Proc.tc.devRef main_arg2)) ((ix4_inj ..).2 ⟨rfl, Fin.ext ?_, Fin.ext ?_, Fin.ext ?_⟩)
  · show win0_5.index p 0 * 1 + 1 * 0 = e.val
    rw [(idx p).2.2.2.2.2.1]; show p.val / 44 * 1 + 1 * 0 = _; omega
  · show win0_5.index p 1 * 2048 + 1 * (k).val = k.val
    rw [(idx p).2.2.2.2.2.1]; show 0 * 2048 + 1 * (k).val = _; omega
  · show win0_5.index p 2 * 128 + 1 * (f).val = l.val
    rw [(idx p).2.2.2.2.2.1]; show 42 * 128 + 1 * (f).val = _; omega

/-- A tail window's block of the down weights, read at an index. -/
theorem iblk6_at (c : Dev nD) (p : Fin cfg0.N) (f : Fin 128) (d : Fin 2048) (e : Fin 16) (l : Fin 5504) (he : e.val = p.val / 44) (hl : l.val = 5376 + f.val) :
    (show FVec Ideal S1x128x2048 .f32 from iblk m c 6 p) (ix3 0 f d)
      = (show FVec Ideal S1x16x5504x2048 .f32 from m ((c : Thread nD τ).loc main_arg3)) (ix4 0 e l d) := by
  show iblk m c 6 p (ix3 0 f d) = _
  blk_simp [iblk]
  entry_read
  pointwise
  refine congrArg (m (c, Proc.tc.devRef main_arg3)) ((ix4_inj ..).2 ⟨rfl, Fin.ext ?_, Fin.ext ?_, Fin.ext ?_⟩)
  · show win0_6.index p 0 * 1 + 1 * 0 = e.val
    rw [(idx p).2.2.2.2.2.2.1]; show p.val / 44 * 1 + 1 * 0 = _; omega
  · show win0_6.index p 1 * 128 + 1 * (f).val = l.val
    rw [(idx p).2.2.2.2.2.2.1]; show 42 * 128 + 1 * (f).val = _; omega
  · show win0_6.index p 2 * 2048 + 1 * (d).val = d.val
    rw [(idx p).2.2.2.2.2.2.1]; show 0 * 2048 + 1 * (d).val = _; omega

/-- The rows' block, read at an index. -/
theorem iblk0_at (c : Dev nD) (p : Fin cfg0.N) (r : Fin 1024) (k : Fin 2048) (R : Fin 32768) (hR : R.val = p.val / 22 * 1024 + r.val) :
    (show FVec Ideal S1024x2048 .bf16 from iblk m c 0 p) (ix2 r k)
      = (show FVec Ideal S32768x2048 .bf16 from m ((c : Thread nD τ).loc main_arg0)) (ix2 R k) := by
  show iblk m c 0 p (ix2 r k) = _
  blk_ext [iblk, V, idx p]

/-- The summand of the reference, over the kernel's arguments. -/
def summand (c : Dev nD) (R : Fin 32768) (e : Fin 16) (d : Fin 2048) (f : Fin 5504) : EReal :=
  Ffn.act (∑ k : Fin 2048, (show FVec Ideal S32768x2048 .bf16 from m ((c : Thread nD τ).loc main_arg0)) (ix2 R k) * (show FVec Ideal S1x16x2048x5504 .f32 from m ((c : Thread nD τ).loc main_arg1)) (ix4 0 e k f))
    (∑ k : Fin 2048, (show FVec Ideal S32768x2048 .bf16 from m ((c : Thread nD τ).loc main_arg0)) (ix2 R k) * (show FVec Ideal S1x16x2048x5504 .f32 from m ((c : Thread nD τ).loc main_arg2)) (ix4 0 e k f))
    * (show FVec Ideal S1x16x5504x2048 .f32 from m ((c : Thread nD τ).loc main_arg3)) (ix4 0 e f d)

/-- A main tile's term is the reference's summand at the feature it stands for. -/
theorem mainTerm_eq (c : Dev nD) (p : Fin cfg0.N) (r : Fin 1024) (d : Fin 2048) (f : Fin 256) (R : Fin 32768) (e : Fin 16) (l : Fin 5504)
    (hR : R.val = p.val / 22 * 1024 + r.val) (he : e.val = p.val / 44) (hl : l.val = min (p.val % 22) 20 * 256 + f.val) :
    mainTerm m c p r d f = summand m c R e d l := by
  unfold mainTerm summand
  rw [X3_at m c p f d e l he hl]
  refine congrArg₂ (· * ·) (congrArg₂ Ffn.act (Finset.sum_congr rfl fun k _ => ?_) (Finset.sum_congr rfl fun k _ => ?_)) rfl
  · rw [iblk0_at m c p r k R hR, X1_at m c p k f e l he hl]
  · rw [iblk0_at m c p r k R hR, X2_at m c p k f e l he hl]

/-- The tail's term is the reference's summand at the feature it stands for. -/
theorem tailTerm_eq (c : Dev nD) (p : Fin cfg0.N) (r : Fin 1024) (d : Fin 2048) (f : Fin 128) (R : Fin 32768) (e : Fin 16) (l : Fin 5504)
    (hR : R.val = p.val / 22 * 1024 + r.val) (he : e.val = p.val / 44) (hl : l.val = 5376 + f.val) :
    tailTerm m c p r d f = summand m c R e d l := by
  unfold tailTerm summand
  rw [iblk6_at m c p f d e l he hl]
  refine congrArg₂ (· * ·) (congrArg₂ Ffn.act (Finset.sum_congr rfl fun k _ => ?_) (Finset.sum_congr rfl fun k _ => ?_)) rfl
  · rw [iblk0_at m c p r k R hR, iblk4_at m c p k f e l he hl]
  · rw [iblk0_at m c p r k R hR, iblk5_at m c p k f e l he hl]

/-- A sum over 5504 features, 21 tiles of 256 and then 128 more. -/
theorem sum_tiles (g : Fin 5504 → EReal) :
    (∑ s : Fin 21, ∑ f : Fin 256, g ⟨s.val * 256 + f.val, by have := s.isLt; have := f.isLt; omega⟩)
      + ∑ f : Fin 128, g ⟨5376 + f.val, by have := f.isLt; omega⟩ = ∑ l : Fin 5504, g l := by
  have h := Fin.sum_univ_add (a := 5376) (b := 128) (fun i => g (i.cast (by norm_num)))
  refine Eq.trans ?_ h.symm
  refine congrArg₂ (· + ·) ?_ rfl
  exact (Fin.sum_univ_tiles 21 256 rfl (fun i : Fin 5376 => g ⟨i.val, by have := i.isLt; omega⟩)).symm

/-- The kernel's result array is the reference's term of the kernel's arguments. -/
theorem final (c : Dev nD) : (dats m 0 c).arrAt 7 (cfgs 0).N
    = Cert.Reference2Ideal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h21 := (flush0_7 t).mp hf
  have ht : t.val < 704 := lt_of_lt_of_eq t.isLt N_0
  blk_simp
  rw [after0_7, Pipeline.eq_sum_fin_of_reset_step_apply_of_flush (fun n h => outsAt0 m c n h) 22 (fun _ => 0) (term m c)
    (outs_first m c) (outs_step m c) t h21 _, zero_add]
  obtain ⟨r, d, rfl⟩ : ∃ (r : Fin 1024) (d : Fin 2048), y = ix2 r d := ⟨y 0, y 1, eq_ix2 y⟩
  have hr := r.isLt
  let R : Fin 32768 := ⟨t.val / 22 * 1024 + r.val, by omega⟩
  let e : Fin 16 := ⟨t.val / 44, by omega⟩
  have hemb : ((cfg0.win 7).blk t).view.emb (ix2 r d) = ix2 R d := by blk_ext [idx t]; rfl
  rw [hemb]
  refine Eq.trans ?_ (Cert.Reference2Ideal.Value.REF_at _ _ _ _ R d e (by show t.val / 44 = (t.val / 22 * 1024 + r.val) / 2048; omega)).symm
  refine Eq.trans ?_ (sum_tiles (summand m c R e d))
  show (∑ s : Fin 22, term m c ⟨22 * (t.val / 22) + s.val, _⟩ (ix2 r d) : EReal) = _
  rw [Fin.sum_univ_castSucc]
  refine congrArg₂ (· + ·) (Finset.sum_congr rfl fun s _ => ?_) ?_
  · have hs := s.isLt
    unfold term
    rw [if_neg (by show ¬ (22 * (t.val / 22) + s.val) % 22 = 21; omega)]
    exact Finset.sum_congr rfl fun f _ => mainTerm_eq m c _ r d f R e _ (by show t.val / 22 * 1024 + r.val = (22 * (t.val / 22) + s.val) / 22 * 1024 + r.val; omega)
      (by show t.val / 44 = (22 * (t.val / 22) + s.val) / 44; omega) (by show s.val * 256 + f.val = min ((22 * (t.val / 22) + s.val) % 22) 20 * 256 + f.val; omega)
  · unfold term
    rw [if_pos (by show (22 * (t.val / 22) + 21) % 22 = 21; omega)]
    exact Finset.sum_congr rfl fun f _ => tailTerm_eq m c _ r d f R e _ (by show t.val / 22 * 1024 + r.val = (22 * (t.val / 22) + 21) / 22 * 1024 + r.val; omega)
      (by show t.val / 44 = (22 * (t.val / 22) + 21) / 44; omega) rfl

end Cert.Kernel2Ideal.Value

end
-- ==== Proof.FfnClaim.lean ====
/-
  The expert network's claim: kernel and reference end with equal results.
-/
module

public import proofs.«01_k».proof.Defs
public import proofs.«01_k».proof.Proof.FfnValue
public import Idealize.ShloMosaic.Lib.Claim

@[expose] public section

set_option maxRecDepth 16384

noncomputable section

namespace Cert.Proof

open Idealize.ShloMosaic Idealize.SL.Sem

/-- The expert network: over the extended reals the kernel's result is the reference's, from any memories that agree on
    the arguments. -/
theorem algebraicFfn : Cert.algebraic_Kernel2Ideal_Reference2Ideal := by
  pair_intro
  · run_from Cert.Kernel2Ideal.Value.run_blocks m g
  · run_from Cert.Reference2Ideal.Value.run m' g'
    exact (Cert.Kernel2Ideal.Value.final m c).symm

end Cert.Proof

end
-- ==== Proof.InNorm.lean ====
/-
  A row normalized by its root mean square and modulated: what both in-projections feed their products.
-/
module

public import Idealize.ShloMosaic.Lib.Pipeline.ValueKit
public import Idealize.ShloMosaic.Lib.Pointwise

@[expose] public section

noncomputable section

open Idealize.ShloMosaic
open scoped BigOperators

namespace Cert.InProj

/-- A row normalized by its root mean square, at one place: `x d · rsqrt (mean x² + ε)` scaled by the weight `w`, then modulated by `1 + sc` and `sh`. -/
def norm (x : Fin 2048 → EReal) (w sc sh : EReal) (d : Fin 2048) : EReal :=
  x d * Ideal.rsqrt (Ideal.div (∑ k : Fin 2048, x k * x k) (Ideal.ofBits .f32 0x45000000#32) + Ideal.ofBits .f32 0x358637BD#32) * w * (Ideal.ofBits .f32 0x3F800000#32 + sc) + sh

end Cert.InProj

end
-- ==== Proof.InLatRun.lean ====
/- The frame run of the in-projection with each result array named. -/
module

public import proofs.«01_k».proof.Proof.InLatFrame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel3Ideal.Value

end
-- ==== Proof.InLatPure.lean ====
/-
  The in-projection of the latent stream: what one grid point's payloads are at an index, and what the reference is at an
  index: the modulated rms normalization of a row, the projections of the row, and the gates' preactivations of the row.
-/
module

public import proofs.«01_k».proof.Proof.InNorm
public import proofs.«01_k».proof.Proof.InLatRun
public import proofs.«01_k».proof.Proof.Gen.Reference3Ideal.Run

@[expose] public section

set_option maxRecDepth 16384

noncomputable section

open Idealize.ShloMosaic Idealize.ShloMosaic.TcCoe Idealize.SL.Sem
open scoped BigOperators

namespace Cert.Kernel3Ideal.Value

open Cert.Kernel3Ideal Cert.Kernel3Ideal.Gen

/-- The normalized block's payload at an index. -/
theorem pay1_at (x : FVec Ideal S1024x2048 .f32) (w : FVec Ideal S1x2048 .f32) (sc sh : FVec Ideal S1x1x2048 .f32) (r : Fin 1024) (d : Fin 2048) :
    k0_pay1 (F := Ideal) x w sc sh (ix2 r d) = InProj.norm (fun k => x (ix2 r k)) (w (ix2 0 d)) (sc (ix3 0 0 d)) (sh (ix3 0 0 d)) d := by
  pointwise [k0_pay1, InProj.norm]

/-- What is stored of the normalized block is the block. -/
theorem pay2_at (x : FVec Ideal S1024x2048 .f32) (w : FVec Ideal S1x2048 .f32) (sc sh : FVec Ideal S1x1x2048 .f32) (r : Fin 1024) (d : Fin 2048) :
    k0_pay2 (F := Ideal) x w sc sh (ix2 r d) = k0_pay1 (F := Ideal) x w sc sh (ix2 r d) := by
  unfold k0_pay2
  generalize k0_pay1 (F := Ideal) x w sc sh = Y
  pointwise

/-- The gates' payload at an index. -/
theorem pay3_at (x : FVec Ideal S1024x2048 .f32) (w : FVec Ideal S1x2048 .f32) (sc sh : FVec Ideal S1x1x2048 .f32) (wg : FVec Ideal S16x2048 .bf16) (bg : FVec Ideal S16x1 .f32)
    (g : Fin 16) (r : Fin 1024) :
    k0_pay3 (F := Ideal) x w sc sh wg bg (ix2 g r) = (∑ k : Fin 2048, wg (ix2 g k) * k0_pay1 (F := Ideal) x w sc sh (ix2 r k)) + bg (ix2 g 0) := by
  unfold k0_pay3
  generalize k0_pay1 (F := Ideal) x w sc sh = Y
  pointwise

/-- The projection's payload at an index. -/
theorem pay4_at (y : FVec Ideal S1024x2048 .bf16) (w : FVec Ideal S2048x1024 .bf16) (r : Fin 1024) (n : Fin 1024) :
    k0_pay4 (F := Ideal) y w (ix2 r n) = ∑ k : Fin 2048, y (ix2 r k) * w (ix2 k n) := by
  pointwise [k0_pay4]

end Cert.Kernel3Ideal.Value

namespace Cert.Reference3Ideal.Value

open Cert.Reference3Ideal Cert.Reference3Ideal.Gen

/-- The reference's modulated normalization. -/
def XN (a0 : FVec Ideal S16384x2048 .f32) (a1 a2 : FVec Ideal S4x1x2048 .f32) (a3 : FVec Ideal S1x2048 .f32) : FVec Ideal S4x4096x2048 .f32 :=
  (addf (mulf (mulf (mulf (shapeCast _ a0 shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ a0 shapeCasts_S16384x2048_S4x4096x2048) (shapeCast _ a0 shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ a3 shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) a1))) (broadcastInDim S4x4096x2048 ![0, 1, 2] bcast_S4x1x2048_S4x4096x2048_0_1_2 a2))

/-- The reference's projections of the rows `xn`. -/
def PJ (xn : FVec Ideal S4x4096x2048 .f32) (a4 : FVec Ideal S2048x6144 .bf16) : FVec Ideal S16384x6144 .bf16 :=
  truncf .bf16 (shapeCast _ (Host.dotGeneral dot_S4x4096x2048_S2048x6144_S4x4096x6144_2_0_01_1_n_n none xn (extf .f32 a4 bitsLt_bf16_f32)) shapeCasts_S4x4096x6144_S16384x6144) bitsLt_bf16_f32

/-- The reference's gate preactivations of the rows `xn`. -/
def GT (xn : FVec Ideal S4x4096x2048 .f32) (a5 : FVec Ideal S16x2048 .bf16) (a6 : FVec Ideal S16x1 .f32) : FVec Ideal S16x16384 .f32 :=
  transpose S16x16384 [1, 0] (shapeCast _ (addf (Host.dotGeneral dot_S4x4096x2048_S2048x16_S4x4096x16_2_0_01_1_n_n none xn (transpose S2048x16 [1, 0] (extf .f32 a5 bitsLt_bf16_f32) transposes_S16x2048_S2048x16_1_0)) (broadcastInDim S4x4096x16 ![0, 1, 2] bcast_S1x1x16_S4x4096x16_0_1_2 (broadcastInDim S1x1x16 ![2] bcast_S16_S1x1x16_2 (shapeCast _ a6 shapeCasts_S16x1_S16)))) shapeCasts_S4x4096x16_S16384x16) transposes_S16384x16_S16x16384_1_0

/-- The modulated normalization at batch `b`, token `t` and feature `d`; the row of the flat array is `R = 4096 b + t`. -/
theorem XN_at (a0 : FVec Ideal S16384x2048 .f32) (a1 a2 : FVec Ideal S4x1x2048 .f32) (a3 : FVec Ideal S1x2048 .f32)
    (b : Fin 4) (t : Fin 4096) (d : Fin 2048) (R : Fin 16384) (hR : R.val = b.val * 4096 + t.val) :
    XN a0 a1 a2 a3 (ix3 b t d) = InProj.norm (fun k => a0 (ix2 R k)) (a3 (ix2 0 d)) (a1 (ix3 b 0 d)) (a2 (ix3 b 0 d)) d := by
  have hb := b.isLt
  have ht := t.isLt
  have hlt : b.val * 4096 + t.val < 16384 := by omega
  obtain rfl : R = ⟨b.val * 4096 + t.val, hlt⟩ := Fin.ext hR
  pointwise [XN, InProj.norm]

/-- The projections at an index. -/
theorem PJ_at (xn : FVec Ideal S4x4096x2048 .f32) (a4 : FVec Ideal S2048x6144 .bf16) (b : Fin 4) (t : Fin 4096) (n : Fin 6144) (R : Fin 16384) (hR : R.val = b.val * 4096 + t.val) :
    PJ xn a4 (ix2 R n) = ∑ k : Fin 2048, xn (ix3 b t k) * a4 (ix2 k n) := by
  have hb := b.isLt
  have ht := t.isLt
  have hR' := R.isLt
  have h1 : R.val / 4096 < 4 := by omega
  have h2 : R.val % 4096 < 4096 := by omega
  obtain rfl : b = ⟨R.val / 4096, h1⟩ := Fin.ext (by show b.val = R.val / 4096; omega)
  obtain rfl : t = ⟨R.val % 4096, h2⟩ := Fin.ext (by show t.val = R.val % 4096; omega)
  pointwise [PJ]

/-- The gates' preactivations at an index. -/
theorem GT_at (xn : FVec Ideal S4x4096x2048 .f32) (a5 : FVec Ideal S16x2048 .bf16) (a6 : FVec Ideal S16x1 .f32) (b : Fin 4) (t : Fin 4096) (g : Fin 16) (R : Fin 16384) (hR : R.val = b.val * 4096 + t.val) :
    GT xn a5 a6 (ix2 g R) = (∑ k : Fin 2048, xn (ix3 b t k) * a5 (ix2 g k)) + a6 (ix2 g 0) := by
  have hb := b.isLt
  have ht := t.isLt
  have hR' := R.isLt
  have h1 : R.val / 4096 < 4 := by omega
  have h2 : R.val % 4096 < 4096 := by omega
  obtain rfl : b = ⟨R.val / 4096, h1⟩ := Fin.ext (by show b.val = R.val / 4096; omega)
  obtain rfl : t = ⟨R.val % 4096, h2⟩ := Fin.ext (by show t.val = R.val % 4096; omega)
  pointwise [GT]

end Cert.Reference3Ideal.Value

end
-- ==== Proof.InLatValue.lean ====
/-
  The in-projection's kernel on the latent stream: its two result arrays are the reference's terms. A block of 1024 rows is
  normalized once, at the first of its 6 points, and kept in the scratch; each point projects it on one block of columns.
-/
module

public import proofs.«01_k».proof.Proof.InLatPure

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen

variable (m : (ℓ : Loc nD τ sig) → Buf (Elt Ideal) ℓ)

/-- Where each window's block sits: row block `t / 6`, column block `t % 6`. -/
theorem idx : ∀ t : Fin cfg0.N, win0_0.index t = ![t.val / 6, 0] ∧ win0_1.index t = ![t.val / 24, 0, 0] ∧ win0_2.index t = ![t.val / 24, 0, 0]
    ∧ win0_3.index t = ![0, 0] ∧ win0_4.index t = ![0, t.val % 6] ∧ win0_5.index t = ![0, 0] ∧ win0_6.index t = ![0, 0]
    ∧ win0_7.index t = ![t.val / 6, t.val % 6] ∧ win0_8.index t = ![0, t.val / 6] :=
  (by decide +kernel : ∀ t : Fin grid0.N, _)

/-- The kernel's arguments at their types. -/
abbrev A0 (c : Dev nD) : FVec Ideal S16384x2048 .f32 := m ((c : Thread nD τ).loc main_arg0)
/-- Argument 1. -/
abbrev A1 (c : Dev nD) : FVec Ideal S4x1x2048 .f32 := m ((c : Thread nD τ).loc main_arg1)
/-- Argument 2. -/
abbrev A2 (c : Dev nD) : FVec Ideal S4x1x2048 .f32 := m ((c : Thread nD τ).loc main_arg2)
/-- Argument 3. -/
abbrev A3 (c : Dev nD) : FVec Ideal S1x2048 .f32 := m ((c : Thread nD τ).loc main_arg3)
/-- Argument 4. -/
abbrev A4 (c : Dev nD) : FVec Ideal S2048x6144 .bf16 := m ((c : Thread nD τ).loc main_arg4)
/-- Argument 5. -/
abbrev A5 (c : Dev nD) : FVec Ideal S16x2048 .bf16 := m ((c : Thread nD τ).loc main_arg5)
/-- Argument 6. -/
abbrev A6 (c : Dev nD) : FVec Ideal S16x1 .f32 := m ((c : Thread nD τ).loc main_arg6)

/-- The reference's normalization of the kernel's arguments. -/
abbrev XN (c : Dev nD) : FVec Ideal Cert.Reference3Ideal.S4x4096x2048 .f32 := Cert.Reference3Ideal.Value.XN (A0 m c) (A1 m c) (A2 m c) (A3 m c)

/-- The rows' block, read at an index. -/
theorem iblk0_at (c : Dev nD) (p : Fin cfg0.N) (r : Fin 1024) (k : Fin 2048) (R : Fin 16384) (hR : R.val = p.val / 6 * 1024 + r.val) :
    (show FVec Ideal S1024x2048 .f32 from iblk m c 0 p) (ix2 r k) = A0 m c (ix2 R k) := by
  show iblk m c 0 p (ix2 r k) = _
  blk_ext [iblk, V, idx p]

/-- The scale's block, read at an index. -/
theorem iblk1_at (c : Dev nD) (p : Fin cfg0.N) (d : Fin 2048) (b : Fin 4) (hb : b.val = p.val / 24) :
    (show FVec Ideal S1x1x2048 .f32 from iblk m c 1 p) (ix3 0 0 d) = A1 m c (ix3 b 0 d) := by
  show iblk m c 1 p (ix3 0 0 d) = _
  blk_ext [iblk, V, idx p]

/-- The shift's block, read at an index. -/
theorem iblk2_at (c : Dev nD) (p : Fin cfg0.N) (d : Fin 2048) (b : Fin 4) (hb : b.val = p.val / 24) :
    (show FVec Ideal S1x1x2048 .f32 from iblk m c 2 p) (ix3 0 0 d) = A2 m c (ix3 b 0 d) := by
  show iblk m c 2 p (ix3 0 0 d) = _
  blk_ext [iblk, V, idx p]

/-- The normalization's weights' block, read at an index. -/
theorem iblk3_at (c : Dev nD) (p : Fin cfg0.N) (d : Fin 2048) :
    (show FVec Ideal S1x2048 .f32 from iblk m c 3 p) (ix2 0 d) = A3 m c (ix2 0 d) := by
  show iblk m c 3 p (ix2 0 d) = _
  blk_ext [iblk, V, idx p]

/-- The projection's weights' block, read at an index. -/
theorem iblk4_at (c : Dev nD) (p : Fin cfg0.N) (k : Fin 2048) (n : Fin 1024) (N : Fin 6144) (hN : N.val = p.val % 6 * 1024 + n.val) :
    (show FVec Ideal S2048x1024 .bf16 from iblk m c 4 p) (ix2 k n) = A4 m c (ix2 k N) := by
  show iblk m c 4 p (ix2 k n) = _
  blk_ext [iblk, V, idx p]

/-- The gates' weights' block, read at an index. -/
theorem iblk5_at (c : Dev nD) (p : Fin cfg0.N) (g : Fin 16) (k : Fin 2048) :
    (show FVec Ideal S16x2048 .bf16 from iblk m c 5 p) (ix2 g k) = A5 m c (ix2 g k) := by
  show iblk m c 5 p (ix2 g k) = _
  blk_ext [iblk, V, idx p]

/-- The gates' biases' block, read at an index. -/
theorem iblk6_at (c : Dev nD) (p : Fin cfg0.N) (g : Fin 16) :
    (show FVec Ideal S16x1 .f32 from iblk m c 6 p) (ix2 g 0) = A6 m c (ix2 g 0) := by
  show iblk m c 6 p (ix2 g 0) = _
  blk_ext [iblk, V, idx p]

/-- The normalization of a block's row is the reference's. -/
theorem norm_at (c : Dev nD) (p : Fin cfg0.N) (r : Fin 1024) (d : Fin 2048) (b : Fin 4) (t : Fin 4096)
    (hb : b.val = p.val / 24) (ht : t.val = p.val / 6 % 4 * 1024 + r.val) :
    k0_pay1 (F := Ideal) (iblk m c 0 p) (iblk m c 3 p) (iblk m c 1 p) (iblk m c 2 p) (ix2 r d) = XN m c (ix3 b t d) := by
  have hp : p.val < 96 := lt_of_lt_of_eq p.isLt N_0
  have hr := r.isLt
  let R : Fin 16384 := ⟨p.val / 6 * 1024 + r.val, by omega⟩
  refine (pay1_at _ _ _ _ r d).trans (Eq.trans ?_ (Cert.Reference3Ideal.Value.XN_at _ _ _ _ b t d R (by show p.val / 6 * 1024 + r.val = _; omega)).symm)
  have e0 : (fun k => (show FVec Ideal S1024x2048 .f32 from iblk m c 0 p) (ix2 r k)) = fun k => A0 m c (ix2 R k) := funext fun k => iblk0_at m c p r k R rfl
  unfold InProj.norm
  refine congrArg₂ (· + ·) (congrArg₂ (· * ·) (congrArg₂ (· * ·) (congrArg₂ (· * ·) (iblk0_at m c p r d R rfl) (congrArg Ideal.rsqrt (congrArg₂ (· + ·) (congrArg₂ Ideal.div (Finset.sum_congr rfl fun k _ => ?_) rfl) rfl))) (iblk3_at m c p d)) (congrArg₂ (· + ·) rfl (iblk1_at m c p d b hb))) (iblk2_at m c p d b hb)
  exact congrArg₂ (· * ·) (iblk0_at m c p r k R rfl) (iblk0_at m c p r k R rfl)

/-- After every point the scratch holds the normalized block of the point's rows. -/
theorem scratch_at (c : Dev nD) : ∀ (n : ℕ) (hn : n < cfg0.N) (r : Fin 1024) (d : Fin 2048) (b : Fin 4) (t : Fin 4096)
    (_ : b.val = n / 24) (_ : t.val = n / 6 % 4 * 1024 + r.val), (outsAt0 m c n hn).2.2 (ix2 r d) = XN m c (ix3 b t d) := by
  intro n
  induction n with
  | zero =>
    intro hn r d b t hb ht
    have e := outsAt0_A m c ⟨0, hn⟩ (by show 0 % 6 = 0; rfl)
    rw [show outsAt0 m c 0 hn = _ from e]
    dsimp only
    frame_out
    exact (pay2_at _ _ _ _ r d).trans (norm_at m c ⟨0, hn⟩ r d b t hb ht)
  | succ n ih =>
    intro hn r d b t hb ht
    by_cases h0 : (n + 1) % 6 = 0
    · have e := outsAt0_A m c ⟨n + 1, hn⟩ h0
      rw [show outsAt0 m c (n + 1) hn = _ from e]
      dsimp only
      frame_out
      exact (pay2_at _ _ _ _ r d).trans (norm_at m c ⟨n + 1, hn⟩ r d b t hb ht)
    · have e := outsAt0_B m c ⟨n + 1, hn⟩ h0
      rw [show outsAt0 m c (n + 1) hn = _ from e]
      exact ih (Nat.lt_of_succ_lt hn) r d b t (by omega) (by omega)

/-- The gates of a block's row at its first point are the reference's. -/
theorem gate_first (c : Dev nD) (p : Fin cfg0.N) (g : Fin 16) (r : Fin 1024) (R : Fin 16384) (hR : R.val = p.val / 6 * 1024 + r.val) :
    k0_pay3 (F := Ideal) (iblk m c 0 p) (iblk m c 3 p) (iblk m c 1 p) (iblk m c 2 p) (iblk m c 5 p) (iblk m c 6 p) (ix2 g r)
      = Cert.Reference3Ideal.Value.GT (XN m c) (A5 m c) (A6 m c) (ix2 g R) := by
  have hp : p.val < 96 := lt_of_lt_of_eq p.isLt N_0
  have hr := r.isLt
  let b : Fin 4 := ⟨p.val / 24, by omega⟩
  let t : Fin 4096 := ⟨p.val / 6 % 4 * 1024 + r.val, by omega⟩
  refine (pay3_at _ _ _ _ _ _ g r).trans (Eq.trans ?_ (Cert.Reference3Ideal.Value.GT_at _ _ _ b t g R (hR.trans (by show _ = p.val / 24 * 4096 + (p.val / 6 % 4 * 1024 + r.val); omega))).symm)
  refine congrArg₂ (· + ·) (Finset.sum_congr rfl fun k _ => ?_) (iblk6_at m c p g)
  rw [mul_comm]
  exact congrArg₂ (· * ·) (norm_at m c p r k b t rfl rfl) (iblk5_at m c p g k)

/-- After every point the gate window's buffer holds the gates of the point's rows. -/
theorem gate_at (c : Dev nD) : ∀ (n : ℕ) (hn : n < cfg0.N) (g : Fin 16) (r : Fin 1024) (R : Fin 16384)
    (_ : R.val = n / 6 * 1024 + r.val), (outsAt0 m c n hn).2.1 (ix2 g r) = Cert.Reference3Ideal.Value.GT (XN m c) (A5 m c) (A6 m c) (ix2 g R) := by
  intro n
  induction n with
  | zero =>
    intro hn g r R hR
    have e := outsAt0_A m c ⟨0, hn⟩ (by show 0 % 6 = 0; rfl)
    rw [show outsAt0 m c 0 hn = _ from e]
    dsimp only
    frame_out
    exact gate_first m c ⟨0, hn⟩ g r R hR
  | succ n ih =>
    intro hn g r R hR
    by_cases h0 : (n + 1) % 6 = 0
    · have e := outsAt0_A m c ⟨n + 1, hn⟩ h0
      rw [show outsAt0 m c (n + 1) hn = _ from e]
      dsimp only
      frame_out
      exact gate_first m c ⟨n + 1, hn⟩ g r R hR
    · have e := outsAt0_B m c ⟨n + 1, hn⟩ h0
      rw [show outsAt0 m c (n + 1) hn = _ from e]
      exact ih (Nat.lt_of_succ_lt hn) g r R (by omega)

/-- A point's projection of a row is the reference's. -/
theorem proj_at (c : Dev nD) (p : Fin cfg0.N) (r : Fin 1024) (n : Fin 1024) (R : Fin 16384) (N : Fin 6144)
    (hR : R.val = p.val / 6 * 1024 + r.val) (hN : N.val = p.val % 6 * 1024 + n.val) :
    (outsAt0 m c p.val p.isLt).1 (ix2 r n) = Cert.Reference3Ideal.Value.PJ (XN m c) (A4 m c) (ix2 R N) := by
  have hp : p.val < 96 := lt_of_lt_of_eq p.isLt N_0
  have hr := r.isLt
  let b : Fin 4 := ⟨p.val / 24, by omega⟩
  let t : Fin 4096 := ⟨p.val / 6 % 4 * 1024 + r.val, by omega⟩
  refine Eq.trans ?_ (Cert.Reference3Ideal.Value.PJ_at _ _ b t N R (hR.trans (by show _ = p.val / 24 * 4096 + (p.val / 6 % 4 * 1024 + r.val); omega))).symm
  by_cases h0 : p.val % 6 = 0
  · rw [outsAt0_A m c p h0]
    dsimp only
    frame_out
    refine (pay4_at _ _ r n).trans (Finset.sum_congr rfl fun k _ => congrArg₂ (· * ·) ?_ (iblk4_at m c p k n N hN))
    exact (pay2_at _ _ _ _ r k).trans (norm_at m c p r k b t rfl rfl)
  · rw [outsAt0_B m c p h0]
    dsimp only
    frame_out
    refine (pay4_at _ _ r n).trans (Finset.sum_congr rfl fun k _ => congrArg₂ (· * ·) ?_ (iblk4_at m c p k n N hN))
    refine (congrFun (Memref.IsWhole.read_unread (Memref.isWhole_whole _) _) _).trans ?_
    exact scratch_at m c (p.val - 1) _ r k b t (by show p.val / 24 = (p.val - 1) / 24; omega) (by show p.val / 6 % 4 * 1024 + r.val = (p.val - 1) / 6 % 4 * 1024 + r.val; omega)

/-- The kernel's projections are the reference's. -/
theorem final0 (c : Dev nD) : (dats m 0 c).arrAt 7 (cfgs 0).N = Cert.Reference3Ideal.Value.PJ (XN m c) (A4 m c) := by
  refine (dats m 0 c).arrAt_eq_of_covers 7 _ (by decide +kernel) fun t hf y => ?_
  have ht : t.val < 96 := lt_of_lt_of_eq t.isLt N_0
  blk_simp
  rw [after0_7]
  obtain ⟨r, n, rfl⟩ : ∃ (r : Fin 1024) (n : Fin 1024), y = ix2 r n := ⟨y 0, y 1, eq_ix2 y⟩
  have hr := r.isLt
  have hn := n.isLt
  let R : Fin 16384 := ⟨t.val / 6 * 1024 + r.val, by omega⟩
  let N : Fin 6144 := ⟨t.val % 6 * 1024 + n.val, by omega⟩
  have hemb : ((cfg0.win 7).blk t).view.emb (ix2 r n) = ix2 R N := by blk_ext [idx t] <;> rfl
  rw [hemb]
  exact proj_at m c t r n R N rfl rfl

/-- The kernel's gate preactivations are the reference's. -/
theorem final1 (c : Dev nD) : (dats m 0 c).arrAt 8 (cfgs 0).N = Cert.Reference3Ideal.Value.GT (XN m c) (A5 m c) (A6 m c) := by
  refine (dats m 0 c).arrAt_eq_of_covers 8 _ (by decide +kernel) fun t hf y => ?_
  have ht : t.val < 96 := lt_of_lt_of_eq t.isLt N_0
  blk_simp
  rw [after0_8]
  obtain ⟨g, r, rfl⟩ : ∃ (g : Fin 16) (r : Fin 1024), y = ix2 g r := ⟨y 0, y 1, eq_ix2 y⟩
  have hr := r.isLt
  let R : Fin 16384 := ⟨t.val / 6 * 1024 + r.val, by omega⟩
  have hemb : ((cfg0.win 8).blk t).view.emb (ix2 g r) = ix2 g R := by blk_ext [idx t] <;> rfl
  rw [hemb]
  exact gate_at m c t.val t.isLt g r R rfl

end Cert.Kernel3Ideal.Value

end
-- ==== Proof.InLatClaim.lean ====
/-
  The value claim of the in-projection of the latent stream, from the two runs and the equation of the arrays.
-/
module

public import proofs.«01_k».proof.Defs
public import proofs.«01_k».proof.Proof.InLatValue
public import Idealize.ShloMosaic.Lib.Claim

@[expose] public section

set_option maxRecDepth 16384

noncomputable section

namespace Cert.Proof

open Idealize.ShloMosaic Idealize.SL.Sem

/-- The in-projection of the latent stream: over the extended reals the kernel's projections and gate preactivations are the
    reference's, from any memories that agree on the arguments. -/
theorem algebraicInLat : Cert.algebraic_Kernel3Ideal_Reference3Ideal := by
  pair_intro
  · run_from Cert.Kernel3Ideal.Value.run_blocks m g
  · run_from Cert.Reference3Ideal.Value.run m' g'
    · exact (Cert.Kernel3Ideal.Value.final0 m c).symm
    · exact (Cert.Kernel3Ideal.Value.final1 m c).symm

end Cert.Proof

end
-- ==== Proof.InCtxRun.lean ====
/- The frame run of the in-projection with each result array named. -/
module

public import proofs.«01_k».proof.Proof.InCtxFrame
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel4Ideal.Value

end
-- ==== Proof.InCtxPure.lean ====
/-
  The in-projection of the context stream: what one grid point's payloads are at an index, and what the reference is at an
  index: the modulated rms normalization of a row, the projections of the row, and the gates' preactivations of the row.
-/
module

public import proofs.«01_k».proof.Proof.InNorm
public import proofs.«01_k».proof.Proof.InCtxRun
public import proofs.«01_k».proof.Proof.Gen.Reference4Ideal.Run

@[expose] public section

set_option maxRecDepth 16384

noncomputable section

open Idealize.ShloMosaic Idealize.ShloMosaic.TcCoe Idealize.SL.Sem
open scoped BigOperators

namespace Cert.Kernel4Ideal.Value

open Cert.Kernel4Ideal Cert.Kernel4Ideal.Gen

/-- The normalized block's payload at an index. -/
theorem pay1_at (x : FVec Ideal S256x2048 .f32) (w : FVec Ideal S1x2048 .f32) (sc sh : FVec Ideal S1x1x2048 .f32) (r : Fin 256) (d : Fin 2048) :
    k0_pay1 (F := Ideal) x w sc sh (ix2 r d) = InProj.norm (fun k => x (ix2 r k)) (w (ix2 0 d)) (sc (ix3 0 0 d)) (sh (ix3 0 0 d)) d := by
  pointwise [k0_pay1, InProj.norm]

/-- What is stored of the normalized block is the block. -/
theorem pay2_at (x : FVec Ideal S256x2048 .f32) (w : FVec Ideal S1x2048 .f32) (sc sh : FVec Ideal S1x1x2048 .f32) (r : Fin 256) (d : Fin 2048) :
    k0_pay2 (F := Ideal) x w sc sh (ix2 r d) = k0_pay1 (F := Ideal) x w sc sh (ix2 r d) := by
  unfold k0_pay2
  generalize k0_pay1 (F := Ideal) x w sc sh = Y
  pointwise

/-- The gates' payload at an index. -/
theorem pay3_at (x : FVec Ideal S256x2048 .f32) (w : FVec Ideal S1x2048 .f32) (sc sh : FVec Ideal S1x1x2048 .f32) (wg : FVec Ideal S16x2048 .bf16) (bg : FVec Ideal S16x1 .f32)
    (g : Fin 16) (r : Fin 256) :
    k0_pay3 (F := Ideal) x w sc sh wg bg (ix2 g r) = (∑ k : Fin 2048, wg (ix2 g k) * k0_pay1 (F := Ideal) x w sc sh (ix2 r k)) + bg (ix2 g 0) := by
  unfold k0_pay3
  generalize k0_pay1 (F := Ideal) x w sc sh = Y
  pointwise

/-- The projection's payload at an index. -/
theorem pay4_at (y : FVec Ideal S256x2048 .bf16) (w : FVec Ideal S2048x1024 .bf16) (r : Fin 256) (n : Fin 1024) :
    k0_pay4 (F := Ideal) y w (ix2 r n) = ∑ k : Fin 2048, y (ix2 r k) * w (ix2 k n) := by
  pointwise [k0_pay4]

end Cert.Kernel4Ideal.Value

namespace Cert.Reference4Ideal.Value

open Cert.Reference4Ideal Cert.Reference4Ideal.Gen

/-- The reference's modulated normalization. -/
def XN (a0 : FVec Ideal S1024x2048 .f32) (a1 a2 : FVec Ideal S1x1x2048 .f32) (a3 : FVec Ideal S1x2048 .f32) : FVec Ideal S4x256x2048 .f32 :=
  (addf (mulf (mulf (mulf (shapeCast _ a0 shapeCasts_S1024x2048_S4x256x2048) (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf (shapeCast _ a0 shapeCasts_S1024x2048_S4x256x2048) (shapeCast _ a0 shapeCasts_S1024x2048_S4x256x2048)) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 (shapeCast _ a3 shapeCasts_S1x2048_S2048)))) (broadcastInDim S4x256x2048 ![0, 1, 2] bcast_S1x1x2048_S4x256x2048_0_1_2 (broadcastInDim S1x1x2048 ![2] bcast_S2048_S1x1x2048_2 (addf (broadcastInDim S2048 ![] bcast_S_S2048 (constant S_ .f32 0x3F800000#32)) (shapeCast _ a1 shapeCasts_S1x1x2048_S2048))))) (broadcastInDim S4x256x2048 ![0, 1, 2] bcast_S1x1x2048_S4x256x2048_0_1_2 (broadcastInDim S1x1x2048 ![2] bcast_S2048_S1x1x2048_2 (shapeCast _ a2 shapeCasts_S1x1x2048_S2048))))

/-- The reference's projections of the rows `xn`. -/
def PJ (xn : FVec Ideal S4x256x2048 .f32) (a4 : FVec Ideal S2048x2048 .bf16) : FVec Ideal S1024x2048 .bf16 :=
  truncf .bf16 (shapeCast _ (Host.dotGeneral dot_S4x256x2048_S2048x2048_S4x256x2048_2_0_01_1_n_n none xn (extf .f32 a4 bitsLt_bf16_f32)) shapeCasts_S4x256x2048_S1024x2048) bitsLt_bf16_f32

/-- The reference's gate preactivations of the rows `xn`. -/
def GT (xn : FVec Ideal S4x256x2048 .f32) (a5 : FVec Ideal S16x2048 .bf16) (a6 : FVec Ideal S16x1 .f32) : FVec Ideal S16x1024 .f32 :=
  transpose S16x1024 [1, 0] (shapeCast _ (addf (Host.dotGeneral dot_S4x256x2048_S2048x16_S4x256x16_2_0_01_1_n_n none xn (transpose S2048x16 [1, 0] (extf .f32 a5 bitsLt_bf16_f32) transposes_S16x2048_S2048x16_1_0)) (broadcastInDim S4x256x16 ![0, 1, 2] bcast_S1x1x16_S4x256x16_0_1_2 (broadcastInDim S1x1x16 ![2] bcast_S16_S1x1x16_2 (shapeCast _ a6 shapeCasts_S16x1_S16)))) shapeCasts_S4x256x16_S1024x16) transposes_S1024x16_S16x1024_1_0

/-- The modulated normalization at batch `b`, token `t` and feature `d`; the row of the flat array is `R = 256 b + t`. -/
theorem XN_at (a0 : FVec Ideal S1024x2048 .f32) (a1 a2 : FVec Ideal S1x1x2048 .f32) (a3 : FVec Ideal S1x2048 .f32)
    (b : Fin 4) (t : Fin 256) (d : Fin 2048) (R : Fin 1024) (hR : R.val = b.val * 256 + t.val) :
    XN a0 a1 a2 a3 (ix3 b t d) = InProj.norm (fun k => a0 (ix2 R k)) (a3 (ix2 0 d)) (a1 (ix3 0 0 d)) (a2 (ix3 0 0 d)) d := by
  have hb := b.isLt
  have ht := t.isLt
  have hlt : b.val * 256 + t.val < 1024 := by omega
  obtain rfl : R = ⟨b.val * 256 + t.val, hlt⟩ := Fin.ext hR
  pointwise [XN, InProj.norm]

/-- The projections at an index. -/
theorem PJ_at (xn : FVec Ideal S4x256x2048 .f32) (a4 : FVec Ideal S2048x2048 .bf16) (b : Fin 4) (t : Fin 256) (n : Fin 2048) (R : Fin 1024) (hR : R.val = b.val * 256 + t.val) :
    PJ xn a4 (ix2 R n) = ∑ k : Fin 2048, xn (ix3 b t k) * a4 (ix2 k n) := by
  have hb := b.isLt
  have ht := t.isLt
  have hR' := R.isLt
  have h1 : R.val / 256 < 4 := by omega
  have h2 : R.val % 256 < 256 := by omega
  obtain rfl : b = ⟨R.val / 256, h1⟩ := Fin.ext (by show b.val = R.val / 256; omega)
  obtain rfl : t = ⟨R.val % 256, h2⟩ := Fin.ext (by show t.val = R.val % 256; omega)
  pointwise [PJ]

/-- The gates' preactivations at an index. -/
theorem GT_at (xn : FVec Ideal S4x256x2048 .f32) (a5 : FVec Ideal S16x2048 .bf16) (a6 : FVec Ideal S16x1 .f32) (b : Fin 4) (t : Fin 256) (g : Fin 16) (R : Fin 1024) (hR : R.val = b.val * 256 + t.val) :
    GT xn a5 a6 (ix2 g R) = (∑ k : Fin 2048, xn (ix3 b t k) * a5 (ix2 g k)) + a6 (ix2 g 0) := by
  have hb := b.isLt
  have ht := t.isLt
  have hR' := R.isLt
  have h1 : R.val / 256 < 4 := by omega
  have h2 : R.val % 256 < 256 := by omega
  obtain rfl : b = ⟨R.val / 256, h1⟩ := Fin.ext (by show b.val = R.val / 256; omega)
  obtain rfl : t = ⟨R.val % 256, h2⟩ := Fin.ext (by show t.val = R.val % 256; omega)
  pointwise [GT]

end Cert.Reference4Ideal.Value

end
-- ==== Proof.InCtxValue.lean ====
/-
  The in-projection's kernel on the context stream: its two result arrays are the reference's terms. A block of 256 rows is
  normalized once, at the first of its 2 points, and kept in the scratch; each point projects it on one block of columns.
-/
module

public import proofs.«01_k».proof.Proof.InCtxPure

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Value

open Cert.Kernel4Ideal Cert.Kernel4Ideal.Gen

variable (m : (ℓ : Loc nD τ sig) → Buf (Elt Ideal) ℓ)

/-- Where each window's block sits: row block `t / 2`, column block `t % 2`. -/
theorem idx : ∀ t : Fin cfg0.N, win0_0.index t = ![t.val / 2, 0] ∧ win0_1.index t = ![0, 0, 0] ∧ win0_2.index t = ![0, 0, 0]
    ∧ win0_3.index t = ![0, 0] ∧ win0_4.index t = ![0, t.val % 2] ∧ win0_5.index t = ![0, 0] ∧ win0_6.index t = ![0, 0]
    ∧ win0_7.index t = ![t.val / 2, t.val % 2] ∧ win0_8.index t = ![0, t.val / 2] :=
  (by decide +kernel : ∀ t : Fin grid0.N, _)

/-- The kernel's arguments at their types. -/
abbrev A0 (c : Dev nD) : FVec Ideal S1024x2048 .f32 := m ((c : Thread nD τ).loc main_arg0)
/-- Argument 1. -/
abbrev A1 (c : Dev nD) : FVec Ideal S1x1x2048 .f32 := m ((c : Thread nD τ).loc main_arg1)
/-- Argument 2. -/
abbrev A2 (c : Dev nD) : FVec Ideal S1x1x2048 .f32 := m ((c : Thread nD τ).loc main_arg2)
/-- Argument 3. -/
abbrev A3 (c : Dev nD) : FVec Ideal S1x2048 .f32 := m ((c : Thread nD τ).loc main_arg3)
/-- Argument 4. -/
abbrev A4 (c : Dev nD) : FVec Ideal S2048x2048 .bf16 := m ((c : Thread nD τ).loc main_arg4)
/-- Argument 5. -/
abbrev A5 (c : Dev nD) : FVec Ideal S16x2048 .bf16 := m ((c : Thread nD τ).loc main_arg5)
/-- Argument 6. -/
abbrev A6 (c : Dev nD) : FVec Ideal S16x1 .f32 := m ((c : Thread nD τ).loc main_arg6)

/-- The reference's normalization of the kernel's arguments. -/
abbrev XN (c : Dev nD) : FVec Ideal Cert.Reference4Ideal.S4x256x2048 .f32 := Cert.Reference4Ideal.Value.XN (A0 m c) (A1 m c) (A2 m c) (A3 m c)

/-- The rows' block, read at an index. -/
theorem iblk0_at (c : Dev nD) (p : Fin cfg0.N) (r : Fin 256) (k : Fin 2048) (R : Fin 1024) (hR : R.val = p.val / 2 * 256 + r.val) :
    (show FVec Ideal S256x2048 .f32 from iblk m c 0 p) (ix2 r k) = A0 m c (ix2 R k) := by
  show iblk m c 0 p (ix2 r k) = _
  blk_ext [iblk, V, idx p]

/-- The scale's block, read at an index. -/
theorem iblk1_at (c : Dev nD) (p : Fin cfg0.N) (d : Fin 2048) :
    (show FVec Ideal S1x1x2048 .f32 from iblk m c 1 p) (ix3 0 0 d) = A1 m c (ix3 0 0 d) := by
  show iblk m c 1 p (ix3 0 0 d) = _
  blk_ext [iblk, V, idx p]

/-- The shift's block, read at an index. -/
theorem iblk2_at (c : Dev nD) (p : Fin cfg0.N) (d : Fin 2048) :
    (show FVec Ideal S1x1x2048 .f32 from iblk m c 2 p) (ix3 0 0 d) = A2 m c (ix3 0 0 d) := by
  show iblk m c 2 p (ix3 0 0 d) = _
  blk_ext [iblk, V, idx p]

/-- The normalization's weights' block, read at an index. -/
theorem iblk3_at (c : Dev nD) (p : Fin cfg0.N) (d : Fin 2048) :
    (show FVec Ideal S1x2048 .f32 from iblk m c 3 p) (ix2 0 d) = A3 m c (ix2 0 d) := by
  show iblk m c 3 p (ix2 0 d) = _
  blk_ext [iblk, V, idx p]

/-- The projection's weights' block, read at an index. -/
theorem iblk4_at (c : Dev nD) (p : Fin cfg0.N) (k : Fin 2048) (n : Fin 1024) (N : Fin 2048) (hN : N.val = p.val % 2 * 1024 + n.val) :
    (show FVec Ideal S2048x1024 .bf16 from iblk m c 4 p) (ix2 k n) = A4 m c (ix2 k N) := by
  show iblk m c 4 p (ix2 k n) = _
  blk_ext [iblk, V, idx p]

/-- The gates' weights' block, read at an index. -/
theorem iblk5_at (c : Dev nD) (p : Fin cfg0.N) (g : Fin 16) (k : Fin 2048) :
    (show FVec Ideal S16x2048 .bf16 from iblk m c 5 p) (ix2 g k) = A5 m c (ix2 g k) := by
  show iblk m c 5 p (ix2 g k) = _
  blk_ext [iblk, V, idx p]

/-- The gates' biases' block, read at an index. -/
theorem iblk6_at (c : Dev nD) (p : Fin cfg0.N) (g : Fin 16) :
    (show FVec Ideal S16x1 .f32 from iblk m c 6 p) (ix2 g 0) = A6 m c (ix2 g 0) := by
  show iblk m c 6 p (ix2 g 0) = _
  blk_ext [iblk, V, idx p]

/-- The normalization of a block's row is the reference's. -/
theorem norm_at (c : Dev nD) (p : Fin cfg0.N) (r : Fin 256) (d : Fin 2048) (b : Fin 4) (t : Fin 256)
    (hb : b.val = p.val / 2) (ht : t.val = r.val) :
    k0_pay1 (F := Ideal) (iblk m c 0 p) (iblk m c 3 p) (iblk m c 1 p) (iblk m c 2 p) (ix2 r d) = XN m c (ix3 b t d) := by
  have hp : p.val < 8 := lt_of_lt_of_eq p.isLt N_0
  have hr := r.isLt
  let R : Fin 1024 := ⟨p.val / 2 * 256 + r.val, by omega⟩
  refine (pay1_at _ _ _ _ r d).trans (Eq.trans ?_ (Cert.Reference4Ideal.Value.XN_at _ _ _ _ b t d R (by show p.val / 2 * 256 + r.val = _; omega)).symm)
  have e0 : (fun k => (show FVec Ideal S256x2048 .f32 from iblk m c 0 p) (ix2 r k)) = fun k => A0 m c (ix2 R k) := funext fun k => iblk0_at m c p r k R rfl
  unfold InProj.norm
  refine congrArg₂ (· + ·) (congrArg₂ (· * ·) (congrArg₂ (· * ·) (congrArg₂ (· * ·) (iblk0_at m c p r d R rfl) (congrArg Ideal.rsqrt (congrArg₂ (· + ·) (congrArg₂ Ideal.div (Finset.sum_congr rfl fun k _ => ?_) rfl) rfl))) (iblk3_at m c p d)) (congrArg₂ (· + ·) rfl (iblk1_at m c p d))) (iblk2_at m c p d)
  exact congrArg₂ (· * ·) (iblk0_at m c p r k R rfl) (iblk0_at m c p r k R rfl)

/-- After every point the scratch holds the normalized block of the point's rows. -/
theorem scratch_at (c : Dev nD) : ∀ (n : ℕ) (hn : n < cfg0.N) (r : Fin 256) (d : Fin 2048) (b : Fin 4) (t : Fin 256)
    (_ : b.val = n / 2) (_ : t.val = r.val), (outsAt0 m c n hn).2.2 (ix2 r d) = XN m c (ix3 b t d) := by
  intro n
  induction n with
  | zero =>
    intro hn r d b t hb ht
    have e := outsAt0_A m c ⟨0, hn⟩ (by show 0 % 2 = 0; rfl)
    rw [show outsAt0 m c 0 hn = _ from e]
    dsimp only
    frame_out
    exact (pay2_at _ _ _ _ r d).trans (norm_at m c ⟨0, hn⟩ r d b t hb ht)
  | succ n ih =>
    intro hn r d b t hb ht
    by_cases h0 : (n + 1) % 2 = 0
    · have e := outsAt0_A m c ⟨n + 1, hn⟩ h0
      rw [show outsAt0 m c (n + 1) hn = _ from e]
      dsimp only
      frame_out
      exact (pay2_at _ _ _ _ r d).trans (norm_at m c ⟨n + 1, hn⟩ r d b t hb ht)
    · have e := outsAt0_B m c ⟨n + 1, hn⟩ h0
      rw [show outsAt0 m c (n + 1) hn = _ from e]
      exact ih (Nat.lt_of_succ_lt hn) r d b t (by omega) (by omega)

/-- The gates of a block's row at its first point are the reference's. -/
theorem gate_first (c : Dev nD) (p : Fin cfg0.N) (g : Fin 16) (r : Fin 256) (R : Fin 1024) (hR : R.val = p.val / 2 * 256 + r.val) :
    k0_pay3 (F := Ideal) (iblk m c 0 p) (iblk m c 3 p) (iblk m c 1 p) (iblk m c 2 p) (iblk m c 5 p) (iblk m c 6 p) (ix2 g r)
      = Cert.Reference4Ideal.Value.GT (XN m c) (A5 m c) (A6 m c) (ix2 g R) := by
  have hp : p.val < 8 := lt_of_lt_of_eq p.isLt N_0
  have hr := r.isLt
  let b : Fin 4 := ⟨p.val / 2, by omega⟩
  let t : Fin 256 := ⟨r.val, by omega⟩
  refine (pay3_at _ _ _ _ _ _ g r).trans (Eq.trans ?_ (Cert.Reference4Ideal.Value.GT_at _ _ _ b t g R (hR.trans (by show _ = p.val / 2 * 256 + (r.val); omega))).symm)
  refine congrArg₂ (· + ·) (Finset.sum_congr rfl fun k _ => ?_) (iblk6_at m c p g)
  rw [mul_comm]
  exact congrArg₂ (· * ·) (norm_at m c p r k b t rfl rfl) (iblk5_at m c p g k)

/-- After every point the gate window's buffer holds the gates of the point's rows. -/
theorem gate_at (c : Dev nD) : ∀ (n : ℕ) (hn : n < cfg0.N) (g : Fin 16) (r : Fin 256) (R : Fin 1024)
    (_ : R.val = n / 2 * 256 + r.val), (outsAt0 m c n hn).2.1 (ix2 g r) = Cert.Reference4Ideal.Value.GT (XN m c) (A5 m c) (A6 m c) (ix2 g R) := by
  intro n
  induction n with
  | zero =>
    intro hn g r R hR
    have e := outsAt0_A m c ⟨0, hn⟩ (by show 0 % 2 = 0; rfl)
    rw [show outsAt0 m c 0 hn = _ from e]
    dsimp only
    frame_out
    exact gate_first m c ⟨0, hn⟩ g r R hR
  | succ n ih =>
    intro hn g r R hR
    by_cases h0 : (n + 1) % 2 = 0
    · have e := outsAt0_A m c ⟨n + 1, hn⟩ h0
      rw [show outsAt0 m c (n + 1) hn = _ from e]
      dsimp only
      frame_out
      exact gate_first m c ⟨n + 1, hn⟩ g r R hR
    · have e := outsAt0_B m c ⟨n + 1, hn⟩ h0
      rw [show outsAt0 m c (n + 1) hn = _ from e]
      exact ih (Nat.lt_of_succ_lt hn) g r R (by omega)

/-- A point's projection of a row is the reference's. -/
theorem proj_at (c : Dev nD) (p : Fin cfg0.N) (r : Fin 256) (n : Fin 1024) (R : Fin 1024) (N : Fin 2048)
    (hR : R.val = p.val / 2 * 256 + r.val) (hN : N.val = p.val % 2 * 1024 + n.val) :
    (outsAt0 m c p.val p.isLt).1 (ix2 r n) = Cert.Reference4Ideal.Value.PJ (XN m c) (A4 m c) (ix2 R N) := by
  have hp : p.val < 8 := lt_of_lt_of_eq p.isLt N_0
  have hr := r.isLt
  let b : Fin 4 := ⟨p.val / 2, by omega⟩
  let t : Fin 256 := ⟨r.val, by omega⟩
  refine Eq.trans ?_ (Cert.Reference4Ideal.Value.PJ_at _ _ b t N R (hR.trans (by show _ = p.val / 2 * 256 + (r.val); omega))).symm
  by_cases h0 : p.val % 2 = 0
  · rw [outsAt0_A m c p h0]
    dsimp only
    frame_out
    refine (pay4_at _ _ r n).trans (Finset.sum_congr rfl fun k _ => congrArg₂ (· * ·) ?_ (iblk4_at m c p k n N hN))
    exact (pay2_at _ _ _ _ r k).trans (norm_at m c p r k b t rfl rfl)
  · rw [outsAt0_B m c p h0]
    dsimp only
    frame_out
    refine (pay4_at _ _ r n).trans (Finset.sum_congr rfl fun k _ => congrArg₂ (· * ·) ?_ (iblk4_at m c p k n N hN))
    refine (congrFun (Memref.IsWhole.read_unread (Memref.isWhole_whole _) _) _).trans ?_
    exact scratch_at m c (p.val - 1) _ r k b t (by show p.val / 2 = (p.val - 1) / 2; omega) (by show r.val = r.val; omega)

/-- The kernel's projections are the reference's. -/
theorem final0 (c : Dev nD) : (dats m 0 c).arrAt 7 (cfgs 0).N = Cert.Reference4Ideal.Value.PJ (XN m c) (A4 m c) := by
  refine (dats m 0 c).arrAt_eq_of_covers 7 _ (by decide +kernel) fun t hf y => ?_
  have ht : t.val < 8 := lt_of_lt_of_eq t.isLt N_0
  blk_simp
  rw [after0_7]
  obtain ⟨r, n, rfl⟩ : ∃ (r : Fin 256) (n : Fin 1024), y = ix2 r n := ⟨y 0, y 1, eq_ix2 y⟩
  have hr := r.isLt
  have hn := n.isLt
  let R : Fin 1024 := ⟨t.val / 2 * 256 + r.val, by omega⟩
  let N : Fin 2048 := ⟨t.val % 2 * 1024 + n.val, by omega⟩
  have hemb : ((cfg0.win 7).blk t).view.emb (ix2 r n) = ix2 R N := by blk_ext [idx t] <;> rfl
  rw [hemb]
  exact proj_at m c t r n R N rfl rfl

/-- The kernel's gate preactivations are the reference's. -/
theorem final1 (c : Dev nD) : (dats m 0 c).arrAt 8 (cfgs 0).N = Cert.Reference4Ideal.Value.GT (XN m c) (A5 m c) (A6 m c) := by
  refine (dats m 0 c).arrAt_eq_of_covers 8 _ (by decide +kernel) fun t hf y => ?_
  have ht : t.val < 8 := lt_of_lt_of_eq t.isLt N_0
  blk_simp
  rw [after0_8]
  obtain ⟨g, r, rfl⟩ : ∃ (g : Fin 16) (r : Fin 256), y = ix2 g r := ⟨y 0, y 1, eq_ix2 y⟩
  have hr := r.isLt
  let R : Fin 1024 := ⟨t.val / 2 * 256 + r.val, by omega⟩
  have hemb : ((cfg0.win 8).blk t).view.emb (ix2 g r) = ix2 g R := by blk_ext [idx t] <;> rfl
  rw [hemb]
  exact gate_at m c t.val t.isLt g r R rfl

end Cert.Kernel4Ideal.Value

end
-- ==== Proof.InCtxClaim.lean ====
/-
  The value claim of the in-projection of the context stream, from the two runs and the equation of the arrays.
-/
module

public import proofs.«01_k».proof.Defs
public import proofs.«01_k».proof.Proof.InCtxValue
public import Idealize.ShloMosaic.Lib.Claim

@[expose] public section

set_option maxRecDepth 16384

noncomputable section

namespace Cert.Proof

open Idealize.ShloMosaic Idealize.SL.Sem

/-- The in-projection of the context stream: over the extended reals the kernel's projections and gate preactivations are the
    reference's, from any memories that agree on the arguments. -/
theorem algebraicInCtx : Cert.algebraic_Kernel4Ideal_Reference4Ideal := by
  pair_intro
  · run_from Cert.Kernel4Ideal.Value.run_blocks m g
  · run_from Cert.Reference4Ideal.Value.run m' g'
    · exact (Cert.Kernel4Ideal.Value.final0 m c).symm
    · exact (Cert.Kernel4Ideal.Value.final1 m c).symm

end Cert.Proof

end
-- ==== Proof.OutPure.lean ====
/-
  The out-projection: what one grid point's payloads are at an index, and what the reference is at an index: the residual
  sum, its modulated rms normalization, and the router's logits.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.OutProj

/-- A row normalized by its root mean square, at one place: `x d · rsqrt (mean x² + ε)` scaled by the weight `w`, then modulated by `1 + sc` and `sh`. -/
def norm (x : Fin 2048 → EReal) (w sc sh : EReal) (d : Fin 2048) : EReal :=
  x d * Ideal.rsqrt (Ideal.div (∑ k : Fin 2048, x k * x k) (Ideal.ofBits .f32 0x45000000#32) + Ideal.ofBits .f32 0x358637BD#32) * w * (Ideal.ofBits .f32 0x3F800000#32 + sc) + sh

end Cert.OutProj

namespace Cert.Kernel5Ideal.Value

open Cert.Kernel5Ideal Cert.Kernel5Ideal.Gen

/-- The residual sum's payload at an index. -/
theorem pay3_at (a : FVec Ideal S512x1024 .bf16) (wa : FVec Ideal S1024x2048 .bf16) (b : FVec Ideal S512x1024 .bf16) (wb : FVec Ideal S1024x2048 .bf16)
    (x : FVec Ideal S512x2048 .f32) (g : FVec Ideal S1x1x2048 .f32) (r : Fin 512) (d : Fin 2048) :
    k0_pay3 (F := Ideal) a wa b wb x g (ix2 r d) = x (ix2 r d) + g (ix3 0 0 d) * ((∑ k : Fin 1024, a (ix2 r k) * wa (ix2 k d)) + ∑ k : Fin 1024, b (ix2 r k) * wb (ix2 k d)) := by
  pointwise [k0_pay3]

/-- The normalized and weighted row's payload at an index. -/
theorem pay4_at (a : FVec Ideal S512x1024 .bf16) (wa : FVec Ideal S1024x2048 .bf16) (b : FVec Ideal S512x1024 .bf16) (wb : FVec Ideal S1024x2048 .bf16)
    (x : FVec Ideal S512x2048 .f32) (g : FVec Ideal S1x1x2048 .f32) (w : FVec Ideal S1x2048 .f32) (r : Fin 512) (d : Fin 2048) :
    k0_pay4 (F := Ideal) a wa b wb x g w (ix2 r d) = k0_pay3 (F := Ideal) a wa b wb x g (ix2 r d)
      * Ideal.rsqrt (Ideal.div (∑ k : Fin 2048, k0_pay3 (F := Ideal) a wa b wb x g (ix2 r k) * k0_pay3 (F := Ideal) a wa b wb x g (ix2 r k)) (Ideal.ofBits .f32 0x45000000#32) + Ideal.ofBits .f32 0x358637BD#32)
      * w (ix2 0 d) := by
  unfold k0_pay4
  generalize k0_pay3 (F := Ideal) a wa b wb x g = X
  pointwise

/-- The modulation's payload at an index. -/
theorem pay1_at (y : FVec Ideal S512x2048 .f32) (sc : FVec Ideal S1x1x2048 .f32) (sh : FVec Ideal S1x1x2048 .f32) (r : Fin 512) (d : Fin 2048) :
    k0_pay1 (F := Ideal) y (k0_pay5 sc) k0_pay6 sh (ix2 r d) = y (ix2 r d) * (Ideal.ofBits .f32 0x3F800000#32 + sc (ix3 0 0 d)) + sh (ix3 0 0 d) := by
  pointwise [k0_pay1, k0_pay5, k0_pay6]

/-- The logits' payload at an index. -/
theorem pay2_at (y : FVec Ideal S512x2048 .f32) (sc : FVec Ideal S1x1x2048 .f32) (sh : FVec Ideal S1x1x2048 .f32) (wr : FVec Ideal S2048x128 .bf16) (r : Fin 512) (l : Fin 128) :
    k0_pay2 (F := Ideal) y (k0_pay5 sc) k0_pay6 sh wr (ix2 r l) = ∑ d : Fin 2048, k0_pay1 (F := Ideal) y (k0_pay5 sc) k0_pay6 sh (ix2 r d) * wr (ix2 d l) := by
  unfold k0_pay2
  generalize k0_pay1 (F := Ideal) y (k0_pay5 sc) k0_pay6 sh = Y
  pointwise

end Cert.Kernel5Ideal.Value

namespace Cert.Reference5Ideal.Value

open Cert.Reference5Ideal Cert.Reference5Ideal.Gen

/-- The reference's residual sum. -/
def X1 (a0 a1 : FVec Ideal S16384x1024 .bf16) (a2 : FVec Ideal S16384x2048 .f32) (a3 : FVec Ideal S2048x2048 .bf16) (a4 : FVec Ideal S4x1x2048 .f32) : FVec Ideal S4x4096x2048 .f32 :=
  (addf (shapeCast _ a2 shapeCasts_S16384x2048_S4x4096x2048) (mulf (broadcastInDim S4x4096x2048 ![0, 1, 2] bcast_S4x1x2048_S4x4096x2048_0_1_2 a4) (Host.dotGeneral dot_S4x4096x2048_S2048x2048_S4x4096x2048_2_0_01_1_n_n none (extf .f32 (concatenate S4x4096x2048 2 [⟨S4x4096x1024, (shapeCast _ a0 shapeCasts_S16384x1024_S4x4096x1024)⟩, ⟨S4x4096x1024, (shapeCast _ a1 shapeCasts_S16384x1024_S4x4096x1024)⟩] concatenates_S4x4096x1024_S4x4096x1024_S4x4096x2048_d2) bitsLt_bf16_f32) (extf .f32 a3 bitsLt_bf16_f32))))

/-- The reference's modulated normalization of the rows `x1`. -/
def XN (x1 : FVec Ideal S4x4096x2048 .f32) (a5 : FVec Ideal S1x2048 .f32) (a6 a7 : FVec Ideal S4x1x2048 .f32) : FVec Ideal S4x4096x2048 .f32 :=
  (addf (mulf (mulf (mulf x1 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x1 x1) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ a5 shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) a6))) (broadcastInDim S4x4096x2048 ![0, 1, 2] bcast_S4x1x2048_S4x4096x2048_0_1_2 a7))

/-- The reference's logits of the rows `xn`. -/
def LG (xn : FVec Ideal S4x4096x2048 .f32) (a8 : FVec Ideal S2048x128 .bf16) : FVec Ideal S16384x128 .f32 :=
  shapeCast _ (Host.dotGeneral dot_S4x4096x2048_S2048x128_S4x4096x128_2_0_01_1_n_n none xn (extf .f32 a8 bitsLt_bf16_f32)) shapeCasts_S4x4096x128_S16384x128

/-- The reference's first result. -/
def REF0 (a0 a1 : FVec Ideal S16384x1024 .bf16) (a2 : FVec Ideal S16384x2048 .f32) (a3 : FVec Ideal S2048x2048 .bf16) (a4 : FVec Ideal S4x1x2048 .f32) : FVec Ideal S16384x2048 .f32 :=
  shapeCast _ (X1 a0 a1 a2 a3 a4) shapeCasts_S4x4096x2048_S16384x2048

/-- The reference's second result. -/
def REF1 (a0 a1 : FVec Ideal S16384x1024 .bf16) (a2 : FVec Ideal S16384x2048 .f32) (a3 : FVec Ideal S2048x2048 .bf16) (a4 : FVec Ideal S4x1x2048 .f32)
    (a5 : FVec Ideal S1x2048 .f32) (a6 a7 : FVec Ideal S4x1x2048 .f32) : FVec Ideal S16384x2048 .f32 :=
  shapeCast _ (XN (X1 a0 a1 a2 a3 a4) a5 a6 a7) shapeCasts_S4x4096x2048_S16384x2048

/-- The reference's third result. -/
def REF2 (a0 a1 : FVec Ideal S16384x1024 .bf16) (a2 : FVec Ideal S16384x2048 .f32) (a3 : FVec Ideal S2048x2048 .bf16) (a4 : FVec Ideal S4x1x2048 .f32)
    (a5 : FVec Ideal S1x2048 .f32) (a6 a7 : FVec Ideal S4x1x2048 .f32) (a8 : FVec Ideal S2048x128 .bf16) : FVec Ideal S16384x128 .f32 :=
  LG (XN (X1 a0 a1 a2 a3 a4) a5 a6 a7) a8

/-- The residual sum at batch `b`, token `t` and feature `d`; the row of the flat arrays is `R = 4096 b + t`. -/
theorem X1_at (a0 a1 : FVec Ideal S16384x1024 .bf16) (a2 : FVec Ideal S16384x2048 .f32) (a3 : FVec Ideal S2048x2048 .bf16) (a4 : FVec Ideal S4x1x2048 .f32)
    (b : Fin 4) (t : Fin 4096) (d : Fin 2048) (R : Fin 16384) (hR : R.val = b.val * 4096 + t.val) :
    X1 a0 a1 a2 a3 a4 (ix3 b t d) = a2 (ix2 R d) + a4 (ix3 b 0 d) * ((∑ k : Fin 1024, a0 (ix2 R k) * a3 (ix2 ⟨k.val, by have := k.isLt; omega⟩ d))
      + ∑ k : Fin 1024, a1 (ix2 R k) * a3 (ix2 ⟨1024 + k.val, by have := k.isLt; omega⟩ d)) := by
  have hb := b.isLt
  have ht := t.isLt
  have hlt : b.val * 4096 + t.val < 16384 := by omega
  obtain rfl : R = ⟨b.val * 4096 + t.val, hlt⟩ := Fin.ext hR
  pointwise [X1]

/-- The modulated normalization at an index. -/
theorem XN_at (x1 : FVec Ideal S4x4096x2048 .f32) (a5 : FVec Ideal S1x2048 .f32) (a6 a7 : FVec Ideal S4x1x2048 .f32) (b : Fin 4) (t : Fin 4096) (d : Fin 2048) :
    XN x1 a5 a6 a7 (ix3 b t d) = OutProj.norm (fun k => x1 (ix3 b t k)) (a5 (ix2 0 d)) (a6 (ix3 b 0 d)) (a7 (ix3 b 0 d)) d := by
  pointwise [XN, OutProj.norm]

/-- A flat view of the rows at an index. -/
theorem flat_at (x1 : FVec Ideal S4x4096x2048 .f32) (b : Fin 4) (t : Fin 4096) (d : Fin 2048) (R : Fin 16384) (hR : R.val = b.val * 4096 + t.val) :
    (shapeCast S16384x2048 x1 shapeCasts_S4x4096x2048_S16384x2048 : FVec Ideal S16384x2048 .f32) (ix2 R d) = x1 (ix3 b t d) := by
  have hb := b.isLt
  have ht := t.isLt
  have hR' := R.isLt
  have h1 : R.val / 4096 < 4 := by omega
  have h2 : R.val % 4096 < 4096 := by omega
  obtain rfl : b = ⟨R.val / 4096, h1⟩ := Fin.ext (by show b.val = R.val / 4096; omega)
  obtain rfl : t = ⟨R.val % 4096, h2⟩ := Fin.ext (by show t.val = R.val % 4096; omega)
  pointwise

/-- The logits at an index. -/
theorem LG_at (xn : FVec Ideal S4x4096x2048 .f32) (a8 : FVec Ideal S2048x128 .bf16) (b : Fin 4) (t : Fin 4096) (l : Fin 128) (R : Fin 16384) (hR : R.val = b.val * 4096 + t.val) :
    LG xn a8 (ix2 R l) = ∑ d : Fin 2048, xn (ix3 b t d) * a8 (ix2 d l) := by
  have hb := b.isLt
  have ht := t.isLt
  have hR' := R.isLt
  have h1 : R.val / 4096 < 4 := by omega
  have h2 : R.val % 4096 < 4096 := by omega
  obtain rfl : b = ⟨R.val / 4096, h1⟩ := Fin.ext (by show b.val = R.val / 4096; omega)
  obtain rfl : t = ⟨R.val % 4096, h2⟩ := Fin.ext (by show t.val = R.val % 4096; omega)
  pointwise [LG]

end Cert.Reference5Ideal.Value

end
-- ==== Proof.OutValue.lean ====
/-
  The out-projection's kernel: each of its three result arrays is the reference's term. A grid point holds 512 rows, eight
  points to a batch element.
-/
module

public import proofs.«01_k».proof.Proof.OutPure

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen

variable (m : (ℓ : Loc nD τ sig) → Buf (Elt Ideal) ℓ)

/-- Where each window's block sits: row block `t`, batch element `t / 8`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val / 8, 0, 0] ∧ win0_6.index t = ![0, 0]
    ∧ win0_7.index t = ![t.val / 8, 0, 0] ∧ win0_8.index t = ![t.val / 8, 0, 0] ∧ win0_9.index t = ![0, 0]
    ∧ win0_10.index t = ![t.val, 0] ∧ win0_11.index t = ![t.val, 0] ∧ win0_12.index t = ![t.val, 0] :=
  (by decide +kernel : ∀ t : Fin grid0.N, _)

/-- The kernel's arguments at their types. -/
abbrev A0 (c : Dev nD) : FVec Ideal S16384x1024 .bf16 := m ((c : Thread nD τ).loc main_arg0)
/-- Argument 1. -/
abbrev A1 (c : Dev nD) : FVec Ideal S16384x1024 .bf16 := m ((c : Thread nD τ).loc main_arg1)
/-- Argument 2. -/
abbrev A2 (c : Dev nD) : FVec Ideal S16384x2048 .f32 := m ((c : Thread nD τ).loc main_arg2)
/-- Argument 3. -/
abbrev A3 (c : Dev nD) : FVec Ideal S2048x2048 .bf16 := m ((c : Thread nD τ).loc main_arg3)
/-- Argument 4. -/
abbrev A4 (c : Dev nD) : FVec Ideal S4x1x2048 .f32 := m ((c : Thread nD τ).loc main_arg4)
/-- Argument 5. -/
abbrev A5 (c : Dev nD) : FVec Ideal S1x2048 .f32 := m ((c : Thread nD τ).loc main_arg5)
/-- Argument 6. -/
abbrev A6 (c : Dev nD) : FVec Ideal S4x1x2048 .f32 := m ((c : Thread nD τ).loc main_arg6)
/-- Argument 7. -/
abbrev A7 (c : Dev nD) : FVec Ideal S4x1x2048 .f32 := m ((c : Thread nD τ).loc main_arg7)
/-- Argument 8. -/
abbrev A8 (c : Dev nD) : FVec Ideal S2048x128 .bf16 := m ((c : Thread nD τ).loc main_arg8)

/-- The mLSTM rows' block, read at an index. -/
theorem iblk0_at (c : Dev nD) (p : Fin cfg0.N) (r : Fin 512) (k : Fin 1024) (R : Fin 16384) (hR : R.val = p.val * 512 + r.val) :
    (show FVec Ideal S512x1024 .bf16 from iblk m c 0 p) (ix2 r k) = A0 m c (ix2 R k) := by
  show iblk m c 0 p (ix2 r k) = _
  blk_ext [iblk, V, idx p]

/-- The convolution rows' block, read at an index. -/
theorem iblk1_at (c : Dev nD) (p : Fin cfg0.N) (r : Fin 512) (k : Fin 1024) (R : Fin 16384) (hR : R.val = p.val * 512 + r.val) :
    (show FVec Ideal S512x1024 .bf16 from iblk m c 1 p) (ix2 r k) = A1 m c (ix2 R k) := by
  show iblk m c 1 p (ix2 r k) = _
  blk_ext [iblk, V, idx p]

/-- The residual rows' block, read at an index. -/
theorem iblk2_at (c : Dev nD) (p : Fin cfg0.N) (r : Fin 512) (k : Fin 2048) (R : Fin 16384) (hR : R.val = p.val * 512 + r.val) :
    (show FVec Ideal S512x2048 .f32 from iblk m c 2 p) (ix2 r k) = A2 m c (ix2 R k) := by
  show iblk m c 2 p (ix2 r k) = _
  blk_ext [iblk, V, idx p]

/-- The weights' upper half, read at an index. -/
theorem iblk3_at (c : Dev nD) (p : Fin cfg0.N) (k : Fin 1024) (d : Fin 2048) (K : Fin 2048) (hK : K.val = k.val) :
    (show FVec Ideal S1024x2048 .bf16 from iblk m c 3 p) (ix2 k d) = A3 m c (ix2 K d) := by
  show iblk m c 3 p (ix2 k d) = _
  blk_simp [iblk]
  entry_read
  pointwise
  refine congrArg (m (c, Proc.tc.devRef main_arg3)) ((ix2_inj ..).2 ⟨Fin.ext ?_, Fin.ext ?_⟩)
  · show win0_3.index p 0 * 1024 + 1 * k.val = K.val
    rw [(idx p).2.2.2.1]; show 0 * 1024 + 1 * k.val = _; omega
  · show win0_3.index p 1 * 2048 + 1 * d.val = d.val
    rw [(idx p).2.2.2.1]; show 0 * 2048 + 1 * d.val = _; omega

/-- The weights' lower half, read at an index. -/
theorem iblk4_at (c : Dev nD) (p : Fin cfg0.N) (k : Fin 1024) (d : Fin 2048) (K : Fin 2048) (hK : K.val = 1024 + k.val) :
    (show FVec Ideal S1024x2048 .bf16 from iblk m c 4 p) (ix2 k d) = A3 m c (ix2 K d) := by
  show iblk m c 4 p (ix2 k d) = _
  blk_simp [iblk]
  entry_read
  pointwise
  refine congrArg (m (c, Proc.tc.devRef main_arg3)) ((ix2_inj ..).2 ⟨Fin.ext ?_, Fin.ext ?_⟩)
  · show 1024 + (win0_4.index p 0 * 1024 + 1 * k.val) = K.val
    rw [(idx p).2.2.2.2.1]; show 1024 + (0 * 1024 + 1 * k.val) = _; omega
  · show win0_4.index p 1 * 2048 + 1 * d.val = d.val
    rw [(idx p).2.2.2.2.1]; show 0 * 2048 + 1 * d.val = _; omega

/-- The gate's block, read at an index. -/
theorem iblk5_at (c : Dev nD) (p : Fin cfg0.N) (d : Fin 2048) (b : Fin 4) (hb : b.val = p.val / 8) :
    (show FVec Ideal S1x1x2048 .f32 from iblk m c 5 p) (ix3 0 0 d) = A4 m c (ix3 b 0 d) := by
  show iblk m c 5 p (ix3 0 0 d) = _
  blk_ext [iblk, V, idx p]

/-- The normalization's weights' block, read at an index. -/
theorem iblk6_at (c : Dev nD) (p : Fin cfg0.N) (d : Fin 2048) :
    (show FVec Ideal S1x2048 .f32 from iblk m c 6 p) (ix2 0 d) = A5 m c (ix2 0 d) := by
  show iblk m c 6 p (ix2 0 d) = _
  blk_ext [iblk, V, idx p]

/-- The scale's block, read at an index. -/
theorem iblk7_at (c : Dev nD) (p : Fin cfg0.N) (d : Fin 2048) (b : Fin 4) (hb : b.val = p.val / 8) :
    (show FVec Ideal S1x1x2048 .f32 from iblk m c 7 p) (ix3 0 0 d) = A6 m c (ix3 b 0 d) := by
  show iblk m c 7 p (ix3 0 0 d) = _
  blk_ext [iblk, V, idx p]

/-- The shift's block, read at an index. -/
theorem iblk8_at (c : Dev nD) (p : Fin cfg0.N) (d : Fin 2048) (b : Fin 4) (hb : b.val = p.val / 8) :
    (show FVec Ideal S1x1x2048 .f32 from iblk m c 8 p) (ix3 0 0 d) = A7 m c (ix3 b 0 d) := by
  show iblk m c 8 p (ix3 0 0 d) = _
  blk_ext [iblk, V, idx p]

/-- The router's weights' block, read at an index. -/
theorem iblk9_at (c : Dev nD) (p : Fin cfg0.N) (d : Fin 2048) (l : Fin 128) :
    (show FVec Ideal S2048x128 .bf16 from iblk m c 9 p) (ix2 d l) = A8 m c (ix2 d l) := by
  show iblk m c 9 p (ix2 d l) = _
  blk_ext [iblk, V, idx p]

/-- The residual sum of a block's row is the reference's. -/
theorem sum_at (c : Dev nD) (p : Fin cfg0.N) (r : Fin 512) (d : Fin 2048) (b : Fin 4) (t : Fin 4096)
    (hb : b.val = p.val / 8) (ht : t.val = p.val % 8 * 512 + r.val) :
    k0_pay3 (F := Ideal) (iblk m c 0 p) (iblk m c 3 p) (iblk m c 1 p) (iblk m c 4 p) (iblk m c 2 p) (iblk m c 5 p) (ix2 r d)
      = Cert.Reference5Ideal.Value.X1 (A0 m c) (A1 m c) (A2 m c) (A3 m c) (A4 m c) (ix3 b t d) := by
  have hp : p.val < 32 := lt_of_lt_of_eq p.isLt N_0
  have hr := r.isLt
  let R : Fin 16384 := ⟨p.val * 512 + r.val, by omega⟩
  refine (pay3_at _ _ _ _ _ _ r d).trans (Eq.trans ?_ (Cert.Reference5Ideal.Value.X1_at _ _ _ _ _ b t d R (by show p.val * 512 + r.val = _; omega)).symm)
  refine congrArg₂ (· + ·) (iblk2_at m c p r d R rfl) (congrArg₂ (· * ·) (iblk5_at m c p d b hb) (congrArg₂ (· + ·) (Finset.sum_congr rfl fun k _ => ?_) (Finset.sum_congr rfl fun k _ => ?_)))
  · exact congrArg₂ (· * ·) (iblk0_at m c p r k R rfl) (iblk3_at m c p k d _ rfl)
  · exact congrArg₂ (· * ·) (iblk1_at m c p r k R rfl) (iblk4_at m c p k d _ rfl)

/-- The modulated normalization of a block's row is the reference's. -/
theorem norm_at (c : Dev nD) (p : Fin cfg0.N) (r : Fin 512) (d : Fin 2048) (b : Fin 4) (t : Fin 4096)
    (hb : b.val = p.val / 8) (ht : t.val = p.val % 8 * 512 + r.val) :
    k0_pay1 (F := Ideal) (k0_pay4 (iblk m c 0 p) (iblk m c 3 p) (iblk m c 1 p) (iblk m c 4 p) (iblk m c 2 p) (iblk m c 5 p) (iblk m c 6 p))
        (k0_pay5 (iblk m c 7 p)) k0_pay6 (iblk m c 8 p) (ix2 r d)
      = Cert.Reference5Ideal.Value.XN (Cert.Reference5Ideal.Value.X1 (A0 m c) (A1 m c) (A2 m c) (A3 m c) (A4 m c)) (A5 m c) (A6 m c) (A7 m c) (ix3 b t d) := by
  rw [Cert.Reference5Ideal.Value.XN_at]
  refine (pay1_at _ _ _ r d).trans ?_
  unfold OutProj.norm
  refine congrArg₂ (· + ·) (congrArg₂ (· * ·) ?_ (congrArg₂ (· + ·) rfl (iblk7_at m c p d b hb))) (iblk8_at m c p d b hb)
  refine (pay4_at _ _ _ _ _ _ _ r d).trans ?_
  refine congrArg₂ (· * ·) (congrArg₂ (· * ·) (sum_at m c p r d b t hb ht) (congrArg Ideal.rsqrt (congrArg₂ (· + ·) (congrArg₂ Ideal.div (Finset.sum_congr rfl fun k _ => ?_) rfl) rfl))) (iblk6_at m c p d)
  exact congrArg₂ (· * ·) (sum_at m c p r k b t hb ht) (sum_at m c p r k b t hb ht)

/-- The kernel's first result array is the reference's first. -/
theorem final0 (c : Dev nD) : (dats m 0 c).arrAt 10 (cfgs 0).N
    = Cert.Reference5Ideal.Value.REF0 (A0 m c) (A1 m c) (A2 m c) (A3 m c) (A4 m c) := by
  refine (dats m 0 c).arrAt_eq_of_covers 10 _ (by decide +kernel) fun t hf y => ?_
  have ht : t.val < 32 := lt_of_lt_of_eq t.isLt N_0
  blk_simp
  rw [after0_10]
  frame_out
  obtain ⟨r, d, rfl⟩ : ∃ (r : Fin 512) (d : Fin 2048), y = ix2 r d := ⟨y 0, y 1, eq_ix2 y⟩
  have hr := r.isLt
  let R : Fin 16384 := ⟨t.val * 512 + r.val, by omega⟩
  let b : Fin 4 := ⟨t.val / 8, by omega⟩
  let l : Fin 4096 := ⟨t.val % 8 * 512 + r.val, by omega⟩
  have hemb : ((cfg0.win 10).blk t).view.emb (ix2 r d) = ix2 R d := by blk_ext [idx t]; rfl
  rw [hemb]
  exact (sum_at m c t r d b l rfl rfl).trans (Cert.Reference5Ideal.Value.flat_at _ b l d R (by show t.val * 512 + r.val = t.val / 8 * 4096 + (t.val % 8 * 512 + r.val); omega)).symm

/-- The kernel's second result array is the reference's second. -/
theorem final1 (c : Dev nD) : (dats m 0 c).arrAt 11 (cfgs 0).N
    = Cert.Reference5Ideal.Value.REF1 (A0 m c) (A1 m c) (A2 m c) (A3 m c) (A4 m c) (A5 m c) (A6 m c) (A7 m c) := by
  refine (dats m 0 c).arrAt_eq_of_covers 11 _ (by decide +kernel) fun t hf y => ?_
  have ht : t.val < 32 := lt_of_lt_of_eq t.isLt N_0
  blk_simp
  rw [after0_11]
  unfold_out out0_11
  frame_out
  obtain ⟨r, d, rfl⟩ : ∃ (r : Fin 512) (d : Fin 2048), y = ix2 r d := ⟨y 0, y 1, eq_ix2 y⟩
  have hr := r.isLt
  let R : Fin 16384 := ⟨t.val * 512 + r.val, by omega⟩
  let b : Fin 4 := ⟨t.val / 8, by omega⟩
  let l : Fin 4096 := ⟨t.val % 8 * 512 + r.val, by omega⟩
  have hemb : ((cfg0.win 11).blk t).view.emb (ix2 r d) = ix2 R d := by blk_ext [idx t]; rfl
  rw [hemb]
  exact (norm_at m c t r d b l rfl rfl).trans (Cert.Reference5Ideal.Value.flat_at _ b l d R (by show t.val * 512 + r.val = t.val / 8 * 4096 + (t.val % 8 * 512 + r.val); omega)).symm

/-- The kernel's third result array is the reference's third. -/
theorem final2 (c : Dev nD) : (dats m 0 c).arrAt 12 (cfgs 0).N
    = Cert.Reference5Ideal.Value.REF2 (A0 m c) (A1 m c) (A2 m c) (A3 m c) (A4 m c) (A5 m c) (A6 m c) (A7 m c) (A8 m c) := by
  refine (dats m 0 c).arrAt_eq_of_covers 12 _ (by decide +kernel) fun t hf y => ?_
  have ht : t.val < 32 := lt_of_lt_of_eq t.isLt N_0
  blk_simp
  rw [after0_12]
  unfold_out out0_12
  frame_out
  obtain ⟨r, n, rfl⟩ : ∃ (r : Fin 512) (n : Fin 128), y = ix2 r n := ⟨y 0, y 1, eq_ix2 y⟩
  have hr := r.isLt
  let R : Fin 16384 := ⟨t.val * 512 + r.val, by omega⟩
  let b : Fin 4 := ⟨t.val / 8, by omega⟩
  let l : Fin 4096 := ⟨t.val % 8 * 512 + r.val, by omega⟩
  have hemb : ((cfg0.win 12).blk t).view.emb (ix2 r n) = ix2 R n := by blk_ext [idx t]; rfl
  rw [hemb]
  refine (pay2_at _ _ _ _ r n).trans (Eq.trans (Finset.sum_congr rfl fun d _ => ?_) (Cert.Reference5Ideal.Value.LG_at _ _ b l n R (by show t.val * 512 + r.val = t.val / 8 * 4096 + (t.val % 8 * 512 + r.val); omega)).symm)
  exact congrArg₂ (· * ·) (norm_at m c t r d b l rfl rfl) (iblk9_at m c t d n)

end Cert.Kernel5Ideal.Value

end
-- ==== Proof.OutClaim.lean ====
/-
  The out-projection's value claim, from the two runs and the equation of the arrays.
-/
module

public import proofs.«01_k».proof.Defs
public import proofs.«01_k».proof.Proof.OutValue
public import Idealize.ShloMosaic.Lib.Claim

@[expose] public section

set_option maxRecDepth 16384

noncomputable section

namespace Cert.Proof

open Idealize.ShloMosaic Idealize.SL.Sem

/-- The out-projection: over the extended reals the kernel's three results are the reference's, from any memories that agree
    on the arguments. -/
theorem algebraicOut : Cert.algebraic_Kernel5Ideal_Reference5Ideal := by
  pair_intro
  · run_from Cert.Kernel5Ideal.Value.run_blocks m g
  · run_from Cert.Reference5Ideal.Value.run m' g'
    · exact (Cert.Kernel5Ideal.Value.final0 m c).symm
    · exact (Cert.Kernel5Ideal.Value.final1 m c).symm
    · exact (Cert.Kernel5Ideal.Value.final2 m c).symm

end Cert.Proof

end
-- ==== Proof.AdaValue.lean ====
/-
  The modulation parameters: what one grid point's payload is at an index, what the reference is at an index, and that the
  kernel's result array is the reference's. A grid point holds 1024 columns.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Ada

/-- The activation `x · σ(x)` on the extended reals, `σ(x) = 1 / (1 + exp(−x))`. -/
def act (x : EReal) : EReal := x * Ideal.div 1 (1 + Ideal.exp (-x))

end Cert.Ada

namespace Cert.Reference6Ideal.Value

open Cert.Reference6Ideal Cert.Reference6Ideal.Gen

/-- The reference's result as one term of its three arguments. -/
def REF (a0 : FVec Ideal S8x2048 .f32) (a1 : FVec Ideal S1x2048x12288 .f32) (a2 : FVec Ideal S1x12288 .f32) : FVec Ideal S8x12288 .f32 :=
  addf (Host.dotGeneral dot_S8x2048_S2048x12288_S8x12288_1_0_0_1_n_n none (mulf a0 (Host.divf (broadcastInDim S8x2048 ![] bcast_S_S8x2048 (constant S_ .f32 0x3F800000#32)) (addf (broadcastInDim S8x2048 ![] bcast_S_S8x2048 (constant S_ .f32 0x3F800000#32)) (Host.exp (Host.negf a0))))) (shapeCast _ a1 shapeCasts_S1x2048x12288_S2048x12288)) (broadcastInDim S8x12288 ![0, 1] bcast_S1x12288_S8x12288_0_1 (broadcastInDim S1x12288 ![1] bcast_S12288_S1x12288_1 (shapeCast _ a2 shapeCasts_S1x12288_S12288)))

/-- The reference at row `r` and column `n`. -/
theorem REF_at (a0 : FVec Ideal S8x2048 .f32) (a1 : FVec Ideal S1x2048x12288 .f32) (a2 : FVec Ideal S1x12288 .f32) (r : Fin 8) (n : Fin 12288) :
    REF a0 a1 a2 (ix2 r n) = (∑ k : Fin 2048, Ada.act (a0 (ix2 r k)) * a1 (ix3 0 k n)) + a2 (ix2 0 n) := by
  pointwise [REF, Ada.act]

end Cert.Reference6Ideal.Value

namespace Cert.Kernel6Ideal.Value

open Cert.Kernel6Ideal Cert.Kernel6Ideal.Gen

variable (m : (ℓ : Loc nD τ sig) → Buf (Elt Ideal) ℓ)

/-- The payload at an index. -/
theorem pay1_at (x : FVec Ideal S8x2048 .f32) (w : FVec Ideal S2048x1024 .f32) (b : FVec Ideal S1x1024 .f32) (r : Fin 8) (n : Fin 1024) :
    k0_pay1 (F := Ideal) x w b (ix2 r n) = (∑ k : Fin 2048, Ada.act (x (ix2 r k)) * w (ix2 k n)) + b (ix2 0 n) := by
  pointwise [k0_pay1, Ada.act]
  simp only [zero_add, zero_sub]

/-- Where each window's block sits: column block `t`. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The conditioning vectors, one a row. -/
abbrev A0 (c : Dev nD) : FVec Ideal S8x2048 .f32 := m ((c : Thread nD τ).loc main_arg0)
/-- The weights. -/
abbrev A1 (c : Dev nD) : FVec Ideal S1x2048x12288 .f32 := m ((c : Thread nD τ).loc main_arg1)
/-- The bias. -/
abbrev A2 (c : Dev nD) : FVec Ideal S1x12288 .f32 := m ((c : Thread nD τ).loc main_arg2)

/-- The conditioning vectors' block, read at an index. -/
theorem iblk0_at (c : Dev nD) (p : Fin cfg0.N) (r : Fin 8) (k : Fin 2048) :
    (show FVec Ideal S8x2048 .f32 from iblk m c 0 p) (ix2 r k) = A0 m c (ix2 r k) := by
  show iblk m c 0 p (ix2 r k) = _
  blk_ext [iblk, V, idx p]

/-- The weights' block, read at an index. -/
theorem iblk1_at (c : Dev nD) (p : Fin cfg0.N) (k : Fin 2048) (n : Fin 1024) (N : Fin 12288) (hN : N.val = p.val * 1024 + n.val) :
    (show FVec Ideal S2048x1024 .f32 from iblk m c 1 p) (ix2 k n) = A1 m c (ix3 0 k N) := by
  show iblk m c 1 p (ix2 k n) = _
  blk_simp [iblk]
  entry_read
  pointwise
  refine congrArg (m (c, Proc.tc.devRef main_arg1)) ((ix3_inj ..).2 ⟨rfl, Fin.ext ?_, Fin.ext ?_⟩)
  · show win0_1.index p 0 * 2048 + 1 * k.val = k.val
    rw [(idx p).2.1]; show 0 * 2048 + 1 * k.val = _; omega
  · show win0_1.index p 1 * 1024 + 1 * n.val = N.val
    rw [(idx p).2.1]; show p.val * 1024 + 1 * n.val = _; omega

/-- The bias's block, read at an index. -/
theorem iblk2_at (c : Dev nD) (p : Fin cfg0.N) (n : Fin 1024) (N : Fin 12288) (hN : N.val = p.val * 1024 + n.val) :
    (show FVec Ideal S1x1024 .f32 from iblk m c 2 p) (ix2 0 n) = A2 m c (ix2 0 N) := by
  show iblk m c 2 p (ix2 0 n) = _
  blk_simp [iblk]
  entry_read
  pointwise
  refine congrArg (m (c, Proc.tc.devRef main_arg2)) (funext fun a => Fin.ext ?_)
  match a with
  | ⟨0, _⟩ => show win0_2.index p 0 * 1 + 1 * 0 = 0; rw [(idx p).2.2.1]; rfl
  | ⟨1, _⟩ => show win0_2.index p 1 * 1024 + 1 * n.val = N.val; rw [(idx p).2.2.1]; show p.val * 1024 + 1 * n.val = _; omega

/-- The kernel's result array is the reference's. -/
theorem final0 (c : Dev nD) : (dats m 0 c).arrAt 3 (cfgs 0).N = Cert.Reference6Ideal.Value.REF (A0 m c) (A1 m c) (A2 m c) := by
  refine (dats m 0 c).arrAt_eq_of_covers 3 _ (by decide +kernel) fun t hf y => ?_
  have ht : t.val < 12 := lt_of_lt_of_eq t.isLt N_0
  blk_simp
  rw [after0_3]
  frame_out
  obtain ⟨r, n, rfl⟩ : ∃ (r : Fin 8) (n : Fin 1024), y = ix2 r n := ⟨y 0, y 1, eq_ix2 y⟩
  have hn := n.isLt
  let N : Fin 12288 := ⟨t.val * 1024 + n.val, by omega⟩
  have hemb : ((cfg0.win 3).blk t).view.emb (ix2 r n) = ix2 r N := by blk_ext [idx t]; rfl
  rw [hemb]
  refine (pay1_at _ _ _ r n).trans (Eq.trans ?_ (Cert.Reference6Ideal.Value.REF_at _ _ _ r N).symm)
  refine congrArg₂ (· + ·) (Finset.sum_congr rfl fun k _ => ?_) (iblk2_at m c t n N rfl)
  exact congrArg₂ (· * ·) (congrArg Ada.act (iblk0_at m c t r k)) (iblk1_at m c t k n N rfl)

end Cert.Kernel6Ideal.Value

end
-- ==== Proof.AdaClaim.lean ====
/-
  The modulation parameters' value claim, from the two runs and the equation of the arrays.
-/
module

public import proofs.«01_k».proof.Defs
public import proofs.«01_k».proof.Proof.AdaValue
public import Idealize.ShloMosaic.Lib.Claim

@[expose] public section

set_option maxRecDepth 16384

noncomputable section

namespace Cert.Proof

open Idealize.ShloMosaic Idealize.SL.Sem

/-- The modulation parameters: over the extended reals the kernel's result is the reference's, from any memories that agree
    on the arguments. -/
theorem algebraicAda : Cert.algebraic_Kernel6Ideal_Reference6Ideal := by
  pair_intro
  · run_from Cert.Kernel6Ideal.Value.run_blocks m g
  · run_from Cert.Reference6Ideal.Value.run m' g'
    · exact (Cert.Kernel6Ideal.Value.final0 m c).symm

end Cert.Proof

end
-- ==== Proof.lean ====
/-
  The proof of `Cert.Claim`. The frames of the expert network's, the out-projection's and the modulation parameters' kernels
  are the generated ones, those of the mLSTM's and the in-projections' kernels are in `MFrame`, `InLatFrame`, `InCtxFrame` and
  `KerFrames`, those of the references in `RefFrames`; idealization rewrote nothing; the value claims are in `MClaim`,
  `FfnClaim`, `InLatClaim`, `InCtxClaim`, `OutClaim` and `AdaClaim`.
-/
module

public import proofs.«01_k».proof.Defs
public import proofs.«01_k».proof.Proof.Gen.Kernel2.Frame
public import proofs.«01_k».proof.Proof.Gen.Kernel2Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.KerFrames
public import proofs.«01_k».proof.Proof.RefFrames
public import proofs.«01_k».proof.Proof.MClaim
public import proofs.«01_k».proof.Proof.FfnClaim
public import proofs.«01_k».proof.Proof.InLatClaim
public import proofs.«01_k».proof.Proof.InCtxClaim
public import proofs.«01_k».proof.Proof.OutClaim
public import proofs.«01_k».proof.Proof.AdaClaim
public import Idealize.ShloMosaic.Adequacy
public import Idealize.ShloMosaic.Init

@[expose] public section

noncomputable section

namespace Cert.Proof

open Idealize.ShloMosaic Idealize.SL.Sem

/-- Everything certified. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  frameKer,
  fun m ρ _ => Cert.KernelIdeal.Body.frame m ρ,
  frameRef1,
  fun m ρ _ => Cert.Kernel2.Gen.frame m ρ,
  fun m ρ _ => Cert.Kernel2Ideal.Gen.frame m ρ,
  frameRef2,
  frameKer3,
  fun m ρ _ => Cert.Kernel3Ideal.Gen.frame m ρ,
  frameRef3,
  frameKer4,
  fun m ρ _ => Cert.Kernel4Ideal.Gen.frame m ρ,
  frameRef4,
  fun m ρ _ => Cert.Kernel5.Gen.frame m ρ,
  fun m ρ _ => Cert.Kernel5Ideal.Gen.frame m ρ,
  frameRef5,
  fun m ρ _ => Cert.Kernel6.Gen.frame m ρ,
  fun m ρ _ => Cert.Kernel6Ideal.Gen.frame m ρ,
  frameRef6,
  trivial,
  algebraicMLstm,
  trivial,
  algebraicFfn,
  trivial,
  algebraicInLat,
  trivial,
  algebraicInCtx,
  trivial,
  algebraicOut,
  trivial,
  algebraicAda⟩

end Cert.Proof

end
